-- ==== Defs.lean ====
def Pre_Dg2 (m : (ℓ : Loc Cert.Dg2.nD Cert.Dg2.τ Cert.Dg2.sig) → Buf (Elt Bits) ℓ) : Prop :=
  True

def Pre_Dg2Ideal (m : (ℓ : Loc Cert.Dg2Ideal.nD Cert.Dg2Ideal.τ Cert.Dg2Ideal.sig) → Buf (Elt Ideal) ℓ) : Prop :=
  True

def Pre_RefDg2Ideal (m : (ℓ : Loc Cert.RefDg2Ideal.nD Cert.RefDg2Ideal.τ Cert.RefDg2Ideal.sig) → Buf (Elt Ideal) ℓ) : Prop :=
  True

def Pre_Dg1 (m : (ℓ : Loc Cert.Dg1.nD Cert.Dg1.τ Cert.Dg1.sig) → Buf (Elt Bits) ℓ) : Prop :=
  True

def Pre_Dg1Ideal (m : (ℓ : Loc Cert.Dg1Ideal.nD Cert.Dg1Ideal.τ Cert.Dg1Ideal.sig) → Buf (Elt Ideal) ℓ) : Prop :=
  True

def Pre_RefDg1Ideal (m : (ℓ : Loc Cert.RefDg1Ideal.nD Cert.RefDg1Ideal.τ Cert.RefDg1Ideal.sig) → Buf (Elt Ideal) ℓ) : Prop :=
  True

def Pre_Dg0 (m : (ℓ : Loc Cert.Dg0.nD Cert.Dg0.τ Cert.Dg0.sig) → Buf (Elt Bits) ℓ) : Prop :=
  True

def Pre_Dg0Ideal (m : (ℓ : Loc Cert.Dg0Ideal.nD Cert.Dg0Ideal.τ Cert.Dg0Ideal.sig) → Buf (Elt Ideal) ℓ) : Prop :=
  True

def Pre_RefDg0Ideal (m : (ℓ : Loc Cert.RefDg0Ideal.nD Cert.RefDg0Ideal.τ Cert.RefDg0Ideal.sig) → Buf (Elt Ideal) ℓ) : Prop :=
  True

def Pre_Dw0 (m : (ℓ : Loc Cert.Dw0.nD Cert.Dw0.τ Cert.Dw0.sig) → Buf (Elt Bits) ℓ) : Prop :=
  True

def Pre_Dw0Ideal (m : (ℓ : Loc Cert.Dw0Ideal.nD Cert.Dw0Ideal.τ Cert.Dw0Ideal.sig) → Buf (Elt Ideal) ℓ) : Prop :=
  True

def Pre_RefDw0Ideal (m : (ℓ : Loc Cert.RefDw0Ideal.nD Cert.RefDw0Ideal.τ Cert.RefDw0Ideal.sig) → Buf (Elt Ideal) ℓ) : Prop :=
  True

def Pre_Z [hPre_places : Cert.Pre_places.Facts] (m : (ℓ : Loc Cert.Z.nD Cert.Z.τ Cert.Z.sig) → Buf (Elt Bits) ℓ) : Prop :=
  ∀ c : Dev Cert.Z.nD,
    (Cert.Pre_places.fn (F := Bits) (m ((c.tc : Thread Cert.Z.nD Cert.Z.τ).loc Cert.Z.main_arg0)) (m ((c.tc : Thread Cert.Z.nD Cert.Z.τ).loc Cert.Z.main_arg1)) (m ((c.tc : Thread Cert.Z.nD Cert.Z.τ).loc Cert.Z.main_arg2)) (m ((c.tc : Thread Cert.Z.nD Cert.Z.τ).loc Cert.Z.main_arg3)) (m ((c.tc : Thread Cert.Z.nD Cert.Z.τ).loc Cert.Z.main_arg4)) (m ((c.tc : Thread Cert.Z.nD Cert.Z.τ).loc Cert.Z.main_arg5)) (m ((c.tc : Thread Cert.Z.nD Cert.Z.τ).loc Cert.Z.main_arg6)) (m ((c.tc : Thread Cert.Z.nD Cert.Z.τ).loc Cert.Z.main_arg7)) (m ((c.tc : Thread Cert.Z.nD Cert.Z.τ).loc Cert.Z.main_arg8)) (m ((c.tc : Thread Cert.Z.nD Cert.Z.τ).loc Cert.Z.main_arg9)) (m ((c.tc : Thread Cert.Z.nD Cert.Z.τ).loc Cert.Z.main_arg10)) (m ((c.tc : Thread Cert.Z.nD Cert.Z.τ).loc Cert.Z.main_arg11)) (m ((c.tc : Thread Cert.Z.nD Cert.Z.τ).loc Cert.Z.main_arg12)) (m ((c.tc : Thread Cert.Z.nD Cert.Z.τ).loc Cert.Z.main_arg13)) (m ((c.tc : Thread Cert.Z.nD Cert.Z.τ).loc Cert.Z.main_arg14))) = (fun _ => 1#1)

def Pre_ZIdeal [hPre_places : Cert.Pre_places.Facts] (m : (ℓ : Loc Cert.ZIdeal.nD Cert.ZIdeal.τ Cert.ZIdeal.sig) → Buf (Elt Ideal) ℓ) : Prop :=
  ∀ c : Dev Cert.ZIdeal.nD,
    (Cert.Pre_places.fn (F := Ideal) (m ((c.tc : Thread Cert.ZIdeal.nD Cert.ZIdeal.τ).loc Cert.ZIdeal.main_arg0)) (m ((c.tc : Thread Cert.ZIdeal.nD Cert.ZIdeal.τ).loc Cert.ZIdeal.main_arg1)) (m ((c.tc : Thread Cert.ZIdeal.nD Cert.ZIdeal.τ).loc Cert.ZIdeal.main_arg2)) (m ((c.tc : Thread Cert.ZIdeal.nD Cert.ZIdeal.τ).loc Cert.ZIdeal.main_arg3)) (m ((c.tc : Thread Cert.ZIdeal.nD Cert.ZIdeal.τ).loc Cert.ZIdeal.main_arg4)) (m ((c.tc : Thread Cert.ZIdeal.nD Cert.ZIdeal.τ).loc Cert.ZIdeal.main_arg5)) (m ((c.tc : Thread Cert.ZIdeal.nD Cert.ZIdeal.τ).loc Cert.ZIdeal.main_arg6)) (m ((c.tc : Thread Cert.ZIdeal.nD Cert.ZIdeal.τ).loc Cert.ZIdeal.main_arg7)) (m ((c.tc : Thread Cert.ZIdeal.nD Cert.ZIdeal.τ).loc Cert.ZIdeal.main_arg8)) (m ((c.tc : Thread Cert.ZIdeal.nD Cert.ZIdeal.τ).loc Cert.ZIdeal.main_arg9)) (m ((c.tc : Thread Cert.ZIdeal.nD Cert.ZIdeal.τ).loc Cert.ZIdeal.main_arg10)) (m ((c.tc : Thread Cert.ZIdeal.nD Cert.ZIdeal.τ).loc Cert.ZIdeal.main_arg11)) (m ((c.tc : Thread Cert.ZIdeal.nD Cert.ZIdeal.τ).loc Cert.ZIdeal.main_arg12)) (m ((c.tc : Thread Cert.ZIdeal.nD Cert.ZIdeal.τ).loc Cert.ZIdeal.main_arg13)) (m ((c.tc : Thread Cert.ZIdeal.nD Cert.ZIdeal.τ).loc Cert.ZIdeal.main_arg14))) = (fun _ => 1#1)

def Pre_RefZIdeal [hPre_places : Cert.Pre_places.Facts] (m : (ℓ : Loc Cert.RefZIdeal.nD Cert.RefZIdeal.τ Cert.RefZIdeal.sig) → Buf (Elt Ideal) ℓ) : Prop :=
  ∀ c : Dev Cert.RefZIdeal.nD,
    (Cert.Pre_places.fn (F := Ideal) (m ((c.tc : Thread Cert.RefZIdeal.nD Cert.RefZIdeal.τ).loc Cert.RefZIdeal.main_arg0)) (m ((c.tc : Thread Cert.RefZIdeal.nD Cert.RefZIdeal.τ).loc Cert.RefZIdeal.main_arg1)) (m ((c.tc : Thread Cert.RefZIdeal.nD Cert.RefZIdeal.τ).loc Cert.RefZIdeal.main_arg2)) (m ((c.tc : Thread Cert.RefZIdeal.nD Cert.RefZIdeal.τ).loc Cert.RefZIdeal.main_arg3)) (m ((c.tc : Thread Cert.RefZIdeal.nD Cert.RefZIdeal.τ).loc Cert.RefZIdeal.main_arg4)) (m ((c.tc : Thread Cert.RefZIdeal.nD Cert.RefZIdeal.τ).loc Cert.RefZIdeal.main_arg5)) (m ((c.tc : Thread Cert.RefZIdeal.nD Cert.RefZIdeal.τ).loc Cert.RefZIdeal.main_arg6)) (m ((c.tc : Thread Cert.RefZIdeal.nD Cert.RefZIdeal.τ).loc Cert.RefZIdeal.main_arg7)) (m ((c.tc : Thread Cert.RefZIdeal.nD Cert.RefZIdeal.τ).loc Cert.RefZIdeal.main_arg8)) (m ((c.tc : Thread Cert.RefZIdeal.nD Cert.RefZIdeal.τ).loc Cert.RefZIdeal.main_arg9)) (m ((c.tc : Thread Cert.RefZIdeal.nD Cert.RefZIdeal.τ).loc Cert.RefZIdeal.main_arg10)) (m ((c.tc : Thread Cert.RefZIdeal.nD Cert.RefZIdeal.τ).loc Cert.RefZIdeal.main_arg11)) (m ((c.tc : Thread Cert.RefZIdeal.nD Cert.RefZIdeal.τ).loc Cert.RefZIdeal.main_arg12)) (m ((c.tc : Thread Cert.RefZIdeal.nD Cert.RefZIdeal.τ).loc Cert.RefZIdeal.main_arg13)) (m ((c.tc : Thread Cert.RefZIdeal.nD Cert.RefZIdeal.τ).loc Cert.RefZIdeal.main_arg14))) = (fun _ => 1#1)

def quiescent_Dg2 [hDg2 : Cert.Dg2.Facts] : Prop :=
  ∀ (m : (ℓ : Loc Cert.Dg2.nD Cert.Dg2.τ Cert.Dg2.sig) → Buf (Elt Bits) ℓ) (g : Dev Cert.Dg2.nD → PrngReg), Pre_Dg2 m →
    θ_run (Cert.Dg2.defs (F := Bits)) (onTc (τ := Cert.Dg2.τ) (Cert.Dg2.main (F := Bits))) ⟨m, fun _ => 0, g⟩ (fun r => (∀ c : Dev Cert.Dg2.nD,
      r.2.mem ((c.tc : Thread Cert.Dg2.nD Cert.Dg2.τ).loc Cert.Dg2.main_arg0) = m ((c.tc : Thread Cert.Dg2.nD Cert.Dg2.τ).loc Cert.Dg2.main_arg0)
      ∧ r.2.mem ((c.tc : Thread Cert.Dg2.nD Cert.Dg2.τ).loc Cert.Dg2.main_arg1) = m ((c.tc : Thread Cert.Dg2.nD Cert.Dg2.τ).loc Cert.Dg2.main_arg1)
      ∧ r.2.mem ((c.tc : Thread Cert.Dg2.nD Cert.Dg2.τ).loc Cert.Dg2.main_arg2) = m ((c.tc : Thread Cert.Dg2.nD Cert.Dg2.τ).loc Cert.Dg2.main_arg2)
      ∧ r.2.mem ((c.tc : Thread Cert.Dg2.nD Cert.Dg2.τ).loc Cert.Dg2.main_arg3) = m ((c.tc : Thread Cert.Dg2.nD Cert.Dg2.τ).loc Cert.Dg2.main_arg3)
      ∧ r.2.mem ((c.tc : Thread Cert.Dg2.nD Cert.Dg2.τ).loc Cert.Dg2.main_arg4) = m ((c.tc : Thread Cert.Dg2.nD Cert.Dg2.τ).loc Cert.Dg2.main_arg4)
      ∧ r.2.mem ((c.tc : Thread Cert.Dg2.nD Cert.Dg2.τ).loc Cert.Dg2.main_arg5) = m ((c.tc : Thread Cert.Dg2.nD Cert.Dg2.τ).loc Cert.Dg2.main_arg5)
      ∧ r.2.mem ((c.tc : Thread Cert.Dg2.nD Cert.Dg2.τ).loc Cert.Dg2.main_arg6) = m ((c.tc : Thread Cert.Dg2.nD Cert.Dg2.τ).loc Cert.Dg2.main_arg6)
      ∧ r.2.mem ((c.tc : Thread Cert.Dg2.nD Cert.Dg2.τ).loc Cert.Dg2.main_arg7) = m ((c.tc : Thread Cert.Dg2.nD Cert.Dg2.τ).loc Cert.Dg2.main_arg7))
      ∧ r.2.sem = fun _ => 0)

def quiescent_Dg2Ideal [hDg2Ideal : Cert.Dg2Ideal.Facts] : Prop :=
  ∀ (m : (ℓ : Loc Cert.Dg2Ideal.nD Cert.Dg2Ideal.τ Cert.Dg2Ideal.sig) → Buf (Elt Ideal) ℓ) (g : Dev Cert.Dg2Ideal.nD → PrngReg), Pre_Dg2Ideal m →
    θ_run (Cert.Dg2Ideal.defs (F := Ideal)) (onTc (τ := Cert.Dg2Ideal.τ) (Cert.Dg2Ideal.main (F := Ideal))) ⟨m, fun _ => 0, g⟩ (fun r => (∀ c : Dev Cert.Dg2Ideal.nD,
      r.2.mem ((c.tc : Thread Cert.Dg2Ideal.nD Cert.Dg2Ideal.τ).loc Cert.Dg2Ideal.main_arg0) = m ((c.tc : Thread Cert.Dg2Ideal.nD Cert.Dg2Ideal.τ).loc Cert.Dg2Ideal.main_arg0)
      ∧ r.2.mem ((c.tc : Thread Cert.Dg2Ideal.nD Cert.Dg2Ideal.τ).loc Cert.Dg2Ideal.main_arg1) = m ((c.tc : Thread Cert.Dg2Ideal.nD Cert.Dg2Ideal.τ).loc Cert.Dg2Ideal.main_arg1)
      ∧ r.2.mem ((c.tc : Thread Cert.Dg2Ideal.nD Cert.Dg2Ideal.τ).loc Cert.Dg2Ideal.main_arg2) = m ((c.tc : Thread Cert.Dg2Ideal.nD Cert.Dg2Ideal.τ).loc Cert.Dg2Ideal.main_arg2)
      ∧ r.2.mem ((c.tc : Thread Cert.Dg2Ideal.nD Cert.Dg2Ideal.τ).loc Cert.Dg2Ideal.main_arg3) = m ((c.tc : Thread Cert.Dg2Ideal.nD Cert.Dg2Ideal.τ).loc Cert.Dg2Ideal.main_arg3)
      ∧ r.2.mem ((c.tc : Thread Cert.Dg2Ideal.nD Cert.Dg2Ideal.τ).loc Cert.Dg2Ideal.main_arg4) = m ((c.tc : Thread Cert.Dg2Ideal.nD Cert.Dg2Ideal.τ).loc Cert.Dg2Ideal.main_arg4)
      ∧ r.2.mem ((c.tc : Thread Cert.Dg2Ideal.nD Cert.Dg2Ideal.τ).loc Cert.Dg2Ideal.main_arg5) = m ((c.tc : Thread Cert.Dg2Ideal.nD Cert.Dg2Ideal.τ).loc Cert.Dg2Ideal.main_arg5)
      ∧ r.2.mem ((c.tc : Thread Cert.Dg2Ideal.nD Cert.Dg2Ideal.τ).loc Cert.Dg2Ideal.main_arg6) = m ((c.tc : Thread Cert.Dg2Ideal.nD Cert.Dg2Ideal.τ).loc Cert.Dg2Ideal.main_arg6)
      ∧ r.2.mem ((c.tc : Thread Cert.Dg2Ideal.nD Cert.Dg2Ideal.τ).loc Cert.Dg2Ideal.main_arg7) = m ((c.tc : Thread Cert.Dg2Ideal.nD Cert.Dg2Ideal.τ).loc Cert.Dg2Ideal.main_arg7))
      ∧ r.2.sem = fun _ => 0)

def quiescent_RefDg2Ideal [hRefDg2Ideal : Cert.RefDg2Ideal.Facts] : Prop :=
  ∀ (m : (ℓ : Loc Cert.RefDg2Ideal.nD Cert.RefDg2Ideal.τ Cert.RefDg2Ideal.sig) → Buf (Elt Ideal) ℓ) (g : Dev Cert.RefDg2Ideal.nD → PrngReg), Pre_RefDg2Ideal m →
    θ_run (Cert.RefDg2Ideal.defs (F := Ideal)) (onTc (τ := Cert.RefDg2Ideal.τ) (Cert.RefDg2Ideal.main (F := Ideal))) ⟨m, fun _ => 0, g⟩ (fun r => (∀ c : Dev Cert.RefDg2Ideal.nD,
      r.2.mem ((c.tc : Thread Cert.RefDg2Ideal.nD Cert.RefDg2Ideal.τ).loc Cert.RefDg2Ideal.main_arg0) = m ((c.tc : Thread Cert.RefDg2Ideal.nD Cert.RefDg2Ideal.τ).loc Cert.RefDg2Ideal.main_arg0)
      ∧ r.2.mem ((c.tc : Thread Cert.RefDg2Ideal.nD Cert.RefDg2Ideal.τ).loc Cert.RefDg2Ideal.main_arg1) = m ((c.tc : Thread Cert.RefDg2Ideal.nD Cert.RefDg2Ideal.τ).loc Cert.RefDg2Ideal.main_arg1)
      ∧ r.2.mem ((c.tc : Thread Cert.RefDg2Ideal.nD Cert.RefDg2Ideal.τ).loc Cert.RefDg2Ideal.main_arg2) = m ((c.tc : Thread Cert.RefDg2Ideal.nD Cert.RefDg2Ideal.τ).loc Cert.RefDg2Ideal.main_arg2)
      ∧ r.2.mem ((c.tc : Thread Cert.RefDg2Ideal.nD Cert.RefDg2Ideal.τ).loc Cert.RefDg2Ideal.main_arg3) = m ((c.tc : Thread Cert.RefDg2Ideal.nD Cert.RefDg2Ideal.τ).loc Cert.RefDg2Ideal.main_arg3)
      ∧ r.2.mem ((c.tc : Thread Cert.RefDg2Ideal.nD Cert.RefDg2Ideal.τ).loc Cert.RefDg2Ideal.main_arg4) = m ((c.tc : Thread Cert.RefDg2Ideal.nD Cert.RefDg2Ideal.τ).loc Cert.RefDg2Ideal.main_arg4)
      ∧ r.2.mem ((c.tc : Thread Cert.RefDg2Ideal.nD Cert.RefDg2Ideal.τ).loc Cert.RefDg2Ideal.main_arg5) = m ((c.tc : Thread Cert.RefDg2Ideal.nD Cert.RefDg2Ideal.τ).loc Cert.RefDg2Ideal.main_arg5)
      ∧ r.2.mem ((c.tc : Thread Cert.RefDg2Ideal.nD Cert.RefDg2Ideal.τ).loc Cert.RefDg2Ideal.main_arg6) = m ((c.tc : Thread Cert.RefDg2Ideal.nD Cert.RefDg2Ideal.τ).loc Cert.RefDg2Ideal.main_arg6)
      ∧ r.2.mem ((c.tc : Thread Cert.RefDg2Ideal.nD Cert.RefDg2Ideal.τ).loc Cert.RefDg2Ideal.main_arg7) = m ((c.tc : Thread Cert.RefDg2Ideal.nD Cert.RefDg2Ideal.τ).loc Cert.RefDg2Ideal.main_arg7))
      ∧ r.2.sem = fun _ => 0)

def quiescent_Dg1 [hDg1 : Cert.Dg1.Facts] : Prop :=
  ∀ (m : (ℓ : Loc Cert.Dg1.nD Cert.Dg1.τ Cert.Dg1.sig) → Buf (Elt Bits) ℓ) (g : Dev Cert.Dg1.nD → PrngReg), Pre_Dg1 m →
    θ_run (Cert.Dg1.defs (F := Bits)) (onTc (τ := Cert.Dg1.τ) (Cert.Dg1.main (F := Bits))) ⟨m, fun _ => 0, g⟩ (fun r => (∀ c : Dev Cert.Dg1.nD,
      r.2.mem ((c.tc : Thread Cert.Dg1.nD Cert.Dg1.τ).loc Cert.Dg1.main_arg0) = m ((c.tc : Thread Cert.Dg1.nD Cert.Dg1.τ).loc Cert.Dg1.main_arg0)
      ∧ r.2.mem ((c.tc : Thread Cert.Dg1.nD Cert.Dg1.τ).loc Cert.Dg1.main_arg1) = m ((c.tc : Thread Cert.Dg1.nD Cert.Dg1.τ).loc Cert.Dg1.main_arg1)
      ∧ r.2.mem ((c.tc : Thread Cert.Dg1.nD Cert.Dg1.τ).loc Cert.Dg1.main_arg2) = m ((c.tc : Thread Cert.Dg1.nD Cert.Dg1.τ).loc Cert.Dg1.main_arg2)
      ∧ r.2.mem ((c.tc : Thread Cert.Dg1.nD Cert.Dg1.τ).loc Cert.Dg1.main_arg3) = m ((c.tc : Thread Cert.Dg1.nD Cert.Dg1.τ).loc Cert.Dg1.main_arg3)
      ∧ r.2.mem ((c.tc : Thread Cert.Dg1.nD Cert.Dg1.τ).loc Cert.Dg1.main_arg4) = m ((c.tc : Thread Cert.Dg1.nD Cert.Dg1.τ).loc Cert.Dg1.main_arg4)
      ∧ r.2.mem ((c.tc : Thread Cert.Dg1.nD Cert.Dg1.τ).loc Cert.Dg1.main_arg5) = m ((c.tc : Thread Cert.Dg1.nD Cert.Dg1.τ).loc Cert.Dg1.main_arg5)
      ∧ r.2.mem ((c.tc : Thread Cert.Dg1.nD Cert.Dg1.τ).loc Cert.Dg1.main_arg6) = m ((c.tc : Thread Cert.Dg1.nD Cert.Dg1.τ).loc Cert.Dg1.main_arg6))
      ∧ r.2.sem = fun _ => 0)

def quiescent_Dg1Ideal [hDg1Ideal : Cert.Dg1Ideal.Facts] : Prop :=
  ∀ (m : (ℓ : Loc Cert.Dg1Ideal.nD Cert.Dg1Ideal.τ Cert.Dg1Ideal.sig) → Buf (Elt Ideal) ℓ) (g : Dev Cert.Dg1Ideal.nD → PrngReg), Pre_Dg1Ideal m →
    θ_run (Cert.Dg1Ideal.defs (F := Ideal)) (onTc (τ := Cert.Dg1Ideal.τ) (Cert.Dg1Ideal.main (F := Ideal))) ⟨m, fun _ => 0, g⟩ (fun r => (∀ c : Dev Cert.Dg1Ideal.nD,
      r.2.mem ((c.tc : Thread Cert.Dg1Ideal.nD Cert.Dg1Ideal.τ).loc Cert.Dg1Ideal.main_arg0) = m ((c.tc : Thread Cert.Dg1Ideal.nD Cert.Dg1Ideal.τ).loc Cert.Dg1Ideal.main_arg0)
      ∧ r.2.mem ((c.tc : Thread Cert.Dg1Ideal.nD Cert.Dg1Ideal.τ).loc Cert.Dg1Ideal.main_arg1) = m ((c.tc : Thread Cert.Dg1Ideal.nD Cert.Dg1Ideal.τ).loc Cert.Dg1Ideal.main_arg1)
      ∧ r.2.mem ((c.tc : Thread Cert.Dg1Ideal.nD Cert.Dg1Ideal.τ).loc Cert.Dg1Ideal.main_arg2) = m ((c.tc : Thread Cert.Dg1Ideal.nD Cert.Dg1Ideal.τ).loc Cert.Dg1Ideal.main_arg2)
      ∧ r.2.mem ((c.tc : Thread Cert.Dg1Ideal.nD Cert.Dg1Ideal.τ).loc Cert.Dg1Ideal.main_arg3) = m ((c.tc : Thread Cert.Dg1Ideal.nD Cert.Dg1Ideal.τ).loc Cert.Dg1Ideal.main_arg3)
      ∧ r.2.mem ((c.tc : Thread Cert.Dg1Ideal.nD Cert.Dg1Ideal.τ).loc Cert.Dg1Ideal.main_arg4) = m ((c.tc : Thread Cert.Dg1Ideal.nD Cert.Dg1Ideal.τ).loc Cert.Dg1Ideal.main_arg4)
      ∧ r.2.mem ((c.tc : Thread Cert.Dg1Ideal.nD Cert.Dg1Ideal.τ).loc Cert.Dg1Ideal.main_arg5) = m ((c.tc : Thread Cert.Dg1Ideal.nD Cert.Dg1Ideal.τ).loc Cert.Dg1Ideal.main_arg5)
      ∧ r.2.mem ((c.tc : Thread Cert.Dg1Ideal.nD Cert.Dg1Ideal.τ).loc Cert.Dg1Ideal.main_arg6) = m ((c.tc : Thread Cert.Dg1Ideal.nD Cert.Dg1Ideal.τ).loc Cert.Dg1Ideal.main_arg6))
      ∧ r.2.sem = fun _ => 0)

def quiescent_RefDg1Ideal [hRefDg1Ideal : Cert.RefDg1Ideal.Facts] : Prop :=
  ∀ (m : (ℓ : Loc Cert.RefDg1Ideal.nD Cert.RefDg1Ideal.τ Cert.RefDg1Ideal.sig) → Buf (Elt Ideal) ℓ) (g : Dev Cert.RefDg1Ideal.nD → PrngReg), Pre_RefDg1Ideal m →
    θ_run (Cert.RefDg1Ideal.defs (F := Ideal)) (onTc (τ := Cert.RefDg1Ideal.τ) (Cert.RefDg1Ideal.main (F := Ideal))) ⟨m, fun _ => 0, g⟩ (fun r => (∀ c : Dev Cert.RefDg1Ideal.nD,
      r.2.mem ((c.tc : Thread Cert.RefDg1Ideal.nD Cert.RefDg1Ideal.τ).loc Cert.RefDg1Ideal.main_arg0) = m ((c.tc : Thread Cert.RefDg1Ideal.nD Cert.RefDg1Ideal.τ).loc Cert.RefDg1Ideal.main_arg0)
      ∧ r.2.mem ((c.tc : Thread Cert.RefDg1Ideal.nD Cert.RefDg1Ideal.τ).loc Cert.RefDg1Ideal.main_arg1) = m ((c.tc : Thread Cert.RefDg1Ideal.nD Cert.RefDg1Ideal.τ).loc Cert.RefDg1Ideal.main_arg1)
      ∧ r.2.mem ((c.tc : Thread Cert.RefDg1Ideal.nD Cert.RefDg1Ideal.τ).loc Cert.RefDg1Ideal.main_arg2) = m ((c.tc : Thread Cert.RefDg1Ideal.nD Cert.RefDg1Ideal.τ).loc Cert.RefDg1Ideal.main_arg2)
      ∧ r.2.mem ((c.tc : Thread Cert.RefDg1Ideal.nD Cert.RefDg1Ideal.τ).loc Cert.RefDg1Ideal.main_arg3) = m ((c.tc : Thread Cert.RefDg1Ideal.nD Cert.RefDg1Ideal.τ).loc Cert.RefDg1Ideal.main_arg3)
      ∧ r.2.mem ((c.tc : Thread Cert.RefDg1Ideal.nD Cert.RefDg1Ideal.τ).loc Cert.RefDg1Ideal.main_arg4) = m ((c.tc : Thread Cert.RefDg1Ideal.nD Cert.RefDg1Ideal.τ).loc Cert.RefDg1Ideal.main_arg4)
      ∧ r.2.mem ((c.tc : Thread Cert.RefDg1Ideal.nD Cert.RefDg1Ideal.τ).loc Cert.RefDg1Ideal.main_arg5) = m ((c.tc : Thread Cert.RefDg1Ideal.nD Cert.RefDg1Ideal.τ).loc Cert.RefDg1Ideal.main_arg5)
      ∧ r.2.mem ((c.tc : Thread Cert.RefDg1Ideal.nD Cert.RefDg1Ideal.τ).loc Cert.RefDg1Ideal.main_arg6) = m ((c.tc : Thread Cert.RefDg1Ideal.nD Cert.RefDg1Ideal.τ).loc Cert.RefDg1Ideal.main_arg6))
      ∧ r.2.sem = fun _ => 0)

def quiescent_Dg0 [hDg0 : Cert.Dg0.Facts] : Prop :=
  ∀ (m : (ℓ : Loc Cert.Dg0.nD Cert.Dg0.τ Cert.Dg0.sig) → Buf (Elt Bits) ℓ) (g : Dev Cert.Dg0.nD → PrngReg), Pre_Dg0 m →
    θ_run (Cert.Dg0.defs (F := Bits)) (onTc (τ := Cert.Dg0.τ) (Cert.Dg0.main (F := Bits))) ⟨m, fun _ => 0, g⟩ (fun r => (∀ c : Dev Cert.Dg0.nD,
      r.2.mem ((c.tc : Thread Cert.Dg0.nD Cert.Dg0.τ).loc Cert.Dg0.main_arg0) = m ((c.tc : Thread Cert.Dg0.nD Cert.Dg0.τ).loc Cert.Dg0.main_arg0)
      ∧ r.2.mem ((c.tc : Thread Cert.Dg0.nD Cert.Dg0.τ).loc Cert.Dg0.main_arg1) = m ((c.tc : Thread Cert.Dg0.nD Cert.Dg0.τ).loc Cert.Dg0.main_arg1)
      ∧ r.2.mem ((c.tc : Thread Cert.Dg0.nD Cert.Dg0.τ).loc Cert.Dg0.main_arg2) = m ((c.tc : Thread Cert.Dg0.nD Cert.Dg0.τ).loc Cert.Dg0.main_arg2)
      ∧ r.2.mem ((c.tc : Thread Cert.Dg0.nD Cert.Dg0.τ).loc Cert.Dg0.main_arg3) = m ((c.tc : Thread Cert.Dg0.nD Cert.Dg0.τ).loc Cert.Dg0.main_arg3)
      ∧ r.2.mem ((c.tc : Thread Cert.Dg0.nD Cert.Dg0.τ).loc Cert.Dg0.main_arg4) = m ((c.tc : Thread Cert.Dg0.nD Cert.Dg0.τ).loc Cert.Dg0.main_arg4))
      ∧ r.2.sem = fun _ => 0)

def quiescent_Dg0Ideal [hDg0Ideal : Cert.Dg0Ideal.Facts] : Prop :=
  ∀ (m : (ℓ : Loc Cert.Dg0Ideal.nD Cert.Dg0Ideal.τ Cert.Dg0Ideal.sig) → Buf (Elt Ideal) ℓ) (g : Dev Cert.Dg0Ideal.nD → PrngReg), Pre_Dg0Ideal m →
    θ_run (Cert.Dg0Ideal.defs (F := Ideal)) (onTc (τ := Cert.Dg0Ideal.τ) (Cert.Dg0Ideal.main (F := Ideal))) ⟨m, fun _ => 0, g⟩ (fun r => (∀ c : Dev Cert.Dg0Ideal.nD,
      r.2.mem ((c.tc : Thread Cert.Dg0Ideal.nD Cert.Dg0Ideal.τ).loc Cert.Dg0Ideal.main_arg0) = m ((c.tc : Thread Cert.Dg0Ideal.nD Cert.Dg0Ideal.τ).loc Cert.Dg0Ideal.main_arg0)
      ∧ r.2.mem ((c.tc : Thread Cert.Dg0Ideal.nD Cert.Dg0Ideal.τ).loc Cert.Dg0Ideal.main_arg1) = m ((c.tc : Thread Cert.Dg0Ideal.nD Cert.Dg0Ideal.τ).loc Cert.Dg0Ideal.main_arg1)
      ∧ r.2.mem ((c.tc : Thread Cert.Dg0Ideal.nD Cert.Dg0Ideal.τ).loc Cert.Dg0Ideal.main_arg2) = m ((c.tc : Thread Cert.Dg0Ideal.nD Cert.Dg0Ideal.τ).loc Cert.Dg0Ideal.main_arg2)
      ∧ r.2.mem ((c.tc : Thread Cert.Dg0Ideal.nD Cert.Dg0Ideal.τ).loc Cert.Dg0Ideal.main_arg3) = m ((c.tc : Thread Cert.Dg0Ideal.nD Cert.Dg0Ideal.τ).loc Cert.Dg0Ideal.main_arg3)
      ∧ r.2.mem ((c.tc : Thread Cert.Dg0Ideal.nD Cert.Dg0Ideal.τ).loc Cert.Dg0Ideal.main_arg4) = m ((c.tc : Thread Cert.Dg0Ideal.nD Cert.Dg0Ideal.τ).loc Cert.Dg0Ideal.main_arg4))
      ∧ r.2.sem = fun _ => 0)

def quiescent_RefDg0Ideal [hRefDg0Ideal : Cert.RefDg0Ideal.Facts] : Prop :=
  ∀ (m : (ℓ : Loc Cert.RefDg0Ideal.nD Cert.RefDg0Ideal.τ Cert.RefDg0Ideal.sig) → Buf (Elt Ideal) ℓ) (g : Dev Cert.RefDg0Ideal.nD → PrngReg), Pre_RefDg0Ideal m →
    θ_run (Cert.RefDg0Ideal.defs (F := Ideal)) (onTc (τ := Cert.RefDg0Ideal.τ) (Cert.RefDg0Ideal.main (F := Ideal))) ⟨m, fun _ => 0, g⟩ (fun r => (∀ c : Dev Cert.RefDg0Ideal.nD,
      r.2.mem ((c.tc : Thread Cert.RefDg0Ideal.nD Cert.RefDg0Ideal.τ).loc Cert.RefDg0Ideal.main_arg0) = m ((c.tc : Thread Cert.RefDg0Ideal.nD Cert.RefDg0Ideal.τ).loc Cert.RefDg0Ideal.main_arg0)
      ∧ r.2.mem ((c.tc : Thread Cert.RefDg0Ideal.nD Cert.RefDg0Ideal.τ).loc Cert.RefDg0Ideal.main_arg1) = m ((c.tc : Thread Cert.RefDg0Ideal.nD Cert.RefDg0Ideal.τ).loc Cert.RefDg0Ideal.main_arg1)
      ∧ r.2.mem ((c.tc : Thread Cert.RefDg0Ideal.nD Cert.RefDg0Ideal.τ).loc Cert.RefDg0Ideal.main_arg2) = m ((c.tc : Thread Cert.RefDg0Ideal.nD Cert.RefDg0Ideal.τ).loc Cert.RefDg0Ideal.main_arg2)
      ∧ r.2.mem ((c.tc : Thread Cert.RefDg0Ideal.nD Cert.RefDg0Ideal.τ).loc Cert.RefDg0Ideal.main_arg3) = m ((c.tc : Thread Cert.RefDg0Ideal.nD Cert.RefDg0Ideal.τ).loc Cert.RefDg0Ideal.main_arg3)
      ∧ r.2.mem ((c.tc : Thread Cert.RefDg0Ideal.nD Cert.RefDg0Ideal.τ).loc Cert.RefDg0Ideal.main_arg4) = m ((c.tc : Thread Cert.RefDg0Ideal.nD Cert.RefDg0Ideal.τ).loc Cert.RefDg0Ideal.main_arg4))
      ∧ r.2.sem = fun _ => 0)

def quiescent_Dw0 [hDw0 : Cert.Dw0.Facts] : Prop :=
  ∀ (m : (ℓ : Loc Cert.Dw0.nD Cert.Dw0.τ Cert.Dw0.sig) → Buf (Elt Bits) ℓ) (g : Dev Cert.Dw0.nD → PrngReg), Pre_Dw0 m →
    θ_run (Cert.Dw0.defs (F := Bits)) (onTc (τ := Cert.Dw0.τ) (Cert.Dw0.main (F := Bits))) ⟨m, fun _ => 0, g⟩ (fun r => (∀ c : Dev Cert.Dw0.nD,
      r.2.mem ((c.tc : Thread Cert.Dw0.nD Cert.Dw0.τ).loc Cert.Dw0.main_arg0) = m ((c.tc : Thread Cert.Dw0.nD Cert.Dw0.τ).loc Cert.Dw0.main_arg0)
      ∧ r.2.mem ((c.tc : Thread Cert.Dw0.nD Cert.Dw0.τ).loc Cert.Dw0.main_arg1) = m ((c.tc : Thread Cert.Dw0.nD Cert.Dw0.τ).loc Cert.Dw0.main_arg1)
      ∧ r.2.mem ((c.tc : Thread Cert.Dw0.nD Cert.Dw0.τ).loc Cert.Dw0.main_arg2) = m ((c.tc : Thread Cert.Dw0.nD Cert.Dw0.τ).loc Cert.Dw0.main_arg2)
      ∧ r.2.mem ((c.tc : Thread Cert.Dw0.nD Cert.Dw0.τ).loc Cert.Dw0.main_arg3) = m ((c.tc : Thread Cert.Dw0.nD Cert.Dw0.τ).loc Cert.Dw0.main_arg3)
      ∧ r.2.mem ((c.tc : Thread Cert.Dw0.nD Cert.Dw0.τ).loc Cert.Dw0.main_arg4) = m ((c.tc : Thread Cert.Dw0.nD Cert.Dw0.τ).loc Cert.Dw0.main_arg4))
      ∧ r.2.sem = fun _ => 0)

def quiescent_Dw0Ideal [hDw0Ideal : Cert.Dw0Ideal.Facts] : Prop :=
  ∀ (m : (ℓ : Loc Cert.Dw0Ideal.nD Cert.Dw0Ideal.τ Cert.Dw0Ideal.sig) → Buf (Elt Ideal) ℓ) (g : Dev Cert.Dw0Ideal.nD → PrngReg), Pre_Dw0Ideal m →
    θ_run (Cert.Dw0Ideal.defs (F := Ideal)) (onTc (τ := Cert.Dw0Ideal.τ) (Cert.Dw0Ideal.main (F := Ideal))) ⟨m, fun _ => 0, g⟩ (fun r => (∀ c : Dev Cert.Dw0Ideal.nD,
      r.2.mem ((c.tc : Thread Cert.Dw0Ideal.nD Cert.Dw0Ideal.τ).loc Cert.Dw0Ideal.main_arg0) = m ((c.tc : Thread Cert.Dw0Ideal.nD Cert.Dw0Ideal.τ).loc Cert.Dw0Ideal.main_arg0)
      ∧ r.2.mem ((c.tc : Thread Cert.Dw0Ideal.nD Cert.Dw0Ideal.τ).loc Cert.Dw0Ideal.main_arg1) = m ((c.tc : Thread Cert.Dw0Ideal.nD Cert.Dw0Ideal.τ).loc Cert.Dw0Ideal.main_arg1)
      ∧ r.2.mem ((c.tc : Thread Cert.Dw0Ideal.nD Cert.Dw0Ideal.τ).loc Cert.Dw0Ideal.main_arg2) = m ((c.tc : Thread Cert.Dw0Ideal.nD Cert.Dw0Ideal.τ).loc Cert.Dw0Ideal.main_arg2)
      ∧ r.2.mem ((c.tc : Thread Cert.Dw0Ideal.nD Cert.Dw0Ideal.τ).loc Cert.Dw0Ideal.main_arg3) = m ((c.tc : Thread Cert.Dw0Ideal.nD Cert.Dw0Ideal.τ).loc Cert.Dw0Ideal.main_arg3)
      ∧ r.2.mem ((c.tc : Thread Cert.Dw0Ideal.nD Cert.Dw0Ideal.τ).loc Cert.Dw0Ideal.main_arg4) = m ((c.tc : Thread Cert.Dw0Ideal.nD Cert.Dw0Ideal.τ).loc Cert.Dw0Ideal.main_arg4))
      ∧ r.2.sem = fun _ => 0)

def quiescent_RefDw0Ideal [hRefDw0Ideal : Cert.RefDw0Ideal.Facts] : Prop :=
  ∀ (m : (ℓ : Loc Cert.RefDw0Ideal.nD Cert.RefDw0Ideal.τ Cert.RefDw0Ideal.sig) → Buf (Elt Ideal) ℓ) (g : Dev Cert.RefDw0Ideal.nD → PrngReg), Pre_RefDw0Ideal m →
    θ_run (Cert.RefDw0Ideal.defs (F := Ideal)) (onTc (τ := Cert.RefDw0Ideal.τ) (Cert.RefDw0Ideal.main (F := Ideal))) ⟨m, fun _ => 0, g⟩ (fun r => (∀ c : Dev Cert.RefDw0Ideal.nD,
      r.2.mem ((c.tc : Thread Cert.RefDw0Ideal.nD Cert.RefDw0Ideal.τ).loc Cert.RefDw0Ideal.main_arg0) = m ((c.tc : Thread Cert.RefDw0Ideal.nD Cert.RefDw0Ideal.τ).loc Cert.RefDw0Ideal.main_arg0)
      ∧ r.2.mem ((c.tc : Thread Cert.RefDw0Ideal.nD Cert.RefDw0Ideal.τ).loc Cert.RefDw0Ideal.main_arg1) = m ((c.tc : Thread Cert.RefDw0Ideal.nD Cert.RefDw0Ideal.τ).loc Cert.RefDw0Ideal.main_arg1)
      ∧ r.2.mem ((c.tc : Thread Cert.RefDw0Ideal.nD Cert.RefDw0Ideal.τ).loc Cert.RefDw0Ideal.main_arg2) = m ((c.tc : Thread Cert.RefDw0Ideal.nD Cert.RefDw0Ideal.τ).loc Cert.RefDw0Ideal.main_arg2)
      ∧ r.2.mem ((c.tc : Thread Cert.RefDw0Ideal.nD Cert.RefDw0Ideal.τ).loc Cert.RefDw0Ideal.main_arg3) = m ((c.tc : Thread Cert.RefDw0Ideal.nD Cert.RefDw0Ideal.τ).loc Cert.RefDw0Ideal.main_arg3)
      ∧ r.2.mem ((c.tc : Thread Cert.RefDw0Ideal.nD Cert.RefDw0Ideal.τ).loc Cert.RefDw0Ideal.main_arg4) = m ((c.tc : Thread Cert.RefDw0Ideal.nD Cert.RefDw0Ideal.τ).loc Cert.RefDw0Ideal.main_arg4))
      ∧ r.2.sem = fun _ => 0)

def quiescent_Z [hZ : Cert.Z.Facts] [hPre_places : Cert.Pre_places.Facts] : Prop :=
  ∀ (m : (ℓ : Loc Cert.Z.nD Cert.Z.τ Cert.Z.sig) → Buf (Elt Bits) ℓ) (g : Dev Cert.Z.nD → PrngReg), Pre_Z m →
    θ_run (Cert.Z.defs (F := Bits)) (onTc (τ := Cert.Z.τ) (Cert.Z.main (F := Bits))) ⟨m, fun _ => 0, g⟩ (fun r => (∀ c : Dev Cert.Z.nD,
      r.2.mem ((c.tc : Thread Cert.Z.nD Cert.Z.τ).loc Cert.Z.main_arg0) = m ((c.tc : Thread Cert.Z.nD Cert.Z.τ).loc Cert.Z.main_arg0)
      ∧ r.2.mem ((c.tc : Thread Cert.Z.nD Cert.Z.τ).loc Cert.Z.main_arg1) = m ((c.tc : Thread Cert.Z.nD Cert.Z.τ).loc Cert.Z.main_arg1)
      ∧ r.2.mem ((c.tc : Thread Cert.Z.nD Cert.Z.τ).loc Cert.Z.main_arg2) = m ((c.tc : Thread Cert.Z.nD Cert.Z.τ).loc Cert.Z.main_arg2)
      ∧ r.2.mem ((c.tc : Thread Cert.Z.nD Cert.Z.τ).loc Cert.Z.main_arg3) = m ((c.tc : Thread Cert.Z.nD Cert.Z.τ).loc Cert.Z.main_arg3)
      ∧ r.2.mem ((c.tc : Thread Cert.Z.nD Cert.Z.τ).loc Cert.Z.main_arg4) = m ((c.tc : Thread Cert.Z.nD Cert.Z.τ).loc Cert.Z.main_arg4)
      ∧ r.2.mem ((c.tc : Thread Cert.Z.nD Cert.Z.τ).loc Cert.Z.main_arg5) = m ((c.tc : Thread Cert.Z.nD Cert.Z.τ).loc Cert.Z.main_arg5)
      ∧ r.2.mem ((c.tc : Thread Cert.Z.nD Cert.Z.τ).loc Cert.Z.main_arg6) = m ((c.tc : Thread Cert.Z.nD Cert.Z.τ).loc Cert.Z.main_arg6)
      ∧ r.2.mem ((c.tc : Thread Cert.Z.nD Cert.Z.τ).loc Cert.Z.main_arg7) = m ((c.tc : Thread Cert.Z.nD Cert.Z.τ).loc Cert.Z.main_arg7)
      ∧ r.2.mem ((c.tc : Thread Cert.Z.nD Cert.Z.τ).loc Cert.Z.main_arg8) = m ((c.tc : Thread Cert.Z.nD Cert.Z.τ).loc Cert.Z.main_arg8)
      ∧ r.2.mem ((c.tc : Thread Cert.Z.nD Cert.Z.τ).loc Cert.Z.main_arg9) = m ((c.tc : Thread Cert.Z.nD Cert.Z.τ).loc Cert.Z.main_arg9)
      ∧ r.2.mem ((c.tc : Thread Cert.Z.nD Cert.Z.τ).loc Cert.Z.main_arg10) = m ((c.tc : Thread Cert.Z.nD Cert.Z.τ).loc Cert.Z.main_arg10)
      ∧ r.2.mem ((c.tc : Thread Cert.Z.nD Cert.Z.τ).loc Cert.Z.main_arg11) = m ((c.tc : Thread Cert.Z.nD Cert.Z.τ).loc Cert.Z.main_arg11)
      ∧ r.2.mem ((c.tc : Thread Cert.Z.nD Cert.Z.τ).loc Cert.Z.main_arg12) = m ((c.tc : Thread Cert.Z.nD Cert.Z.τ).loc Cert.Z.main_arg12)
      ∧ r.2.mem ((c.tc : Thread Cert.Z.nD Cert.Z.τ).loc Cert.Z.main_arg13) = m ((c.tc : Thread Cert.Z.nD Cert.Z.τ).loc Cert.Z.main_arg13)
      ∧ r.2.mem ((c.tc : Thread Cert.Z.nD Cert.Z.τ).loc Cert.Z.main_arg14) = m ((c.tc : Thread Cert.Z.nD Cert.Z.τ).loc Cert.Z.main_arg14))
      ∧ r.2.sem = fun _ => 0)

def quiescent_ZIdeal [hZIdeal : Cert.ZIdeal.Facts] [hPre_places : Cert.Pre_places.Facts] : Prop :=
  ∀ (m : (ℓ : Loc Cert.ZIdeal.nD Cert.ZIdeal.τ Cert.ZIdeal.sig) → Buf (Elt Ideal) ℓ) (g : Dev Cert.ZIdeal.nD → PrngReg), Pre_ZIdeal m →
    θ_run (Cert.ZIdeal.defs (F := Ideal)) (onTc (τ := Cert.ZIdeal.τ) (Cert.ZIdeal.main (F := Ideal))) ⟨m, fun _ => 0, g⟩ (fun r => (∀ c : Dev Cert.ZIdeal.nD,
      r.2.mem ((c.tc : Thread Cert.ZIdeal.nD Cert.ZIdeal.τ).loc Cert.ZIdeal.main_arg0) = m ((c.tc : Thread Cert.ZIdeal.nD Cert.ZIdeal.τ).loc Cert.ZIdeal.main_arg0)
      ∧ r.2.mem ((c.tc : Thread Cert.ZIdeal.nD Cert.ZIdeal.τ).loc Cert.ZIdeal.main_arg1) = m ((c.tc : Thread Cert.ZIdeal.nD Cert.ZIdeal.τ).loc Cert.ZIdeal.main_arg1)
      ∧ r.2.mem ((c.tc : Thread Cert.ZIdeal.nD Cert.ZIdeal.τ).loc Cert.ZIdeal.main_arg2) = m ((c.tc : Thread Cert.ZIdeal.nD Cert.ZIdeal.τ).loc Cert.ZIdeal.main_arg2)
      ∧ r.2.mem ((c.tc : Thread Cert.ZIdeal.nD Cert.ZIdeal.τ).loc Cert.ZIdeal.main_arg3) = m ((c.tc : Thread Cert.ZIdeal.nD Cert.ZIdeal.τ).loc Cert.ZIdeal.main_arg3)
      ∧ r.2.mem ((c.tc : Thread Cert.ZIdeal.nD Cert.ZIdeal.τ).loc Cert.ZIdeal.main_arg4) = m ((c.tc : Thread Cert.ZIdeal.nD Cert.ZIdeal.τ).loc Cert.ZIdeal.main_arg4)
      ∧ r.2.mem ((c.tc : Thread Cert.ZIdeal.nD Cert.ZIdeal.τ).loc Cert.ZIdeal.main_arg5) = m ((c.tc : Thread Cert.ZIdeal.nD Cert.ZIdeal.τ).loc Cert.ZIdeal.main_arg5)
      ∧ r.2.mem ((c.tc : Thread Cert.ZIdeal.nD Cert.ZIdeal.τ).loc Cert.ZIdeal.main_arg6) = m ((c.tc : Thread Cert.ZIdeal.nD Cert.ZIdeal.τ).loc Cert.ZIdeal.main_arg6)
      ∧ r.2.mem ((c.tc : Thread Cert.ZIdeal.nD Cert.ZIdeal.τ).loc Cert.ZIdeal.main_arg7) = m ((c.tc : Thread Cert.ZIdeal.nD Cert.ZIdeal.τ).loc Cert.ZIdeal.main_arg7)
      ∧ r.2.mem ((c.tc : Thread Cert.ZIdeal.nD Cert.ZIdeal.τ).loc Cert.ZIdeal.main_arg8) = m ((c.tc : Thread Cert.ZIdeal.nD Cert.ZIdeal.τ).loc Cert.ZIdeal.main_arg8)
      ∧ r.2.mem ((c.tc : Thread Cert.ZIdeal.nD Cert.ZIdeal.τ).loc Cert.ZIdeal.main_arg9) = m ((c.tc : Thread Cert.ZIdeal.nD Cert.ZIdeal.τ).loc Cert.ZIdeal.main_arg9)
      ∧ r.2.mem ((c.tc : Thread Cert.ZIdeal.nD Cert.ZIdeal.τ).loc Cert.ZIdeal.main_arg10) = m ((c.tc : Thread Cert.ZIdeal.nD Cert.ZIdeal.τ).loc Cert.ZIdeal.main_arg10)
      ∧ r.2.mem ((c.tc : Thread Cert.ZIdeal.nD Cert.ZIdeal.τ).loc Cert.ZIdeal.main_arg11) = m ((c.tc : Thread Cert.ZIdeal.nD Cert.ZIdeal.τ).loc Cert.ZIdeal.main_arg11)
      ∧ r.2.mem ((c.tc : Thread Cert.ZIdeal.nD Cert.ZIdeal.τ).loc Cert.ZIdeal.main_arg12) = m ((c.tc : Thread Cert.ZIdeal.nD Cert.ZIdeal.τ).loc Cert.ZIdeal.main_arg12)
      ∧ r.2.mem ((c.tc : Thread Cert.ZIdeal.nD Cert.ZIdeal.τ).loc Cert.ZIdeal.main_arg13) = m ((c.tc : Thread Cert.ZIdeal.nD Cert.ZIdeal.τ).loc Cert.ZIdeal.main_arg13)
      ∧ r.2.mem ((c.tc : Thread Cert.ZIdeal.nD Cert.ZIdeal.τ).loc Cert.ZIdeal.main_arg14) = m ((c.tc : Thread Cert.ZIdeal.nD Cert.ZIdeal.τ).loc Cert.ZIdeal.main_arg14))
      ∧ r.2.sem = fun _ => 0)

def quiescent_RefZIdeal [hRefZIdeal : Cert.RefZIdeal.Facts] [hPre_places : Cert.Pre_places.Facts] : Prop :=
  ∀ (m : (ℓ : Loc Cert.RefZIdeal.nD Cert.RefZIdeal.τ Cert.RefZIdeal.sig) → Buf (Elt Ideal) ℓ) (g : Dev Cert.RefZIdeal.nD → PrngReg), Pre_RefZIdeal m →
    θ_run (Cert.RefZIdeal.defs (F := Ideal)) (onTc (τ := Cert.RefZIdeal.τ) (Cert.RefZIdeal.main (F := Ideal))) ⟨m, fun _ => 0, g⟩ (fun r => (∀ c : Dev Cert.RefZIdeal.nD,
      r.2.mem ((c.tc : Thread Cert.RefZIdeal.nD Cert.RefZIdeal.τ).loc Cert.RefZIdeal.main_arg0) = m ((c.tc : Thread Cert.RefZIdeal.nD Cert.RefZIdeal.τ).loc Cert.RefZIdeal.main_arg0)
      ∧ r.2.mem ((c.tc : Thread Cert.RefZIdeal.nD Cert.RefZIdeal.τ).loc Cert.RefZIdeal.main_arg1) = m ((c.tc : Thread Cert.RefZIdeal.nD Cert.RefZIdeal.τ).loc Cert.RefZIdeal.main_arg1)
      ∧ r.2.mem ((c.tc : Thread Cert.RefZIdeal.nD Cert.RefZIdeal.τ).loc Cert.RefZIdeal.main_arg2) = m ((c.tc : Thread Cert.RefZIdeal.nD Cert.RefZIdeal.τ).loc Cert.RefZIdeal.main_arg2)
      ∧ r.2.mem ((c.tc : Thread Cert.RefZIdeal.nD Cert.RefZIdeal.τ).loc Cert.RefZIdeal.main_arg3) = m ((c.tc : Thread Cert.RefZIdeal.nD Cert.RefZIdeal.τ).loc Cert.RefZIdeal.main_arg3)
      ∧ r.2.mem ((c.tc : Thread Cert.RefZIdeal.nD Cert.RefZIdeal.τ).loc Cert.RefZIdeal.main_arg4) = m ((c.tc : Thread Cert.RefZIdeal.nD Cert.RefZIdeal.τ).loc Cert.RefZIdeal.main_arg4)
      ∧ r.2.mem ((c.tc : Thread Cert.RefZIdeal.nD Cert.RefZIdeal.τ).loc Cert.RefZIdeal.main_arg5) = m ((c.tc : Thread Cert.RefZIdeal.nD Cert.RefZIdeal.τ).loc Cert.RefZIdeal.main_arg5)
      ∧ r.2.mem ((c.tc : Thread Cert.RefZIdeal.nD Cert.RefZIdeal.τ).loc Cert.RefZIdeal.main_arg6) = m ((c.tc : Thread Cert.RefZIdeal.nD Cert.RefZIdeal.τ).loc Cert.RefZIdeal.main_arg6)
      ∧ r.2.mem ((c.tc : Thread Cert.RefZIdeal.nD Cert.RefZIdeal.τ).loc Cert.RefZIdeal.main_arg7) = m ((c.tc : Thread Cert.RefZIdeal.nD Cert.RefZIdeal.τ).loc Cert.RefZIdeal.main_arg7)
      ∧ r.2.mem ((c.tc : Thread Cert.RefZIdeal.nD Cert.RefZIdeal.τ).loc Cert.RefZIdeal.main_arg8) = m ((c.tc : Thread Cert.RefZIdeal.nD Cert.RefZIdeal.τ).loc Cert.RefZIdeal.main_arg8)
      ∧ r.2.mem ((c.tc : Thread Cert.RefZIdeal.nD Cert.RefZIdeal.τ).loc Cert.RefZIdeal.main_arg9) = m ((c.tc : Thread Cert.RefZIdeal.nD Cert.RefZIdeal.τ).loc Cert.RefZIdeal.main_arg9)
      ∧ r.2.mem ((c.tc : Thread Cert.RefZIdeal.nD Cert.RefZIdeal.τ).loc Cert.RefZIdeal.main_arg10) = m ((c.tc : Thread Cert.RefZIdeal.nD Cert.RefZIdeal.τ).loc Cert.RefZIdeal.main_arg10)
      ∧ r.2.mem ((c.tc : Thread Cert.RefZIdeal.nD Cert.RefZIdeal.τ).loc Cert.RefZIdeal.main_arg11) = m ((c.tc : Thread Cert.RefZIdeal.nD Cert.RefZIdeal.τ).loc Cert.RefZIdeal.main_arg11)
      ∧ r.2.mem ((c.tc : Thread Cert.RefZIdeal.nD Cert.RefZIdeal.τ).loc Cert.RefZIdeal.main_arg12) = m ((c.tc : Thread Cert.RefZIdeal.nD Cert.RefZIdeal.τ).loc Cert.RefZIdeal.main_arg12)
      ∧ r.2.mem ((c.tc : Thread Cert.RefZIdeal.nD Cert.RefZIdeal.τ).loc Cert.RefZIdeal.main_arg13) = m ((c.tc : Thread Cert.RefZIdeal.nD Cert.RefZIdeal.τ).loc Cert.RefZIdeal.main_arg13)
      ∧ r.2.mem ((c.tc : Thread Cert.RefZIdeal.nD Cert.RefZIdeal.τ).loc Cert.RefZIdeal.main_arg14) = m ((c.tc : Thread Cert.RefZIdeal.nD Cert.RefZIdeal.τ).loc Cert.RefZIdeal.main_arg14))
      ∧ r.2.sem = fun _ => 0)

def preserves_Dg2_Dg2Ideal : Prop :=
  True

def algebraic_Dg2Ideal_RefDg2Ideal [hDg2Ideal : Cert.Dg2Ideal.Facts] [hRefDg2Ideal : Cert.RefDg2Ideal.Facts] : Prop :=
  ∀ (m : (ℓ : Loc Cert.Dg2Ideal.nD Cert.Dg2Ideal.τ Cert.Dg2Ideal.sig) → Buf (Elt Ideal) ℓ) (g : Dev Cert.Dg2Ideal.nD → PrngReg)
    (m' : (ℓ : Loc Cert.RefDg2Ideal.nD Cert.RefDg2Ideal.τ Cert.RefDg2Ideal.sig) → Buf (Elt Ideal) ℓ) (g' : Dev Cert.RefDg2Ideal.nD → PrngReg), Pre_Dg2Ideal m →
    (∀ c : Dev Cert.Dg2Ideal.nD,
      m' ((c.tc : Thread Cert.RefDg2Ideal.nD Cert.RefDg2Ideal.τ).loc Cert.RefDg2Ideal.main_arg0) = m ((c.tc : Thread Cert.Dg2Ideal.nD Cert.Dg2Ideal.τ).loc Cert.Dg2Ideal.main_arg0)
      ∧ m' ((c.tc : Thread Cert.RefDg2Ideal.nD Cert.RefDg2Ideal.τ).loc Cert.RefDg2Ideal.main_arg1) = m ((c.tc : Thread Cert.Dg2Ideal.nD Cert.Dg2Ideal.τ).loc Cert.Dg2Ideal.main_arg1)
      ∧ m' ((c.tc : Thread Cert.RefDg2Ideal.nD Cert.RefDg2Ideal.τ).loc Cert.RefDg2Ideal.main_arg2) = m ((c.tc : Thread Cert.Dg2Ideal.nD Cert.Dg2Ideal.τ).loc Cert.Dg2Ideal.main_arg2)
      ∧ m' ((c.tc : Thread Cert.RefDg2Ideal.nD Cert.RefDg2Ideal.τ).loc Cert.RefDg2Ideal.main_arg3) = m ((c.tc : Thread Cert.Dg2Ideal.nD Cert.Dg2Ideal.τ).loc Cert.Dg2Ideal.main_arg3)
      ∧ m' ((c.tc : Thread Cert.RefDg2Ideal.nD Cert.RefDg2Ideal.τ).loc Cert.RefDg2Ideal.main_arg4) = m ((c.tc : Thread Cert.Dg2Ideal.nD Cert.Dg2Ideal.τ).loc Cert.Dg2Ideal.main_arg4)
      ∧ m' ((c.tc : Thread Cert.RefDg2Ideal.nD Cert.RefDg2Ideal.τ).loc Cert.RefDg2Ideal.main_arg5) = m ((c.tc : Thread Cert.Dg2Ideal.nD Cert.Dg2Ideal.τ).loc Cert.Dg2Ideal.main_arg5)
      ∧ m' ((c.tc : Thread Cert.RefDg2Ideal.nD Cert.RefDg2Ideal.τ).loc Cert.RefDg2Ideal.main_arg6) = m ((c.tc : Thread Cert.Dg2Ideal.nD Cert.Dg2Ideal.τ).loc Cert.Dg2Ideal.main_arg6)
      ∧ m' ((c.tc : Thread Cert.RefDg2Ideal.nD Cert.RefDg2Ideal.τ).loc Cert.RefDg2Ideal.main_arg7) = m ((c.tc : Thread Cert.Dg2Ideal.nD Cert.Dg2Ideal.τ).loc Cert.Dg2Ideal.main_arg7)) →
    ∃ (v0 : (c : Dev Cert.Dg2Ideal.nD) → Buf (Elt Ideal) ((c.tc : Thread Cert.Dg2Ideal.nD Cert.Dg2Ideal.τ).loc Cert.Dg2Ideal.main_v13_0)) (v1 : (c : Dev Cert.Dg2Ideal.nD) → Buf (Elt Ideal) ((c.tc : Thread Cert.Dg2Ideal.nD Cert.Dg2Ideal.τ).loc Cert.Dg2Ideal.main_v13_1)) (v2 : (c : Dev Cert.Dg2Ideal.nD) → Buf (Elt Ideal) ((c.tc : Thread Cert.Dg2Ideal.nD Cert.Dg2Ideal.τ).loc Cert.Dg2Ideal.main_v13_2)),
      θ_run (Cert.Dg2Ideal.defs (F := Ideal)) (onTc (τ := Cert.Dg2Ideal.τ) (Cert.Dg2Ideal.main (F := Ideal))) ⟨m, fun _ => 0, g⟩ (fun r => ∀ c : Dev Cert.Dg2Ideal.nD,
          r.2.mem ((c.tc : Thread Cert.Dg2Ideal.nD Cert.Dg2Ideal.τ).loc Cert.Dg2Ideal.main_v13_0) = v0 c
          ∧ r.2.mem ((c.tc : Thread Cert.Dg2Ideal.nD Cert.Dg2Ideal.τ).loc Cert.Dg2Ideal.main_v13_1) = v1 c
          ∧ r.2.mem ((c.tc : Thread Cert.Dg2Ideal.nD Cert.Dg2Ideal.τ).loc Cert.Dg2Ideal.main_v13_2) = v2 c
          ∧ r.2.mem ((c.tc : Thread Cert.Dg2Ideal.nD Cert.Dg2Ideal.τ).loc Cert.Dg2Ideal.main_arg0) = m ((c.tc : Thread Cert.Dg2Ideal.nD Cert.Dg2Ideal.τ).loc Cert.Dg2Ideal.main_arg0)
          ∧ r.2.mem ((c.tc : Thread Cert.Dg2Ideal.nD Cert.Dg2Ideal.τ).loc Cert.Dg2Ideal.main_arg1) = m ((c.tc : Thread Cert.Dg2Ideal.nD Cert.Dg2Ideal.τ).loc Cert.Dg2Ideal.main_arg1)
          ∧ r.2.mem ((c.tc : Thread Cert.Dg2Ideal.nD Cert.Dg2Ideal.τ).loc Cert.Dg2Ideal.main_arg2) = m ((c.tc : Thread Cert.Dg2Ideal.nD Cert.Dg2Ideal.τ).loc Cert.Dg2Ideal.main_arg2)
          ∧ r.2.mem ((c.tc : Thread Cert.Dg2Ideal.nD Cert.Dg2Ideal.τ).loc Cert.Dg2Ideal.main_arg3) = m ((c.tc : Thread Cert.Dg2Ideal.nD Cert.Dg2Ideal.τ).loc Cert.Dg2Ideal.main_arg3)
          ∧ r.2.mem ((c.tc : Thread Cert.Dg2Ideal.nD Cert.Dg2Ideal.τ).loc Cert.Dg2Ideal.main_arg4) = m ((c.tc : Thread Cert.Dg2Ideal.nD Cert.Dg2Ideal.τ).loc Cert.Dg2Ideal.main_arg4)
          ∧ r.2.mem ((c.tc : Thread Cert.Dg2Ideal.nD Cert.Dg2Ideal.τ).loc Cert.Dg2Ideal.main_arg5) = m ((c.tc : Thread Cert.Dg2Ideal.nD Cert.Dg2Ideal.τ).loc Cert.Dg2Ideal.main_arg5)
          ∧ r.2.mem ((c.tc : Thread Cert.Dg2Ideal.nD Cert.Dg2Ideal.τ).loc Cert.Dg2Ideal.main_arg6) = m ((c.tc : Thread Cert.Dg2Ideal.nD Cert.Dg2Ideal.τ).loc Cert.Dg2Ideal.main_arg6)
          ∧ r.2.mem ((c.tc : Thread Cert.Dg2Ideal.nD Cert.Dg2Ideal.τ).loc Cert.Dg2Ideal.main_arg7) = m ((c.tc : Thread Cert.Dg2Ideal.nD Cert.Dg2Ideal.τ).loc Cert.Dg2Ideal.main_arg7))
      ∧ θ_run (Cert.RefDg2Ideal.defs (F := Ideal)) (onTc (τ := Cert.RefDg2Ideal.τ) (Cert.RefDg2Ideal.main (F := Ideal))) ⟨m', fun _ => 0, g'⟩ (fun r => ∀ c : Dev Cert.RefDg2Ideal.nD,
          r.2.mem ((c.tc : Thread Cert.RefDg2Ideal.nD Cert.RefDg2Ideal.τ).loc Cert.RefDg2Ideal.main_v6_0) = v0 c
          ∧ r.2.mem ((c.tc : Thread Cert.RefDg2Ideal.nD Cert.RefDg2Ideal.τ).loc Cert.RefDg2Ideal.main_v6_1) = v1 c
          ∧ r.2.mem ((c.tc : Thread Cert.RefDg2Ideal.nD Cert.RefDg2Ideal.τ).loc Cert.RefDg2Ideal.main_v6_2) = v2 c
          ∧ r.2.mem ((c.tc : Thread Cert.RefDg2Ideal.nD Cert.RefDg2Ideal.τ).loc Cert.RefDg2Ideal.main_arg0) = m' ((c.tc : Thread Cert.RefDg2Ideal.nD Cert.RefDg2Ideal.τ).loc Cert.RefDg2Ideal.main_arg0)
          ∧ r.2.mem ((c.tc : Thread Cert.RefDg2Ideal.nD Cert.RefDg2Ideal.τ).loc Cert.RefDg2Ideal.main_arg1) = m' ((c.tc : Thread Cert.RefDg2Ideal.nD Cert.RefDg2Ideal.τ).loc Cert.RefDg2Ideal.main_arg1)
          ∧ r.2.mem ((c.tc : Thread Cert.RefDg2Ideal.nD Cert.RefDg2Ideal.τ).loc Cert.RefDg2Ideal.main_arg2) = m' ((c.tc : Thread Cert.RefDg2Ideal.nD Cert.RefDg2Ideal.τ).loc Cert.RefDg2Ideal.main_arg2)
          ∧ r.2.mem ((c.tc : Thread Cert.RefDg2Ideal.nD Cert.RefDg2Ideal.τ).loc Cert.RefDg2Ideal.main_arg3) = m' ((c.tc : Thread Cert.RefDg2Ideal.nD Cert.RefDg2Ideal.τ).loc Cert.RefDg2Ideal.main_arg3)
          ∧ r.2.mem ((c.tc : Thread Cert.RefDg2Ideal.nD Cert.RefDg2Ideal.τ).loc Cert.RefDg2Ideal.main_arg4) = m' ((c.tc : Thread Cert.RefDg2Ideal.nD Cert.RefDg2Ideal.τ).loc Cert.RefDg2Ideal.main_arg4)
          ∧ r.2.mem ((c.tc : Thread Cert.RefDg2Ideal.nD Cert.RefDg2Ideal.τ).loc Cert.RefDg2Ideal.main_arg5) = m' ((c.tc : Thread Cert.RefDg2Ideal.nD Cert.RefDg2Ideal.τ).loc Cert.RefDg2Ideal.main_arg5)
          ∧ r.2.mem ((c.tc : Thread Cert.RefDg2Ideal.nD Cert.RefDg2Ideal.τ).loc Cert.RefDg2Ideal.main_arg6) = m' ((c.tc : Thread Cert.RefDg2Ideal.nD Cert.RefDg2Ideal.τ).loc Cert.RefDg2Ideal.main_arg6)
          ∧ r.2.mem ((c.tc : Thread Cert.RefDg2Ideal.nD Cert.RefDg2Ideal.τ).loc Cert.RefDg2Ideal.main_arg7) = m' ((c.tc : Thread Cert.RefDg2Ideal.nD Cert.RefDg2Ideal.τ).loc Cert.RefDg2Ideal.main_arg7))

def preserves_Dg1_Dg1Ideal : Prop :=
  True

def algebraic_Dg1Ideal_RefDg1Ideal [hDg1Ideal : Cert.Dg1Ideal.Facts] [hRefDg1Ideal : Cert.RefDg1Ideal.Facts] : Prop :=
  ∀ (m : (ℓ : Loc Cert.Dg1Ideal.nD Cert.Dg1Ideal.τ Cert.Dg1Ideal.sig) → Buf (Elt Ideal) ℓ) (g : Dev Cert.Dg1Ideal.nD → PrngReg)
    (m' : (ℓ : Loc Cert.RefDg1Ideal.nD Cert.RefDg1Ideal.τ Cert.RefDg1Ideal.sig) → Buf (Elt Ideal) ℓ) (g' : Dev Cert.RefDg1Ideal.nD → PrngReg), Pre_Dg1Ideal m →
    (∀ c : Dev Cert.Dg1Ideal.nD,
      m' ((c.tc : Thread Cert.RefDg1Ideal.nD Cert.RefDg1Ideal.τ).loc Cert.RefDg1Ideal.main_arg0) = m ((c.tc : Thread Cert.Dg1Ideal.nD Cert.Dg1Ideal.τ).loc Cert.Dg1Ideal.main_arg0)
      ∧ m' ((c.tc : Thread Cert.RefDg1Ideal.nD Cert.RefDg1Ideal.τ).loc Cert.RefDg1Ideal.main_arg1) = m ((c.tc : Thread Cert.Dg1Ideal.nD Cert.Dg1Ideal.τ).loc Cert.Dg1Ideal.main_arg1)
      ∧ m' ((c.tc : Thread Cert.RefDg1Ideal.nD Cert.RefDg1Ideal.τ).loc Cert.RefDg1Ideal.main_arg2) = m ((c.tc : Thread Cert.Dg1Ideal.nD Cert.Dg1Ideal.τ).loc Cert.Dg1Ideal.main_arg2)
      ∧ m' ((c.tc : Thread Cert.RefDg1Ideal.nD Cert.RefDg1Ideal.τ).loc Cert.RefDg1Ideal.main_arg3) = m ((c.tc : Thread Cert.Dg1Ideal.nD Cert.Dg1Ideal.τ).loc Cert.Dg1Ideal.main_arg3)
      ∧ m' ((c.tc : Thread Cert.RefDg1Ideal.nD Cert.RefDg1Ideal.τ).loc Cert.RefDg1Ideal.main_arg4) = m ((c.tc : Thread Cert.Dg1Ideal.nD Cert.Dg1Ideal.τ).loc Cert.Dg1Ideal.main_arg4)
      ∧ m' ((c.tc : Thread Cert.RefDg1Ideal.nD Cert.RefDg1Ideal.τ).loc Cert.RefDg1Ideal.main_arg5) = m ((c.tc : Thread Cert.Dg1Ideal.nD Cert.Dg1Ideal.τ).loc Cert.Dg1Ideal.main_arg5)
      ∧ m' ((c.tc : Thread Cert.RefDg1Ideal.nD Cert.RefDg1Ideal.τ).loc Cert.RefDg1Ideal.main_arg6) = m ((c.tc : Thread Cert.Dg1Ideal.nD Cert.Dg1Ideal.τ).loc Cert.Dg1Ideal.main_arg6)) →
    ∃ (v0 : (c : Dev Cert.Dg1Ideal.nD) → Buf (Elt Ideal) ((c.tc : Thread Cert.Dg1Ideal.nD Cert.Dg1Ideal.τ).loc Cert.Dg1Ideal.main_v11_0)) (v1 : (c : Dev Cert.Dg1Ideal.nD) → Buf (Elt Ideal) ((c.tc : Thread Cert.Dg1Ideal.nD Cert.Dg1Ideal.τ).loc Cert.Dg1Ideal.main_v11_1)) (v2 : (c : Dev Cert.Dg1Ideal.nD) → Buf (Elt Ideal) ((c.tc : Thread Cert.Dg1Ideal.nD Cert.Dg1Ideal.τ).loc Cert.Dg1Ideal.main_v11_2)),
      θ_run (Cert.Dg1Ideal.defs (F := Ideal)) (onTc (τ := Cert.Dg1Ideal.τ) (Cert.Dg1Ideal.main (F := Ideal))) ⟨m, fun _ => 0, g⟩ (fun r => ∀ c : Dev Cert.Dg1Ideal.nD,
          r.2.mem ((c.tc : Thread Cert.Dg1Ideal.nD Cert.Dg1Ideal.τ).loc Cert.Dg1Ideal.main_v11_0) = v0 c
          ∧ r.2.mem ((c.tc : Thread Cert.Dg1Ideal.nD Cert.Dg1Ideal.τ).loc Cert.Dg1Ideal.main_v11_1) = v1 c
          ∧ r.2.mem ((c.tc : Thread Cert.Dg1Ideal.nD Cert.Dg1Ideal.τ).loc Cert.Dg1Ideal.main_v11_2) = v2 c
          ∧ r.2.mem ((c.tc : Thread Cert.Dg1Ideal.nD Cert.Dg1Ideal.τ).loc Cert.Dg1Ideal.main_arg0) = m ((c.tc : Thread Cert.Dg1Ideal.nD Cert.Dg1Ideal.τ).loc Cert.Dg1Ideal.main_arg0)
          ∧ r.2.mem ((c.tc : Thread Cert.Dg1Ideal.nD Cert.Dg1Ideal.τ).loc Cert.Dg1Ideal.main_arg1) = m ((c.tc : Thread Cert.Dg1Ideal.nD Cert.Dg1Ideal.τ).loc Cert.Dg1Ideal.main_arg1)
          ∧ r.2.mem ((c.tc : Thread Cert.Dg1Ideal.nD Cert.Dg1Ideal.τ).loc Cert.Dg1Ideal.main_arg2) = m ((c.tc : Thread Cert.Dg1Ideal.nD Cert.Dg1Ideal.τ).loc Cert.Dg1Ideal.main_arg2)
          ∧ r.2.mem ((c.tc : Thread Cert.Dg1Ideal.nD Cert.Dg1Ideal.τ).loc Cert.Dg1Ideal.main_arg3) = m ((c.tc : Thread Cert.Dg1Ideal.nD Cert.Dg1Ideal.τ).loc Cert.Dg1Ideal.main_arg3)
          ∧ r.2.mem ((c.tc : Thread Cert.Dg1Ideal.nD Cert.Dg1Ideal.τ).loc Cert.Dg1Ideal.main_arg4) = m ((c.tc : Thread Cert.Dg1Ideal.nD Cert.Dg1Ideal.τ).loc Cert.Dg1Ideal.main_arg4)
          ∧ r.2.mem ((c.tc : Thread Cert.Dg1Ideal.nD Cert.Dg1Ideal.τ).loc Cert.Dg1Ideal.main_arg5) = m ((c.tc : Thread Cert.Dg1Ideal.nD Cert.Dg1Ideal.τ).loc Cert.Dg1Ideal.main_arg5)
          ∧ r.2.mem ((c.tc : Thread Cert.Dg1Ideal.nD Cert.Dg1Ideal.τ).loc Cert.Dg1Ideal.main_arg6) = m ((c.tc : Thread Cert.Dg1Ideal.nD Cert.Dg1Ideal.τ).loc Cert.Dg1Ideal.main_arg6))
      ∧ θ_run (Cert.RefDg1Ideal.defs (F := Ideal)) (onTc (τ := Cert.RefDg1Ideal.τ) (Cert.RefDg1Ideal.main (F := Ideal))) ⟨m', fun _ => 0, g'⟩ (fun r => ∀ c : Dev Cert.RefDg1Ideal.nD,
          r.2.mem ((c.tc : Thread Cert.RefDg1Ideal.nD Cert.RefDg1Ideal.τ).loc Cert.RefDg1Ideal.main_v5_0) = v0 c
          ∧ r.2.mem ((c.tc : Thread Cert.RefDg1Ideal.nD Cert.RefDg1Ideal.τ).loc Cert.RefDg1Ideal.main_v5_1) = v1 c
          ∧ r.2.mem ((c.tc : Thread Cert.RefDg1Ideal.nD Cert.RefDg1Ideal.τ).loc Cert.RefDg1Ideal.main_v5_2) = v2 c
          ∧ r.2.mem ((c.tc : Thread Cert.RefDg1Ideal.nD Cert.RefDg1Ideal.τ).loc Cert.RefDg1Ideal.main_arg0) = m' ((c.tc : Thread Cert.RefDg1Ideal.nD Cert.RefDg1Ideal.τ).loc Cert.RefDg1Ideal.main_arg0)
          ∧ r.2.mem ((c.tc : Thread Cert.RefDg1Ideal.nD Cert.RefDg1Ideal.τ).loc Cert.RefDg1Ideal.main_arg1) = m' ((c.tc : Thread Cert.RefDg1Ideal.nD Cert.RefDg1Ideal.τ).loc Cert.RefDg1Ideal.main_arg1)
          ∧ r.2.mem ((c.tc : Thread Cert.RefDg1Ideal.nD Cert.RefDg1Ideal.τ).loc Cert.RefDg1Ideal.main_arg2) = m' ((c.tc : Thread Cert.RefDg1Ideal.nD Cert.RefDg1Ideal.τ).loc Cert.RefDg1Ideal.main_arg2)
          ∧ r.2.mem ((c.tc : Thread Cert.RefDg1Ideal.nD Cert.RefDg1Ideal.τ).loc Cert.RefDg1Ideal.main_arg3) = m' ((c.tc : Thread Cert.RefDg1Ideal.nD Cert.RefDg1Ideal.τ).loc Cert.RefDg1Ideal.main_arg3)
          ∧ r.2.mem ((c.tc : Thread Cert.RefDg1Ideal.nD Cert.RefDg1Ideal.τ).loc Cert.RefDg1Ideal.main_arg4) = m' ((c.tc : Thread Cert.RefDg1Ideal.nD Cert.RefDg1Ideal.τ).loc Cert.RefDg1Ideal.main_arg4)
          ∧ r.2.mem ((c.tc : Thread Cert.RefDg1Ideal.nD Cert.RefDg1Ideal.τ).loc Cert.RefDg1Ideal.main_arg5) = m' ((c.tc : Thread Cert.RefDg1Ideal.nD Cert.RefDg1Ideal.τ).loc Cert.RefDg1Ideal.main_arg5)
          ∧ r.2.mem ((c.tc : Thread Cert.RefDg1Ideal.nD Cert.RefDg1Ideal.τ).loc Cert.RefDg1Ideal.main_arg6) = m' ((c.tc : Thread Cert.RefDg1Ideal.nD Cert.RefDg1Ideal.τ).loc Cert.RefDg1Ideal.main_arg6))

def preserves_Dg0_Dg0Ideal : Prop :=
  True

def algebraic_Dg0Ideal_RefDg0Ideal [hDg0Ideal : Cert.Dg0Ideal.Facts] [hRefDg0Ideal : Cert.RefDg0Ideal.Facts] : Prop :=
  ∀ (m : (ℓ : Loc Cert.Dg0Ideal.nD Cert.Dg0Ideal.τ Cert.Dg0Ideal.sig) → Buf (Elt Ideal) ℓ) (g : Dev Cert.Dg0Ideal.nD → PrngReg)
    (m' : (ℓ : Loc Cert.RefDg0Ideal.nD Cert.RefDg0Ideal.τ Cert.RefDg0Ideal.sig) → Buf (Elt Ideal) ℓ) (g' : Dev Cert.RefDg0Ideal.nD → PrngReg), Pre_Dg0Ideal m →
    (∀ c : Dev Cert.Dg0Ideal.nD,
      m' ((c.tc : Thread Cert.RefDg0Ideal.nD Cert.RefDg0Ideal.τ).loc Cert.RefDg0Ideal.main_arg0) = m ((c.tc : Thread Cert.Dg0Ideal.nD Cert.Dg0Ideal.τ).loc Cert.Dg0Ideal.main_arg0)
      ∧ m' ((c.tc : Thread Cert.RefDg0Ideal.nD Cert.RefDg0Ideal.τ).loc Cert.RefDg0Ideal.main_arg1) = m ((c.tc : Thread Cert.Dg0Ideal.nD Cert.Dg0Ideal.τ).loc Cert.Dg0Ideal.main_arg1)
      ∧ m' ((c.tc : Thread Cert.RefDg0Ideal.nD Cert.RefDg0Ideal.τ).loc Cert.RefDg0Ideal.main_arg2) = m ((c.tc : Thread Cert.Dg0Ideal.nD Cert.Dg0Ideal.τ).loc Cert.Dg0Ideal.main_arg2)
      ∧ m' ((c.tc : Thread Cert.RefDg0Ideal.nD Cert.RefDg0Ideal.τ).loc Cert.RefDg0Ideal.main_arg3) = m ((c.tc : Thread Cert.Dg0Ideal.nD Cert.Dg0Ideal.τ).loc Cert.Dg0Ideal.main_arg3)
      ∧ m' ((c.tc : Thread Cert.RefDg0Ideal.nD Cert.RefDg0Ideal.τ).loc Cert.RefDg0Ideal.main_arg4) = m ((c.tc : Thread Cert.Dg0Ideal.nD Cert.Dg0Ideal.τ).loc Cert.Dg0Ideal.main_arg4)) →
    ∃ (v0 : (c : Dev Cert.Dg0Ideal.nD) → Buf (Elt Ideal) ((c.tc : Thread Cert.Dg0Ideal.nD Cert.Dg0Ideal.τ).loc Cert.Dg0Ideal.main_v9)),
      θ_run (Cert.Dg0Ideal.defs (F := Ideal)) (onTc (τ := Cert.Dg0Ideal.τ) (Cert.Dg0Ideal.main (F := Ideal))) ⟨m, fun _ => 0, g⟩ (fun r => ∀ c : Dev Cert.Dg0Ideal.nD,
          r.2.mem ((c.tc : Thread Cert.Dg0Ideal.nD Cert.Dg0Ideal.τ).loc Cert.Dg0Ideal.main_v9) = v0 c
          ∧ r.2.mem ((c.tc : Thread Cert.Dg0Ideal.nD Cert.Dg0Ideal.τ).loc Cert.Dg0Ideal.main_arg0) = m ((c.tc : Thread Cert.Dg0Ideal.nD Cert.Dg0Ideal.τ).loc Cert.Dg0Ideal.main_arg0)
          ∧ r.2.mem ((c.tc : Thread Cert.Dg0Ideal.nD Cert.Dg0Ideal.τ).loc Cert.Dg0Ideal.main_arg1) = m ((c.tc : Thread Cert.Dg0Ideal.nD Cert.Dg0Ideal.τ).loc Cert.Dg0Ideal.main_arg1)
          ∧ r.2.mem ((c.tc : Thread Cert.Dg0Ideal.nD Cert.Dg0Ideal.τ).loc Cert.Dg0Ideal.main_arg2) = m ((c.tc : Thread Cert.Dg0Ideal.nD Cert.Dg0Ideal.τ).loc Cert.Dg0Ideal.main_arg2)
          ∧ r.2.mem ((c.tc : Thread Cert.Dg0Ideal.nD Cert.Dg0Ideal.τ).loc Cert.Dg0Ideal.main_arg3) = m ((c.tc : Thread Cert.Dg0Ideal.nD Cert.Dg0Ideal.τ).loc Cert.Dg0Ideal.main_arg3)
          ∧ r.2.mem ((c.tc : Thread Cert.Dg0Ideal.nD Cert.Dg0Ideal.τ).loc Cert.Dg0Ideal.main_arg4) = m ((c.tc : Thread Cert.Dg0Ideal.nD Cert.Dg0Ideal.τ).loc Cert.Dg0Ideal.main_arg4))
      ∧ θ_run (Cert.RefDg0Ideal.defs (F := Ideal)) (onTc (τ := Cert.RefDg0Ideal.τ) (Cert.RefDg0Ideal.main (F := Ideal))) ⟨m', fun _ => 0, g'⟩ (fun r => ∀ c : Dev Cert.RefDg0Ideal.nD,
          r.2.mem ((c.tc : Thread Cert.RefDg0Ideal.nD Cert.RefDg0Ideal.τ).loc Cert.RefDg0Ideal.main_v4) = v0 c
          ∧ r.2.mem ((c.tc : Thread Cert.RefDg0Ideal.nD Cert.RefDg0Ideal.τ).loc Cert.RefDg0Ideal.main_arg0) = m' ((c.tc : Thread Cert.RefDg0Ideal.nD Cert.RefDg0Ideal.τ).loc Cert.RefDg0Ideal.main_arg0)
          ∧ r.2.mem ((c.tc : Thread Cert.RefDg0Ideal.nD Cert.RefDg0Ideal.τ).loc Cert.RefDg0Ideal.main_arg1) = m' ((c.tc : Thread Cert.RefDg0Ideal.nD Cert.RefDg0Ideal.τ).loc Cert.RefDg0Ideal.main_arg1)
          ∧ r.2.mem ((c.tc : Thread Cert.RefDg0Ideal.nD Cert.RefDg0Ideal.τ).loc Cert.RefDg0Ideal.main_arg2) = m' ((c.tc : Thread Cert.RefDg0Ideal.nD Cert.RefDg0Ideal.τ).loc Cert.RefDg0Ideal.main_arg2)
          ∧ r.2.mem ((c.tc : Thread Cert.RefDg0Ideal.nD Cert.RefDg0Ideal.τ).loc Cert.RefDg0Ideal.main_arg3) = m' ((c.tc : Thread Cert.RefDg0Ideal.nD Cert.RefDg0Ideal.τ).loc Cert.RefDg0Ideal.main_arg3)
          ∧ r.2.mem ((c.tc : Thread Cert.RefDg0Ideal.nD Cert.RefDg0Ideal.τ).loc Cert.RefDg0Ideal.main_arg4) = m' ((c.tc : Thread Cert.RefDg0Ideal.nD Cert.RefDg0Ideal.τ).loc Cert.RefDg0Ideal.main_arg4))

def preserves_Dw0_Dw0Ideal : Prop :=
  True

def algebraic_Dw0Ideal_RefDw0Ideal [hDw0Ideal : Cert.Dw0Ideal.Facts] [hRefDw0Ideal : Cert.RefDw0Ideal.Facts] : Prop :=
  ∀ (m : (ℓ : Loc Cert.Dw0Ideal.nD Cert.Dw0Ideal.τ Cert.Dw0Ideal.sig) → Buf (Elt Ideal) ℓ) (g : Dev Cert.Dw0Ideal.nD → PrngReg)
    (m' : (ℓ : Loc Cert.RefDw0Ideal.nD Cert.RefDw0Ideal.τ Cert.RefDw0Ideal.sig) → Buf (Elt Ideal) ℓ) (g' : Dev Cert.RefDw0Ideal.nD → PrngReg), Pre_Dw0Ideal m →
    (∀ c : Dev Cert.Dw0Ideal.nD,
      m' ((c.tc : Thread Cert.RefDw0Ideal.nD Cert.RefDw0Ideal.τ).loc Cert.RefDw0Ideal.main_arg0) = m ((c.tc : Thread Cert.Dw0Ideal.nD Cert.Dw0Ideal.τ).loc Cert.Dw0Ideal.main_arg0)
      ∧ m' ((c.tc : Thread Cert.RefDw0Ideal.nD Cert.RefDw0Ideal.τ).loc Cert.RefDw0Ideal.main_arg1) = m ((c.tc : Thread Cert.Dw0Ideal.nD Cert.Dw0Ideal.τ).loc Cert.Dw0Ideal.main_arg1)
      ∧ m' ((c.tc : Thread Cert.RefDw0Ideal.nD Cert.RefDw0Ideal.τ).loc Cert.RefDw0Ideal.main_arg2) = m ((c.tc : Thread Cert.Dw0Ideal.nD Cert.Dw0Ideal.τ).loc Cert.Dw0Ideal.main_arg2)
      ∧ m' ((c.tc : Thread Cert.RefDw0Ideal.nD Cert.RefDw0Ideal.τ).loc Cert.RefDw0Ideal.main_arg3) = m ((c.tc : Thread Cert.Dw0Ideal.nD Cert.Dw0Ideal.τ).loc Cert.Dw0Ideal.main_arg3)
      ∧ m' ((c.tc : Thread Cert.RefDw0Ideal.nD Cert.RefDw0Ideal.τ).loc Cert.RefDw0Ideal.main_arg4) = m ((c.tc : Thread Cert.Dw0Ideal.nD Cert.Dw0Ideal.τ).loc Cert.Dw0Ideal.main_arg4)) →
    ∃ (v0 : (c : Dev Cert.Dw0Ideal.nD) → Buf (Elt Ideal) ((c.tc : Thread Cert.Dw0Ideal.nD Cert.Dw0Ideal.τ).loc Cert.Dw0Ideal.main_v4)),
      θ_run (Cert.Dw0Ideal.defs (F := Ideal)) (onTc (τ := Cert.Dw0Ideal.τ) (Cert.Dw0Ideal.main (F := Ideal))) ⟨m, fun _ => 0, g⟩ (fun r => ∀ c : Dev Cert.Dw0Ideal.nD,
          r.2.mem ((c.tc : Thread Cert.Dw0Ideal.nD Cert.Dw0Ideal.τ).loc Cert.Dw0Ideal.main_v4) = v0 c
          ∧ r.2.mem ((c.tc : Thread Cert.Dw0Ideal.nD Cert.Dw0Ideal.τ).loc Cert.Dw0Ideal.main_arg0) = m ((c.tc : Thread Cert.Dw0Ideal.nD Cert.Dw0Ideal.τ).loc Cert.Dw0Ideal.main_arg0)
          ∧ r.2.mem ((c.tc : Thread Cert.Dw0Ideal.nD Cert.Dw0Ideal.τ).loc Cert.Dw0Ideal.main_arg1) = m ((c.tc : Thread Cert.Dw0Ideal.nD Cert.Dw0Ideal.τ).loc Cert.Dw0Ideal.main_arg1)
          ∧ r.2.mem ((c.tc : Thread Cert.Dw0Ideal.nD Cert.Dw0Ideal.τ).loc Cert.Dw0Ideal.main_arg2) = m ((c.tc : Thread Cert.Dw0Ideal.nD Cert.Dw0Ideal.τ).loc Cert.Dw0Ideal.main_arg2)
          ∧ r.2.mem ((c.tc : Thread Cert.Dw0Ideal.nD Cert.Dw0Ideal.τ).loc Cert.Dw0Ideal.main_arg3) = m ((c.tc : Thread Cert.Dw0Ideal.nD Cert.Dw0Ideal.τ).loc Cert.Dw0Ideal.main_arg3)
          ∧ r.2.mem ((c.tc : Thread Cert.Dw0Ideal.nD Cert.Dw0Ideal.τ).loc Cert.Dw0Ideal.main_arg4) = m ((c.tc : Thread Cert.Dw0Ideal.nD Cert.Dw0Ideal.τ).loc Cert.Dw0Ideal.main_arg4))
      ∧ θ_run (Cert.RefDw0Ideal.defs (F := Ideal)) (onTc (τ := Cert.RefDw0Ideal.τ) (Cert.RefDw0Ideal.main (F := Ideal))) ⟨m', fun _ => 0, g'⟩ (fun r => ∀ c : Dev Cert.RefDw0Ideal.nD,
          r.2.mem ((c.tc : Thread Cert.RefDw0Ideal.nD Cert.RefDw0Ideal.τ).loc Cert.RefDw0Ideal.main_v2) = v0 c
          ∧ r.2.mem ((c.tc : Thread Cert.RefDw0Ideal.nD Cert.RefDw0Ideal.τ).loc Cert.RefDw0Ideal.main_arg0) = m' ((c.tc : Thread Cert.RefDw0Ideal.nD Cert.RefDw0Ideal.τ).loc Cert.RefDw0Ideal.main_arg0)
          ∧ r.2.mem ((c.tc : Thread Cert.RefDw0Ideal.nD Cert.RefDw0Ideal.τ).loc Cert.RefDw0Ideal.main_arg1) = m' ((c.tc : Thread Cert.RefDw0Ideal.nD Cert.RefDw0Ideal.τ).loc Cert.RefDw0Ideal.main_arg1)
          ∧ r.2.mem ((c.tc : Thread Cert.RefDw0Ideal.nD Cert.RefDw0Ideal.τ).loc Cert.RefDw0Ideal.main_arg2) = m' ((c.tc : Thread Cert.RefDw0Ideal.nD Cert.RefDw0Ideal.τ).loc Cert.RefDw0Ideal.main_arg2)
          ∧ r.2.mem ((c.tc : Thread Cert.RefDw0Ideal.nD Cert.RefDw0Ideal.τ).loc Cert.RefDw0Ideal.main_arg3) = m' ((c.tc : Thread Cert.RefDw0Ideal.nD Cert.RefDw0Ideal.τ).loc Cert.RefDw0Ideal.main_arg3)
          ∧ r.2.mem ((c.tc : Thread Cert.RefDw0Ideal.nD Cert.RefDw0Ideal.τ).loc Cert.RefDw0Ideal.main_arg4) = m' ((c.tc : Thread Cert.RefDw0Ideal.nD Cert.RefDw0Ideal.τ).loc Cert.RefDw0Ideal.main_arg4))

def preserves_Z_ZIdeal : Prop :=
  True

def algebraic_ZIdeal_RefZIdeal [hZIdeal : Cert.ZIdeal.Facts] [hRefZIdeal : Cert.RefZIdeal.Facts] [hPre_places : Cert.Pre_places.Facts] : Prop :=
  ∀ (m : (ℓ : Loc Cert.ZIdeal.nD Cert.ZIdeal.τ Cert.ZIdeal.sig) → Buf (Elt Ideal) ℓ) (g : Dev Cert.ZIdeal.nD → PrngReg)
    (m' : (ℓ : Loc Cert.RefZIdeal.nD Cert.RefZIdeal.τ Cert.RefZIdeal.sig) → Buf (Elt Ideal) ℓ) (g' : Dev Cert.RefZIdeal.nD → PrngReg), Pre_ZIdeal m →
    (∀ c : Dev Cert.ZIdeal.nD,
      m' ((c.tc : Thread Cert.RefZIdeal.nD Cert.RefZIdeal.τ).loc Cert.RefZIdeal.main_arg0) = m ((c.tc : Thread Cert.ZIdeal.nD Cert.ZIdeal.τ).loc Cert.ZIdeal.main_arg0)
      ∧ m' ((c.tc : Thread Cert.RefZIdeal.nD Cert.RefZIdeal.τ).loc Cert.RefZIdeal.main_arg1) = m ((c.tc : Thread Cert.ZIdeal.nD Cert.ZIdeal.τ).loc Cert.ZIdeal.main_arg1)
      ∧ m' ((c.tc : Thread Cert.RefZIdeal.nD Cert.RefZIdeal.τ).loc Cert.RefZIdeal.main_arg2) = m ((c.tc : Thread Cert.ZIdeal.nD Cert.ZIdeal.τ).loc Cert.ZIdeal.main_arg2)
      ∧ m' ((c.tc : Thread Cert.RefZIdeal.nD Cert.RefZIdeal.τ).loc Cert.RefZIdeal.main_arg3) = m ((c.tc : Thread Cert.ZIdeal.nD Cert.ZIdeal.τ).loc Cert.ZIdeal.main_arg3)
      ∧ m' ((c.tc : Thread Cert.RefZIdeal.nD Cert.RefZIdeal.τ).loc Cert.RefZIdeal.main_arg4) = m ((c.tc : Thread Cert.ZIdeal.nD Cert.ZIdeal.τ).loc Cert.ZIdeal.main_arg4)
      ∧ m' ((c.tc : Thread Cert.RefZIdeal.nD Cert.RefZIdeal.τ).loc Cert.RefZIdeal.main_arg5) = m ((c.tc : Thread Cert.ZIdeal.nD Cert.ZIdeal.τ).loc Cert.ZIdeal.main_arg5)
      ∧ m' ((c.tc : Thread Cert.RefZIdeal.nD Cert.RefZIdeal.τ).loc Cert.RefZIdeal.main_arg6) = m ((c.tc : Thread Cert.ZIdeal.nD Cert.ZIdeal.τ).loc Cert.ZIdeal.main_arg6)
      ∧ m' ((c.tc : Thread Cert.RefZIdeal.nD Cert.RefZIdeal.τ).loc Cert.RefZIdeal.main_arg7) = m ((c.tc : Thread Cert.ZIdeal.nD Cert.ZIdeal.τ).loc Cert.ZIdeal.main_arg7)
      ∧ m' ((c.tc : Thread Cert.RefZIdeal.nD Cert.RefZIdeal.τ).loc Cert.RefZIdeal.main_arg8) = m ((c.tc : Thread Cert.ZIdeal.nD Cert.ZIdeal.τ).loc Cert.ZIdeal.main_arg8)
      ∧ m' ((c.tc : Thread Cert.RefZIdeal.nD Cert.RefZIdeal.τ).loc Cert.RefZIdeal.main_arg9) = m ((c.tc : Thread Cert.ZIdeal.nD Cert.ZIdeal.τ).loc Cert.ZIdeal.main_arg9)
      ∧ m' ((c.tc : Thread Cert.RefZIdeal.nD Cert.RefZIdeal.τ).loc Cert.RefZIdeal.main_arg10) = m ((c.tc : Thread Cert.ZIdeal.nD Cert.ZIdeal.τ).loc Cert.ZIdeal.main_arg10)
      ∧ m' ((c.tc : Thread Cert.RefZIdeal.nD Cert.RefZIdeal.τ).loc Cert.RefZIdeal.main_arg11) = m ((c.tc : Thread Cert.ZIdeal.nD Cert.ZIdeal.τ).loc Cert.ZIdeal.main_arg11)
      ∧ m' ((c.tc : Thread Cert.RefZIdeal.nD Cert.RefZIdeal.τ).loc Cert.RefZIdeal.main_arg12) = m ((c.tc : Thread Cert.ZIdeal.nD Cert.ZIdeal.τ).loc Cert.ZIdeal.main_arg12)
      ∧ m' ((c.tc : Thread Cert.RefZIdeal.nD Cert.RefZIdeal.τ).loc Cert.RefZIdeal.main_arg13) = m ((c.tc : Thread Cert.ZIdeal.nD Cert.ZIdeal.τ).loc Cert.ZIdeal.main_arg13)
      ∧ m' ((c.tc : Thread Cert.RefZIdeal.nD Cert.RefZIdeal.τ).loc Cert.RefZIdeal.main_arg14) = m ((c.tc : Thread Cert.ZIdeal.nD Cert.ZIdeal.τ).loc Cert.ZIdeal.main_arg14)) →
    ∃ (v0 : (c : Dev Cert.ZIdeal.nD) → Buf (Elt Ideal) ((c.tc : Thread Cert.ZIdeal.nD Cert.ZIdeal.τ).loc Cert.ZIdeal.main_v16_0)) (v1 : (c : Dev Cert.ZIdeal.nD) → Buf (Elt Ideal) ((c.tc : Thread Cert.ZIdeal.nD Cert.ZIdeal.τ).loc Cert.ZIdeal.main_v16_1)),
      θ_run (Cert.ZIdeal.defs (F := Ideal)) (onTc (τ := Cert.ZIdeal.τ) (Cert.ZIdeal.main (F := Ideal))) ⟨m, fun _ => 0, g⟩ (fun r => ∀ c : Dev Cert.ZIdeal.nD,
          r.2.mem ((c.tc : Thread Cert.ZIdeal.nD Cert.ZIdeal.τ).loc Cert.ZIdeal.main_v16_0) = v0 c
          ∧ r.2.mem ((c.tc : Thread Cert.ZIdeal.nD Cert.ZIdeal.τ).loc Cert.ZIdeal.main_v16_1) = v1 c
          ∧ r.2.mem ((c.tc : Thread Cert.ZIdeal.nD Cert.ZIdeal.τ).loc Cert.ZIdeal.main_arg0) = m ((c.tc : Thread Cert.ZIdeal.nD Cert.ZIdeal.τ).loc Cert.ZIdeal.main_arg0)
          ∧ r.2.mem ((c.tc : Thread Cert.ZIdeal.nD Cert.ZIdeal.τ).loc Cert.ZIdeal.main_arg1) = m ((c.tc : Thread Cert.ZIdeal.nD Cert.ZIdeal.τ).loc Cert.ZIdeal.main_arg1)
          ∧ r.2.mem ((c.tc : Thread Cert.ZIdeal.nD Cert.ZIdeal.τ).loc Cert.ZIdeal.main_arg2) = m ((c.tc : Thread Cert.ZIdeal.nD Cert.ZIdeal.τ).loc Cert.ZIdeal.main_arg2)
          ∧ r.2.mem ((c.tc : Thread Cert.ZIdeal.nD Cert.ZIdeal.τ).loc Cert.ZIdeal.main_arg3) = m ((c.tc : Thread Cert.ZIdeal.nD Cert.ZIdeal.τ).loc Cert.ZIdeal.main_arg3)
          ∧ r.2.mem ((c.tc : Thread Cert.ZIdeal.nD Cert.ZIdeal.τ).loc Cert.ZIdeal.main_arg4) = m ((c.tc : Thread Cert.ZIdeal.nD Cert.ZIdeal.τ).loc Cert.ZIdeal.main_arg4)
          ∧ r.2.mem ((c.tc : Thread Cert.ZIdeal.nD Cert.ZIdeal.τ).loc Cert.ZIdeal.main_arg5) = m ((c.tc : Thread Cert.ZIdeal.nD Cert.ZIdeal.τ).loc Cert.ZIdeal.main_arg5)
          ∧ r.2.mem ((c.tc : Thread Cert.ZIdeal.nD Cert.ZIdeal.τ).loc Cert.ZIdeal.main_arg6) = m ((c.tc : Thread Cert.ZIdeal.nD Cert.ZIdeal.τ).loc Cert.ZIdeal.main_arg6)
          ∧ r.2.mem ((c.tc : Thread Cert.ZIdeal.nD Cert.ZIdeal.τ).loc Cert.ZIdeal.main_arg7) = m ((c.tc : Thread Cert.ZIdeal.nD Cert.ZIdeal.τ).loc Cert.ZIdeal.main_arg7)
          ∧ r.2.mem ((c.tc : Thread Cert.ZIdeal.nD Cert.ZIdeal.τ).loc Cert.ZIdeal.main_arg8) = m ((c.tc : Thread Cert.ZIdeal.nD Cert.ZIdeal.τ).loc Cert.ZIdeal.main_arg8)
          ∧ r.2.mem ((c.tc : Thread Cert.ZIdeal.nD Cert.ZIdeal.τ).loc Cert.ZIdeal.main_arg9) = m ((c.tc : Thread Cert.ZIdeal.nD Cert.ZIdeal.τ).loc Cert.ZIdeal.main_arg9)
          ∧ r.2.mem ((c.tc : Thread Cert.ZIdeal.nD Cert.ZIdeal.τ).loc Cert.ZIdeal.main_arg10) = m ((c.tc : Thread Cert.ZIdeal.nD Cert.ZIdeal.τ).loc Cert.ZIdeal.main_arg10)
          ∧ r.2.mem ((c.tc : Thread Cert.ZIdeal.nD Cert.ZIdeal.τ).loc Cert.ZIdeal.main_arg11) = m ((c.tc : Thread Cert.ZIdeal.nD Cert.ZIdeal.τ).loc Cert.ZIdeal.main_arg11)
          ∧ r.2.mem ((c.tc : Thread Cert.ZIdeal.nD Cert.ZIdeal.τ).loc Cert.ZIdeal.main_arg12) = m ((c.tc : Thread Cert.ZIdeal.nD Cert.ZIdeal.τ).loc Cert.ZIdeal.main_arg12)
          ∧ r.2.mem ((c.tc : Thread Cert.ZIdeal.nD Cert.ZIdeal.τ).loc Cert.ZIdeal.main_arg13) = m ((c.tc : Thread Cert.ZIdeal.nD Cert.ZIdeal.τ).loc Cert.ZIdeal.main_arg13)
          ∧ r.2.mem ((c.tc : Thread Cert.ZIdeal.nD Cert.ZIdeal.τ).loc Cert.ZIdeal.main_arg14) = m ((c.tc : Thread Cert.ZIdeal.nD Cert.ZIdeal.τ).loc Cert.ZIdeal.main_arg14))
      ∧ θ_run (Cert.RefZIdeal.defs (F := Ideal)) (onTc (τ := Cert.RefZIdeal.τ) (Cert.RefZIdeal.main (F := Ideal))) ⟨m', fun _ => 0, g'⟩ (fun r => ∀ c : Dev Cert.RefZIdeal.nD,
          r.2.mem ((c.tc : Thread Cert.RefZIdeal.nD Cert.RefZIdeal.τ).loc Cert.RefZIdeal.main_v4_0) = v0 c
          ∧ r.2.mem ((c.tc : Thread Cert.RefZIdeal.nD Cert.RefZIdeal.τ).loc Cert.RefZIdeal.main_v4_1) = v1 c
          ∧ r.2.mem ((c.tc : Thread Cert.RefZIdeal.nD Cert.RefZIdeal.τ).loc Cert.RefZIdeal.main_arg0) = m' ((c.tc : Thread Cert.RefZIdeal.nD Cert.RefZIdeal.τ).loc Cert.RefZIdeal.main_arg0)
          ∧ r.2.mem ((c.tc : Thread Cert.RefZIdeal.nD Cert.RefZIdeal.τ).loc Cert.RefZIdeal.main_arg1) = m' ((c.tc : Thread Cert.RefZIdeal.nD Cert.RefZIdeal.τ).loc Cert.RefZIdeal.main_arg1)
          ∧ r.2.mem ((c.tc : Thread Cert.RefZIdeal.nD Cert.RefZIdeal.τ).loc Cert.RefZIdeal.main_arg2) = m' ((c.tc : Thread Cert.RefZIdeal.nD Cert.RefZIdeal.τ).loc Cert.RefZIdeal.main_arg2)
          ∧ r.2.mem ((c.tc : Thread Cert.RefZIdeal.nD Cert.RefZIdeal.τ).loc Cert.RefZIdeal.main_arg3) = m' ((c.tc : Thread Cert.RefZIdeal.nD Cert.RefZIdeal.τ).loc Cert.RefZIdeal.main_arg3)
          ∧ r.2.mem ((c.tc : Thread Cert.RefZIdeal.nD Cert.RefZIdeal.τ).loc Cert.RefZIdeal.main_arg4) = m' ((c.tc : Thread Cert.RefZIdeal.nD Cert.RefZIdeal.τ).loc Cert.RefZIdeal.main_arg4)
          ∧ r.2.mem ((c.tc : Thread Cert.RefZIdeal.nD Cert.RefZIdeal.τ).loc Cert.RefZIdeal.main_arg5) = m' ((c.tc : Thread Cert.RefZIdeal.nD Cert.RefZIdeal.τ).loc Cert.RefZIdeal.main_arg5)
          ∧ r.2.mem ((c.tc : Thread Cert.RefZIdeal.nD Cert.RefZIdeal.τ).loc Cert.RefZIdeal.main_arg6) = m' ((c.tc : Thread Cert.RefZIdeal.nD Cert.RefZIdeal.τ).loc Cert.RefZIdeal.main_arg6)
          ∧ r.2.mem ((c.tc : Thread Cert.RefZIdeal.nD Cert.RefZIdeal.τ).loc Cert.RefZIdeal.main_arg7) = m' ((c.tc : Thread Cert.RefZIdeal.nD Cert.RefZIdeal.τ).loc Cert.RefZIdeal.main_arg7)
          ∧ r.2.mem ((c.tc : Thread Cert.RefZIdeal.nD Cert.RefZIdeal.τ).loc Cert.RefZIdeal.main_arg8) = m' ((c.tc : Thread Cert.RefZIdeal.nD Cert.RefZIdeal.τ).loc Cert.RefZIdeal.main_arg8)
          ∧ r.2.mem ((c.tc : Thread Cert.RefZIdeal.nD Cert.RefZIdeal.τ).loc Cert.RefZIdeal.main_arg9) = m' ((c.tc : Thread Cert.RefZIdeal.nD Cert.RefZIdeal.τ).loc Cert.RefZIdeal.main_arg9)
          ∧ r.2.mem ((c.tc : Thread Cert.RefZIdeal.nD Cert.RefZIdeal.τ).loc Cert.RefZIdeal.main_arg10) = m' ((c.tc : Thread Cert.RefZIdeal.nD Cert.RefZIdeal.τ).loc Cert.RefZIdeal.main_arg10)
          ∧ r.2.mem ((c.tc : Thread Cert.RefZIdeal.nD Cert.RefZIdeal.τ).loc Cert.RefZIdeal.main_arg11) = m' ((c.tc : Thread Cert.RefZIdeal.nD Cert.RefZIdeal.τ).loc Cert.RefZIdeal.main_arg11)
          ∧ r.2.mem ((c.tc : Thread Cert.RefZIdeal.nD Cert.RefZIdeal.τ).loc Cert.RefZIdeal.main_arg12) = m' ((c.tc : Thread Cert.RefZIdeal.nD Cert.RefZIdeal.τ).loc Cert.RefZIdeal.main_arg12)
          ∧ r.2.mem ((c.tc : Thread Cert.RefZIdeal.nD Cert.RefZIdeal.τ).loc Cert.RefZIdeal.main_arg13) = m' ((c.tc : Thread Cert.RefZIdeal.nD Cert.RefZIdeal.τ).loc Cert.RefZIdeal.main_arg13)
          ∧ r.2.mem ((c.tc : Thread Cert.RefZIdeal.nD Cert.RefZIdeal.τ).loc Cert.RefZIdeal.main_arg14) = m' ((c.tc : Thread Cert.RefZIdeal.nD Cert.RefZIdeal.τ).loc Cert.RefZIdeal.main_arg14))

def Claim : Prop :=
  ∃ (hDg2 : Cert.Dg2.Facts) (hDg2Ideal : Cert.Dg2Ideal.Facts) (hRefDg2Ideal : Cert.RefDg2Ideal.Facts) (hDg1 : Cert.Dg1.Facts) (hDg1Ideal : Cert.Dg1Ideal.Facts) (hRefDg1Ideal : Cert.RefDg1Ideal.Facts) (hDg0 : Cert.Dg0.Facts) (hDg0Ideal : Cert.Dg0Ideal.Facts) (hRefDg0Ideal : Cert.RefDg0Ideal.Facts) (hDw0 : Cert.Dw0.Facts) (hDw0Ideal : Cert.Dw0Ideal.Facts) (hRefDw0Ideal : Cert.RefDw0Ideal.Facts) (hZ : Cert.Z.Facts) (hZIdeal : Cert.ZIdeal.Facts) (hRefZIdeal : Cert.RefZIdeal.Facts) (hPre_places : Cert.Pre_places.Facts),
    quiescent_Dg2 (hDg2 := hDg2)
    ∧ quiescent_Dg2Ideal (hDg2Ideal := hDg2Ideal)
    ∧ quiescent_RefDg2Ideal (hRefDg2Ideal := hRefDg2Ideal)
    ∧ quiescent_Dg1 (hDg1 := hDg1)
    ∧ quiescent_Dg1Ideal (hDg1Ideal := hDg1Ideal)
    ∧ quiescent_RefDg1Ideal (hRefDg1Ideal := hRefDg1Ideal)
    ∧ quiescent_Dg0 (hDg0 := hDg0)
    ∧ quiescent_Dg0Ideal (hDg0Ideal := hDg0Ideal)
    ∧ quiescent_RefDg0Ideal (hRefDg0Ideal := hRefDg0Ideal)
    ∧ quiescent_Dw0 (hDw0 := hDw0)
    ∧ quiescent_Dw0Ideal (hDw0Ideal := hDw0Ideal)
    ∧ quiescent_RefDw0Ideal (hRefDw0Ideal := hRefDw0Ideal)
    ∧ quiescent_Z (hZ := hZ) (hPre_places := hPre_places)
    ∧ quiescent_ZIdeal (hZIdeal := hZIdeal) (hPre_places := hPre_places)
    ∧ quiescent_RefZIdeal (hRefZIdeal := hRefZIdeal) (hPre_places := hPre_places)
    ∧ preserves_Dg2_Dg2Ideal
    ∧ algebraic_Dg2Ideal_RefDg2Ideal (hDg2Ideal := hDg2Ideal) (hRefDg2Ideal := hRefDg2Ideal)
    ∧ preserves_Dg1_Dg1Ideal
    ∧ algebraic_Dg1Ideal_RefDg1Ideal (hDg1Ideal := hDg1Ideal) (hRefDg1Ideal := hRefDg1Ideal)
    ∧ preserves_Dg0_Dg0Ideal
    ∧ algebraic_Dg0Ideal_RefDg0Ideal (hDg0Ideal := hDg0Ideal) (hRefDg0Ideal := hRefDg0Ideal)
    ∧ preserves_Dw0_Dw0Ideal
    ∧ algebraic_Dw0Ideal_RefDw0Ideal (hDw0Ideal := hDw0Ideal) (hRefDw0Ideal := hRefDw0Ideal)
    ∧ preserves_Z_ZIdeal
    ∧ algebraic_ZIdeal_RefZIdeal (hZIdeal := hZIdeal) (hRefZIdeal := hRefZIdeal) (hPre_places := hPre_places)
-- ==== Pre_places.lean ====
abbrev S48 : Shape := ⟨1, ![48]⟩
abbrev S1024x7168 : Shape := ⟨2, ![1024, 7168]⟩
abbrev S1024 : Shape := ⟨1, ![1024]⟩
abbrev S3x7168x7168 : Shape := ⟨3, ![3, 7168, 7168]⟩
abbrev S3x7168 : Shape := ⟨2, ![3, 7168]⟩
abbrev S928x7168 : Shape := ⟨2, ![928, 7168]⟩
abbrev S_ : Shape := ⟨0, ![]⟩

class Facts : Prop where
  bcast_S_S48 : S_.BroadcastsInDim S48 (![] : Fin 0 → Fin S48.rank)

variable [Facts]

def fn {F : FTy → Type} [FloatOps F] (main_arg0 : IVec S48 32) (main_arg1 : FVec F S1024x7168 .fp8e4m3) (main_arg2 : FVec F S1024x7168 .fp8e4m3) (main_arg3 : FVec F S1024x7168 .fp8e4m3) (main_arg4 : FVec F S1024 .f32) (main_arg5 : FVec F S1024 .f32) (main_arg6 : FVec F S1024 .f32) (main_arg7 : FVec F S3x7168x7168 .fp8e4m3) (main_arg8 : FVec F S3x7168 .f32) (main_arg9 : FVec F S3x7168 .f32) (main_arg10 : FVec F S1024x7168 .fp8e5m2) (main_arg11 : FVec F S1024 .f32) (main_arg12 : FVec F S928x7168 .f32) (main_arg13 : FVec F S928x7168 .f32) (main_arg14 : FVec F S928x7168 .f32) : IVec S48 1 :=
  let main_c : IVec S_ 32 := constantI S_ 32 0#32
  let main_v0 : IVec S48 32 := broadcastInDim S48 ![] bcast_S_S48 main_c
  let main_v1 : IVec S48 1 := cmpi .sge main_arg0 main_v0
  let main_c_0 : IVec S_ 32 := constantI S_ 32 48#32
  let main_v2 : IVec S48 32 := broadcastInDim S48 ![] bcast_S_S48 main_c_0
  let main_v3 : IVec S48 1 := cmpi .slt main_arg0 main_v2
  let main_v4 : IVec S48 1 := andi main_v1 main_v3
  main_v4
-- ==== Dg2.lean ====
abbrev S1024x7168 : Shape := ⟨2, ![1024, 7168]⟩
abbrev S1024 : Shape := ⟨1, ![1024]⟩
abbrev S3x7168x7168 : Shape := ⟨3, ![3, 7168, 7168]⟩
abbrev S3x7168 : Shape := ⟨2, ![3, 7168]⟩
abbrev S1x7168 : Shape := ⟨2, ![1, 7168]⟩
abbrev S7168 : Shape := ⟨1, ![7168]⟩
abbrev S1024x1 : Shape := ⟨2, ![1024, 1]⟩
abbrev S1024x128 : Shape := ⟨2, ![1024, 128]⟩
abbrev S928x7168 : Shape := ⟨2, ![928, 7168]⟩
abbrev S928x128 : Shape := ⟨2, ![928, 128]⟩
abbrev S1x7168x512 : Shape := ⟨3, ![1, 7168, 512]⟩
abbrev S928x512 : Shape := ⟨2, ![928, 512]⟩
abbrev S1x512 : Shape := ⟨2, ![1, 512]⟩
abbrev S7168x512 : Shape := ⟨2, ![7168, 512]⟩
abbrev S512 : Shape := ⟨1, ![512]⟩

abbrev nBuf : Space → Nat
  | .hbm => 24
  | .vmem => 15
  | .smem => 0
  | _ => 0

abbrev bufTy : (tb : Table) → Fin (tcTables nBuf tb) → BufTy
  | .hbm, ⟨0, _⟩ => ⟨S1024x7168, .bf16⟩
  | .hbm, ⟨1, _⟩ => ⟨S1024, .f32⟩
  | .hbm, ⟨2, _⟩ => ⟨S3x7168x7168, .fp8e4m3⟩
  | .hbm, ⟨3, _⟩ => ⟨S3x7168, .f32⟩
  | .hbm, ⟨4, _⟩ => ⟨S1024x7168, .fp8e5m2⟩
  | .hbm, ⟨5, _⟩ => ⟨S1024, .f32⟩
  | .hbm, ⟨6, _⟩ => ⟨S1024x7168, .fp8e4m3⟩
  | .hbm, ⟨7, _⟩ => ⟨S1024, .f32⟩
  | .hbm, ⟨8, _⟩ => ⟨S1x7168, .f32⟩
  | .hbm, ⟨9, _⟩ => ⟨S7168, .f32⟩
  | .hbm, ⟨10, _⟩ => ⟨S1024x7168, .f32⟩
  | .hbm, ⟨11, _⟩ => ⟨S1x7168, .f32⟩
  | .hbm, ⟨12, _⟩ => ⟨S1024x7168, .f32⟩
  | .hbm, ⟨13, _⟩ => ⟨S1024x7168, .f32⟩
  | .hbm, ⟨14, _⟩ => ⟨S1024x7168, .bf16⟩
  | .hbm, ⟨15, _⟩ => ⟨S1024x1, .f32⟩
  | .hbm, ⟨16, _⟩ => ⟨S1024x128, .f32⟩
  | .hbm, ⟨17, _⟩ => ⟨S1024x1, .f32⟩
  | .hbm, ⟨18, _⟩ => ⟨S1024x128, .f32⟩
  | .hbm, ⟨19, _⟩ => ⟨S1024x1, .f32⟩
  | .hbm, ⟨20, _⟩ => ⟨S1024x128, .f32⟩
  | .hbm, ⟨21, _⟩ => ⟨S928x7168, .f32⟩
  | .hbm, ⟨22, _⟩ => ⟨S928x128, .f32⟩
  | .hbm, ⟨23, _⟩ => ⟨S1x7168, .f32⟩
  | .local _ .vmem, ⟨0, _⟩ => ⟨S928x7168, .bf16⟩
  | .local _ .vmem, ⟨1, _⟩ => ⟨S1x7168x512, .fp8e4m3⟩
  | .local _ .vmem, ⟨2, _⟩ => ⟨S1x7168x512, .fp8e4m3⟩
  | .local _ .vmem, ⟨3, _⟩ => ⟨S928x128, .f32⟩
  | .local _ .vmem, ⟨4, _⟩ => ⟨S928x512, .fp8e5m2⟩
  | .local _ .vmem, ⟨5, _⟩ => ⟨S928x512, .fp8e5m2⟩
  | .local _ .vmem, ⟨6, _⟩ => ⟨S928x128, .f32⟩
  | .local _ .vmem, ⟨7, _⟩ => ⟨S928x512, .fp8e4m3⟩
  | .local _ .vmem, ⟨8, _⟩ => ⟨S928x512, .fp8e4m3⟩
  | .local _ .vmem, ⟨9, _⟩ => ⟨S928x128, .f32⟩
  | .local _ .vmem, ⟨10, _⟩ => ⟨S928x512, .f32⟩
  | .local _ .vmem, ⟨11, _⟩ => ⟨S928x512, .f32⟩
  | .local _ .vmem, ⟨12, _⟩ => ⟨S928x128, .f32⟩
  | .local _ .vmem, ⟨13, _⟩ => ⟨S1x512, .f32⟩
  | .local _ .vmem, ⟨14, _⟩ => ⟨S1x512, .f32⟩
  | _, _ => ⟨S1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S928x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x7168x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S928x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S928x512 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S928x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S928x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S928x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S928x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S928x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefDg2Ideal.lean ====
abbrev S1024x7168 : Shape := ⟨2, ![1024, 7168]⟩
abbrev S1024 : Shape := ⟨1, ![1024]⟩
abbrev S3x7168x7168 : Shape := ⟨3, ![3, 7168, 7168]⟩
abbrev S3x7168 : Shape := ⟨2, ![3, 7168]⟩
abbrev S1024x1 : Shape := ⟨2, ![1024, 1]⟩
abbrev S1x7168 : Shape := ⟨2, ![1, 7168]⟩
abbrev S7168 : Shape := ⟨1, ![7168]⟩
abbrev S7168x1 : Shape := ⟨2, ![7168, 1]⟩
abbrev S928x7168 : Shape := ⟨2, ![928, 7168]⟩
abbrev S928x128 : Shape := ⟨2, ![928, 128]⟩
abbrev S928x1 : Shape := ⟨2, ![928, 1]⟩
abbrev S1x7168x7168 : Shape := ⟨3, ![1, 7168, 7168]⟩
abbrev S7168x7168 : Shape := ⟨2, ![7168, 7168]⟩
abbrev S928x56x128 : Shape := ⟨3, ![928, 56, 128]⟩

abbrev nBuf : Space → Nat
  | .hbm => 17
  | .vmem => 11
  | .smem => 0
  | _ => 0

abbrev bufTy : (tb : Table) → Fin (tcTables nBuf tb) → BufTy
  | .hbm, ⟨0, _⟩ => ⟨S1024x7168, .bf16⟩
  | .hbm, ⟨1, _⟩ => ⟨S1024, .f32⟩
  | .hbm, ⟨2, _⟩ => ⟨S3x7168x7168, .fp8e4m3⟩
  | .hbm, ⟨3, _⟩ => ⟨S3x7168, .f32⟩
  | .hbm, ⟨4, _⟩ => ⟨S1024x7168, .fp8e5m2⟩
  | .hbm, ⟨5, _⟩ => ⟨S1024, .f32⟩
  | .hbm, ⟨6, _⟩ => ⟨S1024x7168, .fp8e4m3⟩
  | .hbm, ⟨7, _⟩ => ⟨S1024, .f32⟩
  | .hbm, ⟨8, _⟩ => ⟨S1024x1, .f32⟩
  | .hbm, ⟨9, _⟩ => ⟨S1x7168, .f32⟩
  | .hbm, ⟨10, _⟩ => ⟨S7168, .f32⟩
  | .hbm, ⟨11, _⟩ => ⟨S7168x1, .f32⟩
  | .hbm, ⟨12, _⟩ => ⟨S1024x1, .f32⟩
  | .hbm, ⟨13, _⟩ => ⟨S1024x1, .f32⟩
  | .hbm, ⟨14, _⟩ => ⟨S928x7168, .f32⟩
  | .hbm, ⟨15, _⟩ => ⟨S928x128, .f32⟩
  | .hbm, ⟨16, _⟩ => ⟨S1x7168, .f32⟩
  | .local _ .vmem, ⟨0, _⟩ => ⟨S1024x7168, .bf16⟩
  | .local _ .vmem, ⟨1, _⟩ => ⟨S1024x1, .f32⟩
  | .local _ .vmem, ⟨2, _⟩ => ⟨S3x7168x7168, .fp8e4m3⟩
  | .local _ .vmem, ⟨3, _⟩ => ⟨S7168x1, .f32⟩
  | .local _ .vmem, ⟨4, _⟩ => ⟨S1024x7168, .fp8e5m2⟩
  | .local _ .vmem, ⟨5, _⟩ => ⟨S1024x1, .f32⟩
  | .local _ .vmem, ⟨6, _⟩ => ⟨S1024x7168, .fp8e4m3⟩
  | .local _ .vmem, ⟨7, _⟩ => ⟨S1024x1, .f32⟩
  | .local _ .vmem, ⟨8, _⟩ => ⟨S928x7168, .f32⟩
  | .local _ .vmem, ⟨9, _⟩ => ⟨S928x128, .f32⟩
  | .local _ .vmem, ⟨10, _⟩ => ⟨S1x7168, .f32⟩
  | _, _ => ⟨S1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1024x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x7168x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x7168 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S928x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S928x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Dg1.lean ====
abbrev S1056x7168 : Shape := ⟨2, ![1056, 7168]⟩
abbrev S1056 : Shape := ⟨1, ![1056]⟩
abbrev S3x7168x7168 : Shape := ⟨3, ![3, 7168, 7168]⟩
abbrev S3x7168 : Shape := ⟨2, ![3, 7168]⟩
abbrev S928x7168 : Shape := ⟨2, ![928, 7168]⟩
abbrev S1024x7168 : Shape := ⟨2, ![1024, 7168]⟩
abbrev S1024 : Shape := ⟨1, ![1024]⟩
abbrev S1x7168 : Shape := ⟨2, ![1, 7168]⟩
abbrev S7168 : Shape := ⟨1, ![7168]⟩
abbrev S1056x1 : Shape := ⟨2, ![1056, 1]⟩
abbrev S1056x128 : Shape := ⟨2, ![1056, 128]⟩
abbrev S1024x1 : Shape := ⟨2, ![1024, 1]⟩
abbrev S1024x128 : Shape := ⟨2, ![1024, 128]⟩
abbrev S928x128 : Shape := ⟨2, ![928, 128]⟩
abbrev S1x7168x512 : Shape := ⟨3, ![1, 7168, 512]⟩
abbrev S928x512 : Shape := ⟨2, ![928, 512]⟩
abbrev S1x512 : Shape := ⟨2, ![1, 512]⟩
abbrev S7168x512 : Shape := ⟨2, ![7168, 512]⟩
abbrev S512 : Shape := ⟨1, ![512]⟩

abbrev nBuf : Space → Nat
  | .hbm => 21
  | .vmem => 14
  | .smem => 0
  | _ => 0

abbrev bufTy : (tb : Table) → Fin (tcTables nBuf tb) → BufTy
  | .hbm, ⟨0, _⟩ => ⟨S1056x7168, .bf16⟩
  | .hbm, ⟨1, _⟩ => ⟨S1056, .f32⟩
  | .hbm, ⟨2, _⟩ => ⟨S3x7168x7168, .fp8e4m3⟩
  | .hbm, ⟨3, _⟩ => ⟨S3x7168, .f32⟩
  | .hbm, ⟨4, _⟩ => ⟨S928x7168, .f32⟩
  | .hbm, ⟨5, _⟩ => ⟨S1024x7168, .fp8e4m3⟩
  | .hbm, ⟨6, _⟩ => ⟨S1024, .f32⟩
  | .hbm, ⟨7, _⟩ => ⟨S1x7168, .f32⟩
  | .hbm, ⟨8, _⟩ => ⟨S7168, .f32⟩
  | .hbm, ⟨9, _⟩ => ⟨S1056x7168, .f32⟩
  | .hbm, ⟨10, _⟩ => ⟨S1x7168, .f32⟩
  | .hbm, ⟨11, _⟩ => ⟨S1056x7168, .f32⟩
  | .hbm, ⟨12, _⟩ => ⟨S1056x7168, .f32⟩
  | .hbm, ⟨13, _⟩ => ⟨S1056x7168, .bf16⟩
  | .hbm, ⟨14, _⟩ => ⟨S1056x1, .f32⟩
  | .hbm, ⟨15, _⟩ => ⟨S1056x128, .f32⟩
  | .hbm, ⟨16, _⟩ => ⟨S1024x1, .f32⟩
  | .hbm, ⟨17, _⟩ => ⟨S1024x128, .f32⟩
  | .hbm, ⟨18, _⟩ => ⟨S928x7168, .f32⟩
  | .hbm, ⟨19, _⟩ => ⟨S928x128, .f32⟩
  | .hbm, ⟨20, _⟩ => ⟨S1x7168, .f32⟩
  | .local _ .vmem, ⟨0, _⟩ => ⟨S928x7168, .bf16⟩
  | .local _ .vmem, ⟨1, _⟩ => ⟨S1x7168x512, .fp8e4m3⟩
  | .local _ .vmem, ⟨2, _⟩ => ⟨S1x7168x512, .fp8e4m3⟩
  | .local _ .vmem, ⟨3, _⟩ => ⟨S928x128, .f32⟩
  | .local _ .vmem, ⟨4, _⟩ => ⟨S928x512, .f32⟩
  | .local _ .vmem, ⟨5, _⟩ => ⟨S928x512, .f32⟩
  | .local _ .vmem, ⟨6, _⟩ => ⟨S928x512, .fp8e4m3⟩
  | .local _ .vmem, ⟨7, _⟩ => ⟨S928x512, .fp8e4m3⟩
  | .local _ .vmem, ⟨8, _⟩ => ⟨S928x128, .f32⟩
  | .local _ .vmem, ⟨9, _⟩ => ⟨S928x512, .f32⟩
  | .local _ .vmem, ⟨10, _⟩ => ⟨S928x512, .f32⟩
  | .local _ .vmem, ⟨11, _⟩ => ⟨S928x128, .f32⟩
  | .local _ .vmem, ⟨12, _⟩ => ⟨S1x512, .f32⟩
  | .local _ .vmem, ⟨13, _⟩ => ⟨S1x512, .f32⟩
  | _, _ => ⟨S1056x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S928x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x7168x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S928x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S928x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S928x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S928x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S928x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S928x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefDg1Ideal.lean ====
abbrev S1056x7168 : Shape := ⟨2, ![1056, 7168]⟩
abbrev S1056 : Shape := ⟨1, ![1056]⟩
abbrev S3x7168x7168 : Shape := ⟨3, ![3, 7168, 7168]⟩
abbrev S3x7168 : Shape := ⟨2, ![3, 7168]⟩
abbrev S928x7168 : Shape := ⟨2, ![928, 7168]⟩
abbrev S1024x7168 : Shape := ⟨2, ![1024, 7168]⟩
abbrev S1024 : Shape := ⟨1, ![1024]⟩
abbrev S1056x1 : Shape := ⟨2, ![1056, 1]⟩
abbrev S1x7168 : Shape := ⟨2, ![1, 7168]⟩
abbrev S7168 : Shape := ⟨1, ![7168]⟩
abbrev S7168x1 : Shape := ⟨2, ![7168, 1]⟩
abbrev S1024x1 : Shape := ⟨2, ![1024, 1]⟩
abbrev S928x128 : Shape := ⟨2, ![928, 128]⟩
abbrev S928x1 : Shape := ⟨2, ![928, 1]⟩
abbrev S1x7168x7168 : Shape := ⟨3, ![1, 7168, 7168]⟩
abbrev S7168x7168 : Shape := ⟨2, ![7168, 7168]⟩
abbrev S928x56x128 : Shape := ⟨3, ![928, 56, 128]⟩

abbrev nBuf : Space → Nat
  | .hbm => 15
  | .vmem => 10
  | .smem => 0
  | _ => 0

abbrev bufTy : (tb : Table) → Fin (tcTables nBuf tb) → BufTy
  | .hbm, ⟨0, _⟩ => ⟨S1056x7168, .bf16⟩
  | .hbm, ⟨1, _⟩ => ⟨S1056, .f32⟩
  | .hbm, ⟨2, _⟩ => ⟨S3x7168x7168, .fp8e4m3⟩
  | .hbm, ⟨3, _⟩ => ⟨S3x7168, .f32⟩
  | .hbm, ⟨4, _⟩ => ⟨S928x7168, .f32⟩
  | .hbm, ⟨5, _⟩ => ⟨S1024x7168, .fp8e4m3⟩
  | .hbm, ⟨6, _⟩ => ⟨S1024, .f32⟩
  | .hbm, ⟨7, _⟩ => ⟨S1056x1, .f32⟩
  | .hbm, ⟨8, _⟩ => ⟨S1x7168, .f32⟩
  | .hbm, ⟨9, _⟩ => ⟨S7168, .f32⟩
  | .hbm, ⟨10, _⟩ => ⟨S7168x1, .f32⟩
  | .hbm, ⟨11, _⟩ => ⟨S1024x1, .f32⟩
  | .hbm, ⟨12, _⟩ => ⟨S928x7168, .f32⟩
  | .hbm, ⟨13, _⟩ => ⟨S928x128, .f32⟩
  | .hbm, ⟨14, _⟩ => ⟨S1x7168, .f32⟩
  | .local _ .vmem, ⟨0, _⟩ => ⟨S1056x7168, .bf16⟩
  | .local _ .vmem, ⟨1, _⟩ => ⟨S1056x1, .f32⟩
  | .local _ .vmem, ⟨2, _⟩ => ⟨S3x7168x7168, .fp8e4m3⟩
  | .local _ .vmem, ⟨3, _⟩ => ⟨S7168x1, .f32⟩
  | .local _ .vmem, ⟨4, _⟩ => ⟨S928x7168, .f32⟩
  | .local _ .vmem, ⟨5, _⟩ => ⟨S1024x7168, .fp8e4m3⟩
  | .local _ .vmem, ⟨6, _⟩ => ⟨S1024x1, .f32⟩
  | .local _ .vmem, ⟨7, _⟩ => ⟨S928x7168, .f32⟩
  | .local _ .vmem, ⟨8, _⟩ => ⟨S928x128, .f32⟩
  | .local _ .vmem, ⟨9, _⟩ => ⟨S1x7168, .f32⟩
  | _, _ => ⟨S1056x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1056x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1056x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x7168x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S928x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S928x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S928x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x7168 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Dg0.lean ====
abbrev S1056x7168 : Shape := ⟨2, ![1056, 7168]⟩
abbrev S1056 : Shape := ⟨1, ![1056]⟩
abbrev S3x7168x7168 : Shape := ⟨3, ![3, 7168, 7168]⟩
abbrev S3x7168 : Shape := ⟨2, ![3, 7168]⟩
abbrev S928x7168 : Shape := ⟨2, ![928, 7168]⟩
abbrev S1x7168 : Shape := ⟨2, ![1, 7168]⟩
abbrev S7168 : Shape := ⟨1, ![7168]⟩
abbrev S1056x1 : Shape := ⟨2, ![1056, 1]⟩
abbrev S1056x128 : Shape := ⟨2, ![1056, 128]⟩
abbrev S1x7168x512 : Shape := ⟨3, ![1, 7168, 512]⟩
abbrev S928x128 : Shape := ⟨2, ![928, 128]⟩
abbrev S928x512 : Shape := ⟨2, ![928, 512]⟩
abbrev S7168x512 : Shape := ⟨2, ![7168, 512]⟩

abbrev nBuf : Space → Nat
  | .hbm => 15
  | .vmem => 8
  | .smem => 0
  | _ => 0

abbrev bufTy : (tb : Table) → Fin (tcTables nBuf tb) → BufTy
  | .hbm, ⟨0, _⟩ => ⟨S1056x7168, .bf16⟩
  | .hbm, ⟨1, _⟩ => ⟨S1056, .f32⟩
  | .hbm, ⟨2, _⟩ => ⟨S3x7168x7168, .fp8e4m3⟩
  | .hbm, ⟨3, _⟩ => ⟨S3x7168, .f32⟩
  | .hbm, ⟨4, _⟩ => ⟨S928x7168, .f32⟩
  | .hbm, ⟨5, _⟩ => ⟨S1x7168, .f32⟩
  | .hbm, ⟨6, _⟩ => ⟨S7168, .f32⟩
  | .hbm, ⟨7, _⟩ => ⟨S1056x7168, .f32⟩
  | .hbm, ⟨8, _⟩ => ⟨S1x7168, .f32⟩
  | .hbm, ⟨9, _⟩ => ⟨S1056x7168, .f32⟩
  | .hbm, ⟨10, _⟩ => ⟨S1056x7168, .f32⟩
  | .hbm, ⟨11, _⟩ => ⟨S1056x7168, .bf16⟩
  | .hbm, ⟨12, _⟩ => ⟨S1056x1, .f32⟩
  | .hbm, ⟨13, _⟩ => ⟨S1056x128, .f32⟩
  | .hbm, ⟨14, _⟩ => ⟨S928x7168, .f32⟩
  | .local _ .vmem, ⟨0, _⟩ => ⟨S928x7168, .bf16⟩
  | .local _ .vmem, ⟨1, _⟩ => ⟨S1x7168x512, .fp8e4m3⟩
  | .local _ .vmem, ⟨2, _⟩ => ⟨S1x7168x512, .fp8e4m3⟩
  | .local _ .vmem, ⟨3, _⟩ => ⟨S928x128, .f32⟩
  | .local _ .vmem, ⟨4, _⟩ => ⟨S928x512, .f32⟩
  | .local _ .vmem, ⟨5, _⟩ => ⟨S928x512, .f32⟩
  | .local _ .vmem, ⟨6, _⟩ => ⟨S928x512, .f32⟩
  | .local _ .vmem, ⟨7, _⟩ => ⟨S928x512, .f32⟩
  | _, _ => ⟨S1056x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S928x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x7168x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S928x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S928x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S928x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefDg0Ideal.lean ====
abbrev S1056x7168 : Shape := ⟨2, ![1056, 7168]⟩
abbrev S1056 : Shape := ⟨1, ![1056]⟩
abbrev S3x7168x7168 : Shape := ⟨3, ![3, 7168, 7168]⟩
abbrev S3x7168 : Shape := ⟨2, ![3, 7168]⟩
abbrev S928x7168 : Shape := ⟨2, ![928, 7168]⟩
abbrev S1056x1 : Shape := ⟨2, ![1056, 1]⟩
abbrev S1x7168 : Shape := ⟨2, ![1, 7168]⟩
abbrev S7168 : Shape := ⟨1, ![7168]⟩
abbrev S7168x1 : Shape := ⟨2, ![7168, 1]⟩
abbrev S928x1 : Shape := ⟨2, ![928, 1]⟩
abbrev S1x7168x7168 : Shape := ⟨3, ![1, 7168, 7168]⟩
abbrev S7168x7168 : Shape := ⟨2, ![7168, 7168]⟩

abbrev nBuf : Space → Nat
  | .hbm => 10
  | .vmem => 6
  | .smem => 0
  | _ => 0

abbrev bufTy : (tb : Table) → Fin (tcTables nBuf tb) → BufTy
  | .hbm, ⟨0, _⟩ => ⟨S1056x7168, .bf16⟩
  | .hbm, ⟨1, _⟩ => ⟨S1056, .f32⟩
  | .hbm, ⟨2, _⟩ => ⟨S3x7168x7168, .fp8e4m3⟩
  | .hbm, ⟨3, _⟩ => ⟨S3x7168, .f32⟩
  | .hbm, ⟨4, _⟩ => ⟨S928x7168, .f32⟩
  | .hbm, ⟨5, _⟩ => ⟨S1056x1, .f32⟩
  | .hbm, ⟨6, _⟩ => ⟨S1x7168, .f32⟩
  | .hbm, ⟨7, _⟩ => ⟨S7168, .f32⟩
  | .hbm, ⟨8, _⟩ => ⟨S7168x1, .f32⟩
  | .hbm, ⟨9, _⟩ => ⟨S928x7168, .f32⟩
  | .local _ .vmem, ⟨0, _⟩ => ⟨S1056x7168, .bf16⟩
  | .local _ .vmem, ⟨1, _⟩ => ⟨S1056x1, .f32⟩
  | .local _ .vmem, ⟨2, _⟩ => ⟨S3x7168x7168, .fp8e4m3⟩
  | .local _ .vmem, ⟨3, _⟩ => ⟨S7168x1, .f32⟩
  | .local _ .vmem, ⟨4, _⟩ => ⟨S928x7168, .f32⟩
  | .local _ .vmem, ⟨5, _⟩ => ⟨S928x7168, .f32⟩
  | _, _ => ⟨S1056x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1056x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1056x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x7168x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S928x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S928x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Dw0.lean ====
abbrev S1024x7168 : Shape := ⟨2, ![1024, 7168]⟩
abbrev S1024 : Shape := ⟨1, ![1024]⟩
abbrev S1056x7168 : Shape := ⟨2, ![1056, 7168]⟩
abbrev S1056 : Shape := ⟨1, ![1056]⟩
abbrev S3x7168x7168 : Shape := ⟨3, ![3, 7168, 7168]⟩
abbrev S1024x1 : Shape := ⟨2, ![1024, 1]⟩
abbrev S1024x128 : Shape := ⟨2, ![1024, 128]⟩
abbrev S1056x1 : Shape := ⟨2, ![1056, 1]⟩
abbrev S1056x128 : Shape := ⟨2, ![1056, 128]⟩
abbrev S1024x1024 : Shape := ⟨2, ![1024, 1024]⟩
abbrev S1x1024x1024 : Shape := ⟨3, ![1, 1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S1024x7168, .fp8e4m3⟩
  | .hbm, ⟨1, _⟩ => ⟨S1024, .f32⟩
  | .hbm, ⟨2, _⟩ => ⟨S1056x7168, .fp8e5m2⟩
  | .hbm, ⟨3, _⟩ => ⟨S1056, .f32⟩
  | .hbm, ⟨4, _⟩ => ⟨S3x7168x7168, .f32⟩
  | .hbm, ⟨5, _⟩ => ⟨S1024x1, .f32⟩
  | .hbm, ⟨6, _⟩ => ⟨S1024x128, .f32⟩
  | .hbm, ⟨7, _⟩ => ⟨S1056x1, .f32⟩
  | .hbm, ⟨8, _⟩ => ⟨S1056x128, .f32⟩
  | .hbm, ⟨9, _⟩ => ⟨S3x7168x7168, .f32⟩
  | .local _ .vmem, ⟨0, _⟩ => ⟨S1024x7168, .fp8e4m3⟩
  | .local _ .vmem, ⟨1, _⟩ => ⟨S1024x128, .f32⟩
  | .local _ .vmem, ⟨2, _⟩ => ⟨S1024x1024, .fp8e5m2⟩
  | .local _ .vmem, ⟨3, _⟩ => ⟨S1024x1024, .fp8e5m2⟩
  | .local _ .vmem, ⟨4, _⟩ => ⟨S1024x128, .f32⟩
  | .local _ .vmem, ⟨5, _⟩ => ⟨S1x1024x1024, .f32⟩
  | .local _ .vmem, ⟨6, _⟩ => ⟨S1x1024x1024, .f32⟩
  | .local _ .vmem, ⟨7, _⟩ => ⟨S1024x1024, .bf16⟩
  | _, _ => ⟨S1024x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![7, 7], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0_2 : Index := 0#32
  let arg1 : BitVec 32 := BitVec.ofNat 32 (i 1).val
  let c1024_i32 : BitVec 32 := 1024#32
  let v3 : BitVec 32 := Scalar.muli arg1 c1024_i32
  let v4 : BitVec 32 := v3
  let v6 : Index := Scalar.indexCast v4
  ![0, v6.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1024x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefDw0Ideal.lean ====
abbrev S1024x7168 : Shape := ⟨2, ![1024, 7168]⟩
abbrev S1024 : Shape := ⟨1, ![1024]⟩
abbrev S1056x7168 : Shape := ⟨2, ![1056, 7168]⟩
abbrev S1056 : Shape := ⟨1, ![1056]⟩
abbrev S3x7168x7168 : Shape := ⟨3, ![3, 7168, 7168]⟩
abbrev S1024x1 : Shape := ⟨2, ![1024, 1]⟩
abbrev S1056x1 : Shape := ⟨2, ![1056, 1]⟩
abbrev S7168x7168 : Shape := ⟨2, ![7168, 7168]⟩
abbrev S1x7168x7168 : Shape := ⟨3, ![1, 7168, 7168]⟩
abbrev S2x7168x7168 : Shape := ⟨3, ![2, 7168, 7168]⟩

abbrev nBuf : Space → Nat
  | .hbm => 8
  | .vmem => 6
  | .smem => 0
  | _ => 0

abbrev bufTy : (tb : Table) → Fin (tcTables nBuf tb) → BufTy
  | .hbm, ⟨0, _⟩ => ⟨S1024x7168, .fp8e4m3⟩
  | .hbm, ⟨1, _⟩ => ⟨S1024, .f32⟩
  | .hbm, ⟨2, _⟩ => ⟨S1056x7168, .fp8e5m2⟩
  | .hbm, ⟨3, _⟩ => ⟨S1056, .f32⟩
  | .hbm, ⟨4, _⟩ => ⟨S3x7168x7168, .f32⟩
  | .hbm, ⟨5, _⟩ => ⟨S1024x1, .f32⟩
  | .hbm, ⟨6, _⟩ => ⟨S1056x1, .f32⟩
  | .hbm, ⟨7, _⟩ => ⟨S3x7168x7168, .f32⟩
  | .local _ .vmem, ⟨0, _⟩ => ⟨S1024x7168, .fp8e4m3⟩
  | .local _ .vmem, ⟨1, _⟩ => ⟨S1024x1, .f32⟩
  | .local _ .vmem, ⟨2, _⟩ => ⟨S1056x7168, .fp8e5m2⟩
  | .local _ .vmem, ⟨3, _⟩ => ⟨S1056x1, .f32⟩
  | .local _ .vmem, ⟨4, _⟩ => ⟨S3x7168x7168, .f32⟩
  | .local _ .vmem, ⟨5, _⟩ => ⟨S3x7168x7168, .f32⟩
  | _, _ => ⟨S1024x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1024x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1056x7168 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1056x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x7168x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x7168x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Z.lean ====
abbrev S48 : Shape := ⟨1, ![48]⟩
abbrev S1024x7168 : Shape := ⟨2, ![1024, 7168]⟩
abbrev S1024 : Shape := ⟨1, ![1024]⟩
abbrev S3x7168x7168 : Shape := ⟨3, ![3, 7168, 7168]⟩
abbrev S3x7168 : Shape := ⟨2, ![3, 7168]⟩
abbrev S928x7168 : Shape := ⟨2, ![928, 7168]⟩
abbrev S928 : Shape := ⟨1, ![928]⟩
abbrev S928x1 : Shape := ⟨2, ![928, 1]⟩
abbrev S928x128 : Shape := ⟨2, ![928, 128]⟩
abbrev S1536x7168 : Shape := ⟨2, ![1536, 7168]⟩
abbrev S1x256x7168 : Shape := ⟨3, ![1, 256, 7168]⟩
abbrev S3x256 : Shape := ⟨2, ![3, 256]⟩
abbrev S928x256 : Shape := ⟨2, ![928, 256]⟩
abbrev S1536x256 : Shape := ⟨2, ![1536, 256]⟩
abbrev S256x7168 : Shape := ⟨2, ![256, 7168]⟩
abbrev S1x256 : Shape := ⟨2, ![1, 256]⟩
abbrev S32x256 : Shape := ⟨2, ![32, 256]⟩
abbrev S1 : Shape := ⟨1, ![1]⟩

abbrev nBuf : Space → Nat
  | .hbm => 32
  | .vmem => 29
  | .smem => 1
  | _ => 0

abbrev bufTy : (tb : Table) → Fin (tcTables nBuf tb) → BufTy
  | .hbm, ⟨0, _⟩ => ⟨S1024x7168, .fp8e4m3⟩
  | .hbm, ⟨1, _⟩ => ⟨S1024x7168, .fp8e4m3⟩
  | .hbm, ⟨2, _⟩ => ⟨S1024x7168, .fp8e4m3⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S3x7168x7168, .fp8e4m3⟩
  | .hbm, ⟨7, _⟩ => ⟨S3x7168, .f32⟩
  | .hbm, ⟨8, _⟩ => ⟨S3x7168, .f32⟩
  | .hbm, ⟨9, _⟩ => ⟨S1024x7168, .fp8e5m2⟩
  | .hbm, ⟨10, _⟩ => ⟨S1024, .f32⟩
  | .hbm, ⟨11, _⟩ => ⟨S928x7168, .f32⟩
  | .hbm, ⟨12, _⟩ => ⟨S928x7168, .f32⟩
  | .hbm, ⟨13, _⟩ => ⟨S928x7168, .f32⟩
  | .hbm, ⟨14, _⟩ => ⟨S928x7168, .fp8e4m3⟩
  | .hbm, ⟨15, _⟩ => ⟨S928x7168, .fp8e4m3⟩
  | .hbm, ⟨16, _⟩ => ⟨S928x7168, .fp8e4m3⟩
  | .hbm, ⟨17, _⟩ => ⟨S928, .f32⟩
  | .hbm, ⟨18, _⟩ => ⟨S928x1, .f32⟩
  | .hbm, ⟨19, _⟩ => ⟨S928x128, .f32⟩
  | .hbm, ⟨20, _⟩ => ⟨S928, .f32⟩
  | .hbm, ⟨21, _⟩ => ⟨S928x1, .f32⟩
  | .hbm, ⟨22, _⟩ => ⟨S928x128, .f32⟩
  | .hbm, ⟨23, _⟩ => ⟨S928, .f32⟩
  | .hbm, ⟨24, _⟩ => ⟨S928x1, .f32⟩
  | .hbm, ⟨25, _⟩ => ⟨S928x128, .f32⟩
  | .hbm, ⟨26, _⟩ => ⟨S928x7168, .fp8e5m2⟩
  | .hbm, ⟨27, _⟩ => ⟨S928, .f32⟩
  | .hbm, ⟨28, _⟩ => ⟨S928x1, .f32⟩
  | .hbm, ⟨29, _⟩ => ⟨S928x128, .f32⟩
  | .hbm, ⟨30, _⟩ => ⟨S1536x7168, .bf16⟩
  | .hbm, ⟨31, _⟩ => ⟨S1536x7168, .bf16⟩
  | .local _ .vmem, ⟨0, _⟩ => ⟨S928x7168, .fp8e4m3⟩
  | .local _ .vmem, ⟨1, _⟩ => ⟨S928x7168, .fp8e4m3⟩
  | .local _ .vmem, ⟨2, _⟩ => ⟨S928x7168, .fp8e4m3⟩
  | .local _ .vmem, ⟨3, _⟩ => ⟨S928x128, .f32⟩
  | .local _ .vmem, ⟨4, _⟩ => ⟨S928x128, .f32⟩
  | .local _ .vmem, ⟨5, _⟩ => ⟨S928x128, .f32⟩
  | .local _ .vmem, ⟨6, _⟩ => ⟨S1x256x7168, .fp8e4m3⟩
  | .local _ .vmem, ⟨7, _⟩ => ⟨S1x256x7168, .fp8e4m3⟩
  | .local _ .vmem, ⟨8, _⟩ => ⟨S1x256x7168, .fp8e4m3⟩
  | .local _ .vmem, ⟨9, _⟩ => ⟨S1x256x7168, .fp8e4m3⟩
  | .local _ .vmem, ⟨10, _⟩ => ⟨S1x256x7168, .fp8e4m3⟩
  | .local _ .vmem, ⟨11, _⟩ => ⟨S1x256x7168, .fp8e4m3⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S3x256, .f32⟩
  | .local _ .vmem, ⟨16, _⟩ => ⟨S928x256, .fp8e5m2⟩
  | .local _ .vmem, ⟨17, _⟩ => ⟨S928x256, .fp8e5m2⟩
  | .local _ .vmem, ⟨18, _⟩ => ⟨S928x128, .f32⟩
  | .local _ .vmem, ⟨19, _⟩ => ⟨S928x256, .f32⟩
  | .local _ .vmem, ⟨20, _⟩ => ⟨S928x256, .f32⟩
  | .local _ .vmem, ⟨21, _⟩ => ⟨S928x256, .f32⟩
  | .local _ .vmem, ⟨22, _⟩ => ⟨S928x256, .f32⟩
  | .local _ .vmem, ⟨23, _⟩ => ⟨S928x256, .f32⟩
  | .local _ .vmem, ⟨24, _⟩ => ⟨S928x256, .f32⟩
  | .local _ .vmem, ⟨25, _⟩ => ⟨S1536x256, .bf16⟩
  | .local _ .vmem, ⟨26, _⟩ => ⟨S1536x256, .bf16⟩
  | .local _ .vmem, ⟨27, _⟩ => ⟨S1536x256, .bf16⟩
  | .local _ .vmem, ⟨28, _⟩ => ⟨S1536x256, .bf16⟩
  | .local _ .smem, ⟨0, _⟩ => ⟨S48, .i32⟩
  | _, _ => ⟨S1024x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![28], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_mult1 (v68 : BitVec 32) : BitVec 32 :=
  let c32_i32 : BitVec 32 := 32#32
  let v69 : BitVec 32 := Scalar.muli v68 c32_i32
  v69

def k0_off1 (v68 : BitVec 32) : Fin 2 → Nat :=
  let c32_i32 : BitVec 32 := 32#32
  let v69 : BitVec 32 := Scalar.muli v68 c32_i32
  let v70 : BitVec 32 := v69
  let v72 : Index := Scalar.indexCast v70
  let c0_50 : Index := 0#32
  ![v72.toNat, 0]

def k0_chk1 (v68 : BitVec 32) : Prop :=
  (32 ∣ (k0_mult1 v68).toNat) ∧
  (∀ a, (k0_off1 v68) a + S32x256.size a ≤ S1536x256.size a) ∧
  (∀ (hinb : ∀ a, (k0_off1 v68) a + S32x256.size a ≤ S1536x256.size a), (Rect.unit (s := S1536x256) (k0_off1 v68) S32x256.size hinb).PackedRows (EltTy.packing .bf16))
theorem k0_mult1_dvd : ∀ (v68 : BitVec 32) (k0_hw1 : k0_chk1 v68), 32 ∣ (k0_mult1 v68).toNat := fun v68 k0_hw1 => k0_hw1.1
theorem k0_off1_inb : ∀ (v68 : BitVec 32) (k0_hw1 : k0_chk1 v68), ∀ a, (k0_off1 v68) a + S32x256.size a ≤ S1536x256.size a := fun v68 k0_hw1 => k0_hw1.2.1
theorem k0_off1_packedbf16 : ∀ (v68 : BitVec 32) (k0_hw1 : k0_chk1 v68), (Rect.unit (s := S1536x256) (k0_off1 v68) S32x256.size (k0_off1_inb v68 k0_hw1)).PackedRows (EltTy.packing .bf16) := fun v68 k0_hw1 => k0_hw1.2.2 (k0_off1_inb v68 k0_hw1)

def k0_mult2 (v77 : BitVec 32) : BitVec 32 :=
  let c32_i32_53 : BitVec 32 := 32#32
  let v78 : BitVec 32 := Scalar.muli v77 c32_i32_53
  v78

def k0_off2 (v77 : BitVec 32) : Fin 2 → Nat :=
  let c32_i32_53 : BitVec 32 := 32#32
  let v78 : BitVec 32 := Scalar.muli v77 c32_i32_53
  let v79 : BitVec 32 := v78
  let v81 : Index := Scalar.indexCast v79
  let c0_54 : Index := 0#32
  ![v81.toNat, 0]

def k0_chk2 (v77 : BitVec 32) : Prop :=
  (32 ∣ (k0_mult2 v77).toNat) ∧
  (∀ a, (k0_off2 v77) a + S32x256.size a ≤ S1536x256.size a) ∧
  (∀ (hinb : ∀ a, (k0_off2 v77) a + S32x256.size a ≤ S1536x256.size a), (Rect.unit (s := S1536x256) (k0_off2 v77) S32x256.size hinb).PackedRows (EltTy.packing .bf16))
theorem k0_mult2_dvd : ∀ (v77 : BitVec 32) (k0_hw2 : k0_chk2 v77), 32 ∣ (k0_mult2 v77).toNat := fun v77 k0_hw2 => k0_hw2.1
theorem k0_off2_inb : ∀ (v77 : BitVec 32) (k0_hw2 : k0_chk2 v77), ∀ a, (k0_off2 v77) a + S32x256.size a ≤ S1536x256.size a := fun v77 k0_hw2 => k0_hw2.2.1
theorem k0_off2_packedbf16 : ∀ (v77 : BitVec 32) (k0_hw2 : k0_chk2 v77), (Rect.unit (s := S1536x256) (k0_off2 v77) S32x256.size (k0_off2_inb v77 k0_hw2)).PackedRows (EltTy.packing .bf16) := fun v77 k0_hw2 => k0_hw2.2.2 (k0_off2_inb v77 k0_hw2)

def k0_mult3 (v86 : BitVec 32) : BitVec 32 :=
  let c32_i32_57 : BitVec 32 := 32#32
  let v87 : BitVec 32 := Scalar.muli v86 c32_i32_57
  v87

def k0_off3 (v86 : BitVec 32) : Fin 2 → Nat :=
  let c32_i32_57 : BitVec 32 := 32#32
  let v87 : BitVec 32 := Scalar.muli v86 c32_i32_57
  let v88 : BitVec 32 := v87
  let v90 : Index := Scalar.indexCast v88
  let c0_58 : Index := 0#32
  ![v90.toNat, 0]

def k0_chk3 (v86 : BitVec 32) : Prop :=
  (32 ∣ (k0_mult3 v86).toNat) ∧
  (∀ a, (k0_off3 v86) a + S32x256.size a ≤ S1536x256.size a) ∧
  (∀ (hinb : ∀ a, (k0_off3 v86) a + S32x256.size a ≤ S1536x256.size a), (Rect.unit (s := S1536x256) (k0_off3 v86) S32x256.size hinb).PackedRows (EltTy.packing .bf16))
theorem k0_mult3_dvd : ∀ (v86 : BitVec 32) (k0_hw3 : k0_chk3 v86), 32 ∣ (k0_mult3 v86).toNat := fun v86 k0_hw3 => k0_hw3.1
theorem k0_off3_inb : ∀ (v86 : BitVec 32) (k0_hw3 : k0_chk3 v86), ∀ a, (k0_off3 v86) a + S32x256.size a ≤ S1536x256.size a := fun v86 k0_hw3 => k0_hw3.2.1
theorem k0_off3_packedbf16 : ∀ (v86 : BitVec 32) (k0_hw3 : k0_chk3 v86), (Rect.unit (s := S1536x256) (k0_off3 v86) S32x256.size (k0_off3_inb v86 k0_hw3)).PackedRows (EltTy.packing .bf16) := fun v86 k0_hw3 => k0_hw3.2.2 (k0_off3_inb v86 k0_hw3)

def k0_mult4 (v95 : BitVec 32) : BitVec 32 :=
  let c32_i32_60 : BitVec 32 := 32#32
  let v96 : BitVec 32 := Scalar.muli v95 c32_i32_60
  v96

def k0_off4 (v95 : BitVec 32) : Fin 2 → Nat :=
  let c32_i32_60 : BitVec 32 := 32#32
  let v96 : BitVec 32 := Scalar.muli v95 c32_i32_60
  let v97 : BitVec 32 := v96
  let v99 : Index := Scalar.indexCast v97
  let c0_61 : Index := 0#32
  ![v99.toNat, 0]

def k0_chk4 (v95 : BitVec 32) : Prop :=
  (32 ∣ (k0_mult4 v95).toNat) ∧
  (∀ a, (k0_off4 v95) a + S32x256.size a ≤ S1536x256.size a) ∧
  (∀ (hinb : ∀ a, (k0_off4 v95) a + S32x256.size a ≤ S1536x256.size a), (Rect.unit (s := S1536x256) (k0_off4 v95) S32x256.size hinb).PackedRows (EltTy.packing .bf16))
theorem k0_mult4_dvd : ∀ (v95 : BitVec 32) (k0_hw4 : k0_chk4 v95), 32 ∣ (k0_mult4 v95).toNat := fun v95 k0_hw4 => k0_hw4.1
theorem k0_off4_inb : ∀ (v95 : BitVec 32) (k0_hw4 : k0_chk4 v95), ∀ a, (k0_off4 v95) a + S32x256.size a ≤ S1536x256.size a := fun v95 k0_hw4 => k0_hw4.2.1
theorem k0_off4_packedbf16 : ∀ (v95 : BitVec 32) (k0_hw4 : k0_chk4 v95), (Rect.unit (s := S1536x256) (k0_off4 v95) S32x256.size (k0_off4_inb v95 k0_hw4)).PackedRows (EltTy.packing .bf16) := fun v95 k0_hw4 => k0_hw4.2.2 (k0_off4_inb v95 k0_hw4)

def k0_mult5 (v104 : BitVec 32) : BitVec 32 :=
  let c32_i32_63 : BitVec 32 := 32#32
  let v105 : BitVec 32 := Scalar.muli v104 c32_i32_63
  v105

def k0_off5 (v104 : BitVec 32) : Fin 2 → Nat :=
  let c32_i32_63 : BitVec 32 := 32#32
  let v105 : BitVec 32 := Scalar.muli v104 c32_i32_63
  let v106 : BitVec 32 := v105
  let v108 : Index := Scalar.indexCast v106
  let c0_64 : Index := 0#32
  ![v108.toNat, 0]

def k0_chk5 (v104 : BitVec 32) : Prop :=
  (32 ∣ (k0_mult5 v104).toNat) ∧
  (∀ a, (k0_off5 v104) a + S32x256.size a ≤ S1536x256.size a) ∧
  (∀ (hinb : ∀ a, (k0_off5 v104) a + S32x256.size a ≤ S1536x256.size a), (Rect.unit (s := S1536x256) (k0_off5 v104) S32x256.size hinb).PackedRows (EltTy.packing .bf16))
theorem k0_mult5_dvd : ∀ (v104 : BitVec 32) (k0_hw5 : k0_chk5 v104), 32 ∣ (k0_mult5 v104).toNat := fun v104 k0_hw5 => k0_hw5.1
theorem k0_off5_inb : ∀ (v104 : BitVec 32) (k0_hw5 : k0_chk5 v104), ∀ a, (k0_off5 v104) a + S32x256.size a ≤ S1536x256.size a := fun v104 k0_hw5 => k0_hw5.2.1
theorem k0_off5_packedbf16 : ∀ (v104 : BitVec 32) (k0_hw5 : k0_chk5 v104), (Rect.unit (s := S1536x256) (k0_off5 v104) S32x256.size (k0_off5_inb v104 k0_hw5)).PackedRows (EltTy.packing .bf16) := fun v104 k0_hw5 => k0_hw5.2.2 (k0_off5_inb v104 k0_hw5)

def k0_mult6 (v113 : BitVec 32) : BitVec 32 :=
  let c32_i32_66 : BitVec 32 := 32#32
  let v114 : BitVec 32 := Scalar.muli v113 c32_i32_66
  v114

def k0_off6 (v113 : BitVec 32) : Fin 2 → Nat :=
  let c32_i32_66 : BitVec 32 := 32#32
  let v114 : BitVec 32 := Scalar.muli v113 c32_i32_66
  let v115 : BitVec 32 := v114
  let v117 : Index := Scalar.indexCast v115
  let c0_67 : Index := 0#32
  ![v117.toNat, 0]

def k0_chk6 (v113 : BitVec 32) : Prop :=
  (32 ∣ (k0_mult6 v113).toNat) ∧
  (∀ a, (k0_off6 v113) a + S32x256.size a ≤ S1536x256.size a) ∧
  (∀ (hinb : ∀ a, (k0_off6 v113) a + S32x256.size a ≤ S1536x256.size a), (Rect.unit (s := S1536x256) (k0_off6 v113) S32x256.size hinb).PackedRows (EltTy.packing .bf16))
theorem k0_mult6_dvd : ∀ (v113 : BitVec 32) (k0_hw6 : k0_chk6 v113), 32 ∣ (k0_mult6 v113).toNat := fun v113 k0_hw6 => k0_hw6.1
theorem k0_off6_inb : ∀ (v113 : BitVec 32) (k0_hw6 : k0_chk6 v113), ∀ a, (k0_off6 v113) a + S32x256.size a ≤ S1536x256.size a := fun v113 k0_hw6 => k0_hw6.2.1
theorem k0_off6_packedbf16 : ∀ (v113 : BitVec 32) (k0_hw6 : k0_chk6 v113), (Rect.unit (s := S1536x256) (k0_off6 v113) S32x256.size (k0_off6_inb v113 k0_hw6)).PackedRows (EltTy.packing .bf16) := fun v113 k0_hw6 => k0_hw6.2.2 (k0_off6_inb v113 k0_hw6)

def k0_mult7 (v122 : BitVec 32) : BitVec 32 :=
  let c32_i32_69 : BitVec 32 := 32#32
  let v123 : BitVec 32 := Scalar.muli v122 c32_i32_69
  v123

def k0_off7 (v122 : BitVec 32) : Fin 2 → Nat :=
  let c32_i32_69 : BitVec 32 := 32#32
  let v123 : BitVec 32 := Scalar.muli v122 c32_i32_69
  let v124 : BitVec 32 := v123
  let v126 : Index := Scalar.indexCast v124
  let c0_70 : Index := 0#32
  ![v126.toNat, 0]

def k0_chk7 (v122 : BitVec 32) : Prop :=
  (32 ∣ (k0_mult7 v122).toNat) ∧
  (∀ a, (k0_off7 v122) a + S32x256.size a ≤ S1536x256.size a) ∧
  (∀ (hinb : ∀ a, (k0_off7 v122) a + S32x256.size a ≤ S1536x256.size a), (Rect.unit (s := S1536x256) (k0_off7 v122) S32x256.size hinb).PackedRows (EltTy.packing .bf16))
theorem k0_mult7_dvd : ∀ (v122 : BitVec 32) (k0_hw7 : k0_chk7 v122), 32 ∣ (k0_mult7 v122).toNat := fun v122 k0_hw7 => k0_hw7.1
theorem k0_off7_inb : ∀ (v122 : BitVec 32) (k0_hw7 : k0_chk7 v122), ∀ a, (k0_off7 v122) a + S32x256.size a ≤ S1536x256.size a := fun v122 k0_hw7 => k0_hw7.2.1
theorem k0_off7_packedbf16 : ∀ (v122 : BitVec 32) (k0_hw7 : k0_chk7 v122), (Rect.unit (s := S1536x256) (k0_off7 v122) S32x256.size (k0_off7_inb v122 k0_hw7)).PackedRows (EltTy.packing .bf16) := fun v122 k0_hw7 => k0_hw7.2.2 (k0_off7_inb v122 k0_hw7)

def k0_mult8 (v131 : BitVec 32) : BitVec 32 :=
  let c32_i32_72 : BitVec 32 := 32#32
  let v132 : BitVec 32 := Scalar.muli v131 c32_i32_72
  v132

def k0_off8 (v131 : BitVec 32) : Fin 2 → Nat :=
  let c32_i32_72 : BitVec 32 := 32#32
  let v132 : BitVec 32 := Scalar.muli v131 c32_i32_72
  let v133 : BitVec 32 := v132
  let v135 : Index := Scalar.indexCast v133
  let c0_73 : Index := 0#32
  ![v135.toNat, 0]

def k0_chk8 (v131 : BitVec 32) : Prop :=
  (32 ∣ (k0_mult8 v131).toNat) ∧
  (∀ a, (k0_off8 v131) a + S32x256.size a ≤ S1536x256.size a) ∧
  (∀ (hinb : ∀ a, (k0_off8 v131) a + S32x256.size a ≤ S1536x256.size a), (Rect.unit (s := S1536x256) (k0_off8 v131) S32x256.size hinb).PackedRows (EltTy.packing .bf16))
theorem k0_mult8_dvd : ∀ (v131 : BitVec 32) (k0_hw8 : k0_chk8 v131), 32 ∣ (k0_mult8 v131).toNat := fun v131 k0_hw8 => k0_hw8.1
theorem k0_off8_inb : ∀ (v131 : BitVec 32) (k0_hw8 : k0_chk8 v131), ∀ a, (k0_off8 v131) a + S32x256.size a ≤ S1536x256.size a := fun v131 k0_hw8 => k0_hw8.2.1
theorem k0_off8_packedbf16 : ∀ (v131 : BitVec 32) (k0_hw8 : k0_chk8 v131), (Rect.unit (s := S1536x256) (k0_off8 v131) S32x256.size (k0_off8_inb v131 k0_hw8)).PackedRows (EltTy.packing .bf16) := fun v131 k0_hw8 => k0_hw8.2.2 (k0_off8_inb v131 k0_hw8)

def k0_mult9 (v140 : BitVec 32) : BitVec 32 :=
  let c32_i32_75 : BitVec 32 := 32#32
  let v141 : BitVec 32 := Scalar.muli v140 c32_i32_75
  v141

def k0_off9 (v140 : BitVec 32) : Fin 2 → Nat :=
  let c32_i32_75 : BitVec 32 := 32#32
  let v141 : BitVec 32 := Scalar.muli v140 c32_i32_75
  let v142 : BitVec 32 := v141
  let v144 : Index := Scalar.indexCast v142
  let c0_76 : Index := 0#32
  ![v144.toNat, 0]

def k0_chk9 (v140 : BitVec 32) : Prop :=
  (32 ∣ (k0_mult9 v140).toNat) ∧
  (∀ a, (k0_off9 v140) a + S32x256.size a ≤ S1536x256.size a) ∧
  (∀ (hinb : ∀ a, (k0_off9 v140) a + S32x256.size a ≤ S1536x256.size a), (Rect.unit (s := S1536x256) (k0_off9 v140) S32x256.size hinb).PackedRows (EltTy.packing .bf16))
theorem k0_mult9_dvd : ∀ (v140 : BitVec 32) (k0_hw9 : k0_chk9 v140), 32 ∣ (k0_mult9 v140).toNat := fun v140 k0_hw9 => k0_hw9.1
theorem k0_off9_inb : ∀ (v140 : BitVec 32) (k0_hw9 : k0_chk9 v140), ∀ a, (k0_off9 v140) a + S32x256.size a ≤ S1536x256.size a := fun v140 k0_hw9 => k0_hw9.2.1
theorem k0_off9_packedbf16 : ∀ (v140 : BitVec 32) (k0_hw9 : k0_chk9 v140), (Rect.unit (s := S1536x256) (k0_off9 v140) S32x256.size (k0_off9_inb v140 k0_hw9)).PackedRows (EltTy.packing .bf16) := fun v140 k0_hw9 => k0_hw9.2.2 (k0_off9_inb v140 k0_hw9)

def k0_mult10 (v149 : BitVec 32) : BitVec 32 :=
  let c32_i32_78 : BitVec 32 := 32#32
  let v150 : BitVec 32 := Scalar.muli v149 c32_i32_78
  v150

def k0_off10 (v149 : BitVec 32) : Fin 2 → Nat :=
  let c32_i32_78 : BitVec 32 := 32#32
  let v150 : BitVec 32 := Scalar.muli v149 c32_i32_78
  let v151 : BitVec 32 := v150
  let v153 : Index := Scalar.indexCast v151
  let c0_79 : Index := 0#32
  ![v153.toNat, 0]

def k0_chk10 (v149 : BitVec 32) : Prop :=
  (32 ∣ (k0_mult10 v149).toNat) ∧
  (∀ a, (k0_off10 v149) a + S32x256.size a ≤ S1536x256.size a) ∧
  (∀ (hinb : ∀ a, (k0_off10 v149) a + S32x256.size a ≤ S1536x256.size a), (Rect.unit (s := S1536x256) (k0_off10 v149) S32x256.size hinb).PackedRows (EltTy.packing .bf16))
theorem k0_mult10_dvd : ∀ (v149 : BitVec 32) (k0_hw10 : k0_chk10 v149), 32 ∣ (k0_mult10 v149).toNat := fun v149 k0_hw10 => k0_hw10.1
theorem k0_off10_inb : ∀ (v149 : BitVec 32) (k0_hw10 : k0_chk10 v149), ∀ a, (k0_off10 v149) a + S32x256.size a ≤ S1536x256.size a := fun v149 k0_hw10 => k0_hw10.2.1
theorem k0_off10_packedbf16 : ∀ (v149 : BitVec 32) (k0_hw10 : k0_chk10 v149), (Rect.unit (s := S1536x256) (k0_off10 v149) S32x256.size (k0_off10_inb v149 k0_hw10)).PackedRows (EltTy.packing .bf16) := fun v149 k0_hw10 => k0_hw10.2.2 (k0_off10_inb v149 k0_hw10)

def k0_mult11 (v158 : BitVec 32) : BitVec 32 :=
  let c32_i32_81 : BitVec 32 := 32#32
  let v159 : BitVec 32 := Scalar.muli v158 c32_i32_81
  v159

def k0_off11 (v158 : BitVec 32) : Fin 2 → Nat :=
  let c32_i32_81 : BitVec 32 := 32#32
  let v159 : BitVec 32 := Scalar.muli v158 c32_i32_81
  let v160 : BitVec 32 := v159
  let v162 : Index := Scalar.indexCast v160
  let c0_82 : Index := 0#32
  ![v162.toNat, 0]

def k0_chk11 (v158 : BitVec 32) : Prop :=
  (32 ∣ (k0_mult11 v158).toNat) ∧
  (∀ a, (k0_off11 v158) a + S32x256.size a ≤ S1536x256.size a) ∧
  (∀ (hinb : ∀ a, (k0_off11 v158) a + S32x256.size a ≤ S1536x256.size a), (Rect.unit (s := S1536x256) (k0_off11 v158) S32x256.size hinb).PackedRows (EltTy.packing .bf16))
theorem k0_mult11_dvd : ∀ (v158 : BitVec 32) (k0_hw11 : k0_chk11 v158), 32 ∣ (k0_mult11 v158).toNat := fun v158 k0_hw11 => k0_hw11.1
theorem k0_off11_inb : ∀ (v158 : BitVec 32) (k0_hw11 : k0_chk11 v158), ∀ a, (k0_off11 v158) a + S32x256.size a ≤ S1536x256.size a := fun v158 k0_hw11 => k0_hw11.2.1
theorem k0_off11_packedbf16 : ∀ (v158 : BitVec 32) (k0_hw11 : k0_chk11 v158), (Rect.unit (s := S1536x256) (k0_off11 v158) S32x256.size (k0_off11_inb v158 k0_hw11)).PackedRows (EltTy.packing .bf16) := fun v158 k0_hw11 => k0_hw11.2.2 (k0_off11_inb v158 k0_hw11)

def k0_mult12 (v167 : BitVec 32) : BitVec 32 :=
  let c32_i32_84 : BitVec 32 := 32#32
  let v168 : BitVec 32 := Scalar.muli v167 c32_i32_84
  v168

def k0_off12 (v167 : BitVec 32) : Fin 2 → Nat :=
  let c32_i32_84 : BitVec 32 := 32#32
  let v168 : BitVec 32 := Scalar.muli v167 c32_i32_84
  let v169 : BitVec 32 := v168
  let v171 : Index := Scalar.indexCast v169
  let c0_85 : Index := 0#32
  ![v171.toNat, 0]

def k0_chk12 (v167 : BitVec 32) : Prop :=
  (32 ∣ (k0_mult12 v167).toNat) ∧
  (∀ a, (k0_off12 v167) a + S32x256.size a ≤ S1536x256.size a) ∧
  (∀ (hinb : ∀ a, (k0_off12 v167) a + S32x256.size a ≤ S1536x256.size a), (Rect.unit (s := S1536x256) (k0_off12 v167) S32x256.size hinb).PackedRows (EltTy.packing .bf16))
theorem k0_mult12_dvd : ∀ (v167 : BitVec 32) (k0_hw12 : k0_chk12 v167), 32 ∣ (k0_mult12 v167).toNat := fun v167 k0_hw12 => k0_hw12.1
theorem k0_off12_inb : ∀ (v167 : BitVec 32) (k0_hw12 : k0_chk12 v167), ∀ a, (k0_off12 v167) a + S32x256.size a ≤ S1536x256.size a := fun v167 k0_hw12 => k0_hw12.2.1
theorem k0_off12_packedbf16 : ∀ (v167 : BitVec 32) (k0_hw12 : k0_chk12 v167), (Rect.unit (s := S1536x256) (k0_off12 v167) S32x256.size (k0_off12_inb v167 k0_hw12)).PackedRows (EltTy.packing .bf16) := fun v167 k0_hw12 => k0_hw12.2.2 (k0_off12_inb v167 k0_hw12)

def k0_mult13 (v176 : BitVec 32) : BitVec 32 :=
  let c32_i32_87 : BitVec 32 := 32#32
  let v177 : BitVec 32 := Scalar.muli v176 c32_i32_87
  v177

def k0_off13 (v176 : BitVec 32) : Fin 2 → Nat :=
  let c32_i32_87 : BitVec 32 := 32#32
  let v177 : BitVec 32 := Scalar.muli v176 c32_i32_87
  let v178 : BitVec 32 := v177
  let v180 : Index := Scalar.indexCast v178
  let c0_88 : Index := 0#32
  ![v180.toNat, 0]

def k0_chk13 (v176 : BitVec 32) : Prop :=
  (32 ∣ (k0_mult13 v176).toNat) ∧
  (∀ a, (k0_off13 v176) a + S32x256.size a ≤ S1536x256.size a) ∧
  (∀ (hinb : ∀ a, (k0_off13 v176) a + S32x256.size a ≤ S1536x256.size a), (Rect.unit (s := S1536x256) (k0_off13 v176) S32x256.size hinb).PackedRows (EltTy.packing .bf16))
theorem k0_mult13_dvd : ∀ (v176 : BitVec 32) (k0_hw13 : k0_chk13 v176), 32 ∣ (k0_mult13 v176).toNat := fun v176 k0_hw13 => k0_hw13.1
theorem k0_off13_inb : ∀ (v176 : BitVec 32) (k0_hw13 : k0_chk13 v176), ∀ a, (k0_off13 v176) a + S32x256.size a ≤ S1536x256.size a := fun v176 k0_hw13 => k0_hw13.2.1
theorem k0_off13_packedbf16 : ∀ (v176 : BitVec 32) (k0_hw13 : k0_chk13 v176), (Rect.unit (s := S1536x256) (k0_off13 v176) S32x256.size (k0_off13_inb v176 k0_hw13)).PackedRows (EltTy.packing .bf16) := fun v176 k0_hw13 => k0_hw13.2.2 (k0_off13_inb v176 k0_hw13)

def k0_mult14 (v185 : BitVec 32) : BitVec 32 :=
  let c32_i32_90 : BitVec 32 := 32#32
  let v186 : BitVec 32 := Scalar.muli v185 c32_i32_90
  v186

def k0_off14 (v185 : BitVec 32) : Fin 2 → Nat :=
  let c32_i32_90 : BitVec 32 := 32#32
  let v186 : BitVec 32 := Scalar.muli v185 c32_i32_90
  let v187 : BitVec 32 := v186
  let v189 : Index := Scalar.indexCast v187
  let c0_91 : Index := 0#32
  ![v189.toNat, 0]

def k0_chk14 (v185 : BitVec 32) : Prop :=
  (32 ∣ (k0_mult14 v185).toNat) ∧
  (∀ a, (k0_off14 v185) a + S32x256.size a ≤ S1536x256.size a) ∧
  (∀ (hinb : ∀ a, (k0_off14 v185) a + S32x256.size a ≤ S1536x256.size a), (Rect.unit (s := S1536x256) (k0_off14 v185) S32x256.size hinb).PackedRows (EltTy.packing .bf16))
theorem k0_mult14_dvd : ∀ (v185 : BitVec 32) (k0_hw14 : k0_chk14 v185), 32 ∣ (k0_mult14 v185).toNat := fun v185 k0_hw14 => k0_hw14.1
theorem k0_off14_inb : ∀ (v185 : BitVec 32) (k0_hw14 : k0_chk14 v185), ∀ a, (k0_off14 v185) a + S32x256.size a ≤ S1536x256.size a := fun v185 k0_hw14 => k0_hw14.2.1
theorem k0_off14_packedbf16 : ∀ (v185 : BitVec 32) (k0_hw14 : k0_chk14 v185), (Rect.unit (s := S1536x256) (k0_off14 v185) S32x256.size (k0_off14_inb v185 k0_hw14)).PackedRows (EltTy.packing .bf16) := fun v185 k0_hw14 => k0_hw14.2.2 (k0_off14_inb v185 k0_hw14)

def k0_mult15 (v194 : BitVec 32) : BitVec 32 :=
  let c32_i32_93 : BitVec 32 := 32#32
  let v195 : BitVec 32 := Scalar.muli v194 c32_i32_93
  v195

def k0_off15 (v194 : BitVec 32) : Fin 2 → Nat :=
  let c32_i32_93 : BitVec 32 := 32#32
  let v195 : BitVec 32 := Scalar.muli v194 c32_i32_93
  let v196 : BitVec 32 := v195
  let v198 : Index := Scalar.indexCast v196
  let c0_94 : Index := 0#32
  ![v198.toNat, 0]

def k0_chk15 (v194 : BitVec 32) : Prop :=
  (32 ∣ (k0_mult15 v194).toNat) ∧
  (∀ a, (k0_off15 v194) a + S32x256.size a ≤ S1536x256.size a) ∧
  (∀ (hinb : ∀ a, (k0_off15 v194) a + S32x256.size a ≤ S1536x256.size a), (Rect.unit (s := S1536x256) (k0_off15 v194) S32x256.size hinb).PackedRows (EltTy.packing .bf16))
theorem k0_mult15_dvd : ∀ (v194 : BitVec 32) (k0_hw15 : k0_chk15 v194), 32 ∣ (k0_mult15 v194).toNat := fun v194 k0_hw15 => k0_hw15.1
theorem k0_off15_inb : ∀ (v194 : BitVec 32) (k0_hw15 : k0_chk15 v194), ∀ a, (k0_off15 v194) a + S32x256.size a ≤ S1536x256.size a := fun v194 k0_hw15 => k0_hw15.2.1
theorem k0_off15_packedbf16 : ∀ (v194 : BitVec 32) (k0_hw15 : k0_chk15 v194), (Rect.unit (s := S1536x256) (k0_off15 v194) S32x256.size (k0_off15_inb v194 k0_hw15)).PackedRows (EltTy.packing .bf16) := fun v194 k0_hw15 => k0_hw15.2.2 (k0_off15_inb v194 k0_hw15)

def k0_mult16 (v203 : BitVec 32) : BitVec 32 :=
  let c32_i32_96 : BitVec 32 := 32#32
  let v204 : BitVec 32 := Scalar.muli v203 c32_i32_96
  v204

def k0_off16 (v203 : BitVec 32) : Fin 2 → Nat :=
  let c32_i32_96 : BitVec 32 := 32#32
  let v204 : BitVec 32 := Scalar.muli v203 c32_i32_96
  let v205 : BitVec 32 := v204
  let v207 : Index := Scalar.indexCast v205
  let c0_97 : Index := 0#32
  ![v207.toNat, 0]

def k0_chk16 (v203 : BitVec 32) : Prop :=
  (32 ∣ (k0_mult16 v203).toNat) ∧
  (∀ a, (k0_off16 v203) a + S32x256.size a ≤ S1536x256.size a) ∧
  (∀ (hinb : ∀ a, (k0_off16 v203) a + S32x256.size a ≤ S1536x256.size a), (Rect.unit (s := S1536x256) (k0_off16 v203) S32x256.size hinb).PackedRows (EltTy.packing .bf16))
theorem k0_mult16_dvd : ∀ (v203 : BitVec 32) (k0_hw16 : k0_chk16 v203), 32 ∣ (k0_mult16 v203).toNat := fun v203 k0_hw16 => k0_hw16.1
theorem k0_off16_inb : ∀ (v203 : BitVec 32) (k0_hw16 : k0_chk16 v203), ∀ a, (k0_off16 v203) a + S32x256.size a ≤ S1536x256.size a := fun v203 k0_hw16 => k0_hw16.2.1
theorem k0_off16_packedbf16 : ∀ (v203 : BitVec 32) (k0_hw16 : k0_chk16 v203), (Rect.unit (s := S1536x256) (k0_off16 v203) S32x256.size (k0_off16_inb v203 k0_hw16)).PackedRows (EltTy.packing .bf16) := fun v203 k0_hw16 => k0_hw16.2.2 (k0_off16_inb v203 k0_hw16)

def k0_mult17 (v212 : BitVec 32) : BitVec 32 :=
  let c32_i32_99 : BitVec 32 := 32#32
  let v213 : BitVec 32 := Scalar.muli v212 c32_i32_99
  v213

def k0_off17 (v212 : BitVec 32) : Fin 2 → Nat :=
  let c32_i32_99 : BitVec 32 := 32#32
  let v213 : BitVec 32 := Scalar.muli v212 c32_i32_99
  let v214 : BitVec 32 := v213
  let v216 : Index := Scalar.indexCast v214
  let c0_100 : Index := 0#32
  ![v216.toNat, 0]

def k0_chk17 (v212 : BitVec 32) : Prop :=
  (32 ∣ (k0_mult17 v212).toNat) ∧
  (∀ a, (k0_off17 v212) a + S32x256.size a ≤ S1536x256.size a) ∧
  (∀ (hinb : ∀ a, (k0_off17 v212) a + S32x256.size a ≤ S1536x256.size a), (Rect.unit (s := S1536x256) (k0_off17 v212) S32x256.size hinb).PackedRows (EltTy.packing .bf16))
theorem k0_mult17_dvd : ∀ (v212 : BitVec 32) (k0_hw17 : k0_chk17 v212), 32 ∣ (k0_mult17 v212).toNat := fun v212 k0_hw17 => k0_hw17.1
theorem k0_off17_inb : ∀ (v212 : BitVec 32) (k0_hw17 : k0_chk17 v212), ∀ a, (k0_off17 v212) a + S32x256.size a ≤ S1536x256.size a := fun v212 k0_hw17 => k0_hw17.2.1
theorem k0_off17_packedbf16 : ∀ (v212 : BitVec 32) (k0_hw17 : k0_chk17 v212), (Rect.unit (s := S1536x256) (k0_off17 v212) S32x256.size (k0_off17_inb v212 k0_hw17)).PackedRows (EltTy.packing .bf16) := fun v212 k0_hw17 => k0_hw17.2.2 (k0_off17_inb v212 k0_hw17)

def k0_mult18 (v221 : BitVec 32) : BitVec 32 :=
  let c32_i32_102 : BitVec 32 := 32#32
  let v222 : BitVec 32 := Scalar.muli v221 c32_i32_102
  v222

def k0_off18 (v221 : BitVec 32) : Fin 2 → Nat :=
  let c32_i32_102 : BitVec 32 := 32#32
  let v222 : BitVec 32 := Scalar.muli v221 c32_i32_102
  let v223 : BitVec 32 := v222
  let v225 : Index := Scalar.indexCast v223
  let c0_103 : Index := 0#32
  ![v225.toNat, 0]

def k0_chk18 (v221 : BitVec 32) : Prop :=
  (32 ∣ (k0_mult18 v221).toNat) ∧
  (∀ a, (k0_off18 v221) a + S32x256.size a ≤ S1536x256.size a) ∧
  (∀ (hinb : ∀ a, (k0_off18 v221) a + S32x256.size a ≤ S1536x256.size a), (Rect.unit (s := S1536x256) (k0_off18 v221) S32x256.size hinb).PackedRows (EltTy.packing .bf16))
theorem k0_mult18_dvd : ∀ (v221 : BitVec 32) (k0_hw18 : k0_chk18 v221), 32 ∣ (k0_mult18 v221).toNat := fun v221 k0_hw18 => k0_hw18.1
theorem k0_off18_inb : ∀ (v221 : BitVec 32) (k0_hw18 : k0_chk18 v221), ∀ a, (k0_off18 v221) a + S32x256.size a ≤ S1536x256.size a := fun v221 k0_hw18 => k0_hw18.2.1
theorem k0_off18_packedbf16 : ∀ (v221 : BitVec 32) (k0_hw18 : k0_chk18 v221), (Rect.unit (s := S1536x256) (k0_off18 v221) S32x256.size (k0_off18_inb v221 k0_hw18)).PackedRows (EltTy.packing .bf16) := fun v221 k0_hw18 => k0_hw18.2.2 (k0_off18_inb v221 k0_hw18)

def k0_mult19 (v230 : BitVec 32) : BitVec 32 :=
  let c32_i32_105 : BitVec 32 := 32#32
  let v231 : BitVec 32 := Scalar.muli v230 c32_i32_105
  v231

def k0_off19 (v230 : BitVec 32) : Fin 2 → Nat :=
  let c32_i32_105 : BitVec 32 := 32#32
  let v231 : BitVec 32 := Scalar.muli v230 c32_i32_105
  let v232 : BitVec 32 := v231
  let v234 : Index := Scalar.indexCast v232
  let c0_106 : Index := 0#32
  ![v234.toNat, 0]

def k0_chk19 (v230 : BitVec 32) : Prop :=
  (32 ∣ (k0_mult19 v230).toNat) ∧
  (∀ a, (k0_off19 v230) a + S32x256.size a ≤ S1536x256.size a) ∧
  (∀ (hinb : ∀ a, (k0_off19 v230) a + S32x256.size a ≤ S1536x256.size a), (Rect.unit (s := S1536x256) (k0_off19 v230) S32x256.size hinb).PackedRows (EltTy.packing .bf16))
theorem k0_mult19_dvd : ∀ (v230 : BitVec 32) (k0_hw19 : k0_chk19 v230), 32 ∣ (k0_mult19 v230).toNat := fun v230 k0_hw19 => k0_hw19.1
theorem k0_off19_inb : ∀ (v230 : BitVec 32) (k0_hw19 : k0_chk19 v230), ∀ a, (k0_off19 v230) a + S32x256.size a ≤ S1536x256.size a := fun v230 k0_hw19 => k0_hw19.2.1
theorem k0_off19_packedbf16 : ∀ (v230 : BitVec 32) (k0_hw19 : k0_chk19 v230), (Rect.unit (s := S1536x256) (k0_off19 v230) S32x256.size (k0_off19_inb v230 k0_hw19)).PackedRows (EltTy.packing .bf16) := fun v230 k0_hw19 => k0_hw19.2.2 (k0_off19_inb v230 k0_hw19)

def k0_mult20 (v239 : BitVec 32) : BitVec 32 :=
  let c32_i32_108 : BitVec 32 := 32#32
  let v240 : BitVec 32 := Scalar.muli v239 c32_i32_108
  v240

def k0_off20 (v239 : BitVec 32) : Fin 2 → Nat :=
  let c32_i32_108 : BitVec 32 := 32#32
  let v240 : BitVec 32 := Scalar.muli v239 c32_i32_108
  let v241 : BitVec 32 := v240
  let v243 : Index := Scalar.indexCast v241
  let c0_109 : Index := 0#32
  ![v243.toNat, 0]

def k0_chk20 (v239 : BitVec 32) : Prop :=
  (32 ∣ (k0_mult20 v239).toNat) ∧
  (∀ a, (k0_off20 v239) a + S32x256.size a ≤ S1536x256.size a) ∧
  (∀ (hinb : ∀ a, (k0_off20 v239) a + S32x256.size a ≤ S1536x256.size a), (Rect.unit (s := S1536x256) (k0_off20 v239) S32x256.size hinb).PackedRows (EltTy.packing .bf16))
theorem k0_mult20_dvd : ∀ (v239 : BitVec 32) (k0_hw20 : k0_chk20 v239), 32 ∣ (k0_mult20 v239).toNat := fun v239 k0_hw20 => k0_hw20.1
theorem k0_off20_inb : ∀ (v239 : BitVec 32) (k0_hw20 : k0_chk20 v239), ∀ a, (k0_off20 v239) a + S32x256.size a ≤ S1536x256.size a := fun v239 k0_hw20 => k0_hw20.2.1
theorem k0_off20_packedbf16 : ∀ (v239 : BitVec 32) (k0_hw20 : k0_chk20 v239), (Rect.unit (s := S1536x256) (k0_off20 v239) S32x256.size (k0_off20_inb v239 k0_hw20)).PackedRows (EltTy.packing .bf16) := fun v239 k0_hw20 => k0_hw20.2.2 (k0_off20_inb v239 k0_hw20)

def k0_mult21 (v248 : BitVec 32) : BitVec 32 :=
  let c32_i32_111 : BitVec 32 := 32#32
  let v249 : BitVec 32 := Scalar.muli v248 c32_i32_111
  v249

def k0_off21 (v248 : BitVec 32) : Fin 2 → Nat :=
  let c32_i32_111 : BitVec 32 := 32#32
  let v249 : BitVec 32 := Scalar.muli v248 c32_i32_111
  let v250 : BitVec 32 := v249
  let v252 : Index := Scalar.indexCast v250
  let c0_112 : Index := 0#32
  ![v252.toNat, 0]

def k0_chk21 (v248 : BitVec 32) : Prop :=
  (32 ∣ (k0_mult21 v248).toNat) ∧
  (∀ a, (k0_off21 v248) a + S32x256.size a ≤ S1536x256.size a) ∧
  (∀ (hinb : ∀ a, (k0_off21 v248) a + S32x256.size a ≤ S1536x256.size a), (Rect.unit (s := S1536x256) (k0_off21 v248) S32x256.size hinb).PackedRows (EltTy.packing .bf16))
theorem k0_mult21_dvd : ∀ (v248 : BitVec 32) (k0_hw21 : k0_chk21 v248), 32 ∣ (k0_mult21 v248).toNat := fun v248 k0_hw21 => k0_hw21.1
theorem k0_off21_inb : ∀ (v248 : BitVec 32) (k0_hw21 : k0_chk21 v248), ∀ a, (k0_off21 v248) a + S32x256.size a ≤ S1536x256.size a := fun v248 k0_hw21 => k0_hw21.2.1
theorem k0_off21_packedbf16 : ∀ (v248 : BitVec 32) (k0_hw21 : k0_chk21 v248), (Rect.unit (s := S1536x256) (k0_off21 v248) S32x256.size (k0_off21_inb v248 k0_hw21)).PackedRows (EltTy.packing .bf16) := fun v248 k0_hw21 => k0_hw21.2.2 (k0_off21_inb v248 k0_hw21)

def k0_mult22 (v257 : BitVec 32) : BitVec 32 :=
  let c32_i32_114 : BitVec 32 := 32#32
  let v258 : BitVec 32 := Scalar.muli v257 c32_i32_114
  v258

def k0_off22 (v257 : BitVec 32) : Fin 2 → Nat :=
  let c32_i32_114 : BitVec 32 := 32#32
  let v258 : BitVec 32 := Scalar.muli v257 c32_i32_114
  let v259 : BitVec 32 := v258
  let v261 : Index := Scalar.indexCast v259
  let c0_115 : Index := 0#32
  ![v261.toNat, 0]

def k0_chk22 (v257 : BitVec 32) : Prop :=
  (32 ∣ (k0_mult22 v257).toNat) ∧
  (∀ a, (k0_off22 v257) a + S32x256.size a ≤ S1536x256.size a) ∧
  (∀ (hinb : ∀ a, (k0_off22 v257) a + S32x256.size a ≤ S1536x256.size a), (Rect.unit (s := S1536x256) (k0_off22 v257) S32x256.size hinb).PackedRows (EltTy.packing .bf16))
theorem k0_mult22_dvd : ∀ (v257 : BitVec 32) (k0_hw22 : k0_chk22 v257), 32 ∣ (k0_mult22 v257).toNat := fun v257 k0_hw22 => k0_hw22.1
theorem k0_off22_inb : ∀ (v257 : BitVec 32) (k0_hw22 : k0_chk22 v257), ∀ a, (k0_off22 v257) a + S32x256.size a ≤ S1536x256.size a := fun v257 k0_hw22 => k0_hw22.2.1
theorem k0_off22_packedbf16 : ∀ (v257 : BitVec 32) (k0_hw22 : k0_chk22 v257), (Rect.unit (s := S1536x256) (k0_off22 v257) S32x256.size (k0_off22_inb v257 k0_hw22)).PackedRows (EltTy.packing .bf16) := fun v257 k0_hw22 => k0_hw22.2.2 (k0_off22_inb v257 k0_hw22)

def k0_mult23 (v266 : BitVec 32) : BitVec 32 :=
  let c32_i32_117 : BitVec 32 := 32#32
  let v267 : BitVec 32 := Scalar.muli v266 c32_i32_117
  v267

def k0_off23 (v266 : BitVec 32) : Fin 2 → Nat :=
  let c32_i32_117 : BitVec 32 := 32#32
  let v267 : BitVec 32 := Scalar.muli v266 c32_i32_117
  let v268 : BitVec 32 := v267
  let v270 : Index := Scalar.indexCast v268
  let c0_118 : Index := 0#32
  ![v270.toNat, 0]

def k0_chk23 (v266 : BitVec 32) : Prop :=
  (32 ∣ (k0_mult23 v266).toNat) ∧
  (∀ a, (k0_off23 v266) a + S32x256.size a ≤ S1536x256.size a) ∧
  (∀ (hinb : ∀ a, (k0_off23 v266) a + S32x256.size a ≤ S1536x256.size a), (Rect.unit (s := S1536x256) (k0_off23 v266) S32x256.size hinb).PackedRows (EltTy.packing .bf16))
theorem k0_mult23_dvd : ∀ (v266 : BitVec 32) (k0_hw23 : k0_chk23 v266), 32 ∣ (k0_mult23 v266).toNat := fun v266 k0_hw23 => k0_hw23.1
theorem k0_off23_inb : ∀ (v266 : BitVec 32) (k0_hw23 : k0_chk23 v266), ∀ a, (k0_off23 v266) a + S32x256.size a ≤ S1536x256.size a := fun v266 k0_hw23 => k0_hw23.2.1
theorem k0_off23_packedbf16 : ∀ (v266 : BitVec 32) (k0_hw23 : k0_chk23 v266), (Rect.unit (s := S1536x256) (k0_off23 v266) S32x256.size (k0_off23_inb v266 k0_hw23)).PackedRows (EltTy.packing .bf16) := fun v266 k0_hw23 => k0_hw23.2.2 (k0_off23_inb v266 k0_hw23)

def k0_mult24 (v275 : BitVec 32) : BitVec 32 :=
  let c32_i32_120 : BitVec 32 := 32#32
  let v276 : BitVec 32 := Scalar.muli v275 c32_i32_120
  v276

def k0_off24 (v275 : BitVec 32) : Fin 2 → Nat :=
  let c32_i32_120 : BitVec 32 := 32#32
  let v276 : BitVec 32 := Scalar.muli v275 c32_i32_120
  let v277 : BitVec 32 := v276
  let v279 : Index := Scalar.indexCast v277
  let c0_121 : Index := 0#32
  ![v279.toNat, 0]

def k0_chk24 (v275 : BitVec 32) : Prop :=
  (32 ∣ (k0_mult24 v275).toNat) ∧
  (∀ a, (k0_off24 v275) a + S32x256.size a ≤ S1536x256.size a) ∧
  (∀ (hinb : ∀ a, (k0_off24 v275) a + S32x256.size a ≤ S1536x256.size a), (Rect.unit (s := S1536x256) (k0_off24 v275) S32x256.size hinb).PackedRows (EltTy.packing .bf16))
theorem k0_mult24_dvd : ∀ (v275 : BitVec 32) (k0_hw24 : k0_chk24 v275), 32 ∣ (k0_mult24 v275).toNat := fun v275 k0_hw24 => k0_hw24.1
theorem k0_off24_inb : ∀ (v275 : BitVec 32) (k0_hw24 : k0_chk24 v275), ∀ a, (k0_off24 v275) a + S32x256.size a ≤ S1536x256.size a := fun v275 k0_hw24 => k0_hw24.2.1
theorem k0_off24_packedbf16 : ∀ (v275 : BitVec 32) (k0_hw24 : k0_chk24 v275), (Rect.unit (s := S1536x256) (k0_off24 v275) S32x256.size (k0_off24_inb v275 k0_hw24)).PackedRows (EltTy.packing .bf16) := fun v275 k0_hw24 => k0_hw24.2.2 (k0_off24_inb v275 k0_hw24)

def k0_mult25 (v284 : BitVec 32) : BitVec 32 :=
  let c32_i32_123 : BitVec 32 := 32#32
  let v285 : BitVec 32 := Scalar.muli v284 c32_i32_123
  v285

def k0_off25 (v284 : BitVec 32) : Fin 2 → Nat :=
  let c32_i32_123 : BitVec 32 := 32#32
  let v285 : BitVec 32 := Scalar.muli v284 c32_i32_123
  let v286 : BitVec 32 := v285
  let v288 : Index := Scalar.indexCast v286
  let c0_124 : Index := 0#32
  ![v288.toNat, 0]

def k0_chk25 (v284 : BitVec 32) : Prop :=
  (32 ∣ (k0_mult25 v284).toNat) ∧
  (∀ a, (k0_off25 v284) a + S32x256.size a ≤ S1536x256.size a) ∧
  (∀ (hinb : ∀ a, (k0_off25 v284) a + S32x256.size a ≤ S1536x256.size a), (Rect.unit (s := S1536x256) (k0_off25 v284) S32x256.size hinb).PackedRows (EltTy.packing .bf16))
theorem k0_mult25_dvd : ∀ (v284 : BitVec 32) (k0_hw25 : k0_chk25 v284), 32 ∣ (k0_mult25 v284).toNat := fun v284 k0_hw25 => k0_hw25.1
theorem k0_off25_inb : ∀ (v284 : BitVec 32) (k0_hw25 : k0_chk25 v284), ∀ a, (k0_off25 v284) a + S32x256.size a ≤ S1536x256.size a := fun v284 k0_hw25 => k0_hw25.2.1
theorem k0_off25_packedbf16 : ∀ (v284 : BitVec 32) (k0_hw25 : k0_chk25 v284), (Rect.unit (s := S1536x256) (k0_off25 v284) S32x256.size (k0_off25_inb v284 k0_hw25)).PackedRows (EltTy.packing .bf16) := fun v284 k0_hw25 => k0_hw25.2.2 (k0_off25_inb v284 k0_hw25)

def k0_mult26 (v293 : BitVec 32) : BitVec 32 :=
  let c32_i32_126 : BitVec 32 := 32#32
  let v294 : BitVec 32 := Scalar.muli v293 c32_i32_126
  v294

def k0_off26 (v293 : BitVec 32) : Fin 2 → Nat :=
  let c32_i32_126 : BitVec 32 := 32#32
  let v294 : BitVec 32 := Scalar.muli v293 c32_i32_126
  let v295 : BitVec 32 := v294
  let v297 : Index := Scalar.indexCast v295
  let c0_127 : Index := 0#32
  ![v297.toNat, 0]

def k0_chk26 (v293 : BitVec 32) : Prop :=
  (32 ∣ (k0_mult26 v293).toNat) ∧
  (∀ a, (k0_off26 v293) a + S32x256.size a ≤ S1536x256.size a) ∧
  (∀ (hinb : ∀ a, (k0_off26 v293) a + S32x256.size a ≤ S1536x256.size a), (Rect.unit (s := S1536x256) (k0_off26 v293) S32x256.size hinb).PackedRows (EltTy.packing .bf16))
theorem k0_mult26_dvd : ∀ (v293 : BitVec 32) (k0_hw26 : k0_chk26 v293), 32 ∣ (k0_mult26 v293).toNat := fun v293 k0_hw26 => k0_hw26.1
theorem k0_off26_inb : ∀ (v293 : BitVec 32) (k0_hw26 : k0_chk26 v293), ∀ a, (k0_off26 v293) a + S32x256.size a ≤ S1536x256.size a := fun v293 k0_hw26 => k0_hw26.2.1
theorem k0_off26_packedbf16 : ∀ (v293 : BitVec 32) (k0_hw26 : k0_chk26 v293), (Rect.unit (s := S1536x256) (k0_off26 v293) S32x256.size (k0_off26_inb v293 k0_hw26)).PackedRows (EltTy.packing .bf16) := fun v293 k0_hw26 => k0_hw26.2.2 (k0_off26_inb v293 k0_hw26)

def k0_mult27 (v302 : BitVec 32) : BitVec 32 :=
  let c32_i32_129 : BitVec 32 := 32#32
  let v303 : BitVec 32 := Scalar.muli v302 c32_i32_129
  v303

def k0_off27 (v302 : BitVec 32) : Fin 2 → Nat :=
  let c32_i32_129 : BitVec 32 := 32#32
  let v303 : BitVec 32 := Scalar.muli v302 c32_i32_129
  let v304 : BitVec 32 := v303
  let v306 : Index := Scalar.indexCast v304
  let c0_130 : Index := 0#32
  ![v306.toNat, 0]

def k0_chk27 (v302 : BitVec 32) : Prop :=
  (32 ∣ (k0_mult27 v302).toNat) ∧
  (∀ a, (k0_off27 v302) a + S32x256.size a ≤ S1536x256.size a) ∧
  (∀ (hinb : ∀ a, (k0_off27 v302) a + S32x256.size a ≤ S1536x256.size a), (Rect.unit (s := S1536x256) (k0_off27 v302) S32x256.size hinb).PackedRows (EltTy.packing .bf16))
theorem k0_mult27_dvd : ∀ (v302 : BitVec 32) (k0_hw27 : k0_chk27 v302), 32 ∣ (k0_mult27 v302).toNat := fun v302 k0_hw27 => k0_hw27.1
theorem k0_off27_inb : ∀ (v302 : BitVec 32) (k0_hw27 : k0_chk27 v302), ∀ a, (k0_off27 v302) a + S32x256.size a ≤ S1536x256.size a := fun v302 k0_hw27 => k0_hw27.2.1
theorem k0_off27_packedbf16 : ∀ (v302 : BitVec 32) (k0_hw27 : k0_chk27 v302), (Rect.unit (s := S1536x256) (k0_off27 v302) S32x256.size (k0_off27_inb v302 k0_hw27)).PackedRows (EltTy.packing .bf16) := fun v302 k0_hw27 => k0_hw27.2.2 (k0_off27_inb v302 k0_hw27)

def k0_mult28 (v311 : BitVec 32) : BitVec 32 :=
  let c32_i32_132 : BitVec 32 := 32#32
  let v312 : BitVec 32 := Scalar.muli v311 c32_i32_132
  v312

def k0_off28 (v311 : BitVec 32) : Fin 2 → Nat :=
  let c32_i32_132 : BitVec 32 := 32#32
  let v312 : BitVec 32 := Scalar.muli v311 c32_i32_132
  let v313 : BitVec 32 := v312
  let v315 : Index := Scalar.indexCast v313
  let c0_133 : Index := 0#32
  ![v315.toNat, 0]

def k0_chk28 (v311 : BitVec 32) : Prop :=
  (32 ∣ (k0_mult28 v311).toNat) ∧
  (∀ a, (k0_off28 v311) a + S32x256.size a ≤ S1536x256.size a) ∧
  (∀ (hinb : ∀ a, (k0_off28 v311) a + S32x256.size a ≤ S1536x256.size a), (Rect.unit (s := S1536x256) (k0_off28 v311) S32x256.size hinb).PackedRows (EltTy.packing .bf16))
theorem k0_mult28_dvd : ∀ (v311 : BitVec 32) (k0_hw28 : k0_chk28 v311), 32 ∣ (k0_mult28 v311).toNat := fun v311 k0_hw28 => k0_hw28.1
theorem k0_off28_inb : ∀ (v311 : BitVec 32) (k0_hw28 : k0_chk28 v311), ∀ a, (k0_off28 v311) a + S32x256.size a ≤ S1536x256.size a := fun v311 k0_hw28 => k0_hw28.2.1
theorem k0_off28_packedbf16 : ∀ (v311 : BitVec 32) (k0_hw28 : k0_chk28 v311), (Rect.unit (s := S1536x256) (k0_off28 v311) S32x256.size (k0_off28_inb v311 k0_hw28)).PackedRows (EltTy.packing .bf16) := fun v311 k0_hw28 => k0_hw28.2.2 (k0_off28_inb v311 k0_hw28)

def k0_mult29 (v320 : BitVec 32) : BitVec 32 :=
  let c32_i32_135 : BitVec 32 := 32#32
  let v321 : BitVec 32 := Scalar.muli v320 c32_i32_135
  v321

def k0_off29 (v320 : BitVec 32) : Fin 2 → Nat :=
  let c32_i32_135 : BitVec 32 := 32#32
  let v321 : BitVec 32 := Scalar.muli v320 c32_i32_135
  let v322 : BitVec 32 := v321
  let v324 : Index := Scalar.indexCast v322
  let c0_136 : Index := 0#32
  ![v324.toNat, 0]

def k0_chk29 (v320 : BitVec 32) : Prop :=
  (32 ∣ (k0_mult29 v320).toNat) ∧
  (∀ a, (k0_off29 v320) a + S32x256.size a ≤ S1536x256.size a) ∧
  (∀ (hinb : ∀ a, (k0_off29 v320) a + S32x256.size a ≤ S1536x256.size a), (Rect.unit (s := S1536x256) (k0_off29 v320) S32x256.size hinb).PackedRows (EltTy.packing .bf16))
theorem k0_mult29_dvd : ∀ (v320 : BitVec 32) (k0_hw29 : k0_chk29 v320), 32 ∣ (k0_mult29 v320).toNat := fun v320 k0_hw29 => k0_hw29.1
theorem k0_off29_inb : ∀ (v320 : BitVec 32) (k0_hw29 : k0_chk29 v320), ∀ a, (k0_off29 v320) a + S32x256.size a ≤ S1536x256.size a := fun v320 k0_hw29 => k0_hw29.2.1
theorem k0_off29_packedbf16 : ∀ (v320 : BitVec 32) (k0_hw29 : k0_chk29 v320), (Rect.unit (s := S1536x256) (k0_off29 v320) S32x256.size (k0_off29_inb v320 k0_hw29)).PackedRows (EltTy.packing .bf16) := fun v320 k0_hw29 => k0_hw29.2.2 (k0_off29_inb v320 k0_hw29)

def k0_mult30 (v329 : BitVec 32) : BitVec 32 :=
  let c32_i32_138 : BitVec 32 := 32#32
  let v330 : BitVec 32 := Scalar.muli v329 c32_i32_138
  v330

def k0_off30 (v329 : BitVec 32) : Fin 2 → Nat :=
  let c32_i32_138 : BitVec 32 := 32#32
  let v330 : BitVec 32 := Scalar.muli v329 c32_i32_138
  let v331 : BitVec 32 := v330
  let v332 : Index := Scalar.indexCast v331
  let c0_139 : Index := 0#32
  ![v332.toNat, 0]

def k0_chk30 (v329 : BitVec 32) : Prop :=
  (32 ∣ (k0_mult30 v329).toNat) ∧
  (∀ a, (k0_off30 v329) a + S32x256.size a ≤ S1536x256.size a) ∧
  (∀ (hinb : ∀ a, (k0_off30 v329) a + S32x256.size a ≤ S1536x256.size a), (Rect.unit (s := S1536x256) (k0_off30 v329) S32x256.size hinb).PackedRows (EltTy.packing .bf16))
theorem k0_mult30_dvd : ∀ (v329 : BitVec 32) (k0_hw30 : k0_chk30 v329), 32 ∣ (k0_mult30 v329).toNat := fun v329 k0_hw30 => k0_hw30.1
theorem k0_off30_inb : ∀ (v329 : BitVec 32) (k0_hw30 : k0_chk30 v329), ∀ a, (k0_off30 v329) a + S32x256.size a ≤ S1536x256.size a := fun v329 k0_hw30 => k0_hw30.2.1
theorem k0_off30_packedbf16 : ∀ (v329 : BitVec 32) (k0_hw30 : k0_chk30 v329), (Rect.unit (s := S1536x256) (k0_off30 v329) S32x256.size (k0_off30_inb v329 k0_hw30)).PackedRows (EltTy.packing .bf16) := fun v329 k0_hw30 => k0_hw30.2.2 (k0_off30_inb v329 k0_hw30)

def k0_mult31 (v336 : BitVec 32) : BitVec 32 :=
  let c32_i32_141 : BitVec 32 := 32#32
  let v337 : BitVec 32 := Scalar.muli v336 c32_i32_141
  v337

def k0_off31 (v336 : BitVec 32) : Fin 2 → Nat :=
  let c32_i32_141 : BitVec 32 := 32#32
  let v337 : BitVec 32 := Scalar.muli v336 c32_i32_141
  let v338 : BitVec 32 := v337
  let v339 : Index := Scalar.indexCast v338
  let c0_142 : Index := 0#32
  ![v339.toNat, 0]

def k0_chk31 (v336 : BitVec 32) : Prop :=
  (32 ∣ (k0_mult31 v336).toNat) ∧
  (∀ a, (k0_off31 v336) a + S32x256.size a ≤ S1536x256.size a) ∧
  (∀ (hinb : ∀ a, (k0_off31 v336) a + S32x256.size a ≤ S1536x256.size a), (Rect.unit (s := S1536x256) (k0_off31 v336) S32x256.size hinb).PackedRows (EltTy.packing .bf16))
theorem k0_mult31_dvd : ∀ (v336 : BitVec 32) (k0_hw31 : k0_chk31 v336), 32 ∣ (k0_mult31 v336).toNat := fun v336 k0_hw31 => k0_hw31.1
theorem k0_off31_inb : ∀ (v336 : BitVec 32) (k0_hw31 : k0_chk31 v336), ∀ a, (k0_off31 v336) a + S32x256.size a ≤ S1536x256.size a := fun v336 k0_hw31 => k0_hw31.2.1
theorem k0_off31_packedbf16 : ∀ (v336 : BitVec 32) (k0_hw31 : k0_chk31 v336), (Rect.unit (s := S1536x256) (k0_off31 v336) S32x256.size (k0_off31_inb v336 k0_hw31)).PackedRows (EltTy.packing .bf16) := fun v336 k0_hw31 => k0_hw31.2.2 (k0_off31_inb v336 k0_hw31)

def k0_mult32 (v343 : BitVec 32) : BitVec 32 :=
  let c32_i32_144 : BitVec 32 := 32#32
  let v344 : BitVec 32 := Scalar.muli v343 c32_i32_144
  v344

def k0_off32 (v343 : BitVec 32) : Fin 2 → Nat :=
  let c32_i32_144 : BitVec 32 := 32#32
  let v344 : BitVec 32 := Scalar.muli v343 c32_i32_144
  let v345 : BitVec 32 := v344
  let v346 : Index := Scalar.indexCast v345
  let c0_145 : Index := 0#32
  ![v346.toNat, 0]

def k0_chk32 (v343 : BitVec 32) : Prop :=
  (32 ∣ (k0_mult32 v343).toNat) ∧
  (∀ a, (k0_off32 v343) a + S32x256.size a ≤ S1536x256.size a) ∧
  (∀ (hinb : ∀ a, (k0_off32 v343) a + S32x256.size a ≤ S1536x256.size a), (Rect.unit (s := S1536x256) (k0_off32 v343) S32x256.size hinb).PackedRows (EltTy.packing .bf16))
theorem k0_mult32_dvd : ∀ (v343 : BitVec 32) (k0_hw32 : k0_chk32 v343), 32 ∣ (k0_mult32 v343).toNat := fun v343 k0_hw32 => k0_hw32.1
theorem k0_off32_inb : ∀ (v343 : BitVec 32) (k0_hw32 : k0_chk32 v343), ∀ a, (k0_off32 v343) a + S32x256.size a ≤ S1536x256.size a := fun v343 k0_hw32 => k0_hw32.2.1
theorem k0_off32_packedbf16 : ∀ (v343 : BitVec 32) (k0_hw32 : k0_chk32 v343), (Rect.unit (s := S1536x256) (k0_off32 v343) S32x256.size (k0_off32_inb v343 k0_hw32)).PackedRows (EltTy.packing .bf16) := fun v343 k0_hw32 => k0_hw32.2.2 (k0_off32_inb v343 k0_hw32)

def k0_mult33 (v350 : BitVec 32) : BitVec 32 :=
  let c32_i32_147 : BitVec 32 := 32#32
  let v351 : BitVec 32 := Scalar.muli v350 c32_i32_147
  v351

def k0_off33 (v350 : BitVec 32) : Fin 2 → Nat :=
  let c32_i32_147 : BitVec 32 := 32#32
  let v351 : BitVec 32 := Scalar.muli v350 c32_i32_147
  let v352 : BitVec 32 := v351
  let v353 : Index := Scalar.indexCast v352
  let c0_148 : Index := 0#32
  ![v353.toNat, 0]

def k0_chk33 (v350 : BitVec 32) : Prop :=
  (32 ∣ (k0_mult33 v350).toNat) ∧
  (∀ a, (k0_off33 v350) a + S32x256.size a ≤ S1536x256.size a) ∧
  (∀ (hinb : ∀ a, (k0_off33 v350) a + S32x256.size a ≤ S1536x256.size a), (Rect.unit (s := S1536x256) (k0_off33 v350) S32x256.size hinb).PackedRows (EltTy.packing .bf16))
theorem k0_mult33_dvd : ∀ (v350 : BitVec 32) (k0_hw33 : k0_chk33 v350), 32 ∣ (k0_mult33 v350).toNat := fun v350 k0_hw33 => k0_hw33.1
theorem k0_off33_inb : ∀ (v350 : BitVec 32) (k0_hw33 : k0_chk33 v350), ∀ a, (k0_off33 v350) a + S32x256.size a ≤ S1536x256.size a := fun v350 k0_hw33 => k0_hw33.2.1
theorem k0_off33_packedbf16 : ∀ (v350 : BitVec 32) (k0_hw33 : k0_chk33 v350), (Rect.unit (s := S1536x256) (k0_off33 v350) S32x256.size (k0_off33_inb v350 k0_hw33)).PackedRows (EltTy.packing .bf16) := fun v350 k0_hw33 => k0_hw33.2.2 (k0_off33_inb v350 k0_hw33)

def k0_mult34 (v357 : BitVec 32) : BitVec 32 :=
  let c32_i32_150 : BitVec 32 := 32#32
  let v358 : BitVec 32 := Scalar.muli v357 c32_i32_150
  v358

def k0_off34 (v357 : BitVec 32) : Fin 2 → Nat :=
  let c32_i32_150 : BitVec 32 := 32#32
  let v358 : BitVec 32 := Scalar.muli v357 c32_i32_150
  let v359 : BitVec 32 := v358
  let v360 : Index := Scalar.indexCast v359
  let c0_151 : Index := 0#32
  ![v360.toNat, 0]

def k0_chk34 (v357 : BitVec 32) : Prop :=
  (32 ∣ (k0_mult34 v357).toNat) ∧
  (∀ a, (k0_off34 v357) a + S32x256.size a ≤ S1536x256.size a) ∧
  (∀ (hinb : ∀ a, (k0_off34 v357) a + S32x256.size a ≤ S1536x256.size a), (Rect.unit (s := S1536x256) (k0_off34 v357) S32x256.size hinb).PackedRows (EltTy.packing .bf16))
theorem k0_mult34_dvd : ∀ (v357 : BitVec 32) (k0_hw34 : k0_chk34 v357), 32 ∣ (k0_mult34 v357).toNat := fun v357 k0_hw34 => k0_hw34.1
theorem k0_off34_inb : ∀ (v357 : BitVec 32) (k0_hw34 : k0_chk34 v357), ∀ a, (k0_off34 v357) a + S32x256.size a ≤ S1536x256.size a := fun v357 k0_hw34 => k0_hw34.2.1
theorem k0_off34_packedbf16 : ∀ (v357 : BitVec 32) (k0_hw34 : k0_chk34 v357), (Rect.unit (s := S1536x256) (k0_off34 v357) S32x256.size (k0_off34_inb v357 k0_hw34)).PackedRows (EltTy.packing .bf16) := fun v357 k0_hw34 => k0_hw34.2.2 (k0_off34_inb v357 k0_hw34)

def k0_mult35 (v364 : BitVec 32) : BitVec 32 :=
  let c32_i32_153 : BitVec 32 := 32#32
  let v365 : BitVec 32 := Scalar.muli v364 c32_i32_153
  v365

def k0_off35 (v364 : BitVec 32) : Fin 2 → Nat :=
  let c32_i32_153 : BitVec 32 := 32#32
  let v365 : BitVec 32 := Scalar.muli v364 c32_i32_153
  let v366 : BitVec 32 := v365
  let v367 : Index := Scalar.indexCast v366
  let c0_154 : Index := 0#32
  ![v367.toNat, 0]

def k0_chk35 (v364 : BitVec 32) : Prop :=
  (32 ∣ (k0_mult35 v364).toNat) ∧
  (∀ a, (k0_off35 v364) a + S32x256.size a ≤ S1536x256.size a) ∧
  (∀ (hinb : ∀ a, (k0_off35 v364) a + S32x256.size a ≤ S1536x256.size a), (Rect.unit (s := S1536x256) (k0_off35 v364) S32x256.size hinb).PackedRows (EltTy.packing .bf16))
theorem k0_mult35_dvd : ∀ (v364 : BitVec 32) (k0_hw35 : k0_chk35 v364), 32 ∣ (k0_mult35 v364).toNat := fun v364 k0_hw35 => k0_hw35.1
theorem k0_off35_inb : ∀ (v364 : BitVec 32) (k0_hw35 : k0_chk35 v364), ∀ a, (k0_off35 v364) a + S32x256.size a ≤ S1536x256.size a := fun v364 k0_hw35 => k0_hw35.2.1
theorem k0_off35_packedbf16 : ∀ (v364 : BitVec 32) (k0_hw35 : k0_chk35 v364), (Rect.unit (s := S1536x256) (k0_off35 v364) S32x256.size (k0_off35_inb v364 k0_hw35)).PackedRows (EltTy.packing .bf16) := fun v364 k0_hw35 => k0_hw35.2.2 (k0_off35_inb v364 k0_hw35)

def k0_mult36 (v371 : BitVec 32) : BitVec 32 :=
  let c32_i32_156 : BitVec 32 := 32#32
  let v372 : BitVec 32 := Scalar.muli v371 c32_i32_156
  v372

def k0_off36 (v371 : BitVec 32) : Fin 2 → Nat :=
  let c32_i32_156 : BitVec 32 := 32#32
  let v372 : BitVec 32 := Scalar.muli v371 c32_i32_156
  let v373 : BitVec 32 := v372
  let v374 : Index := Scalar.indexCast v373
  let c0_157 : Index := 0#32
  ![v374.toNat, 0]

def k0_chk36 (v371 : BitVec 32) : Prop :=
  (32 ∣ (k0_mult36 v371).toNat) ∧
  (∀ a, (k0_off36 v371) a + S32x256.size a ≤ S1536x256.size a) ∧
  (∀ (hinb : ∀ a, (k0_off36 v371) a + S32x256.size a ≤ S1536x256.size a), (Rect.unit (s := S1536x256) (k0_off36 v371) S32x256.size hinb).PackedRows (EltTy.packing .bf16))
theorem k0_mult36_dvd : ∀ (v371 : BitVec 32) (k0_hw36 : k0_chk36 v371), 32 ∣ (k0_mult36 v371).toNat := fun v371 k0_hw36 => k0_hw36.1
theorem k0_off36_inb : ∀ (v371 : BitVec 32) (k0_hw36 : k0_chk36 v371), ∀ a, (k0_off36 v371) a + S32x256.size a ≤ S1536x256.size a := fun v371 k0_hw36 => k0_hw36.2.1
theorem k0_off36_packedbf16 : ∀ (v371 : BitVec 32) (k0_hw36 : k0_chk36 v371), (Rect.unit (s := S1536x256) (k0_off36 v371) S32x256.size (k0_off36_inb v371 k0_hw36)).PackedRows (EltTy.packing .bf16) := fun v371 k0_hw36 => k0_hw36.2.2 (k0_off36_inb v371 k0_hw36)

def k0_mult37 (v378 : BitVec 32) : BitVec 32 :=
  let c32_i32_159 : BitVec 32 := 32#32
  let v379 : BitVec 32 := Scalar.muli v378 c32_i32_159
  v379

def k0_off37 (v378 : BitVec 32) : Fin 2 → Nat :=
  let c32_i32_159 : BitVec 32 := 32#32
  let v379 : BitVec 32 := Scalar.muli v378 c32_i32_159
  let v380 : BitVec 32 := v379
  let v381 : Index := Scalar.indexCast v380
  let c0_160 : Index := 0#32
  ![v381.toNat, 0]

def k0_chk37 (v378 : BitVec 32) : Prop :=
  (32 ∣ (k0_mult37 v378).toNat) ∧
  (∀ a, (k0_off37 v378) a + S32x256.size a ≤ S1536x256.size a) ∧
  (∀ (hinb : ∀ a, (k0_off37 v378) a + S32x256.size a ≤ S1536x256.size a), (Rect.unit (s := S1536x256) (k0_off37 v378) S32x256.size hinb).PackedRows (EltTy.packing .bf16))
theorem k0_mult37_dvd : ∀ (v378 : BitVec 32) (k0_hw37 : k0_chk37 v378), 32 ∣ (k0_mult37 v378).toNat := fun v378 k0_hw37 => k0_hw37.1
theorem k0_off37_inb : ∀ (v378 : BitVec 32) (k0_hw37 : k0_chk37 v378), ∀ a, (k0_off37 v378) a + S32x256.size a ≤ S1536x256.size a := fun v378 k0_hw37 => k0_hw37.2.1
theorem k0_off37_packedbf16 : ∀ (v378 : BitVec 32) (k0_hw37 : k0_chk37 v378), (Rect.unit (s := S1536x256) (k0_off37 v378) S32x256.size (k0_off37_inb v378 k0_hw37)).PackedRows (EltTy.packing .bf16) := fun v378 k0_hw37 => k0_hw37.2.2 (k0_off37_inb v378 k0_hw37)

def k0_mult38 (v385 : BitVec 32) : BitVec 32 :=
  let c32_i32_162 : BitVec 32 := 32#32
  let v386 : BitVec 32 := Scalar.muli v385 c32_i32_162
  v386

def k0_off38 (v385 : BitVec 32) : Fin 2 → Nat :=
  let c32_i32_162 : BitVec 32 := 32#32
  let v386 : BitVec 32 := Scalar.muli v385 c32_i32_162
  let v387 : BitVec 32 := v386
  let v388 : Index := Scalar.indexCast v387
  let c0_163 : Index := 0#32
  ![v388.toNat, 0]

def k0_chk38 (v385 : BitVec 32) : Prop :=
  (32 ∣ (k0_mult38 v385).toNat) ∧
  (∀ a, (k0_off38 v385) a + S32x256.size a ≤ S1536x256.size a) ∧
  (∀ (hinb : ∀ a, (k0_off38 v385) a + S32x256.size a ≤ S1536x256.size a), (Rect.unit (s := S1536x256) (k0_off38 v385) S32x256.size hinb).PackedRows (EltTy.packing .bf16))
theorem k0_mult38_dvd : ∀ (v385 : BitVec 32) (k0_hw38 : k0_chk38 v385), 32 ∣ (k0_mult38 v385).toNat := fun v385 k0_hw38 => k0_hw38.1
theorem k0_off38_inb : ∀ (v385 : BitVec 32) (k0_hw38 : k0_chk38 v385), ∀ a, (k0_off38 v385) a + S32x256.size a ≤ S1536x256.size a := fun v385 k0_hw38 => k0_hw38.2.1
theorem k0_off38_packedbf16 : ∀ (v385 : BitVec 32) (k0_hw38 : k0_chk38 v385), (Rect.unit (s := S1536x256) (k0_off38 v385) S32x256.size (k0_off38_inb v385 k0_hw38)).PackedRows (EltTy.packing .bf16) := fun v385 k0_hw38 => k0_hw38.2.2 (k0_off38_inb v385 k0_hw38)

def k0_mult39 (v392 : BitVec 32) : BitVec 32 :=
  let c32_i32_165 : BitVec 32 := 32#32
  let v393 : BitVec 32 := Scalar.muli v392 c32_i32_165
  v393

def k0_off39 (v392 : BitVec 32) : Fin 2 → Nat :=
  let c32_i32_165 : BitVec 32 := 32#32
  let v393 : BitVec 32 := Scalar.muli v392 c32_i32_165
  let v394 : BitVec 32 := v393
  let v395 : Index := Scalar.indexCast v394
  let c0_166 : Index := 0#32
  ![v395.toNat, 0]

def k0_chk39 (v392 : BitVec 32) : Prop :=
  (32 ∣ (k0_mult39 v392).toNat) ∧
  (∀ a, (k0_off39 v392) a + S32x256.size a ≤ S1536x256.size a) ∧
  (∀ (hinb : ∀ a, (k0_off39 v392) a + S32x256.size a ≤ S1536x256.size a), (Rect.unit (s := S1536x256) (k0_off39 v392) S32x256.size hinb).PackedRows (EltTy.packing .bf16))
theorem k0_mult39_dvd : ∀ (v392 : BitVec 32) (k0_hw39 : k0_chk39 v392), 32 ∣ (k0_mult39 v392).toNat := fun v392 k0_hw39 => k0_hw39.1
theorem k0_off39_inb : ∀ (v392 : BitVec 32) (k0_hw39 : k0_chk39 v392), ∀ a, (k0_off39 v392) a + S32x256.size a ≤ S1536x256.size a := fun v392 k0_hw39 => k0_hw39.2.1
theorem k0_off39_packedbf16 : ∀ (v392 : BitVec 32) (k0_hw39 : k0_chk39 v392), (Rect.unit (s := S1536x256) (k0_off39 v392) S32x256.size (k0_off39_inb v392 k0_hw39)).PackedRows (EltTy.packing .bf16) := fun v392 k0_hw39 => k0_hw39.2.2 (k0_off39_inb v392 k0_hw39)

def k0_mult40 (v399 : BitVec 32) : BitVec 32 :=
  let c32_i32_168 : BitVec 32 := 32#32
  let v400 : BitVec 32 := Scalar.muli v399 c32_i32_168
  v400

def k0_off40 (v399 : BitVec 32) : Fin 2 → Nat :=
  let c32_i32_168 : BitVec 32 := 32#32
  let v400 : BitVec 32 := Scalar.muli v399 c32_i32_168
  let v401 : BitVec 32 := v400
  let v402 : Index := Scalar.indexCast v401
  let c0_169 : Index := 0#32
  ![v402.toNat, 0]

def k0_chk40 (v399 : BitVec 32) : Prop :=
  (32 ∣ (k0_mult40 v399).toNat) ∧
  (∀ a, (k0_off40 v399) a + S32x256.size a ≤ S1536x256.size a) ∧
  (∀ (hinb : ∀ a, (k0_off40 v399) a + S32x256.size a ≤ S1536x256.size a), (Rect.unit (s := S1536x256) (k0_off40 v399) S32x256.size hinb).PackedRows (EltTy.packing .bf16))
theorem k0_mult40_dvd : ∀ (v399 : BitVec 32) (k0_hw40 : k0_chk40 v399), 32 ∣ (k0_mult40 v399).toNat := fun v399 k0_hw40 => k0_hw40.1
theorem k0_off40_inb : ∀ (v399 : BitVec 32) (k0_hw40 : k0_chk40 v399), ∀ a, (k0_off40 v399) a + S32x256.size a ≤ S1536x256.size a := fun v399 k0_hw40 => k0_hw40.2.1
theorem k0_off40_packedbf16 : ∀ (v399 : BitVec 32) (k0_hw40 : k0_chk40 v399), (Rect.unit (s := S1536x256) (k0_off40 v399) S32x256.size (k0_off40_inb v399 k0_hw40)).PackedRows (EltTy.packing .bf16) := fun v399 k0_hw40 => k0_hw40.2.2 (k0_off40_inb v399 k0_hw40)

def k0_mult41 (v406 : BitVec 32) : BitVec 32 :=
  let c32_i32_171 : BitVec 32 := 32#32
  let v407 : BitVec 32 := Scalar.muli v406 c32_i32_171
  v407

def k0_off41 (v406 : BitVec 32) : Fin 2 → Nat :=
  let c32_i32_171 : BitVec 32 := 32#32
  let v407 : BitVec 32 := Scalar.muli v406 c32_i32_171
  let v408 : BitVec 32 := v407
  let v409 : Index := Scalar.indexCast v408
  let c0_172 : Index := 0#32
  ![v409.toNat, 0]

def k0_chk41 (v406 : BitVec 32) : Prop :=
  (32 ∣ (k0_mult41 v406).toNat) ∧
  (∀ a, (k0_off41 v406) a + S32x256.size a ≤ S1536x256.size a) ∧
  (∀ (hinb : ∀ a, (k0_off41 v406) a + S32x256.size a ≤ S1536x256.size a), (Rect.unit (s := S1536x256) (k0_off41 v406) S32x256.size hinb).PackedRows (EltTy.packing .bf16))
theorem k0_mult41_dvd : ∀ (v406 : BitVec 32) (k0_hw41 : k0_chk41 v406), 32 ∣ (k0_mult41 v406).toNat := fun v406 k0_hw41 => k0_hw41.1
theorem k0_off41_inb : ∀ (v406 : BitVec 32) (k0_hw41 : k0_chk41 v406), ∀ a, (k0_off41 v406) a + S32x256.size a ≤ S1536x256.size a := fun v406 k0_hw41 => k0_hw41.2.1
theorem k0_off41_packedbf16 : ∀ (v406 : BitVec 32) (k0_hw41 : k0_chk41 v406), (Rect.unit (s := S1536x256) (k0_off41 v406) S32x256.size (k0_off41_inb v406 k0_hw41)).PackedRows (EltTy.packing .bf16) := fun v406 k0_hw41 => k0_hw41.2.2 (k0_off41_inb v406 k0_hw41)

def k0_mult42 (v413 : BitVec 32) : BitVec 32 :=
  let c32_i32_174 : BitVec 32 := 32#32
  let v414 : BitVec 32 := Scalar.muli v413 c32_i32_174
  v414

def k0_off42 (v413 : BitVec 32) : Fin 2 → Nat :=
  let c32_i32_174 : BitVec 32 := 32#32
  let v414 : BitVec 32 := Scalar.muli v413 c32_i32_174
  let v415 : BitVec 32 := v414
  let v416 : Index := Scalar.indexCast v415
  let c0_175 : Index := 0#32
  ![v416.toNat, 0]

def k0_chk42 (v413 : BitVec 32) : Prop :=
  (32 ∣ (k0_mult42 v413).toNat) ∧
  (∀ a, (k0_off42 v413) a + S32x256.size a ≤ S1536x256.size a) ∧
  (∀ (hinb : ∀ a, (k0_off42 v413) a + S32x256.size a ≤ S1536x256.size a), (Rect.unit (s := S1536x256) (k0_off42 v413) S32x256.size hinb).PackedRows (EltTy.packing .bf16))
theorem k0_mult42_dvd : ∀ (v413 : BitVec 32) (k0_hw42 : k0_chk42 v413), 32 ∣ (k0_mult42 v413).toNat := fun v413 k0_hw42 => k0_hw42.1
theorem k0_off42_inb : ∀ (v413 : BitVec 32) (k0_hw42 : k0_chk42 v413), ∀ a, (k0_off42 v413) a + S32x256.size a ≤ S1536x256.size a := fun v413 k0_hw42 => k0_hw42.2.1
theorem k0_off42_packedbf16 : ∀ (v413 : BitVec 32) (k0_hw42 : k0_chk42 v413), (Rect.unit (s := S1536x256) (k0_off42 v413) S32x256.size (k0_off42_inb v413 k0_hw42)).PackedRows (EltTy.packing .bf16) := fun v413 k0_hw42 => k0_hw42.2.2 (k0_off42_inb v413 k0_hw42)

def k0_mult43 (v420 : BitVec 32) : BitVec 32 :=
  let c32_i32_177 : BitVec 32 := 32#32
  let v421 : BitVec 32 := Scalar.muli v420 c32_i32_177
  v421

def k0_off43 (v420 : BitVec 32) : Fin 2 → Nat :=
  let c32_i32_177 : BitVec 32 := 32#32
  let v421 : BitVec 32 := Scalar.muli v420 c32_i32_177
  let v422 : BitVec 32 := v421
  let v423 : Index := Scalar.indexCast v422
  let c0_178 : Index := 0#32
  ![v423.toNat, 0]

def k0_chk43 (v420 : BitVec 32) : Prop :=
  (32 ∣ (k0_mult43 v420).toNat) ∧
  (∀ a, (k0_off43 v420) a + S32x256.size a ≤ S1536x256.size a) ∧
  (∀ (hinb : ∀ a, (k0_off43 v420) a + S32x256.size a ≤ S1536x256.size a), (Rect.unit (s := S1536x256) (k0_off43 v420) S32x256.size hinb).PackedRows (EltTy.packing .bf16))
theorem k0_mult43_dvd : ∀ (v420 : BitVec 32) (k0_hw43 : k0_chk43 v420), 32 ∣ (k0_mult43 v420).toNat := fun v420 k0_hw43 => k0_hw43.1
theorem k0_off43_inb : ∀ (v420 : BitVec 32) (k0_hw43 : k0_chk43 v420), ∀ a, (k0_off43 v420) a + S32x256.size a ≤ S1536x256.size a := fun v420 k0_hw43 => k0_hw43.2.1
theorem k0_off43_packedbf16 : ∀ (v420 : BitVec 32) (k0_hw43 : k0_chk43 v420), (Rect.unit (s := S1536x256) (k0_off43 v420) S32x256.size (k0_off43_inb v420 k0_hw43)).PackedRows (EltTy.packing .bf16) := fun v420 k0_hw43 => k0_hw43.2.2 (k0_off43_inb v420 k0_hw43)

def k0_mult44 (v427 : BitVec 32) : BitVec 32 :=
  let c32_i32_180 : BitVec 32 := 32#32
  let v428 : BitVec 32 := Scalar.muli v427 c32_i32_180
  v428

def k0_off44 (v427 : BitVec 32) : Fin 2 → Nat :=
  let c32_i32_180 : BitVec 32 := 32#32
  let v428 : BitVec 32 := Scalar.muli v427 c32_i32_180
  let v429 : BitVec 32 := v428
  let v430 : Index := Scalar.indexCast v429
  let c0_181 : Index := 0#32
  ![v430.toNat, 0]

def k0_chk44 (v427 : BitVec 32) : Prop :=
  (32 ∣ (k0_mult44 v427).toNat) ∧
  (∀ a, (k0_off44 v427) a + S32x256.size a ≤ S1536x256.size a) ∧
  (∀ (hinb : ∀ a, (k0_off44 v427) a + S32x256.size a ≤ S1536x256.size a), (Rect.unit (s := S1536x256) (k0_off44 v427) S32x256.size hinb).PackedRows (EltTy.packing .bf16))
theorem k0_mult44_dvd : ∀ (v427 : BitVec 32) (k0_hw44 : k0_chk44 v427), 32 ∣ (k0_mult44 v427).toNat := fun v427 k0_hw44 => k0_hw44.1
theorem k0_off44_inb : ∀ (v427 : BitVec 32) (k0_hw44 : k0_chk44 v427), ∀ a, (k0_off44 v427) a + S32x256.size a ≤ S1536x256.size a := fun v427 k0_hw44 => k0_hw44.2.1
theorem k0_off44_packedbf16 : ∀ (v427 : BitVec 32) (k0_hw44 : k0_chk44 v427), (Rect.unit (s := S1536x256) (k0_off44 v427) S32x256.size (k0_off44_inb v427 k0_hw44)).PackedRows (EltTy.packing .bf16) := fun v427 k0_hw44 => k0_hw44.2.2 (k0_off44_inb v427 k0_hw44)

def k0_mult45 (v434 : BitVec 32) : BitVec 32 :=
  let c32_i32_183 : BitVec 32 := 32#32
  let v435 : BitVec 32 := Scalar.muli v434 c32_i32_183
  v435

def k0_off45 (v434 : BitVec 32) : Fin 2 → Nat :=
  let c32_i32_183 : BitVec 32 := 32#32
  let v435 : BitVec 32 := Scalar.muli v434 c32_i32_183
  let v436 : BitVec 32 := v435
  let v437 : Index := Scalar.indexCast v436
  let c0_184 : Index := 0#32
  ![v437.toNat, 0]

def k0_chk45 (v434 : BitVec 32) : Prop :=
  (32 ∣ (k0_mult45 v434).toNat) ∧
  (∀ a, (k0_off45 v434) a + S32x256.size a ≤ S1536x256.size a) ∧
  (∀ (hinb : ∀ a, (k0_off45 v434) a + S32x256.size a ≤ S1536x256.size a), (Rect.unit (s := S1536x256) (k0_off45 v434) S32x256.size hinb).PackedRows (EltTy.packing .bf16))
theorem k0_mult45_dvd : ∀ (v434 : BitVec 32) (k0_hw45 : k0_chk45 v434), 32 ∣ (k0_mult45 v434).toNat := fun v434 k0_hw45 => k0_hw45.1
theorem k0_off45_inb : ∀ (v434 : BitVec 32) (k0_hw45 : k0_chk45 v434), ∀ a, (k0_off45 v434) a + S32x256.size a ≤ S1536x256.size a := fun v434 k0_hw45 => k0_hw45.2.1
theorem k0_off45_packedbf16 : ∀ (v434 : BitVec 32) (k0_hw45 : k0_chk45 v434), (Rect.unit (s := S1536x256) (k0_off45 v434) S32x256.size (k0_off45_inb v434 k0_hw45)).PackedRows (EltTy.packing .bf16) := fun v434 k0_hw45 => k0_hw45.2.2 (k0_off45_inb v434 k0_hw45)

def k0_mult46 (v441 : BitVec 32) : BitVec 32 :=
  let c32_i32_186 : BitVec 32 := 32#32
  let v442 : BitVec 32 := Scalar.muli v441 c32_i32_186
  v442

def k0_off46 (v441 : BitVec 32) : Fin 2 → Nat :=
  let c32_i32_186 : BitVec 32 := 32#32
  let v442 : BitVec 32 := Scalar.muli v441 c32_i32_186
  let v443 : BitVec 32 := v442
  let v444 : Index := Scalar.indexCast v443
  let c0_187 : Index := 0#32
  ![v444.toNat, 0]

def k0_chk46 (v441 : BitVec 32) : Prop :=
  (32 ∣ (k0_mult46 v441).toNat) ∧
  (∀ a, (k0_off46 v441) a + S32x256.size a ≤ S1536x256.size a) ∧
  (∀ (hinb : ∀ a, (k0_off46 v441) a + S32x256.size a ≤ S1536x256.size a), (Rect.unit (s := S1536x256) (k0_off46 v441) S32x256.size hinb).PackedRows (EltTy.packing .bf16))
theorem k0_mult46_dvd : ∀ (v441 : BitVec 32) (k0_hw46 : k0_chk46 v441), 32 ∣ (k0_mult46 v441).toNat := fun v441 k0_hw46 => k0_hw46.1
theorem k0_off46_inb : ∀ (v441 : BitVec 32) (k0_hw46 : k0_chk46 v441), ∀ a, (k0_off46 v441) a + S32x256.size a ≤ S1536x256.size a := fun v441 k0_hw46 => k0_hw46.2.1
theorem k0_off46_packedbf16 : ∀ (v441 : BitVec 32) (k0_hw46 : k0_chk46 v441), (Rect.unit (s := S1536x256) (k0_off46 v441) S32x256.size (k0_off46_inb v441 k0_hw46)).PackedRows (EltTy.packing .bf16) := fun v441 k0_hw46 => k0_hw46.2.2 (k0_off46_inb v441 k0_hw46)

def k0_mult47 (v448 : BitVec 32) : BitVec 32 :=
  let c32_i32_189 : BitVec 32 := 32#32
  let v449 : BitVec 32 := Scalar.muli v448 c32_i32_189
  v449

def k0_off47 (v448 : BitVec 32) : Fin 2 → Nat :=
  let c32_i32_189 : BitVec 32 := 32#32
  let v449 : BitVec 32 := Scalar.muli v448 c32_i32_189
  let v450 : BitVec 32 := v449
  let v451 : Index := Scalar.indexCast v450
  let c0_190 : Index := 0#32
  ![v451.toNat, 0]

def k0_chk47 (v448 : BitVec 32) : Prop :=
  (32 ∣ (k0_mult47 v448).toNat) ∧
  (∀ a, (k0_off47 v448) a + S32x256.size a ≤ S1536x256.size a) ∧
  (∀ (hinb : ∀ a, (k0_off47 v448) a + S32x256.size a ≤ S1536x256.size a), (Rect.unit (s := S1536x256) (k0_off47 v448) S32x256.size hinb).PackedRows (EltTy.packing .bf16))
theorem k0_mult47_dvd : ∀ (v448 : BitVec 32) (k0_hw47 : k0_chk47 v448), 32 ∣ (k0_mult47 v448).toNat := fun v448 k0_hw47 => k0_hw47.1
theorem k0_off47_inb : ∀ (v448 : BitVec 32) (k0_hw47 : k0_chk47 v448), ∀ a, (k0_off47 v448) a + S32x256.size a ≤ S1536x256.size a := fun v448 k0_hw47 => k0_hw47.2.1
theorem k0_off47_packedbf16 : ∀ (v448 : BitVec 32) (k0_hw47 : k0_chk47 v448), (Rect.unit (s := S1536x256) (k0_off47 v448) S32x256.size (k0_off47_inb v448 k0_hw47)).PackedRows (EltTy.packing .bf16) := fun v448 k0_hw47 => k0_hw47.2.2 (k0_off47_inb v448 k0_hw47)

def k0_mult48 (v455 : BitVec 32) : BitVec 32 :=
  let c32_i32_192 : BitVec 32 := 32#32
  let v456 : BitVec 32 := Scalar.muli v455 c32_i32_192
  v456

def k0_off48 (v455 : BitVec 32) : Fin 2 → Nat :=
  let c32_i32_192 : BitVec 32 := 32#32
  let v456 : BitVec 32 := Scalar.muli v455 c32_i32_192
  let v457 : BitVec 32 := v456
  let v458 : Index := Scalar.indexCast v457
  let c0_193 : Index := 0#32
  ![v458.toNat, 0]

def k0_chk48 (v455 : BitVec 32) : Prop :=
  (32 ∣ (k0_mult48 v455).toNat) ∧
  (∀ a, (k0_off48 v455) a + S32x256.size a ≤ S1536x256.size a) ∧
  (∀ (hinb : ∀ a, (k0_off48 v455) a + S32x256.size a ≤ S1536x256.size a), (Rect.unit (s := S1536x256) (k0_off48 v455) S32x256.size hinb).PackedRows (EltTy.packing .bf16))
theorem k0_mult48_dvd : ∀ (v455 : BitVec 32) (k0_hw48 : k0_chk48 v455), 32 ∣ (k0_mult48 v455).toNat := fun v455 k0_hw48 => k0_hw48.1
theorem k0_off48_inb : ∀ (v455 : BitVec 32) (k0_hw48 : k0_chk48 v455), ∀ a, (k0_off48 v455) a + S32x256.size a ≤ S1536x256.size a := fun v455 k0_hw48 => k0_hw48.2.1
theorem k0_off48_packedbf16 : ∀ (v455 : BitVec 32) (k0_hw48 : k0_chk48 v455), (Rect.unit (s := S1536x256) (k0_off48 v455) S32x256.size (k0_off48_inb v455 k0_hw48)).PackedRows (EltTy.packing .bf16) := fun v455 k0_hw48 => k0_hw48.2.2 (k0_off48_inb v455 k0_hw48)

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S928x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S928x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S928x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S928x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S928x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S928x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x7168 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x7168 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S928x256 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S928x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S928x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S928x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S928x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1536x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1536x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== RefZIdeal.lean ====
abbrev S48 : Shape := ⟨1, ![48]⟩
abbrev S1024x7168 : Shape := ⟨2, ![1024, 7168]⟩
abbrev S1024 : Shape := ⟨1, ![1024]⟩
abbrev S3x7168x7168 : Shape := ⟨3, ![3, 7168, 7168]⟩
abbrev S3x7168 : Shape := ⟨2, ![3, 7168]⟩
abbrev S928x7168 : Shape := ⟨2, ![928, 7168]⟩
abbrev S1024x1 : Shape := ⟨2, ![1024, 1]⟩
abbrev S1536x7168 : Shape := ⟨2, ![1536, 7168]⟩
abbrev S928x1 : Shape := ⟨2, ![928, 1]⟩
abbrev S1x7168x7168 : Shape := ⟨3, ![1, 7168, 7168]⟩
abbrev S7168x7168 : Shape := ⟨2, ![7168, 7168]⟩
abbrev S1x7168 : Shape := ⟨2, ![1, 7168]⟩
abbrev S7168 : Shape := ⟨1, ![7168]⟩
abbrev S608x7168 : Shape := ⟨2, ![608, 7168]⟩
abbrev S32x7168 : Shape := ⟨2, ![32, 7168]⟩
abbrev S1 : Shape := ⟨1, ![1]⟩

abbrev nBuf : Space → Nat
  | .hbm => 21
  | .vmem => 16
  | .smem => 1
  | _ => 0

abbrev bufTy : (tb : Table) → Fin (tcTables nBuf tb) → BufTy
  | .hbm, ⟨0, _⟩ => ⟨S48, .i32⟩
  | .hbm, ⟨1, _⟩ => ⟨S1024x7168, .fp8e4m3⟩
  | .hbm, ⟨2, _⟩ => ⟨S1024x7168, .fp8e4m3⟩
  | .hbm, ⟨3, _⟩ => ⟨S1024x7168, .fp8e4m3⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S3x7168x7168, .fp8e4m3⟩
  | .hbm, ⟨8, _⟩ => ⟨S3x7168, .f32⟩
  | .hbm, ⟨9, _⟩ => ⟨S3x7168, .f32⟩
  | .hbm, ⟨10, _⟩ => ⟨S1024x7168, .fp8e5m2⟩
  | .hbm, ⟨11, _⟩ => ⟨S1024, .f32⟩
  | .hbm, ⟨12, _⟩ => ⟨S928x7168, .f32⟩
  | .hbm, ⟨13, _⟩ => ⟨S928x7168, .f32⟩
  | .hbm, ⟨14, _⟩ => ⟨S928x7168, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S1536x7168, .bf16⟩
  | .hbm, ⟨20, _⟩ => ⟨S1536x7168, .bf16⟩
  | .local _ .vmem, ⟨0, _⟩ => ⟨S1024x7168, .fp8e4m3⟩
  | .local _ .vmem, ⟨1, _⟩ => ⟨S1024x7168, .fp8e4m3⟩
  | .local _ .vmem, ⟨2, _⟩ => ⟨S1024x7168, .fp8e4m3⟩
  | .local _ .vmem, ⟨3, _⟩ => ⟨S1024x1, .f32⟩
  | .local _ .vmem, ⟨4, _⟩ => ⟨S1024x1, .f32⟩
  | .local _ .vmem, ⟨5, _⟩ => ⟨S1024x1, .f32⟩
  | .local _ .vmem, ⟨6, _⟩ => ⟨S3x7168x7168, .fp8e4m3⟩
  | .local _ .vmem, ⟨7, _⟩ => ⟨S3x7168, .f32⟩
  | .local _ .vmem, ⟨8, _⟩ => ⟨S3x7168, .f32⟩
  | .local _ .vmem, ⟨9, _⟩ => ⟨S1024x7168, .fp8e5m2⟩
  | .local _ .vmem, ⟨10, _⟩ => ⟨S1024x1, .f32⟩
  | .local _ .vmem, ⟨11, _⟩ => ⟨S928x7168, .f32⟩
  | .local _ .vmem, ⟨12, _⟩ => ⟨S928x7168, .f32⟩
  | .local _ .vmem, ⟨13, _⟩ => ⟨S928x7168, .f32⟩
  | .local _ .vmem, ⟨14, _⟩ => ⟨S1536x7168, .bf16⟩
  | .local _ .vmem, ⟨15, _⟩ => ⟨S1536x7168, .bf16⟩
  | .local _ .smem, ⟨0, _⟩ => ⟨S48, .i32⟩
  | _, _ => ⟨S48, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

def k0_off1 (v75 : BitVec 32) : Fin 2 → Nat :=
  let c32_i32 : BitVec 32 := 32#32
  let v76 : BitVec 32 := Scalar.muli v75 c32_i32
  let v77 : Index := Scalar.indexCast v76
  let c0_47 : Index := 0#32
  ![v77.toNat, 0]

def k0_chk1 (v75 : BitVec 32) : Prop :=
  (∀ a, (k0_off1 v75) a + S32x7168.size a ≤ S1536x7168.size a) ∧
  (∀ (hinb : ∀ a, (k0_off1 v75) a + S32x7168.size a ≤ S1536x7168.size a), (Rect.unit (s := S1536x7168) (k0_off1 v75) S32x7168.size hinb).PackedRows (EltTy.packing .bf16))
theorem k0_off1_inb : ∀ (v75 : BitVec 32) (k0_hw1 : k0_chk1 v75), ∀ a, (k0_off1 v75) a + S32x7168.size a ≤ S1536x7168.size a := fun v75 k0_hw1 => k0_hw1.1
theorem k0_off1_packedbf16 : ∀ (v75 : BitVec 32) (k0_hw1 : k0_chk1 v75), (Rect.unit (s := S1536x7168) (k0_off1 v75) S32x7168.size (k0_off1_inb v75 k0_hw1)).PackedRows (EltTy.packing .bf16) := fun v75 k0_hw1 => k0_hw1.2 (k0_off1_inb v75 k0_hw1)

def k0_off2 (v80 : BitVec 32) : Fin 2 → Nat :=
  let c32_i32_49 : BitVec 32 := 32#32
  let v81 : BitVec 32 := Scalar.muli v80 c32_i32_49
  let v82 : Index := Scalar.indexCast v81
  let c0_50 : Index := 0#32
  ![v82.toNat, 0]

def k0_chk2 (v80 : BitVec 32) : Prop :=
  (∀ a, (k0_off2 v80) a + S32x7168.size a ≤ S1536x7168.size a) ∧
  (∀ (hinb : ∀ a, (k0_off2 v80) a + S32x7168.size a ≤ S1536x7168.size a), (Rect.unit (s := S1536x7168) (k0_off2 v80) S32x7168.size hinb).PackedRows (EltTy.packing .bf16))
theorem k0_off2_inb : ∀ (v80 : BitVec 32) (k0_hw2 : k0_chk2 v80), ∀ a, (k0_off2 v80) a + S32x7168.size a ≤ S1536x7168.size a := fun v80 k0_hw2 => k0_hw2.1
theorem k0_off2_packedbf16 : ∀ (v80 : BitVec 32) (k0_hw2 : k0_chk2 v80), (Rect.unit (s := S1536x7168) (k0_off2 v80) S32x7168.size (k0_off2_inb v80 k0_hw2)).PackedRows (EltTy.packing .bf16) := fun v80 k0_hw2 => k0_hw2.2 (k0_off2_inb v80 k0_hw2)

def k0_off3 (v85 : BitVec 32) : Fin 2 → Nat :=
  let c32_i32_52 : BitVec 32 := 32#32
  let v86 : BitVec 32 := Scalar.muli v85 c32_i32_52
  let v87 : Index := Scalar.indexCast v86
  let c0_53 : Index := 0#32
  ![v87.toNat, 0]

def k0_chk3 (v85 : BitVec 32) : Prop :=
  (∀ a, (k0_off3 v85) a + S32x7168.size a ≤ S1536x7168.size a) ∧
  (∀ (hinb : ∀ a, (k0_off3 v85) a + S32x7168.size a ≤ S1536x7168.size a), (Rect.unit (s := S1536x7168) (k0_off3 v85) S32x7168.size hinb).PackedRows (EltTy.packing .bf16))
theorem k0_off3_inb : ∀ (v85 : BitVec 32) (k0_hw3 : k0_chk3 v85), ∀ a, (k0_off3 v85) a + S32x7168.size a ≤ S1536x7168.size a := fun v85 k0_hw3 => k0_hw3.1
theorem k0_off3_packedbf16 : ∀ (v85 : BitVec 32) (k0_hw3 : k0_chk3 v85), (Rect.unit (s := S1536x7168) (k0_off3 v85) S32x7168.size (k0_off3_inb v85 k0_hw3)).PackedRows (EltTy.packing .bf16) := fun v85 k0_hw3 => k0_hw3.2 (k0_off3_inb v85 k0_hw3)

def k0_off4 (v90 : BitVec 32) : Fin 2 → Nat :=
  let c32_i32_54 : BitVec 32 := 32#32
  let v91 : BitVec 32 := Scalar.muli v90 c32_i32_54
  let v92 : Index := Scalar.indexCast v91
  let c0_55 : Index := 0#32
  ![v92.toNat, 0]

def k0_chk4 (v90 : BitVec 32) : Prop :=
  (∀ a, (k0_off4 v90) a + S32x7168.size a ≤ S1536x7168.size a) ∧
  (∀ (hinb : ∀ a, (k0_off4 v90) a + S32x7168.size a ≤ S1536x7168.size a), (Rect.unit (s := S1536x7168) (k0_off4 v90) S32x7168.size hinb).PackedRows (EltTy.packing .bf16))
theorem k0_off4_inb : ∀ (v90 : BitVec 32) (k0_hw4 : k0_chk4 v90), ∀ a, (k0_off4 v90) a + S32x7168.size a ≤ S1536x7168.size a := fun v90 k0_hw4 => k0_hw4.1
theorem k0_off4_packedbf16 : ∀ (v90 : BitVec 32) (k0_hw4 : k0_chk4 v90), (Rect.unit (s := S1536x7168) (k0_off4 v90) S32x7168.size (k0_off4_inb v90 k0_hw4)).PackedRows (EltTy.packing .bf16) := fun v90 k0_hw4 => k0_hw4.2 (k0_off4_inb v90 k0_hw4)

def k0_off5 (v95 : BitVec 32) : Fin 2 → Nat :=
  let c32_i32_56 : BitVec 32 := 32#32
  let v96 : BitVec 32 := Scalar.muli v95 c32_i32_56
  let v97 : Index := Scalar.indexCast v96
  let c0_57 : Index := 0#32
  ![v97.toNat, 0]

def k0_chk5 (v95 : BitVec 32) : Prop :=
  (∀ a, (k0_off5 v95) a + S32x7168.size a ≤ S1536x7168.size a) ∧
  (∀ (hinb : ∀ a, (k0_off5 v95) a + S32x7168.size a ≤ S1536x7168.size a), (Rect.unit (s := S1536x7168) (k0_off5 v95) S32x7168.size hinb).PackedRows (EltTy.packing .bf16))
theorem k0_off5_inb : ∀ (v95 : BitVec 32) (k0_hw5 : k0_chk5 v95), ∀ a, (k0_off5 v95) a + S32x7168.size a ≤ S1536x7168.size a := fun v95 k0_hw5 => k0_hw5.1
theorem k0_off5_packedbf16 : ∀ (v95 : BitVec 32) (k0_hw5 : k0_chk5 v95), (Rect.unit (s := S1536x7168) (k0_off5 v95) S32x7168.size (k0_off5_inb v95 k0_hw5)).PackedRows (EltTy.packing .bf16) := fun v95 k0_hw5 => k0_hw5.2 (k0_off5_inb v95 k0_hw5)

def k0_off6 (v100 : BitVec 32) : Fin 2 → Nat :=
  let c32_i32_58 : BitVec 32 := 32#32
  let v101 : BitVec 32 := Scalar.muli v100 c32_i32_58
  let v102 : Index := Scalar.indexCast v101
  let c0_59 : Index := 0#32
  ![v102.toNat, 0]

def k0_chk6 (v100 : BitVec 32) : Prop :=
  (∀ a, (k0_off6 v100) a + S32x7168.size a ≤ S1536x7168.size a) ∧
  (∀ (hinb : ∀ a, (k0_off6 v100) a + S32x7168.size a ≤ S1536x7168.size a), (Rect.unit (s := S1536x7168) (k0_off6 v100) S32x7168.size hinb).PackedRows (EltTy.packing .bf16))
theorem k0_off6_inb : ∀ (v100 : BitVec 32) (k0_hw6 : k0_chk6 v100), ∀ a, (k0_off6 v100) a + S32x7168.size a ≤ S1536x7168.size a := fun v100 k0_hw6 => k0_hw6.1
theorem k0_off6_packedbf16 : ∀ (v100 : BitVec 32) (k0_hw6 : k0_chk6 v100), (Rect.unit (s := S1536x7168) (k0_off6 v100) S32x7168.size (k0_off6_inb v100 k0_hw6)).PackedRows (EltTy.packing .bf16) := fun v100 k0_hw6 => k0_hw6.2 (k0_off6_inb v100 k0_hw6)

def k0_off7 (v105 : BitVec 32) : Fin 2 → Nat :=
  let c32_i32_60 : BitVec 32 := 32#32
  let v106 : BitVec 32 := Scalar.muli v105 c32_i32_60
  let v107 : Index := Scalar.indexCast v106
  let c0_61 : Index := 0#32
  ![v107.toNat, 0]

def k0_chk7 (v105 : BitVec 32) : Prop :=
  (∀ a, (k0_off7 v105) a + S32x7168.size a ≤ S1536x7168.size a) ∧
  (∀ (hinb : ∀ a, (k0_off7 v105) a + S32x7168.size a ≤ S1536x7168.size a), (Rect.unit (s := S1536x7168) (k0_off7 v105) S32x7168.size hinb).PackedRows (EltTy.packing .bf16))
theorem k0_off7_inb : ∀ (v105 : BitVec 32) (k0_hw7 : k0_chk7 v105), ∀ a, (k0_off7 v105) a + S32x7168.size a ≤ S1536x7168.size a := fun v105 k0_hw7 => k0_hw7.1
theorem k0_off7_packedbf16 : ∀ (v105 : BitVec 32) (k0_hw7 : k0_chk7 v105), (Rect.unit (s := S1536x7168) (k0_off7 v105) S32x7168.size (k0_off7_inb v105 k0_hw7)).PackedRows (EltTy.packing .bf16) := fun v105 k0_hw7 => k0_hw7.2 (k0_off7_inb v105 k0_hw7)

def k0_off8 (v110 : BitVec 32) : Fin 2 → Nat :=
  let c32_i32_62 : BitVec 32 := 32#32
  let v111 : BitVec 32 := Scalar.muli v110 c32_i32_62
  let v112 : Index := Scalar.indexCast v111
  let c0_63 : Index := 0#32
  ![v112.toNat, 0]

def k0_chk8 (v110 : BitVec 32) : Prop :=
  (∀ a, (k0_off8 v110) a + S32x7168.size a ≤ S1536x7168.size a) ∧
  (∀ (hinb : ∀ a, (k0_off8 v110) a + S32x7168.size a ≤ S1536x7168.size a), (Rect.unit (s := S1536x7168) (k0_off8 v110) S32x7168.size hinb).PackedRows (EltTy.packing .bf16))
theorem k0_off8_inb : ∀ (v110 : BitVec 32) (k0_hw8 : k0_chk8 v110), ∀ a, (k0_off8 v110) a + S32x7168.size a ≤ S1536x7168.size a := fun v110 k0_hw8 => k0_hw8.1
theorem k0_off8_packedbf16 : ∀ (v110 : BitVec 32) (k0_hw8 : k0_chk8 v110), (Rect.unit (s := S1536x7168) (k0_off8 v110) S32x7168.size (k0_off8_inb v110 k0_hw8)).PackedRows (EltTy.packing .bf16) := fun v110 k0_hw8 => k0_hw8.2 (k0_off8_inb v110 k0_hw8)

def k0_off9 (v115 : BitVec 32) : Fin 2 → Nat :=
  let c32_i32_64 : BitVec 32 := 32#32
  let v116 : BitVec 32 := Scalar.muli v115 c32_i32_64
  let v117 : Index := Scalar.indexCast v116
  let c0_65 : Index := 0#32
  ![v117.toNat, 0]

def k0_chk9 (v115 : BitVec 32) : Prop :=
  (∀ a, (k0_off9 v115) a + S32x7168.size a ≤ S1536x7168.size a) ∧
  (∀ (hinb : ∀ a, (k0_off9 v115) a + S32x7168.size a ≤ S1536x7168.size a), (Rect.unit (s := S1536x7168) (k0_off9 v115) S32x7168.size hinb).PackedRows (EltTy.packing .bf16))
theorem k0_off9_inb : ∀ (v115 : BitVec 32) (k0_hw9 : k0_chk9 v115), ∀ a, (k0_off9 v115) a + S32x7168.size a ≤ S1536x7168.size a := fun v115 k0_hw9 => k0_hw9.1
theorem k0_off9_packedbf16 : ∀ (v115 : BitVec 32) (k0_hw9 : k0_chk9 v115), (Rect.unit (s := S1536x7168) (k0_off9 v115) S32x7168.size (k0_off9_inb v115 k0_hw9)).PackedRows (EltTy.packing .bf16) := fun v115 k0_hw9 => k0_hw9.2 (k0_off9_inb v115 k0_hw9)

def k0_off10 (v120 : BitVec 32) : Fin 2 → Nat :=
  let c32_i32_66 : BitVec 32 := 32#32
  let v121 : BitVec 32 := Scalar.muli v120 c32_i32_66
  let v122 : Index := Scalar.indexCast v121
  let c0_67 : Index := 0#32
  ![v122.toNat, 0]

def k0_chk10 (v120 : BitVec 32) : Prop :=
  (∀ a, (k0_off10 v120) a + S32x7168.size a ≤ S1536x7168.size a) ∧
  (∀ (hinb : ∀ a, (k0_off10 v120) a + S32x7168.size a ≤ S1536x7168.size a), (Rect.unit (s := S1536x7168) (k0_off10 v120) S32x7168.size hinb).PackedRows (EltTy.packing .bf16))
theorem k0_off10_inb : ∀ (v120 : BitVec 32) (k0_hw10 : k0_chk10 v120), ∀ a, (k0_off10 v120) a + S32x7168.size a ≤ S1536x7168.size a := fun v120 k0_hw10 => k0_hw10.1
theorem k0_off10_packedbf16 : ∀ (v120 : BitVec 32) (k0_hw10 : k0_chk10 v120), (Rect.unit (s := S1536x7168) (k0_off10 v120) S32x7168.size (k0_off10_inb v120 k0_hw10)).PackedRows (EltTy.packing .bf16) := fun v120 k0_hw10 => k0_hw10.2 (k0_off10_inb v120 k0_hw10)

def k0_off11 (v125 : BitVec 32) : Fin 2 → Nat :=
  let c32_i32_68 : BitVec 32 := 32#32
  let v126 : BitVec 32 := Scalar.muli v125 c32_i32_68
  let v127 : Index := Scalar.indexCast v126
  let c0_69 : Index := 0#32
  ![v127.toNat, 0]

def k0_chk11 (v125 : BitVec 32) : Prop :=
  (∀ a, (k0_off11 v125) a + S32x7168.size a ≤ S1536x7168.size a) ∧
  (∀ (hinb : ∀ a, (k0_off11 v125) a + S32x7168.size a ≤ S1536x7168.size a), (Rect.unit (s := S1536x7168) (k0_off11 v125) S32x7168.size hinb).PackedRows (EltTy.packing .bf16))
theorem k0_off11_inb : ∀ (v125 : BitVec 32) (k0_hw11 : k0_chk11 v125), ∀ a, (k0_off11 v125) a + S32x7168.size a ≤ S1536x7168.size a := fun v125 k0_hw11 => k0_hw11.1
theorem k0_off11_packedbf16 : ∀ (v125 : BitVec 32) (k0_hw11 : k0_chk11 v125), (Rect.unit (s := S1536x7168) (k0_off11 v125) S32x7168.size (k0_off11_inb v125 k0_hw11)).PackedRows (EltTy.packing .bf16) := fun v125 k0_hw11 => k0_hw11.2 (k0_off11_inb v125 k0_hw11)

def k0_off12 (v130 : BitVec 32) : Fin 2 → Nat :=
  let c32_i32_70 : BitVec 32 := 32#32
  let v131 : BitVec 32 := Scalar.muli v130 c32_i32_70
  let v132 : Index := Scalar.indexCast v131
  let c0_71 : Index := 0#32
  ![v132.toNat, 0]

def k0_chk12 (v130 : BitVec 32) : Prop :=
  (∀ a, (k0_off12 v130) a + S32x7168.size a ≤ S1536x7168.size a) ∧
  (∀ (hinb : ∀ a, (k0_off12 v130) a + S32x7168.size a ≤ S1536x7168.size a), (Rect.unit (s := S1536x7168) (k0_off12 v130) S32x7168.size hinb).PackedRows (EltTy.packing .bf16))
theorem k0_off12_inb : ∀ (v130 : BitVec 32) (k0_hw12 : k0_chk12 v130), ∀ a, (k0_off12 v130) a + S32x7168.size a ≤ S1536x7168.size a := fun v130 k0_hw12 => k0_hw12.1
theorem k0_off12_packedbf16 : ∀ (v130 : BitVec 32) (k0_hw12 : k0_chk12 v130), (Rect.unit (s := S1536x7168) (k0_off12 v130) S32x7168.size (k0_off12_inb v130 k0_hw12)).PackedRows (EltTy.packing .bf16) := fun v130 k0_hw12 => k0_hw12.2 (k0_off12_inb v130 k0_hw12)

def k0_off13 (v135 : BitVec 32) : Fin 2 → Nat :=
  let c32_i32_72 : BitVec 32 := 32#32
  let v136 : BitVec 32 := Scalar.muli v135 c32_i32_72
  let v137 : Index := Scalar.indexCast v136
  let c0_73 : Index := 0#32
  ![v137.toNat, 0]

def k0_chk13 (v135 : BitVec 32) : Prop :=
  (∀ a, (k0_off13 v135) a + S32x7168.size a ≤ S1536x7168.size a) ∧
  (∀ (hinb : ∀ a, (k0_off13 v135) a + S32x7168.size a ≤ S1536x7168.size a), (Rect.unit (s := S1536x7168) (k0_off13 v135) S32x7168.size hinb).PackedRows (EltTy.packing .bf16))
theorem k0_off13_inb : ∀ (v135 : BitVec 32) (k0_hw13 : k0_chk13 v135), ∀ a, (k0_off13 v135) a + S32x7168.size a ≤ S1536x7168.size a := fun v135 k0_hw13 => k0_hw13.1
theorem k0_off13_packedbf16 : ∀ (v135 : BitVec 32) (k0_hw13 : k0_chk13 v135), (Rect.unit (s := S1536x7168) (k0_off13 v135) S32x7168.size (k0_off13_inb v135 k0_hw13)).PackedRows (EltTy.packing .bf16) := fun v135 k0_hw13 => k0_hw13.2 (k0_off13_inb v135 k0_hw13)

def k0_off14 (v140 : BitVec 32) : Fin 2 → Nat :=
  let c32_i32_74 : BitVec 32 := 32#32
  let v141 : BitVec 32 := Scalar.muli v140 c32_i32_74
  let v142 : Index := Scalar.indexCast v141
  let c0_75 : Index := 0#32
  ![v142.toNat, 0]

def k0_chk14 (v140 : BitVec 32) : Prop :=
  (∀ a, (k0_off14 v140) a + S32x7168.size a ≤ S1536x7168.size a) ∧
  (∀ (hinb : ∀ a, (k0_off14 v140) a + S32x7168.size a ≤ S1536x7168.size a), (Rect.unit (s := S1536x7168) (k0_off14 v140) S32x7168.size hinb).PackedRows (EltTy.packing .bf16))
theorem k0_off14_inb : ∀ (v140 : BitVec 32) (k0_hw14 : k0_chk14 v140), ∀ a, (k0_off14 v140) a + S32x7168.size a ≤ S1536x7168.size a := fun v140 k0_hw14 => k0_hw14.1
theorem k0_off14_packedbf16 : ∀ (v140 : BitVec 32) (k0_hw14 : k0_chk14 v140), (Rect.unit (s := S1536x7168) (k0_off14 v140) S32x7168.size (k0_off14_inb v140 k0_hw14)).PackedRows (EltTy.packing .bf16) := fun v140 k0_hw14 => k0_hw14.2 (k0_off14_inb v140 k0_hw14)

def k0_off15 (v145 : BitVec 32) : Fin 2 → Nat :=
  let c32_i32_76 : BitVec 32 := 32#32
  let v146 : BitVec 32 := Scalar.muli v145 c32_i32_76
  let v147 : Index := Scalar.indexCast v146
  let c0_77 : Index := 0#32
  ![v147.toNat, 0]

def k0_chk15 (v145 : BitVec 32) : Prop :=
  (∀ a, (k0_off15 v145) a + S32x7168.size a ≤ S1536x7168.size a) ∧
  (∀ (hinb : ∀ a, (k0_off15 v145) a + S32x7168.size a ≤ S1536x7168.size a), (Rect.unit (s := S1536x7168) (k0_off15 v145) S32x7168.size hinb).PackedRows (EltTy.packing .bf16))
theorem k0_off15_inb : ∀ (v145 : BitVec 32) (k0_hw15 : k0_chk15 v145), ∀ a, (k0_off15 v145) a + S32x7168.size a ≤ S1536x7168.size a := fun v145 k0_hw15 => k0_hw15.1
theorem k0_off15_packedbf16 : ∀ (v145 : BitVec 32) (k0_hw15 : k0_chk15 v145), (Rect.unit (s := S1536x7168) (k0_off15 v145) S32x7168.size (k0_off15_inb v145 k0_hw15)).PackedRows (EltTy.packing .bf16) := fun v145 k0_hw15 => k0_hw15.2 (k0_off15_inb v145 k0_hw15)

def k0_off16 (v150 : BitVec 32) : Fin 2 → Nat :=
  let c32_i32_78 : BitVec 32 := 32#32
  let v151 : BitVec 32 := Scalar.muli v150 c32_i32_78
  let v152 : Index := Scalar.indexCast v151
  let c0_79 : Index := 0#32
  ![v152.toNat, 0]

def k0_chk16 (v150 : BitVec 32) : Prop :=
  (∀ a, (k0_off16 v150) a + S32x7168.size a ≤ S1536x7168.size a) ∧
  (∀ (hinb : ∀ a, (k0_off16 v150) a + S32x7168.size a ≤ S1536x7168.size a), (Rect.unit (s := S1536x7168) (k0_off16 v150) S32x7168.size hinb).PackedRows (EltTy.packing .bf16))
theorem k0_off16_inb : ∀ (v150 : BitVec 32) (k0_hw16 : k0_chk16 v150), ∀ a, (k0_off16 v150) a + S32x7168.size a ≤ S1536x7168.size a := fun v150 k0_hw16 => k0_hw16.1
theorem k0_off16_packedbf16 : ∀ (v150 : BitVec 32) (k0_hw16 : k0_chk16 v150), (Rect.unit (s := S1536x7168) (k0_off16 v150) S32x7168.size (k0_off16_inb v150 k0_hw16)).PackedRows (EltTy.packing .bf16) := fun v150 k0_hw16 => k0_hw16.2 (k0_off16_inb v150 k0_hw16)

def k0_off17 (v155 : BitVec 32) : Fin 2 → Nat :=
  let c32_i32_80 : BitVec 32 := 32#32
  let v156 : BitVec 32 := Scalar.muli v155 c32_i32_80
  let v157 : Index := Scalar.indexCast v156
  let c0_81 : Index := 0#32
  ![v157.toNat, 0]

def k0_chk17 (v155 : BitVec 32) : Prop :=
  (∀ a, (k0_off17 v155) a + S32x7168.size a ≤ S1536x7168.size a) ∧
  (∀ (hinb : ∀ a, (k0_off17 v155) a + S32x7168.size a ≤ S1536x7168.size a), (Rect.unit (s := S1536x7168) (k0_off17 v155) S32x7168.size hinb).PackedRows (EltTy.packing .bf16))
theorem k0_off17_inb : ∀ (v155 : BitVec 32) (k0_hw17 : k0_chk17 v155), ∀ a, (k0_off17 v155) a + S32x7168.size a ≤ S1536x7168.size a := fun v155 k0_hw17 => k0_hw17.1
theorem k0_off17_packedbf16 : ∀ (v155 : BitVec 32) (k0_hw17 : k0_chk17 v155), (Rect.unit (s := S1536x7168) (k0_off17 v155) S32x7168.size (k0_off17_inb v155 k0_hw17)).PackedRows (EltTy.packing .bf16) := fun v155 k0_hw17 => k0_hw17.2 (k0_off17_inb v155 k0_hw17)

def k0_off18 (v160 : BitVec 32) : Fin 2 → Nat :=
  let c32_i32_82 : BitVec 32 := 32#32
  let v161 : BitVec 32 := Scalar.muli v160 c32_i32_82
  let v162 : Index := Scalar.indexCast v161
  let c0_83 : Index := 0#32
  ![v162.toNat, 0]

def k0_chk18 (v160 : BitVec 32) : Prop :=
  (∀ a, (k0_off18 v160) a + S32x7168.size a ≤ S1536x7168.size a) ∧
  (∀ (hinb : ∀ a, (k0_off18 v160) a + S32x7168.size a ≤ S1536x7168.size a), (Rect.unit (s := S1536x7168) (k0_off18 v160) S32x7168.size hinb).PackedRows (EltTy.packing .bf16))
theorem k0_off18_inb : ∀ (v160 : BitVec 32) (k0_hw18 : k0_chk18 v160), ∀ a, (k0_off18 v160) a + S32x7168.size a ≤ S1536x7168.size a := fun v160 k0_hw18 => k0_hw18.1
theorem k0_off18_packedbf16 : ∀ (v160 : BitVec 32) (k0_hw18 : k0_chk18 v160), (Rect.unit (s := S1536x7168) (k0_off18 v160) S32x7168.size (k0_off18_inb v160 k0_hw18)).PackedRows (EltTy.packing .bf16) := fun v160 k0_hw18 => k0_hw18.2 (k0_off18_inb v160 k0_hw18)

def k0_off19 (v165 : BitVec 32) : Fin 2 → Nat :=
  let c32_i32_84 : BitVec 32 := 32#32
  let v166 : BitVec 32 := Scalar.muli v165 c32_i32_84
  let v167 : Index := Scalar.indexCast v166
  let c0_85 : Index := 0#32
  ![v167.toNat, 0]

def k0_chk19 (v165 : BitVec 32) : Prop :=
  (∀ a, (k0_off19 v165) a + S32x7168.size a ≤ S1536x7168.size a) ∧
  (∀ (hinb : ∀ a, (k0_off19 v165) a + S32x7168.size a ≤ S1536x7168.size a), (Rect.unit (s := S1536x7168) (k0_off19 v165) S32x7168.size hinb).PackedRows (EltTy.packing .bf16))
theorem k0_off19_inb : ∀ (v165 : BitVec 32) (k0_hw19 : k0_chk19 v165), ∀ a, (k0_off19 v165) a + S32x7168.size a ≤ S1536x7168.size a := fun v165 k0_hw19 => k0_hw19.1
theorem k0_off19_packedbf16 : ∀ (v165 : BitVec 32) (k0_hw19 : k0_chk19 v165), (Rect.unit (s := S1536x7168) (k0_off19 v165) S32x7168.size (k0_off19_inb v165 k0_hw19)).PackedRows (EltTy.packing .bf16) := fun v165 k0_hw19 => k0_hw19.2 (k0_off19_inb v165 k0_hw19)

def k0_off20 (v170 : BitVec 32) : Fin 2 → Nat :=
  let c32_i32_86 : BitVec 32 := 32#32
  let v171 : BitVec 32 := Scalar.muli v170 c32_i32_86
  let v172 : Index := Scalar.indexCast v171
  let c0_87 : Index := 0#32
  ![v172.toNat, 0]

def k0_chk20 (v170 : BitVec 32) : Prop :=
  (∀ a, (k0_off20 v170) a + S32x7168.size a ≤ S1536x7168.size a) ∧
  (∀ (hinb : ∀ a, (k0_off20 v170) a + S32x7168.size a ≤ S1536x7168.size a), (Rect.unit (s := S1536x7168) (k0_off20 v170) S32x7168.size hinb).PackedRows (EltTy.packing .bf16))
theorem k0_off20_inb : ∀ (v170 : BitVec 32) (k0_hw20 : k0_chk20 v170), ∀ a, (k0_off20 v170) a + S32x7168.size a ≤ S1536x7168.size a := fun v170 k0_hw20 => k0_hw20.1
theorem k0_off20_packedbf16 : ∀ (v170 : BitVec 32) (k0_hw20 : k0_chk20 v170), (Rect.unit (s := S1536x7168) (k0_off20 v170) S32x7168.size (k0_off20_inb v170 k0_hw20)).PackedRows (EltTy.packing .bf16) := fun v170 k0_hw20 => k0_hw20.2 (k0_off20_inb v170 k0_hw20)

def k0_off21 (v175 : BitVec 32) : Fin 2 → Nat :=
  let c32_i32_88 : BitVec 32 := 32#32
  let v176 : BitVec 32 := Scalar.muli v175 c32_i32_88
  let v177 : Index := Scalar.indexCast v176
  let c0_89 : Index := 0#32
  ![v177.toNat, 0]

def k0_chk21 (v175 : BitVec 32) : Prop :=
  (∀ a, (k0_off21 v175) a + S32x7168.size a ≤ S1536x7168.size a) ∧
  (∀ (hinb : ∀ a, (k0_off21 v175) a + S32x7168.size a ≤ S1536x7168.size a), (Rect.unit (s := S1536x7168) (k0_off21 v175) S32x7168.size hinb).PackedRows (EltTy.packing .bf16))
theorem k0_off21_inb : ∀ (v175 : BitVec 32) (k0_hw21 : k0_chk21 v175), ∀ a, (k0_off21 v175) a + S32x7168.size a ≤ S1536x7168.size a := fun v175 k0_hw21 => k0_hw21.1
theorem k0_off21_packedbf16 : ∀ (v175 : BitVec 32) (k0_hw21 : k0_chk21 v175), (Rect.unit (s := S1536x7168) (k0_off21 v175) S32x7168.size (k0_off21_inb v175 k0_hw21)).PackedRows (EltTy.packing .bf16) := fun v175 k0_hw21 => k0_hw21.2 (k0_off21_inb v175 k0_hw21)

def k0_off22 (v180 : BitVec 32) : Fin 2 → Nat :=
  let c32_i32_90 : BitVec 32 := 32#32
  let v181 : BitVec 32 := Scalar.muli v180 c32_i32_90
  let v182 : Index := Scalar.indexCast v181
  let c0_91 : Index := 0#32
  ![v182.toNat, 0]

def k0_chk22 (v180 : BitVec 32) : Prop :=
  (∀ a, (k0_off22 v180) a + S32x7168.size a ≤ S1536x7168.size a) ∧
  (∀ (hinb : ∀ a, (k0_off22 v180) a + S32x7168.size a ≤ S1536x7168.size a), (Rect.unit (s := S1536x7168) (k0_off22 v180) S32x7168.size hinb).PackedRows (EltTy.packing .bf16))
theorem k0_off22_inb : ∀ (v180 : BitVec 32) (k0_hw22 : k0_chk22 v180), ∀ a, (k0_off22 v180) a + S32x7168.size a ≤ S1536x7168.size a := fun v180 k0_hw22 => k0_hw22.1
theorem k0_off22_packedbf16 : ∀ (v180 : BitVec 32) (k0_hw22 : k0_chk22 v180), (Rect.unit (s := S1536x7168) (k0_off22 v180) S32x7168.size (k0_off22_inb v180 k0_hw22)).PackedRows (EltTy.packing .bf16) := fun v180 k0_hw22 => k0_hw22.2 (k0_off22_inb v180 k0_hw22)

def k0_off23 (v185 : BitVec 32) : Fin 2 → Nat :=
  let c32_i32_92 : BitVec 32 := 32#32
  let v186 : BitVec 32 := Scalar.muli v185 c32_i32_92
  let v187 : Index := Scalar.indexCast v186
  let c0_93 : Index := 0#32
  ![v187.toNat, 0]

def k0_chk23 (v185 : BitVec 32) : Prop :=
  (∀ a, (k0_off23 v185) a + S32x7168.size a ≤ S1536x7168.size a) ∧
  (∀ (hinb : ∀ a, (k0_off23 v185) a + S32x7168.size a ≤ S1536x7168.size a), (Rect.unit (s := S1536x7168) (k0_off23 v185) S32x7168.size hinb).PackedRows (EltTy.packing .bf16))
theorem k0_off23_inb : ∀ (v185 : BitVec 32) (k0_hw23 : k0_chk23 v185), ∀ a, (k0_off23 v185) a + S32x7168.size a ≤ S1536x7168.size a := fun v185 k0_hw23 => k0_hw23.1
theorem k0_off23_packedbf16 : ∀ (v185 : BitVec 32) (k0_hw23 : k0_chk23 v185), (Rect.unit (s := S1536x7168) (k0_off23 v185) S32x7168.size (k0_off23_inb v185 k0_hw23)).PackedRows (EltTy.packing .bf16) := fun v185 k0_hw23 => k0_hw23.2 (k0_off23_inb v185 k0_hw23)

def k0_off24 (v190 : BitVec 32) : Fin 2 → Nat :=
  let c32_i32_94 : BitVec 32 := 32#32
  let v191 : BitVec 32 := Scalar.muli v190 c32_i32_94
  let v192 : Index := Scalar.indexCast v191
  let c0_95 : Index := 0#32
  ![v192.toNat, 0]

def k0_chk24 (v190 : BitVec 32) : Prop :=
  (∀ a, (k0_off24 v190) a + S32x7168.size a ≤ S1536x7168.size a) ∧
  (∀ (hinb : ∀ a, (k0_off24 v190) a + S32x7168.size a ≤ S1536x7168.size a), (Rect.unit (s := S1536x7168) (k0_off24 v190) S32x7168.size hinb).PackedRows (EltTy.packing .bf16))
theorem k0_off24_inb : ∀ (v190 : BitVec 32) (k0_hw24 : k0_chk24 v190), ∀ a, (k0_off24 v190) a + S32x7168.size a ≤ S1536x7168.size a := fun v190 k0_hw24 => k0_hw24.1
theorem k0_off24_packedbf16 : ∀ (v190 : BitVec 32) (k0_hw24 : k0_chk24 v190), (Rect.unit (s := S1536x7168) (k0_off24 v190) S32x7168.size (k0_off24_inb v190 k0_hw24)).PackedRows (EltTy.packing .bf16) := fun v190 k0_hw24 => k0_hw24.2 (k0_off24_inb v190 k0_hw24)

def k0_off25 (v195 : BitVec 32) : Fin 2 → Nat :=
  let c32_i32_96 : BitVec 32 := 32#32
  let v196 : BitVec 32 := Scalar.muli v195 c32_i32_96
  let v197 : Index := Scalar.indexCast v196
  let c0_97 : Index := 0#32
  ![v197.toNat, 0]

def k0_chk25 (v195 : BitVec 32) : Prop :=
  (∀ a, (k0_off25 v195) a + S32x7168.size a ≤ S1536x7168.size a) ∧
  (∀ (hinb : ∀ a, (k0_off25 v195) a + S32x7168.size a ≤ S1536x7168.size a), (Rect.unit (s := S1536x7168) (k0_off25 v195) S32x7168.size hinb).PackedRows (EltTy.packing .bf16))
theorem k0_off25_inb : ∀ (v195 : BitVec 32) (k0_hw25 : k0_chk25 v195), ∀ a, (k0_off25 v195) a + S32x7168.size a ≤ S1536x7168.size a := fun v195 k0_hw25 => k0_hw25.1
theorem k0_off25_packedbf16 : ∀ (v195 : BitVec 32) (k0_hw25 : k0_chk25 v195), (Rect.unit (s := S1536x7168) (k0_off25 v195) S32x7168.size (k0_off25_inb v195 k0_hw25)).PackedRows (EltTy.packing .bf16) := fun v195 k0_hw25 => k0_hw25.2 (k0_off25_inb v195 k0_hw25)

def k0_off26 (v200 : BitVec 32) : Fin 2 → Nat :=
  let c32_i32_98 : BitVec 32 := 32#32
  let v201 : BitVec 32 := Scalar.muli v200 c32_i32_98
  let v202 : Index := Scalar.indexCast v201
  let c0_99 : Index := 0#32
  ![v202.toNat, 0]

def k0_chk26 (v200 : BitVec 32) : Prop :=
  (∀ a, (k0_off26 v200) a + S32x7168.size a ≤ S1536x7168.size a) ∧
  (∀ (hinb : ∀ a, (k0_off26 v200) a + S32x7168.size a ≤ S1536x7168.size a), (Rect.unit (s := S1536x7168) (k0_off26 v200) S32x7168.size hinb).PackedRows (EltTy.packing .bf16))
theorem k0_off26_inb : ∀ (v200 : BitVec 32) (k0_hw26 : k0_chk26 v200), ∀ a, (k0_off26 v200) a + S32x7168.size a ≤ S1536x7168.size a := fun v200 k0_hw26 => k0_hw26.1
theorem k0_off26_packedbf16 : ∀ (v200 : BitVec 32) (k0_hw26 : k0_chk26 v200), (Rect.unit (s := S1536x7168) (k0_off26 v200) S32x7168.size (k0_off26_inb v200 k0_hw26)).PackedRows (EltTy.packing .bf16) := fun v200 k0_hw26 => k0_hw26.2 (k0_off26_inb v200 k0_hw26)

def k0_off27 (v205 : BitVec 32) : Fin 2 → Nat :=
  let c32_i32_100 : BitVec 32 := 32#32
  let v206 : BitVec 32 := Scalar.muli v205 c32_i32_100
  let v207 : Index := Scalar.indexCast v206
  let c0_101 : Index := 0#32
  ![v207.toNat, 0]

def k0_chk27 (v205 : BitVec 32) : Prop :=
  (∀ a, (k0_off27 v205) a + S32x7168.size a ≤ S1536x7168.size a) ∧
  (∀ (hinb : ∀ a, (k0_off27 v205) a + S32x7168.size a ≤ S1536x7168.size a), (Rect.unit (s := S1536x7168) (k0_off27 v205) S32x7168.size hinb).PackedRows (EltTy.packing .bf16))
theorem k0_off27_inb : ∀ (v205 : BitVec 32) (k0_hw27 : k0_chk27 v205), ∀ a, (k0_off27 v205) a + S32x7168.size a ≤ S1536x7168.size a := fun v205 k0_hw27 => k0_hw27.1
theorem k0_off27_packedbf16 : ∀ (v205 : BitVec 32) (k0_hw27 : k0_chk27 v205), (Rect.unit (s := S1536x7168) (k0_off27 v205) S32x7168.size (k0_off27_inb v205 k0_hw27)).PackedRows (EltTy.packing .bf16) := fun v205 k0_hw27 => k0_hw27.2 (k0_off27_inb v205 k0_hw27)

def k0_off28 (v210 : BitVec 32) : Fin 2 → Nat :=
  let c32_i32_102 : BitVec 32 := 32#32
  let v211 : BitVec 32 := Scalar.muli v210 c32_i32_102
  let v212 : Index := Scalar.indexCast v211
  let c0_103 : Index := 0#32
  ![v212.toNat, 0]

def k0_chk28 (v210 : BitVec 32) : Prop :=
  (∀ a, (k0_off28 v210) a + S32x7168.size a ≤ S1536x7168.size a) ∧
  (∀ (hinb : ∀ a, (k0_off28 v210) a + S32x7168.size a ≤ S1536x7168.size a), (Rect.unit (s := S1536x7168) (k0_off28 v210) S32x7168.size hinb).PackedRows (EltTy.packing .bf16))
theorem k0_off28_inb : ∀ (v210 : BitVec 32) (k0_hw28 : k0_chk28 v210), ∀ a, (k0_off28 v210) a + S32x7168.size a ≤ S1536x7168.size a := fun v210 k0_hw28 => k0_hw28.1
theorem k0_off28_packedbf16 : ∀ (v210 : BitVec 32) (k0_hw28 : k0_chk28 v210), (Rect.unit (s := S1536x7168) (k0_off28 v210) S32x7168.size (k0_off28_inb v210 k0_hw28)).PackedRows (EltTy.packing .bf16) := fun v210 k0_hw28 => k0_hw28.2 (k0_off28_inb v210 k0_hw28)

def k0_off29 (v215 : BitVec 32) : Fin 2 → Nat :=
  let c32_i32_104 : BitVec 32 := 32#32
  let v216 : BitVec 32 := Scalar.muli v215 c32_i32_104
  let v217 : Index := Scalar.indexCast v216
  let c0_105 : Index := 0#32
  ![v217.toNat, 0]

def k0_chk29 (v215 : BitVec 32) : Prop :=
  (∀ a, (k0_off29 v215) a + S32x7168.size a ≤ S1536x7168.size a) ∧
  (∀ (hinb : ∀ a, (k0_off29 v215) a + S32x7168.size a ≤ S1536x7168.size a), (Rect.unit (s := S1536x7168) (k0_off29 v215) S32x7168.size hinb).PackedRows (EltTy.packing .bf16))
theorem k0_off29_inb : ∀ (v215 : BitVec 32) (k0_hw29 : k0_chk29 v215), ∀ a, (k0_off29 v215) a + S32x7168.size a ≤ S1536x7168.size a := fun v215 k0_hw29 => k0_hw29.1
theorem k0_off29_packedbf16 : ∀ (v215 : BitVec 32) (k0_hw29 : k0_chk29 v215), (Rect.unit (s := S1536x7168) (k0_off29 v215) S32x7168.size (k0_off29_inb v215 k0_hw29)).PackedRows (EltTy.packing .bf16) := fun v215 k0_hw29 => k0_hw29.2 (k0_off29_inb v215 k0_hw29)

def k0_off30 (v220 : BitVec 32) : Fin 2 → Nat :=
  let c32_i32_106 : BitVec 32 := 32#32
  let v221 : BitVec 32 := Scalar.muli v220 c32_i32_106
  let v222 : Index := Scalar.indexCast v221
  let c0_107 : Index := 0#32
  ![v222.toNat, 0]

def k0_chk30 (v220 : BitVec 32) : Prop :=
  (∀ a, (k0_off30 v220) a + S32x7168.size a ≤ S1536x7168.size a) ∧
  (∀ (hinb : ∀ a, (k0_off30 v220) a + S32x7168.size a ≤ S1536x7168.size a), (Rect.unit (s := S1536x7168) (k0_off30 v220) S32x7168.size hinb).PackedRows (EltTy.packing .bf16))
theorem k0_off30_inb : ∀ (v220 : BitVec 32) (k0_hw30 : k0_chk30 v220), ∀ a, (k0_off30 v220) a + S32x7168.size a ≤ S1536x7168.size a := fun v220 k0_hw30 => k0_hw30.1
theorem k0_off30_packedbf16 : ∀ (v220 : BitVec 32) (k0_hw30 : k0_chk30 v220), (Rect.unit (s := S1536x7168) (k0_off30 v220) S32x7168.size (k0_off30_inb v220 k0_hw30)).PackedRows (EltTy.packing .bf16) := fun v220 k0_hw30 => k0_hw30.2 (k0_off30_inb v220 k0_hw30)

def k0_off31 (v225 : BitVec 32) : Fin 2 → Nat :=
  let c32_i32_108 : BitVec 32 := 32#32
  let v226 : BitVec 32 := Scalar.muli v225 c32_i32_108
  let v227 : Index := Scalar.indexCast v226
  let c0_109 : Index := 0#32
  ![v227.toNat, 0]

def k0_chk31 (v225 : BitVec 32) : Prop :=
  (∀ a, (k0_off31 v225) a + S32x7168.size a ≤ S1536x7168.size a) ∧
  (∀ (hinb : ∀ a, (k0_off31 v225) a + S32x7168.size a ≤ S1536x7168.size a), (Rect.unit (s := S1536x7168) (k0_off31 v225) S32x7168.size hinb).PackedRows (EltTy.packing .bf16))
theorem k0_off31_inb : ∀ (v225 : BitVec 32) (k0_hw31 : k0_chk31 v225), ∀ a, (k0_off31 v225) a + S32x7168.size a ≤ S1536x7168.size a := fun v225 k0_hw31 => k0_hw31.1
theorem k0_off31_packedbf16 : ∀ (v225 : BitVec 32) (k0_hw31 : k0_chk31 v225), (Rect.unit (s := S1536x7168) (k0_off31 v225) S32x7168.size (k0_off31_inb v225 k0_hw31)).PackedRows (EltTy.packing .bf16) := fun v225 k0_hw31 => k0_hw31.2 (k0_off31_inb v225 k0_hw31)

def k0_off32 (v230 : BitVec 32) : Fin 2 → Nat :=
  let c32_i32_110 : BitVec 32 := 32#32
  let v231 : BitVec 32 := Scalar.muli v230 c32_i32_110
  let v232 : Index := Scalar.indexCast v231
  let c0_111 : Index := 0#32
  ![v232.toNat, 0]

def k0_chk32 (v230 : BitVec 32) : Prop :=
  (∀ a, (k0_off32 v230) a + S32x7168.size a ≤ S1536x7168.size a) ∧
  (∀ (hinb : ∀ a, (k0_off32 v230) a + S32x7168.size a ≤ S1536x7168.size a), (Rect.unit (s := S1536x7168) (k0_off32 v230) S32x7168.size hinb).PackedRows (EltTy.packing .bf16))
theorem k0_off32_inb : ∀ (v230 : BitVec 32) (k0_hw32 : k0_chk32 v230), ∀ a, (k0_off32 v230) a + S32x7168.size a ≤ S1536x7168.size a := fun v230 k0_hw32 => k0_hw32.1
theorem k0_off32_packedbf16 : ∀ (v230 : BitVec 32) (k0_hw32 : k0_chk32 v230), (Rect.unit (s := S1536x7168) (k0_off32 v230) S32x7168.size (k0_off32_inb v230 k0_hw32)).PackedRows (EltTy.packing .bf16) := fun v230 k0_hw32 => k0_hw32.2 (k0_off32_inb v230 k0_hw32)

def k0_off33 (v235 : BitVec 32) : Fin 2 → Nat :=
  let c32_i32_112 : BitVec 32 := 32#32
  let v236 : BitVec 32 := Scalar.muli v235 c32_i32_112
  let v237 : Index := Scalar.indexCast v236
  let c0_113 : Index := 0#32
  ![v237.toNat, 0]

def k0_chk33 (v235 : BitVec 32) : Prop :=
  (∀ a, (k0_off33 v235) a + S32x7168.size a ≤ S1536x7168.size a) ∧
  (∀ (hinb : ∀ a, (k0_off33 v235) a + S32x7168.size a ≤ S1536x7168.size a), (Rect.unit (s := S1536x7168) (k0_off33 v235) S32x7168.size hinb).PackedRows (EltTy.packing .bf16))
theorem k0_off33_inb : ∀ (v235 : BitVec 32) (k0_hw33 : k0_chk33 v235), ∀ a, (k0_off33 v235) a + S32x7168.size a ≤ S1536x7168.size a := fun v235 k0_hw33 => k0_hw33.1
theorem k0_off33_packedbf16 : ∀ (v235 : BitVec 32) (k0_hw33 : k0_chk33 v235), (Rect.unit (s := S1536x7168) (k0_off33 v235) S32x7168.size (k0_off33_inb v235 k0_hw33)).PackedRows (EltTy.packing .bf16) := fun v235 k0_hw33 => k0_hw33.2 (k0_off33_inb v235 k0_hw33)

def k0_off34 (v240 : BitVec 32) : Fin 2 → Nat :=
  let c32_i32_114 : BitVec 32 := 32#32
  let v241 : BitVec 32 := Scalar.muli v240 c32_i32_114
  let v242 : Index := Scalar.indexCast v241
  let c0_115 : Index := 0#32
  ![v242.toNat, 0]

def k0_chk34 (v240 : BitVec 32) : Prop :=
  (∀ a, (k0_off34 v240) a + S32x7168.size a ≤ S1536x7168.size a) ∧
  (∀ (hinb : ∀ a, (k0_off34 v240) a + S32x7168.size a ≤ S1536x7168.size a), (Rect.unit (s := S1536x7168) (k0_off34 v240) S32x7168.size hinb).PackedRows (EltTy.packing .bf16))
theorem k0_off34_inb : ∀ (v240 : BitVec 32) (k0_hw34 : k0_chk34 v240), ∀ a, (k0_off34 v240) a + S32x7168.size a ≤ S1536x7168.size a := fun v240 k0_hw34 => k0_hw34.1
theorem k0_off34_packedbf16 : ∀ (v240 : BitVec 32) (k0_hw34 : k0_chk34 v240), (Rect.unit (s := S1536x7168) (k0_off34 v240) S32x7168.size (k0_off34_inb v240 k0_hw34)).PackedRows (EltTy.packing .bf16) := fun v240 k0_hw34 => k0_hw34.2 (k0_off34_inb v240 k0_hw34)

def k0_off35 (v245 : BitVec 32) : Fin 2 → Nat :=
  let c32_i32_116 : BitVec 32 := 32#32
  let v246 : BitVec 32 := Scalar.muli v245 c32_i32_116
  let v247 : Index := Scalar.indexCast v246
  let c0_117 : Index := 0#32
  ![v247.toNat, 0]

def k0_chk35 (v245 : BitVec 32) : Prop :=
  (∀ a, (k0_off35 v245) a + S32x7168.size a ≤ S1536x7168.size a) ∧
  (∀ (hinb : ∀ a, (k0_off35 v245) a + S32x7168.size a ≤ S1536x7168.size a), (Rect.unit (s := S1536x7168) (k0_off35 v245) S32x7168.size hinb).PackedRows (EltTy.packing .bf16))
theorem k0_off35_inb : ∀ (v245 : BitVec 32) (k0_hw35 : k0_chk35 v245), ∀ a, (k0_off35 v245) a + S32x7168.size a ≤ S1536x7168.size a := fun v245 k0_hw35 => k0_hw35.1
theorem k0_off35_packedbf16 : ∀ (v245 : BitVec 32) (k0_hw35 : k0_chk35 v245), (Rect.unit (s := S1536x7168) (k0_off35 v245) S32x7168.size (k0_off35_inb v245 k0_hw35)).PackedRows (EltTy.packing .bf16) := fun v245 k0_hw35 => k0_hw35.2 (k0_off35_inb v245 k0_hw35)

def k0_off36 (v250 : BitVec 32) : Fin 2 → Nat :=
  let c32_i32_118 : BitVec 32 := 32#32
  let v251 : BitVec 32 := Scalar.muli v250 c32_i32_118
  let v252 : Index := Scalar.indexCast v251
  let c0_119 : Index := 0#32
  ![v252.toNat, 0]

def k0_chk36 (v250 : BitVec 32) : Prop :=
  (∀ a, (k0_off36 v250) a + S32x7168.size a ≤ S1536x7168.size a) ∧
  (∀ (hinb : ∀ a, (k0_off36 v250) a + S32x7168.size a ≤ S1536x7168.size a), (Rect.unit (s := S1536x7168) (k0_off36 v250) S32x7168.size hinb).PackedRows (EltTy.packing .bf16))
theorem k0_off36_inb : ∀ (v250 : BitVec 32) (k0_hw36 : k0_chk36 v250), ∀ a, (k0_off36 v250) a + S32x7168.size a ≤ S1536x7168.size a := fun v250 k0_hw36 => k0_hw36.1
theorem k0_off36_packedbf16 : ∀ (v250 : BitVec 32) (k0_hw36 : k0_chk36 v250), (Rect.unit (s := S1536x7168) (k0_off36 v250) S32x7168.size (k0_off36_inb v250 k0_hw36)).PackedRows (EltTy.packing .bf16) := fun v250 k0_hw36 => k0_hw36.2 (k0_off36_inb v250 k0_hw36)

def k0_off37 (v255 : BitVec 32) : Fin 2 → Nat :=
  let c32_i32_120 : BitVec 32 := 32#32
  let v256 : BitVec 32 := Scalar.muli v255 c32_i32_120
  let v257 : Index := Scalar.indexCast v256
  let c0_121 : Index := 0#32
  ![v257.toNat, 0]

def k0_chk37 (v255 : BitVec 32) : Prop :=
  (∀ a, (k0_off37 v255) a + S32x7168.size a ≤ S1536x7168.size a) ∧
  (∀ (hinb : ∀ a, (k0_off37 v255) a + S32x7168.size a ≤ S1536x7168.size a), (Rect.unit (s := S1536x7168) (k0_off37 v255) S32x7168.size hinb).PackedRows (EltTy.packing .bf16))
theorem k0_off37_inb : ∀ (v255 : BitVec 32) (k0_hw37 : k0_chk37 v255), ∀ a, (k0_off37 v255) a + S32x7168.size a ≤ S1536x7168.size a := fun v255 k0_hw37 => k0_hw37.1
theorem k0_off37_packedbf16 : ∀ (v255 : BitVec 32) (k0_hw37 : k0_chk37 v255), (Rect.unit (s := S1536x7168) (k0_off37 v255) S32x7168.size (k0_off37_inb v255 k0_hw37)).PackedRows (EltTy.packing .bf16) := fun v255 k0_hw37 => k0_hw37.2 (k0_off37_inb v255 k0_hw37)

def k0_off38 (v260 : BitVec 32) : Fin 2 → Nat :=
  let c32_i32_122 : BitVec 32 := 32#32
  let v261 : BitVec 32 := Scalar.muli v260 c32_i32_122
  let v262 : Index := Scalar.indexCast v261
  let c0_123 : Index := 0#32
  ![v262.toNat, 0]

def k0_chk38 (v260 : BitVec 32) : Prop :=
  (∀ a, (k0_off38 v260) a + S32x7168.size a ≤ S1536x7168.size a) ∧
  (∀ (hinb : ∀ a, (k0_off38 v260) a + S32x7168.size a ≤ S1536x7168.size a), (Rect.unit (s := S1536x7168) (k0_off38 v260) S32x7168.size hinb).PackedRows (EltTy.packing .bf16))
theorem k0_off38_inb : ∀ (v260 : BitVec 32) (k0_hw38 : k0_chk38 v260), ∀ a, (k0_off38 v260) a + S32x7168.size a ≤ S1536x7168.size a := fun v260 k0_hw38 => k0_hw38.1
theorem k0_off38_packedbf16 : ∀ (v260 : BitVec 32) (k0_hw38 : k0_chk38 v260), (Rect.unit (s := S1536x7168) (k0_off38 v260) S32x7168.size (k0_off38_inb v260 k0_hw38)).PackedRows (EltTy.packing .bf16) := fun v260 k0_hw38 => k0_hw38.2 (k0_off38_inb v260 k0_hw38)

def k0_off39 (v265 : BitVec 32) : Fin 2 → Nat :=
  let c32_i32_124 : BitVec 32 := 32#32
  let v266 : BitVec 32 := Scalar.muli v265 c32_i32_124
  let v267 : Index := Scalar.indexCast v266
  let c0_125 : Index := 0#32
  ![v267.toNat, 0]

def k0_chk39 (v265 : BitVec 32) : Prop :=
  (∀ a, (k0_off39 v265) a + S32x7168.size a ≤ S1536x7168.size a) ∧
  (∀ (hinb : ∀ a, (k0_off39 v265) a + S32x7168.size a ≤ S1536x7168.size a), (Rect.unit (s := S1536x7168) (k0_off39 v265) S32x7168.size hinb).PackedRows (EltTy.packing .bf16))
theorem k0_off39_inb : ∀ (v265 : BitVec 32) (k0_hw39 : k0_chk39 v265), ∀ a, (k0_off39 v265) a + S32x7168.size a ≤ S1536x7168.size a := fun v265 k0_hw39 => k0_hw39.1
theorem k0_off39_packedbf16 : ∀ (v265 : BitVec 32) (k0_hw39 : k0_chk39 v265), (Rect.unit (s := S1536x7168) (k0_off39 v265) S32x7168.size (k0_off39_inb v265 k0_hw39)).PackedRows (EltTy.packing .bf16) := fun v265 k0_hw39 => k0_hw39.2 (k0_off39_inb v265 k0_hw39)

def k0_off40 (v270 : BitVec 32) : Fin 2 → Nat :=
  let c32_i32_126 : BitVec 32 := 32#32
  let v271 : BitVec 32 := Scalar.muli v270 c32_i32_126
  let v272 : Index := Scalar.indexCast v271
  let c0_127 : Index := 0#32
  ![v272.toNat, 0]

def k0_chk40 (v270 : BitVec 32) : Prop :=
  (∀ a, (k0_off40 v270) a + S32x7168.size a ≤ S1536x7168.size a) ∧
  (∀ (hinb : ∀ a, (k0_off40 v270) a + S32x7168.size a ≤ S1536x7168.size a), (Rect.unit (s := S1536x7168) (k0_off40 v270) S32x7168.size hinb).PackedRows (EltTy.packing .bf16))
theorem k0_off40_inb : ∀ (v270 : BitVec 32) (k0_hw40 : k0_chk40 v270), ∀ a, (k0_off40 v270) a + S32x7168.size a ≤ S1536x7168.size a := fun v270 k0_hw40 => k0_hw40.1
theorem k0_off40_packedbf16 : ∀ (v270 : BitVec 32) (k0_hw40 : k0_chk40 v270), (Rect.unit (s := S1536x7168) (k0_off40 v270) S32x7168.size (k0_off40_inb v270 k0_hw40)).PackedRows (EltTy.packing .bf16) := fun v270 k0_hw40 => k0_hw40.2 (k0_off40_inb v270 k0_hw40)

def k0_off41 (v275 : BitVec 32) : Fin 2 → Nat :=
  let c32_i32_128 : BitVec 32 := 32#32
  let v276 : BitVec 32 := Scalar.muli v275 c32_i32_128
  let v277 : Index := Scalar.indexCast v276
  let c0_129 : Index := 0#32
  ![v277.toNat, 0]

def k0_chk41 (v275 : BitVec 32) : Prop :=
  (∀ a, (k0_off41 v275) a + S32x7168.size a ≤ S1536x7168.size a) ∧
  (∀ (hinb : ∀ a, (k0_off41 v275) a + S32x7168.size a ≤ S1536x7168.size a), (Rect.unit (s := S1536x7168) (k0_off41 v275) S32x7168.size hinb).PackedRows (EltTy.packing .bf16))
theorem k0_off41_inb : ∀ (v275 : BitVec 32) (k0_hw41 : k0_chk41 v275), ∀ a, (k0_off41 v275) a + S32x7168.size a ≤ S1536x7168.size a := fun v275 k0_hw41 => k0_hw41.1
theorem k0_off41_packedbf16 : ∀ (v275 : BitVec 32) (k0_hw41 : k0_chk41 v275), (Rect.unit (s := S1536x7168) (k0_off41 v275) S32x7168.size (k0_off41_inb v275 k0_hw41)).PackedRows (EltTy.packing .bf16) := fun v275 k0_hw41 => k0_hw41.2 (k0_off41_inb v275 k0_hw41)

def k0_off42 (v280 : BitVec 32) : Fin 2 → Nat :=
  let c32_i32_130 : BitVec 32 := 32#32
  let v281 : BitVec 32 := Scalar.muli v280 c32_i32_130
  let v282 : Index := Scalar.indexCast v281
  let c0_131 : Index := 0#32
  ![v282.toNat, 0]

def k0_chk42 (v280 : BitVec 32) : Prop :=
  (∀ a, (k0_off42 v280) a + S32x7168.size a ≤ S1536x7168.size a) ∧
  (∀ (hinb : ∀ a, (k0_off42 v280) a + S32x7168.size a ≤ S1536x7168.size a), (Rect.unit (s := S1536x7168) (k0_off42 v280) S32x7168.size hinb).PackedRows (EltTy.packing .bf16))
theorem k0_off42_inb : ∀ (v280 : BitVec 32) (k0_hw42 : k0_chk42 v280), ∀ a, (k0_off42 v280) a + S32x7168.size a ≤ S1536x7168.size a := fun v280 k0_hw42 => k0_hw42.1
theorem k0_off42_packedbf16 : ∀ (v280 : BitVec 32) (k0_hw42 : k0_chk42 v280), (Rect.unit (s := S1536x7168) (k0_off42 v280) S32x7168.size (k0_off42_inb v280 k0_hw42)).PackedRows (EltTy.packing .bf16) := fun v280 k0_hw42 => k0_hw42.2 (k0_off42_inb v280 k0_hw42)

def k0_off43 (v285 : BitVec 32) : Fin 2 → Nat :=
  let c32_i32_132 : BitVec 32 := 32#32
  let v286 : BitVec 32 := Scalar.muli v285 c32_i32_132
  let v287 : Index := Scalar.indexCast v286
  let c0_133 : Index := 0#32
  ![v287.toNat, 0]

def k0_chk43 (v285 : BitVec 32) : Prop :=
  (∀ a, (k0_off43 v285) a + S32x7168.size a ≤ S1536x7168.size a) ∧
  (∀ (hinb : ∀ a, (k0_off43 v285) a + S32x7168.size a ≤ S1536x7168.size a), (Rect.unit (s := S1536x7168) (k0_off43 v285) S32x7168.size hinb).PackedRows (EltTy.packing .bf16))
theorem k0_off43_inb : ∀ (v285 : BitVec 32) (k0_hw43 : k0_chk43 v285), ∀ a, (k0_off43 v285) a + S32x7168.size a ≤ S1536x7168.size a := fun v285 k0_hw43 => k0_hw43.1
theorem k0_off43_packedbf16 : ∀ (v285 : BitVec 32) (k0_hw43 : k0_chk43 v285), (Rect.unit (s := S1536x7168) (k0_off43 v285) S32x7168.size (k0_off43_inb v285 k0_hw43)).PackedRows (EltTy.packing .bf16) := fun v285 k0_hw43 => k0_hw43.2 (k0_off43_inb v285 k0_hw43)

def k0_off44 (v290 : BitVec 32) : Fin 2 → Nat :=
  let c32_i32_134 : BitVec 32 := 32#32
  let v291 : BitVec 32 := Scalar.muli v290 c32_i32_134
  let v292 : Index := Scalar.indexCast v291
  let c0_135 : Index := 0#32
  ![v292.toNat, 0]

def k0_chk44 (v290 : BitVec 32) : Prop :=
  (∀ a, (k0_off44 v290) a + S32x7168.size a ≤ S1536x7168.size a) ∧
  (∀ (hinb : ∀ a, (k0_off44 v290) a + S32x7168.size a ≤ S1536x7168.size a), (Rect.unit (s := S1536x7168) (k0_off44 v290) S32x7168.size hinb).PackedRows (EltTy.packing .bf16))
theorem k0_off44_inb : ∀ (v290 : BitVec 32) (k0_hw44 : k0_chk44 v290), ∀ a, (k0_off44 v290) a + S32x7168.size a ≤ S1536x7168.size a := fun v290 k0_hw44 => k0_hw44.1
theorem k0_off44_packedbf16 : ∀ (v290 : BitVec 32) (k0_hw44 : k0_chk44 v290), (Rect.unit (s := S1536x7168) (k0_off44 v290) S32x7168.size (k0_off44_inb v290 k0_hw44)).PackedRows (EltTy.packing .bf16) := fun v290 k0_hw44 => k0_hw44.2 (k0_off44_inb v290 k0_hw44)

def k0_off45 (v295 : BitVec 32) : Fin 2 → Nat :=
  let c32_i32_136 : BitVec 32 := 32#32
  let v296 : BitVec 32 := Scalar.muli v295 c32_i32_136
  let v297 : Index := Scalar.indexCast v296
  let c0_137 : Index := 0#32
  ![v297.toNat, 0]

def k0_chk45 (v295 : BitVec 32) : Prop :=
  (∀ a, (k0_off45 v295) a + S32x7168.size a ≤ S1536x7168.size a) ∧
  (∀ (hinb : ∀ a, (k0_off45 v295) a + S32x7168.size a ≤ S1536x7168.size a), (Rect.unit (s := S1536x7168) (k0_off45 v295) S32x7168.size hinb).PackedRows (EltTy.packing .bf16))
theorem k0_off45_inb : ∀ (v295 : BitVec 32) (k0_hw45 : k0_chk45 v295), ∀ a, (k0_off45 v295) a + S32x7168.size a ≤ S1536x7168.size a := fun v295 k0_hw45 => k0_hw45.1
theorem k0_off45_packedbf16 : ∀ (v295 : BitVec 32) (k0_hw45 : k0_chk45 v295), (Rect.unit (s := S1536x7168) (k0_off45 v295) S32x7168.size (k0_off45_inb v295 k0_hw45)).PackedRows (EltTy.packing .bf16) := fun v295 k0_hw45 => k0_hw45.2 (k0_off45_inb v295 k0_hw45)

def k0_off46 (v300 : BitVec 32) : Fin 2 → Nat :=
  let c32_i32_138 : BitVec 32 := 32#32
  let v301 : BitVec 32 := Scalar.muli v300 c32_i32_138
  let v302 : Index := Scalar.indexCast v301
  let c0_139 : Index := 0#32
  ![v302.toNat, 0]

def k0_chk46 (v300 : BitVec 32) : Prop :=
  (∀ a, (k0_off46 v300) a + S32x7168.size a ≤ S1536x7168.size a) ∧
  (∀ (hinb : ∀ a, (k0_off46 v300) a + S32x7168.size a ≤ S1536x7168.size a), (Rect.unit (s := S1536x7168) (k0_off46 v300) S32x7168.size hinb).PackedRows (EltTy.packing .bf16))
theorem k0_off46_inb : ∀ (v300 : BitVec 32) (k0_hw46 : k0_chk46 v300), ∀ a, (k0_off46 v300) a + S32x7168.size a ≤ S1536x7168.size a := fun v300 k0_hw46 => k0_hw46.1
theorem k0_off46_packedbf16 : ∀ (v300 : BitVec 32) (k0_hw46 : k0_chk46 v300), (Rect.unit (s := S1536x7168) (k0_off46 v300) S32x7168.size (k0_off46_inb v300 k0_hw46)).PackedRows (EltTy.packing .bf16) := fun v300 k0_hw46 => k0_hw46.2 (k0_off46_inb v300 k0_hw46)

def k0_off47 (v305 : BitVec 32) : Fin 2 → Nat :=
  let c32_i32_140 : BitVec 32 := 32#32
  let v306 : BitVec 32 := Scalar.muli v305 c32_i32_140
  let v307 : Index := Scalar.indexCast v306
  let c0_141 : Index := 0#32
  ![v307.toNat, 0]

def k0_chk47 (v305 : BitVec 32) : Prop :=
  (∀ a, (k0_off47 v305) a + S32x7168.size a ≤ S1536x7168.size a) ∧
  (∀ (hinb : ∀ a, (k0_off47 v305) a + S32x7168.size a ≤ S1536x7168.size a), (Rect.unit (s := S1536x7168) (k0_off47 v305) S32x7168.size hinb).PackedRows (EltTy.packing .bf16))
theorem k0_off47_inb : ∀ (v305 : BitVec 32) (k0_hw47 : k0_chk47 v305), ∀ a, (k0_off47 v305) a + S32x7168.size a ≤ S1536x7168.size a := fun v305 k0_hw47 => k0_hw47.1
theorem k0_off47_packedbf16 : ∀ (v305 : BitVec 32) (k0_hw47 : k0_chk47 v305), (Rect.unit (s := S1536x7168) (k0_off47 v305) S32x7168.size (k0_off47_inb v305 k0_hw47)).PackedRows (EltTy.packing .bf16) := fun v305 k0_hw47 => k0_hw47.2 (k0_off47_inb v305 k0_hw47)

def k0_off48 (v310 : BitVec 32) : Fin 2 → Nat :=
  let c32_i32_142 : BitVec 32 := 32#32
  let v311 : BitVec 32 := Scalar.muli v310 c32_i32_142
  let v312 : Index := Scalar.indexCast v311
  let c0_143 : Index := 0#32
  ![v312.toNat, 0]

def k0_chk48 (v310 : BitVec 32) : Prop :=
  (∀ a, (k0_off48 v310) a + S32x7168.size a ≤ S1536x7168.size a) ∧
  (∀ (hinb : ∀ a, (k0_off48 v310) a + S32x7168.size a ≤ S1536x7168.size a), (Rect.unit (s := S1536x7168) (k0_off48 v310) S32x7168.size hinb).PackedRows (EltTy.packing .bf16))
theorem k0_off48_inb : ∀ (v310 : BitVec 32) (k0_hw48 : k0_chk48 v310), ∀ a, (k0_off48 v310) a + S32x7168.size a ≤ S1536x7168.size a := fun v310 k0_hw48 => k0_hw48.1
theorem k0_off48_packedbf16 : ∀ (v310 : BitVec 32) (k0_hw48 : k0_chk48 v310), (Rect.unit (s := S1536x7168) (k0_off48 v310) S32x7168.size (k0_off48_inb v310 k0_hw48)).PackedRows (EltTy.packing .bf16) := fun v310 k0_hw48 => k0_hw48.2 (k0_off48_inb v310 k0_hw48)

def k0_off49 (v319 : BitVec 32) : Fin 2 → Nat :=
  let c32_i32_148 : BitVec 32 := 32#32
  let v320 : BitVec 32 := Scalar.muli v319 c32_i32_148
  let v321 : Index := Scalar.indexCast v320
  let c0_149 : Index := 0#32
  ![v321.toNat, 0]

def k0_chk49 (v319 : BitVec 32) : Prop :=
  (∀ a, (k0_off49 v319) a + S32x7168.size a ≤ S1536x7168.size a) ∧
  (∀ (hinb : ∀ a, (k0_off49 v319) a + S32x7168.size a ≤ S1536x7168.size a), (Rect.unit (s := S1536x7168) (k0_off49 v319) S32x7168.size hinb).PackedRows (EltTy.packing .bf16))
theorem k0_off49_inb : ∀ (v319 : BitVec 32) (k0_hw49 : k0_chk49 v319), ∀ a, (k0_off49 v319) a + S32x7168.size a ≤ S1536x7168.size a := fun v319 k0_hw49 => k0_hw49.1
theorem k0_off49_packedbf16 : ∀ (v319 : BitVec 32) (k0_hw49 : k0_chk49 v319), (Rect.unit (s := S1536x7168) (k0_off49 v319) S32x7168.size (k0_off49_inb v319 k0_hw49)).PackedRows (EltTy.packing .bf16) := fun v319 k0_hw49 => k0_hw49.2 (k0_off49_inb v319 k0_hw49)

def k0_off50 (v324 : BitVec 32) : Fin 2 → Nat :=
  let c32_i32_151 : BitVec 32 := 32#32
  let v325 : BitVec 32 := Scalar.muli v324 c32_i32_151
  let v326 : Index := Scalar.indexCast v325
  let c0_152 : Index := 0#32
  ![v326.toNat, 0]

def k0_chk50 (v324 : BitVec 32) : Prop :=
  (∀ a, (k0_off50 v324) a + S32x7168.size a ≤ S1536x7168.size a) ∧
  (∀ (hinb : ∀ a, (k0_off50 v324) a + S32x7168.size a ≤ S1536x7168.size a), (Rect.unit (s := S1536x7168) (k0_off50 v324) S32x7168.size hinb).PackedRows (EltTy.packing .bf16))
theorem k0_off50_inb : ∀ (v324 : BitVec 32) (k0_hw50 : k0_chk50 v324), ∀ a, (k0_off50 v324) a + S32x7168.size a ≤ S1536x7168.size a := fun v324 k0_hw50 => k0_hw50.1
theorem k0_off50_packedbf16 : ∀ (v324 : BitVec 32) (k0_hw50 : k0_chk50 v324), (Rect.unit (s := S1536x7168) (k0_off50 v324) S32x7168.size (k0_off50_inb v324 k0_hw50)).PackedRows (EltTy.packing .bf16) := fun v324 k0_hw50 => k0_hw50.2 (k0_off50_inb v324 k0_hw50)

def k0_off51 (v329 : BitVec 32) : Fin 2 → Nat :=
  let c32_i32_154 : BitVec 32 := 32#32
  let v330 : BitVec 32 := Scalar.muli v329 c32_i32_154
  let v331 : Index := Scalar.indexCast v330
  let c0_155 : Index := 0#32
  ![v331.toNat, 0]

def k0_chk51 (v329 : BitVec 32) : Prop :=
  (∀ a, (k0_off51 v329) a + S32x7168.size a ≤ S1536x7168.size a) ∧
  (∀ (hinb : ∀ a, (k0_off51 v329) a + S32x7168.size a ≤ S1536x7168.size a), (Rect.unit (s := S1536x7168) (k0_off51 v329) S32x7168.size hinb).PackedRows (EltTy.packing .bf16))
theorem k0_off51_inb : ∀ (v329 : BitVec 32) (k0_hw51 : k0_chk51 v329), ∀ a, (k0_off51 v329) a + S32x7168.size a ≤ S1536x7168.size a := fun v329 k0_hw51 => k0_hw51.1
theorem k0_off51_packedbf16 : ∀ (v329 : BitVec 32) (k0_hw51 : k0_chk51 v329), (Rect.unit (s := S1536x7168) (k0_off51 v329) S32x7168.size (k0_off51_inb v329 k0_hw51)).PackedRows (EltTy.packing .bf16) := fun v329 k0_hw51 => k0_hw51.2 (k0_off51_inb v329 k0_hw51)

def k0_off52 (v334 : BitVec 32) : Fin 2 → Nat :=
  let c32_i32_157 : BitVec 32 := 32#32
  let v335 : BitVec 32 := Scalar.muli v334 c32_i32_157
  let v336 : Index := Scalar.indexCast v335
  let c0_158 : Index := 0#32
  ![v336.toNat, 0]

def k0_chk52 (v334 : BitVec 32) : Prop :=
  (∀ a, (k0_off52 v334) a + S32x7168.size a ≤ S1536x7168.size a) ∧
  (∀ (hinb : ∀ a, (k0_off52 v334) a + S32x7168.size a ≤ S1536x7168.size a), (Rect.unit (s := S1536x7168) (k0_off52 v334) S32x7168.size hinb).PackedRows (EltTy.packing .bf16))
theorem k0_off52_inb : ∀ (v334 : BitVec 32) (k0_hw52 : k0_chk52 v334), ∀ a, (k0_off52 v334) a + S32x7168.size a ≤ S1536x7168.size a := fun v334 k0_hw52 => k0_hw52.1
theorem k0_off52_packedbf16 : ∀ (v334 : BitVec 32) (k0_hw52 : k0_chk52 v334), (Rect.unit (s := S1536x7168) (k0_off52 v334) S32x7168.size (k0_off52_inb v334 k0_hw52)).PackedRows (EltTy.packing .bf16) := fun v334 k0_hw52 => k0_hw52.2 (k0_off52_inb v334 k0_hw52)

def k0_off53 (v339 : BitVec 32) : Fin 2 → Nat :=
  let c32_i32_160 : BitVec 32 := 32#32
  let v340 : BitVec 32 := Scalar.muli v339 c32_i32_160
  let v341 : Index := Scalar.indexCast v340
  let c0_161 : Index := 0#32
  ![v341.toNat, 0]

def k0_chk53 (v339 : BitVec 32) : Prop :=
  (∀ a, (k0_off53 v339) a + S32x7168.size a ≤ S1536x7168.size a) ∧
  (∀ (hinb : ∀ a, (k0_off53 v339) a + S32x7168.size a ≤ S1536x7168.size a), (Rect.unit (s := S1536x7168) (k0_off53 v339) S32x7168.size hinb).PackedRows (EltTy.packing .bf16))
theorem k0_off53_inb : ∀ (v339 : BitVec 32) (k0_hw53 : k0_chk53 v339), ∀ a, (k0_off53 v339) a + S32x7168.size a ≤ S1536x7168.size a := fun v339 k0_hw53 => k0_hw53.1
theorem k0_off53_packedbf16 : ∀ (v339 : BitVec 32) (k0_hw53 : k0_chk53 v339), (Rect.unit (s := S1536x7168) (k0_off53 v339) S32x7168.size (k0_off53_inb v339 k0_hw53)).PackedRows (EltTy.packing .bf16) := fun v339 k0_hw53 => k0_hw53.2 (k0_off53_inb v339 k0_hw53)

def k0_off54 (v344 : BitVec 32) : Fin 2 → Nat :=
  let c32_i32_163 : BitVec 32 := 32#32
  let v345 : BitVec 32 := Scalar.muli v344 c32_i32_163
  let v346 : Index := Scalar.indexCast v345
  let c0_164 : Index := 0#32
  ![v346.toNat, 0]

def k0_chk54 (v344 : BitVec 32) : Prop :=
  (∀ a, (k0_off54 v344) a + S32x7168.size a ≤ S1536x7168.size a) ∧
  (∀ (hinb : ∀ a, (k0_off54 v344) a + S32x7168.size a ≤ S1536x7168.size a), (Rect.unit (s := S1536x7168) (k0_off54 v344) S32x7168.size hinb).PackedRows (EltTy.packing .bf16))
theorem k0_off54_inb : ∀ (v344 : BitVec 32) (k0_hw54 : k0_chk54 v344), ∀ a, (k0_off54 v344) a + S32x7168.size a ≤ S1536x7168.size a := fun v344 k0_hw54 => k0_hw54.1
theorem k0_off54_packedbf16 : ∀ (v344 : BitVec 32) (k0_hw54 : k0_chk54 v344), (Rect.unit (s := S1536x7168) (k0_off54 v344) S32x7168.size (k0_off54_inb v344 k0_hw54)).PackedRows (EltTy.packing .bf16) := fun v344 k0_hw54 => k0_hw54.2 (k0_off54_inb v344 k0_hw54)

def k0_off55 (v349 : BitVec 32) : Fin 2 → Nat :=
  let c32_i32_166 : BitVec 32 := 32#32
  let v350 : BitVec 32 := Scalar.muli v349 c32_i32_166
  let v351 : Index := Scalar.indexCast v350
  let c0_167 : Index := 0#32
  ![v351.toNat, 0]

def k0_chk55 (v349 : BitVec 32) : Prop :=
  (∀ a, (k0_off55 v349) a + S32x7168.size a ≤ S1536x7168.size a) ∧
  (∀ (hinb : ∀ a, (k0_off55 v349) a + S32x7168.size a ≤ S1536x7168.size a), (Rect.unit (s := S1536x7168) (k0_off55 v349) S32x7168.size hinb).PackedRows (EltTy.packing .bf16))
theorem k0_off55_inb : ∀ (v349 : BitVec 32) (k0_hw55 : k0_chk55 v349), ∀ a, (k0_off55 v349) a + S32x7168.size a ≤ S1536x7168.size a := fun v349 k0_hw55 => k0_hw55.1
theorem k0_off55_packedbf16 : ∀ (v349 : BitVec 32) (k0_hw55 : k0_chk55 v349), (Rect.unit (s := S1536x7168) (k0_off55 v349) S32x7168.size (k0_off55_inb v349 k0_hw55)).PackedRows (EltTy.packing .bf16) := fun v349 k0_hw55 => k0_hw55.2 (k0_off55_inb v349 k0_hw55)

def k0_off56 (v354 : BitVec 32) : Fin 2 → Nat :=
  let c32_i32_169 : BitVec 32 := 32#32
  let v355 : BitVec 32 := Scalar.muli v354 c32_i32_169
  let v356 : Index := Scalar.indexCast v355
  let c0_170 : Index := 0#32
  ![v356.toNat, 0]

def k0_chk56 (v354 : BitVec 32) : Prop :=
  (∀ a, (k0_off56 v354) a + S32x7168.size a ≤ S1536x7168.size a) ∧
  (∀ (hinb : ∀ a, (k0_off56 v354) a + S32x7168.size a ≤ S1536x7168.size a), (Rect.unit (s := S1536x7168) (k0_off56 v354) S32x7168.size hinb).PackedRows (EltTy.packing .bf16))
theorem k0_off56_inb : ∀ (v354 : BitVec 32) (k0_hw56 : k0_chk56 v354), ∀ a, (k0_off56 v354) a + S32x7168.size a ≤ S1536x7168.size a := fun v354 k0_hw56 => k0_hw56.1
theorem k0_off56_packedbf16 : ∀ (v354 : BitVec 32) (k0_hw56 : k0_chk56 v354), (Rect.unit (s := S1536x7168) (k0_off56 v354) S32x7168.size (k0_off56_inb v354 k0_hw56)).PackedRows (EltTy.packing .bf16) := fun v354 k0_hw56 => k0_hw56.2 (k0_off56_inb v354 k0_hw56)

def k0_off57 (v359 : BitVec 32) : Fin 2 → Nat :=
  let c32_i32_172 : BitVec 32 := 32#32
  let v360 : BitVec 32 := Scalar.muli v359 c32_i32_172
  let v361 : Index := Scalar.indexCast v360
  let c0_173 : Index := 0#32
  ![v361.toNat, 0]

def k0_chk57 (v359 : BitVec 32) : Prop :=
  (∀ a, (k0_off57 v359) a + S32x7168.size a ≤ S1536x7168.size a) ∧
  (∀ (hinb : ∀ a, (k0_off57 v359) a + S32x7168.size a ≤ S1536x7168.size a), (Rect.unit (s := S1536x7168) (k0_off57 v359) S32x7168.size hinb).PackedRows (EltTy.packing .bf16))
theorem k0_off57_inb : ∀ (v359 : BitVec 32) (k0_hw57 : k0_chk57 v359), ∀ a, (k0_off57 v359) a + S32x7168.size a ≤ S1536x7168.size a := fun v359 k0_hw57 => k0_hw57.1
theorem k0_off57_packedbf16 : ∀ (v359 : BitVec 32) (k0_hw57 : k0_chk57 v359), (Rect.unit (s := S1536x7168) (k0_off57 v359) S32x7168.size (k0_off57_inb v359 k0_hw57)).PackedRows (EltTy.packing .bf16) := fun v359 k0_hw57 => k0_hw57.2 (k0_off57_inb v359 k0_hw57)

def k0_off58 (v364 : BitVec 32) : Fin 2 → Nat :=
  let c32_i32_175 : BitVec 32 := 32#32
  let v365 : BitVec 32 := Scalar.muli v364 c32_i32_175
  let v366 : Index := Scalar.indexCast v365
  let c0_176 : Index := 0#32
  ![v366.toNat, 0]

def k0_chk58 (v364 : BitVec 32) : Prop :=
  (∀ a, (k0_off58 v364) a + S32x7168.size a ≤ S1536x7168.size a) ∧
  (∀ (hinb : ∀ a, (k0_off58 v364) a + S32x7168.size a ≤ S1536x7168.size a), (Rect.unit (s := S1536x7168) (k0_off58 v364) S32x7168.size hinb).PackedRows (EltTy.packing .bf16))
theorem k0_off58_inb : ∀ (v364 : BitVec 32) (k0_hw58 : k0_chk58 v364), ∀ a, (k0_off58 v364) a + S32x7168.size a ≤ S1536x7168.size a := fun v364 k0_hw58 => k0_hw58.1
theorem k0_off58_packedbf16 : ∀ (v364 : BitVec 32) (k0_hw58 : k0_chk58 v364), (Rect.unit (s := S1536x7168) (k0_off58 v364) S32x7168.size (k0_off58_inb v364 k0_hw58)).PackedRows (EltTy.packing .bf16) := fun v364 k0_hw58 => k0_hw58.2 (k0_off58_inb v364 k0_hw58)

def k0_off59 (v369 : BitVec 32) : Fin 2 → Nat :=
  let c32_i32_178 : BitVec 32 := 32#32
  let v370 : BitVec 32 := Scalar.muli v369 c32_i32_178
  let v371 : Index := Scalar.indexCast v370
  let c0_179 : Index := 0#32
  ![v371.toNat, 0]

def k0_chk59 (v369 : BitVec 32) : Prop :=
  (∀ a, (k0_off59 v369) a + S32x7168.size a ≤ S1536x7168.size a) ∧
  (∀ (hinb : ∀ a, (k0_off59 v369) a + S32x7168.size a ≤ S1536x7168.size a), (Rect.unit (s := S1536x7168) (k0_off59 v369) S32x7168.size hinb).PackedRows (EltTy.packing .bf16))
theorem k0_off59_inb : ∀ (v369 : BitVec 32) (k0_hw59 : k0_chk59 v369), ∀ a, (k0_off59 v369) a + S32x7168.size a ≤ S1536x7168.size a := fun v369 k0_hw59 => k0_hw59.1
theorem k0_off59_packedbf16 : ∀ (v369 : BitVec 32) (k0_hw59 : k0_chk59 v369), (Rect.unit (s := S1536x7168) (k0_off59 v369) S32x7168.size (k0_off59_inb v369 k0_hw59)).PackedRows (EltTy.packing .bf16) := fun v369 k0_hw59 => k0_hw59.2 (k0_off59_inb v369 k0_hw59)

def k0_off60 (v374 : BitVec 32) : Fin 2 → Nat :=
  let c32_i32_181 : BitVec 32 := 32#32
  let v375 : BitVec 32 := Scalar.muli v374 c32_i32_181
  let v376 : Index := Scalar.indexCast v375
  let c0_182 : Index := 0#32
  ![v376.toNat, 0]

def k0_chk60 (v374 : BitVec 32) : Prop :=
  (∀ a, (k0_off60 v374) a + S32x7168.size a ≤ S1536x7168.size a) ∧
  (∀ (hinb : ∀ a, (k0_off60 v374) a + S32x7168.size a ≤ S1536x7168.size a), (Rect.unit (s := S1536x7168) (k0_off60 v374) S32x7168.size hinb).PackedRows (EltTy.packing .bf16))
theorem k0_off60_inb : ∀ (v374 : BitVec 32) (k0_hw60 : k0_chk60 v374), ∀ a, (k0_off60 v374) a + S32x7168.size a ≤ S1536x7168.size a := fun v374 k0_hw60 => k0_hw60.1
theorem k0_off60_packedbf16 : ∀ (v374 : BitVec 32) (k0_hw60 : k0_chk60 v374), (Rect.unit (s := S1536x7168) (k0_off60 v374) S32x7168.size (k0_off60_inb v374 k0_hw60)).PackedRows (EltTy.packing .bf16) := fun v374 k0_hw60 => k0_hw60.2 (k0_off60_inb v374 k0_hw60)

def k0_off61 (v379 : BitVec 32) : Fin 2 → Nat :=
  let c32_i32_184 : BitVec 32 := 32#32
  let v380 : BitVec 32 := Scalar.muli v379 c32_i32_184
  let v381 : Index := Scalar.indexCast v380
  let c0_185 : Index := 0#32
  ![v381.toNat, 0]

def k0_chk61 (v379 : BitVec 32) : Prop :=
  (∀ a, (k0_off61 v379) a + S32x7168.size a ≤ S1536x7168.size a) ∧
  (∀ (hinb : ∀ a, (k0_off61 v379) a + S32x7168.size a ≤ S1536x7168.size a), (Rect.unit (s := S1536x7168) (k0_off61 v379) S32x7168.size hinb).PackedRows (EltTy.packing .bf16))
theorem k0_off61_inb : ∀ (v379 : BitVec 32) (k0_hw61 : k0_chk61 v379), ∀ a, (k0_off61 v379) a + S32x7168.size a ≤ S1536x7168.size a := fun v379 k0_hw61 => k0_hw61.1
theorem k0_off61_packedbf16 : ∀ (v379 : BitVec 32) (k0_hw61 : k0_chk61 v379), (Rect.unit (s := S1536x7168) (k0_off61 v379) S32x7168.size (k0_off61_inb v379 k0_hw61)).PackedRows (EltTy.packing .bf16) := fun v379 k0_hw61 => k0_hw61.2 (k0_off61_inb v379 k0_hw61)

def k0_off62 (v384 : BitVec 32) : Fin 2 → Nat :=
  let c32_i32_187 : BitVec 32 := 32#32
  let v385 : BitVec 32 := Scalar.muli v384 c32_i32_187
  let v386 : Index := Scalar.indexCast v385
  let c0_188 : Index := 0#32
  ![v386.toNat, 0]

def k0_chk62 (v384 : BitVec 32) : Prop :=
  (∀ a, (k0_off62 v384) a + S32x7168.size a ≤ S1536x7168.size a) ∧
  (∀ (hinb : ∀ a, (k0_off62 v384) a + S32x7168.size a ≤ S1536x7168.size a), (Rect.unit (s := S1536x7168) (k0_off62 v384) S32x7168.size hinb).PackedRows (EltTy.packing .bf16))
theorem k0_off62_inb : ∀ (v384 : BitVec 32) (k0_hw62 : k0_chk62 v384), ∀ a, (k0_off62 v384) a + S32x7168.size a ≤ S1536x7168.size a := fun v384 k0_hw62 => k0_hw62.1
theorem k0_off62_packedbf16 : ∀ (v384 : BitVec 32) (k0_hw62 : k0_chk62 v384), (Rect.unit (s := S1536x7168) (k0_off62 v384) S32x7168.size (k0_off62_inb v384 k0_hw62)).PackedRows (EltTy.packing .bf16) := fun v384 k0_hw62 => k0_hw62.2 (k0_off62_inb v384 k0_hw62)

def k0_off63 (v389 : BitVec 32) : Fin 2 → Nat :=
  let c32_i32_190 : BitVec 32 := 32#32
  let v390 : BitVec 32 := Scalar.muli v389 c32_i32_190
  let v391 : Index := Scalar.indexCast v390
  let c0_191 : Index := 0#32
  ![v391.toNat, 0]

def k0_chk63 (v389 : BitVec 32) : Prop :=
  (∀ a, (k0_off63 v389) a + S32x7168.size a ≤ S1536x7168.size a) ∧
  (∀ (hinb : ∀ a, (k0_off63 v389) a + S32x7168.size a ≤ S1536x7168.size a), (Rect.unit (s := S1536x7168) (k0_off63 v389) S32x7168.size hinb).PackedRows (EltTy.packing .bf16))
theorem k0_off63_inb : ∀ (v389 : BitVec 32) (k0_hw63 : k0_chk63 v389), ∀ a, (k0_off63 v389) a + S32x7168.size a ≤ S1536x7168.size a := fun v389 k0_hw63 => k0_hw63.1
theorem k0_off63_packedbf16 : ∀ (v389 : BitVec 32) (k0_hw63 : k0_chk63 v389), (Rect.unit (s := S1536x7168) (k0_off63 v389) S32x7168.size (k0_off63_inb v389 k0_hw63)).PackedRows (EltTy.packing .bf16) := fun v389 k0_hw63 => k0_hw63.2 (k0_off63_inb v389 k0_hw63)

def k0_off64 (v394 : BitVec 32) : Fin 2 → Nat :=
  let c32_i32_193 : BitVec 32 := 32#32
  let v395 : BitVec 32 := Scalar.muli v394 c32_i32_193
  let v396 : Index := Scalar.indexCast v395
  let c0_194 : Index := 0#32
  ![v396.toNat, 0]

def k0_chk64 (v394 : BitVec 32) : Prop :=
  (∀ a, (k0_off64 v394) a + S32x7168.size a ≤ S1536x7168.size a) ∧
  (∀ (hinb : ∀ a, (k0_off64 v394) a + S32x7168.size a ≤ S1536x7168.size a), (Rect.unit (s := S1536x7168) (k0_off64 v394) S32x7168.size hinb).PackedRows (EltTy.packing .bf16))
theorem k0_off64_inb : ∀ (v394 : BitVec 32) (k0_hw64 : k0_chk64 v394), ∀ a, (k0_off64 v394) a + S32x7168.size a ≤ S1536x7168.size a := fun v394 k0_hw64 => k0_hw64.1
theorem k0_off64_packedbf16 : ∀ (v394 : BitVec 32) (k0_hw64 : k0_chk64 v394), (Rect.unit (s := S1536x7168) (k0_off64 v394) S32x7168.size (k0_off64_inb v394 k0_hw64)).PackedRows (EltTy.packing .bf16) := fun v394 k0_hw64 => k0_hw64.2 (k0_off64_inb v394 k0_hw64)

def k0_off65 (v399 : BitVec 32) : Fin 2 → Nat :=
  let c32_i32_196 : BitVec 32 := 32#32
  let v400 : BitVec 32 := Scalar.muli v399 c32_i32_196
  let v401 : Index := Scalar.indexCast v400
  let c0_197 : Index := 0#32
  ![v401.toNat, 0]

def k0_chk65 (v399 : BitVec 32) : Prop :=
  (∀ a, (k0_off65 v399) a + S32x7168.size a ≤ S1536x7168.size a) ∧
  (∀ (hinb : ∀ a, (k0_off65 v399) a + S32x7168.size a ≤ S1536x7168.size a), (Rect.unit (s := S1536x7168) (k0_off65 v399) S32x7168.size hinb).PackedRows (EltTy.packing .bf16))
theorem k0_off65_inb : ∀ (v399 : BitVec 32) (k0_hw65 : k0_chk65 v399), ∀ a, (k0_off65 v399) a + S32x7168.size a ≤ S1536x7168.size a := fun v399 k0_hw65 => k0_hw65.1
theorem k0_off65_packedbf16 : ∀ (v399 : BitVec 32) (k0_hw65 : k0_chk65 v399), (Rect.unit (s := S1536x7168) (k0_off65 v399) S32x7168.size (k0_off65_inb v399 k0_hw65)).PackedRows (EltTy.packing .bf16) := fun v399 k0_hw65 => k0_hw65.2 (k0_off65_inb v399 k0_hw65)

def k0_off66 (v404 : BitVec 32) : Fin 2 → Nat :=
  let c32_i32_199 : BitVec 32 := 32#32
  let v405 : BitVec 32 := Scalar.muli v404 c32_i32_199
  let v406 : Index := Scalar.indexCast v405
  let c0_200 : Index := 0#32
  ![v406.toNat, 0]

def k0_chk66 (v404 : BitVec 32) : Prop :=
  (∀ a, (k0_off66 v404) a + S32x7168.size a ≤ S1536x7168.size a) ∧
  (∀ (hinb : ∀ a, (k0_off66 v404) a + S32x7168.size a ≤ S1536x7168.size a), (Rect.unit (s := S1536x7168) (k0_off66 v404) S32x7168.size hinb).PackedRows (EltTy.packing .bf16))
theorem k0_off66_inb : ∀ (v404 : BitVec 32) (k0_hw66 : k0_chk66 v404), ∀ a, (k0_off66 v404) a + S32x7168.size a ≤ S1536x7168.size a := fun v404 k0_hw66 => k0_hw66.1
theorem k0_off66_packedbf16 : ∀ (v404 : BitVec 32) (k0_hw66 : k0_chk66 v404), (Rect.unit (s := S1536x7168) (k0_off66 v404) S32x7168.size (k0_off66_inb v404 k0_hw66)).PackedRows (EltTy.packing .bf16) := fun v404 k0_hw66 => k0_hw66.2 (k0_off66_inb v404 k0_hw66)

def k0_off67 (v409 : BitVec 32) : Fin 2 → Nat :=
  let c32_i32_202 : BitVec 32 := 32#32
  let v410 : BitVec 32 := Scalar.muli v409 c32_i32_202
  let v411 : Index := Scalar.indexCast v410
  let c0_203 : Index := 0#32
  ![v411.toNat, 0]

def k0_chk67 (v409 : BitVec 32) : Prop :=
  (∀ a, (k0_off67 v409) a + S32x7168.size a ≤ S1536x7168.size a) ∧
  (∀ (hinb : ∀ a, (k0_off67 v409) a + S32x7168.size a ≤ S1536x7168.size a), (Rect.unit (s := S1536x7168) (k0_off67 v409) S32x7168.size hinb).PackedRows (EltTy.packing .bf16))
theorem k0_off67_inb : ∀ (v409 : BitVec 32) (k0_hw67 : k0_chk67 v409), ∀ a, (k0_off67 v409) a + S32x7168.size a ≤ S1536x7168.size a := fun v409 k0_hw67 => k0_hw67.1
theorem k0_off67_packedbf16 : ∀ (v409 : BitVec 32) (k0_hw67 : k0_chk67 v409), (Rect.unit (s := S1536x7168) (k0_off67 v409) S32x7168.size (k0_off67_inb v409 k0_hw67)).PackedRows (EltTy.packing .bf16) := fun v409 k0_hw67 => k0_hw67.2 (k0_off67_inb v409 k0_hw67)

def k0_off68 (v414 : BitVec 32) : Fin 2 → Nat :=
  let c32_i32_205 : BitVec 32 := 32#32
  let v415 : BitVec 32 := Scalar.muli v414 c32_i32_205
  let v416 : Index := Scalar.indexCast v415
  let c0_206 : Index := 0#32
  ![v416.toNat, 0]

def k0_chk68 (v414 : BitVec 32) : Prop :=
  (∀ a, (k0_off68 v414) a + S32x7168.size a ≤ S1536x7168.size a) ∧
  (∀ (hinb : ∀ a, (k0_off68 v414) a + S32x7168.size a ≤ S1536x7168.size a), (Rect.unit (s := S1536x7168) (k0_off68 v414) S32x7168.size hinb).PackedRows (EltTy.packing .bf16))
theorem k0_off68_inb : ∀ (v414 : BitVec 32) (k0_hw68 : k0_chk68 v414), ∀ a, (k0_off68 v414) a + S32x7168.size a ≤ S1536x7168.size a := fun v414 k0_hw68 => k0_hw68.1
theorem k0_off68_packedbf16 : ∀ (v414 : BitVec 32) (k0_hw68 : k0_chk68 v414), (Rect.unit (s := S1536x7168) (k0_off68 v414) S32x7168.size (k0_off68_inb v414 k0_hw68)).PackedRows (EltTy.packing .bf16) := fun v414 k0_hw68 => k0_hw68.2 (k0_off68_inb v414 k0_hw68)

def k0_off69 (v419 : BitVec 32) : Fin 2 → Nat :=
  let c32_i32_208 : BitVec 32 := 32#32
  let v420 : BitVec 32 := Scalar.muli v419 c32_i32_208
  let v421 : Index := Scalar.indexCast v420
  let c0_209 : Index := 0#32
  ![v421.toNat, 0]

def k0_chk69 (v419 : BitVec 32) : Prop :=
  (∀ a, (k0_off69 v419) a + S32x7168.size a ≤ S1536x7168.size a) ∧
  (∀ (hinb : ∀ a, (k0_off69 v419) a + S32x7168.size a ≤ S1536x7168.size a), (Rect.unit (s := S1536x7168) (k0_off69 v419) S32x7168.size hinb).PackedRows (EltTy.packing .bf16))
theorem k0_off69_inb : ∀ (v419 : BitVec 32) (k0_hw69 : k0_chk69 v419), ∀ a, (k0_off69 v419) a + S32x7168.size a ≤ S1536x7168.size a := fun v419 k0_hw69 => k0_hw69.1
theorem k0_off69_packedbf16 : ∀ (v419 : BitVec 32) (k0_hw69 : k0_chk69 v419), (Rect.unit (s := S1536x7168) (k0_off69 v419) S32x7168.size (k0_off69_inb v419 k0_hw69)).PackedRows (EltTy.packing .bf16) := fun v419 k0_hw69 => k0_hw69.2 (k0_off69_inb v419 k0_hw69)

def k0_off70 (v424 : BitVec 32) : Fin 2 → Nat :=
  let c32_i32_211 : BitVec 32 := 32#32
  let v425 : BitVec 32 := Scalar.muli v424 c32_i32_211
  let v426 : Index := Scalar.indexCast v425
  let c0_212 : Index := 0#32
  ![v426.toNat, 0]

def k0_chk70 (v424 : BitVec 32) : Prop :=
  (∀ a, (k0_off70 v424) a + S32x7168.size a ≤ S1536x7168.size a) ∧
  (∀ (hinb : ∀ a, (k0_off70 v424) a + S32x7168.size a ≤ S1536x7168.size a), (Rect.unit (s := S1536x7168) (k0_off70 v424) S32x7168.size hinb).PackedRows (EltTy.packing .bf16))
theorem k0_off70_inb : ∀ (v424 : BitVec 32) (k0_hw70 : k0_chk70 v424), ∀ a, (k0_off70 v424) a + S32x7168.size a ≤ S1536x7168.size a := fun v424 k0_hw70 => k0_hw70.1
theorem k0_off70_packedbf16 : ∀ (v424 : BitVec 32) (k0_hw70 : k0_chk70 v424), (Rect.unit (s := S1536x7168) (k0_off70 v424) S32x7168.size (k0_off70_inb v424 k0_hw70)).PackedRows (EltTy.packing .bf16) := fun v424 k0_hw70 => k0_hw70.2 (k0_off70_inb v424 k0_hw70)

def k0_off71 (v429 : BitVec 32) : Fin 2 → Nat :=
  let c32_i32_214 : BitVec 32 := 32#32
  let v430 : BitVec 32 := Scalar.muli v429 c32_i32_214
  let v431 : Index := Scalar.indexCast v430
  let c0_215 : Index := 0#32
  ![v431.toNat, 0]

def k0_chk71 (v429 : BitVec 32) : Prop :=
  (∀ a, (k0_off71 v429) a + S32x7168.size a ≤ S1536x7168.size a) ∧
  (∀ (hinb : ∀ a, (k0_off71 v429) a + S32x7168.size a ≤ S1536x7168.size a), (Rect.unit (s := S1536x7168) (k0_off71 v429) S32x7168.size hinb).PackedRows (EltTy.packing .bf16))
theorem k0_off71_inb : ∀ (v429 : BitVec 32) (k0_hw71 : k0_chk71 v429), ∀ a, (k0_off71 v429) a + S32x7168.size a ≤ S1536x7168.size a := fun v429 k0_hw71 => k0_hw71.1
theorem k0_off71_packedbf16 : ∀ (v429 : BitVec 32) (k0_hw71 : k0_chk71 v429), (Rect.unit (s := S1536x7168) (k0_off71 v429) S32x7168.size (k0_off71_inb v429 k0_hw71)).PackedRows (EltTy.packing .bf16) := fun v429 k0_hw71 => k0_hw71.2 (k0_off71_inb v429 k0_hw71)

def k0_off72 (v434 : BitVec 32) : Fin 2 → Nat :=
  let c32_i32_217 : BitVec 32 := 32#32
  let v435 : BitVec 32 := Scalar.muli v434 c32_i32_217
  let v436 : Index := Scalar.indexCast v435
  let c0_218 : Index := 0#32
  ![v436.toNat, 0]

def k0_chk72 (v434 : BitVec 32) : Prop :=
  (∀ a, (k0_off72 v434) a + S32x7168.size a ≤ S1536x7168.size a) ∧
  (∀ (hinb : ∀ a, (k0_off72 v434) a + S32x7168.size a ≤ S1536x7168.size a), (Rect.unit (s := S1536x7168) (k0_off72 v434) S32x7168.size hinb).PackedRows (EltTy.packing .bf16))
theorem k0_off72_inb : ∀ (v434 : BitVec 32) (k0_hw72 : k0_chk72 v434), ∀ a, (k0_off72 v434) a + S32x7168.size a ≤ S1536x7168.size a := fun v434 k0_hw72 => k0_hw72.1
theorem k0_off72_packedbf16 : ∀ (v434 : BitVec 32) (k0_hw72 : k0_chk72 v434), (Rect.unit (s := S1536x7168) (k0_off72 v434) S32x7168.size (k0_off72_inb v434 k0_hw72)).PackedRows (EltTy.packing .bf16) := fun v434 k0_hw72 => k0_hw72.2 (k0_off72_inb v434 k0_hw72)

def k0_off73 (v439 : BitVec 32) : Fin 2 → Nat :=
  let c32_i32_220 : BitVec 32 := 32#32
  let v440 : BitVec 32 := Scalar.muli v439 c32_i32_220
  let v441 : Index := Scalar.indexCast v440
  let c0_221 : Index := 0#32
  ![v441.toNat, 0]

def k0_chk73 (v439 : BitVec 32) : Prop :=
  (∀ a, (k0_off73 v439) a + S32x7168.size a ≤ S1536x7168.size a) ∧
  (∀ (hinb : ∀ a, (k0_off73 v439) a + S32x7168.size a ≤ S1536x7168.size a), (Rect.unit (s := S1536x7168) (k0_off73 v439) S32x7168.size hinb).PackedRows (EltTy.packing .bf16))
theorem k0_off73_inb : ∀ (v439 : BitVec 32) (k0_hw73 : k0_chk73 v439), ∀ a, (k0_off73 v439) a + S32x7168.size a ≤ S1536x7168.size a := fun v439 k0_hw73 => k0_hw73.1
theorem k0_off73_packedbf16 : ∀ (v439 : BitVec 32) (k0_hw73 : k0_chk73 v439), (Rect.unit (s := S1536x7168) (k0_off73 v439) S32x7168.size (k0_off73_inb v439 k0_hw73)).PackedRows (EltTy.packing .bf16) := fun v439 k0_hw73 => k0_hw73.2 (k0_off73_inb v439 k0_hw73)

def k0_off74 (v444 : BitVec 32) : Fin 2 → Nat :=
  let c32_i32_223 : BitVec 32 := 32#32
  let v445 : BitVec 32 := Scalar.muli v444 c32_i32_223
  let v446 : Index := Scalar.indexCast v445
  let c0_224 : Index := 0#32
  ![v446.toNat, 0]

def k0_chk74 (v444 : BitVec 32) : Prop :=
  (∀ a, (k0_off74 v444) a + S32x7168.size a ≤ S1536x7168.size a) ∧
  (∀ (hinb : ∀ a, (k0_off74 v444) a + S32x7168.size a ≤ S1536x7168.size a), (Rect.unit (s := S1536x7168) (k0_off74 v444) S32x7168.size hinb).PackedRows (EltTy.packing .bf16))
theorem k0_off74_inb : ∀ (v444 : BitVec 32) (k0_hw74 : k0_chk74 v444), ∀ a, (k0_off74 v444) a + S32x7168.size a ≤ S1536x7168.size a := fun v444 k0_hw74 => k0_hw74.1
theorem k0_off74_packedbf16 : ∀ (v444 : BitVec 32) (k0_hw74 : k0_chk74 v444), (Rect.unit (s := S1536x7168) (k0_off74 v444) S32x7168.size (k0_off74_inb v444 k0_hw74)).PackedRows (EltTy.packing .bf16) := fun v444 k0_hw74 => k0_hw74.2 (k0_off74_inb v444 k0_hw74)

def k0_off75 (v449 : BitVec 32) : Fin 2 → Nat :=
  let c32_i32_226 : BitVec 32 := 32#32
  let v450 : BitVec 32 := Scalar.muli v449 c32_i32_226
  let v451 : Index := Scalar.indexCast v450
  let c0_227 : Index := 0#32
  ![v451.toNat, 0]

def k0_chk75 (v449 : BitVec 32) : Prop :=
  (∀ a, (k0_off75 v449) a + S32x7168.size a ≤ S1536x7168.size a) ∧
  (∀ (hinb : ∀ a, (k0_off75 v449) a + S32x7168.size a ≤ S1536x7168.size a), (Rect.unit (s := S1536x7168) (k0_off75 v449) S32x7168.size hinb).PackedRows (EltTy.packing .bf16))
theorem k0_off75_inb : ∀ (v449 : BitVec 32) (k0_hw75 : k0_chk75 v449), ∀ a, (k0_off75 v449) a + S32x7168.size a ≤ S1536x7168.size a := fun v449 k0_hw75 => k0_hw75.1
theorem k0_off75_packedbf16 : ∀ (v449 : BitVec 32) (k0_hw75 : k0_chk75 v449), (Rect.unit (s := S1536x7168) (k0_off75 v449) S32x7168.size (k0_off75_inb v449 k0_hw75)).PackedRows (EltTy.packing .bf16) := fun v449 k0_hw75 => k0_hw75.2 (k0_off75_inb v449 k0_hw75)

def k0_off76 (v454 : BitVec 32) : Fin 2 → Nat :=
  let c32_i32_229 : BitVec 32 := 32#32
  let v455 : BitVec 32 := Scalar.muli v454 c32_i32_229
  let v456 : Index := Scalar.indexCast v455
  let c0_230 : Index := 0#32
  ![v456.toNat, 0]

def k0_chk76 (v454 : BitVec 32) : Prop :=
  (∀ a, (k0_off76 v454) a + S32x7168.size a ≤ S1536x7168.size a) ∧
  (∀ (hinb : ∀ a, (k0_off76 v454) a + S32x7168.size a ≤ S1536x7168.size a), (Rect.unit (s := S1536x7168) (k0_off76 v454) S32x7168.size hinb).PackedRows (EltTy.packing .bf16))
theorem k0_off76_inb : ∀ (v454 : BitVec 32) (k0_hw76 : k0_chk76 v454), ∀ a, (k0_off76 v454) a + S32x7168.size a ≤ S1536x7168.size a := fun v454 k0_hw76 => k0_hw76.1
theorem k0_off76_packedbf16 : ∀ (v454 : BitVec 32) (k0_hw76 : k0_chk76 v454), (Rect.unit (s := S1536x7168) (k0_off76 v454) S32x7168.size (k0_off76_inb v454 k0_hw76)).PackedRows (EltTy.packing .bf16) := fun v454 k0_hw76 => k0_hw76.2 (k0_off76_inb v454 k0_hw76)

def k0_off77 (v459 : BitVec 32) : Fin 2 → Nat :=
  let c32_i32_232 : BitVec 32 := 32#32
  let v460 : BitVec 32 := Scalar.muli v459 c32_i32_232
  let v461 : Index := Scalar.indexCast v460
  let c0_233 : Index := 0#32
  ![v461.toNat, 0]

def k0_chk77 (v459 : BitVec 32) : Prop :=
  (∀ a, (k0_off77 v459) a + S32x7168.size a ≤ S1536x7168.size a) ∧
  (∀ (hinb : ∀ a, (k0_off77 v459) a + S32x7168.size a ≤ S1536x7168.size a), (Rect.unit (s := S1536x7168) (k0_off77 v459) S32x7168.size hinb).PackedRows (EltTy.packing .bf16))
theorem k0_off77_inb : ∀ (v459 : BitVec 32) (k0_hw77 : k0_chk77 v459), ∀ a, (k0_off77 v459) a + S32x7168.size a ≤ S1536x7168.size a := fun v459 k0_hw77 => k0_hw77.1
theorem k0_off77_packedbf16 : ∀ (v459 : BitVec 32) (k0_hw77 : k0_chk77 v459), (Rect.unit (s := S1536x7168) (k0_off77 v459) S32x7168.size (k0_off77_inb v459 k0_hw77)).PackedRows (EltTy.packing .bf16) := fun v459 k0_hw77 => k0_hw77.2 (k0_off77_inb v459 k0_hw77)

def k0_off78 (v464 : BitVec 32) : Fin 2 → Nat :=
  let c32_i32_235 : BitVec 32 := 32#32
  let v465 : BitVec 32 := Scalar.muli v464 c32_i32_235
  let v466 : Index := Scalar.indexCast v465
  let c0_236 : Index := 0#32
  ![v466.toNat, 0]

def k0_chk78 (v464 : BitVec 32) : Prop :=
  (∀ a, (k0_off78 v464) a + S32x7168.size a ≤ S1536x7168.size a) ∧
  (∀ (hinb : ∀ a, (k0_off78 v464) a + S32x7168.size a ≤ S1536x7168.size a), (Rect.unit (s := S1536x7168) (k0_off78 v464) S32x7168.size hinb).PackedRows (EltTy.packing .bf16))
theorem k0_off78_inb : ∀ (v464 : BitVec 32) (k0_hw78 : k0_chk78 v464), ∀ a, (k0_off78 v464) a + S32x7168.size a ≤ S1536x7168.size a := fun v464 k0_hw78 => k0_hw78.1
theorem k0_off78_packedbf16 : ∀ (v464 : BitVec 32) (k0_hw78 : k0_chk78 v464), (Rect.unit (s := S1536x7168) (k0_off78 v464) S32x7168.size (k0_off78_inb v464 k0_hw78)).PackedRows (EltTy.packing .bf16) := fun v464 k0_hw78 => k0_hw78.2 (k0_off78_inb v464 k0_hw78)

def k0_off79 (v469 : BitVec 32) : Fin 2 → Nat :=
  let c32_i32_238 : BitVec 32 := 32#32
  let v470 : BitVec 32 := Scalar.muli v469 c32_i32_238
  let v471 : Index := Scalar.indexCast v470
  let c0_239 : Index := 0#32
  ![v471.toNat, 0]

def k0_chk79 (v469 : BitVec 32) : Prop :=
  (∀ a, (k0_off79 v469) a + S32x7168.size a ≤ S1536x7168.size a) ∧
  (∀ (hinb : ∀ a, (k0_off79 v469) a + S32x7168.size a ≤ S1536x7168.size a), (Rect.unit (s := S1536x7168) (k0_off79 v469) S32x7168.size hinb).PackedRows (EltTy.packing .bf16))
theorem k0_off79_inb : ∀ (v469 : BitVec 32) (k0_hw79 : k0_chk79 v469), ∀ a, (k0_off79 v469) a + S32x7168.size a ≤ S1536x7168.size a := fun v469 k0_hw79 => k0_hw79.1
theorem k0_off79_packedbf16 : ∀ (v469 : BitVec 32) (k0_hw79 : k0_chk79 v469), (Rect.unit (s := S1536x7168) (k0_off79 v469) S32x7168.size (k0_off79_inb v469 k0_hw79)).PackedRows (EltTy.packing .bf16) := fun v469 k0_hw79 => k0_hw79.2 (k0_off79_inb v469 k0_hw79)

def k0_off80 (v474 : BitVec 32) : Fin 2 → Nat :=
  let c32_i32_241 : BitVec 32 := 32#32
  let v475 : BitVec 32 := Scalar.muli v474 c32_i32_241
  let v476 : Index := Scalar.indexCast v475
  let c0_242 : Index := 0#32
  ![v476.toNat, 0]

def k0_chk80 (v474 : BitVec 32) : Prop :=
  (∀ a, (k0_off80 v474) a + S32x7168.size a ≤ S1536x7168.size a) ∧
  (∀ (hinb : ∀ a, (k0_off80 v474) a + S32x7168.size a ≤ S1536x7168.size a), (Rect.unit (s := S1536x7168) (k0_off80 v474) S32x7168.size hinb).PackedRows (EltTy.packing .bf16))
theorem k0_off80_inb : ∀ (v474 : BitVec 32) (k0_hw80 : k0_chk80 v474), ∀ a, (k0_off80 v474) a + S32x7168.size a ≤ S1536x7168.size a := fun v474 k0_hw80 => k0_hw80.1
theorem k0_off80_packedbf16 : ∀ (v474 : BitVec 32) (k0_hw80 : k0_chk80 v474), (Rect.unit (s := S1536x7168) (k0_off80 v474) S32x7168.size (k0_off80_inb v474 k0_hw80)).PackedRows (EltTy.packing .bf16) := fun v474 k0_hw80 => k0_hw80.2 (k0_off80_inb v474 k0_hw80)

def k0_off81 (v479 : BitVec 32) : Fin 2 → Nat :=
  let c32_i32_244 : BitVec 32 := 32#32
  let v480 : BitVec 32 := Scalar.muli v479 c32_i32_244
  let v481 : Index := Scalar.indexCast v480
  let c0_245 : Index := 0#32
  ![v481.toNat, 0]

def k0_chk81 (v479 : BitVec 32) : Prop :=
  (∀ a, (k0_off81 v479) a + S32x7168.size a ≤ S1536x7168.size a) ∧
  (∀ (hinb : ∀ a, (k0_off81 v479) a + S32x7168.size a ≤ S1536x7168.size a), (Rect.unit (s := S1536x7168) (k0_off81 v479) S32x7168.size hinb).PackedRows (EltTy.packing .bf16))
theorem k0_off81_inb : ∀ (v479 : BitVec 32) (k0_hw81 : k0_chk81 v479), ∀ a, (k0_off81 v479) a + S32x7168.size a ≤ S1536x7168.size a := fun v479 k0_hw81 => k0_hw81.1
theorem k0_off81_packedbf16 : ∀ (v479 : BitVec 32) (k0_hw81 : k0_chk81 v479), (Rect.unit (s := S1536x7168) (k0_off81 v479) S32x7168.size (k0_off81_inb v479 k0_hw81)).PackedRows (EltTy.packing .bf16) := fun v479 k0_hw81 => k0_hw81.2 (k0_off81_inb v479 k0_hw81)

def k0_off82 (v484 : BitVec 32) : Fin 2 → Nat :=
  let c32_i32_247 : BitVec 32 := 32#32
  let v485 : BitVec 32 := Scalar.muli v484 c32_i32_247
  let v486 : Index := Scalar.indexCast v485
  let c0_248 : Index := 0#32
  ![v486.toNat, 0]

def k0_chk82 (v484 : BitVec 32) : Prop :=
  (∀ a, (k0_off82 v484) a + S32x7168.size a ≤ S1536x7168.size a) ∧
  (∀ (hinb : ∀ a, (k0_off82 v484) a + S32x7168.size a ≤ S1536x7168.size a), (Rect.unit (s := S1536x7168) (k0_off82 v484) S32x7168.size hinb).PackedRows (EltTy.packing .bf16))
theorem k0_off82_inb : ∀ (v484 : BitVec 32) (k0_hw82 : k0_chk82 v484), ∀ a, (k0_off82 v484) a + S32x7168.size a ≤ S1536x7168.size a := fun v484 k0_hw82 => k0_hw82.1
theorem k0_off82_packedbf16 : ∀ (v484 : BitVec 32) (k0_hw82 : k0_chk82 v484), (Rect.unit (s := S1536x7168) (k0_off82 v484) S32x7168.size (k0_off82_inb v484 k0_hw82)).PackedRows (EltTy.packing .bf16) := fun v484 k0_hw82 => k0_hw82.2 (k0_off82_inb v484 k0_hw82)

def k0_off83 (v489 : BitVec 32) : Fin 2 → Nat :=
  let c32_i32_250 : BitVec 32 := 32#32
  let v490 : BitVec 32 := Scalar.muli v489 c32_i32_250
  let v491 : Index := Scalar.indexCast v490
  let c0_251 : Index := 0#32
  ![v491.toNat, 0]

def k0_chk83 (v489 : BitVec 32) : Prop :=
  (∀ a, (k0_off83 v489) a + S32x7168.size a ≤ S1536x7168.size a) ∧
  (∀ (hinb : ∀ a, (k0_off83 v489) a + S32x7168.size a ≤ S1536x7168.size a), (Rect.unit (s := S1536x7168) (k0_off83 v489) S32x7168.size hinb).PackedRows (EltTy.packing .bf16))
theorem k0_off83_inb : ∀ (v489 : BitVec 32) (k0_hw83 : k0_chk83 v489), ∀ a, (k0_off83 v489) a + S32x7168.size a ≤ S1536x7168.size a := fun v489 k0_hw83 => k0_hw83.1
theorem k0_off83_packedbf16 : ∀ (v489 : BitVec 32) (k0_hw83 : k0_chk83 v489), (Rect.unit (s := S1536x7168) (k0_off83 v489) S32x7168.size (k0_off83_inb v489 k0_hw83)).PackedRows (EltTy.packing .bf16) := fun v489 k0_hw83 => k0_hw83.2 (k0_off83_inb v489 k0_hw83)

def k0_off84 (v494 : BitVec 32) : Fin 2 → Nat :=
  let c32_i32_253 : BitVec 32 := 32#32
  let v495 : BitVec 32 := Scalar.muli v494 c32_i32_253
  let v496 : Index := Scalar.indexCast v495
  let c0_254 : Index := 0#32
  ![v496.toNat, 0]

def k0_chk84 (v494 : BitVec 32) : Prop :=
  (∀ a, (k0_off84 v494) a + S32x7168.size a ≤ S1536x7168.size a) ∧
  (∀ (hinb : ∀ a, (k0_off84 v494) a + S32x7168.size a ≤ S1536x7168.size a), (Rect.unit (s := S1536x7168) (k0_off84 v494) S32x7168.size hinb).PackedRows (EltTy.packing .bf16))
theorem k0_off84_inb : ∀ (v494 : BitVec 32) (k0_hw84 : k0_chk84 v494), ∀ a, (k0_off84 v494) a + S32x7168.size a ≤ S1536x7168.size a := fun v494 k0_hw84 => k0_hw84.1
theorem k0_off84_packedbf16 : ∀ (v494 : BitVec 32) (k0_hw84 : k0_chk84 v494), (Rect.unit (s := S1536x7168) (k0_off84 v494) S32x7168.size (k0_off84_inb v494 k0_hw84)).PackedRows (EltTy.packing .bf16) := fun v494 k0_hw84 => k0_hw84.2 (k0_off84_inb v494 k0_hw84)

def k0_off85 (v499 : BitVec 32) : Fin 2 → Nat :=
  let c32_i32_256 : BitVec 32 := 32#32
  let v500 : BitVec 32 := Scalar.muli v499 c32_i32_256
  let v501 : Index := Scalar.indexCast v500
  let c0_257 : Index := 0#32
  ![v501.toNat, 0]

def k0_chk85 (v499 : BitVec 32) : Prop :=
  (∀ a, (k0_off85 v499) a + S32x7168.size a ≤ S1536x7168.size a) ∧
  (∀ (hinb : ∀ a, (k0_off85 v499) a + S32x7168.size a ≤ S1536x7168.size a), (Rect.unit (s := S1536x7168) (k0_off85 v499) S32x7168.size hinb).PackedRows (EltTy.packing .bf16))
theorem k0_off85_inb : ∀ (v499 : BitVec 32) (k0_hw85 : k0_chk85 v499), ∀ a, (k0_off85 v499) a + S32x7168.size a ≤ S1536x7168.size a := fun v499 k0_hw85 => k0_hw85.1
theorem k0_off85_packedbf16 : ∀ (v499 : BitVec 32) (k0_hw85 : k0_chk85 v499), (Rect.unit (s := S1536x7168) (k0_off85 v499) S32x7168.size (k0_off85_inb v499 k0_hw85)).PackedRows (EltTy.packing .bf16) := fun v499 k0_hw85 => k0_hw85.2 (k0_off85_inb v499 k0_hw85)

def k0_off86 (v504 : BitVec 32) : Fin 2 → Nat :=
  let c32_i32_259 : BitVec 32 := 32#32
  let v505 : BitVec 32 := Scalar.muli v504 c32_i32_259
  let v506 : Index := Scalar.indexCast v505
  let c0_260 : Index := 0#32
  ![v506.toNat, 0]

def k0_chk86 (v504 : BitVec 32) : Prop :=
  (∀ a, (k0_off86 v504) a + S32x7168.size a ≤ S1536x7168.size a) ∧
  (∀ (hinb : ∀ a, (k0_off86 v504) a + S32x7168.size a ≤ S1536x7168.size a), (Rect.unit (s := S1536x7168) (k0_off86 v504) S32x7168.size hinb).PackedRows (EltTy.packing .bf16))
theorem k0_off86_inb : ∀ (v504 : BitVec 32) (k0_hw86 : k0_chk86 v504), ∀ a, (k0_off86 v504) a + S32x7168.size a ≤ S1536x7168.size a := fun v504 k0_hw86 => k0_hw86.1
theorem k0_off86_packedbf16 : ∀ (v504 : BitVec 32) (k0_hw86 : k0_chk86 v504), (Rect.unit (s := S1536x7168) (k0_off86 v504) S32x7168.size (k0_off86_inb v504 k0_hw86)).PackedRows (EltTy.packing .bf16) := fun v504 k0_hw86 => k0_hw86.2 (k0_off86_inb v504 k0_hw86)

def k0_off87 (v509 : BitVec 32) : Fin 2 → Nat :=
  let c32_i32_262 : BitVec 32 := 32#32
  let v510 : BitVec 32 := Scalar.muli v509 c32_i32_262
  let v511 : Index := Scalar.indexCast v510
  let c0_263 : Index := 0#32
  ![v511.toNat, 0]

def k0_chk87 (v509 : BitVec 32) : Prop :=
  (∀ a, (k0_off87 v509) a + S32x7168.size a ≤ S1536x7168.size a) ∧
  (∀ (hinb : ∀ a, (k0_off87 v509) a + S32x7168.size a ≤ S1536x7168.size a), (Rect.unit (s := S1536x7168) (k0_off87 v509) S32x7168.size hinb).PackedRows (EltTy.packing .bf16))
theorem k0_off87_inb : ∀ (v509 : BitVec 32) (k0_hw87 : k0_chk87 v509), ∀ a, (k0_off87 v509) a + S32x7168.size a ≤ S1536x7168.size a := fun v509 k0_hw87 => k0_hw87.1
theorem k0_off87_packedbf16 : ∀ (v509 : BitVec 32) (k0_hw87 : k0_chk87 v509), (Rect.unit (s := S1536x7168) (k0_off87 v509) S32x7168.size (k0_off87_inb v509 k0_hw87)).PackedRows (EltTy.packing .bf16) := fun v509 k0_hw87 => k0_hw87.2 (k0_off87_inb v509 k0_hw87)

def k0_off88 (v514 : BitVec 32) : Fin 2 → Nat :=
  let c32_i32_265 : BitVec 32 := 32#32
  let v515 : BitVec 32 := Scalar.muli v514 c32_i32_265
  let v516 : Index := Scalar.indexCast v515
  let c0_266 : Index := 0#32
  ![v516.toNat, 0]

def k0_chk88 (v514 : BitVec 32) : Prop :=
  (∀ a, (k0_off88 v514) a + S32x7168.size a ≤ S1536x7168.size a) ∧
  (∀ (hinb : ∀ a, (k0_off88 v514) a + S32x7168.size a ≤ S1536x7168.size a), (Rect.unit (s := S1536x7168) (k0_off88 v514) S32x7168.size hinb).PackedRows (EltTy.packing .bf16))
theorem k0_off88_inb : ∀ (v514 : BitVec 32) (k0_hw88 : k0_chk88 v514), ∀ a, (k0_off88 v514) a + S32x7168.size a ≤ S1536x7168.size a := fun v514 k0_hw88 => k0_hw88.1
theorem k0_off88_packedbf16 : ∀ (v514 : BitVec 32) (k0_hw88 : k0_chk88 v514), (Rect.unit (s := S1536x7168) (k0_off88 v514) S32x7168.size (k0_off88_inb v514 k0_hw88)).PackedRows (EltTy.packing .bf16) := fun v514 k0_hw88 => k0_hw88.2 (k0_off88_inb v514 k0_hw88)

def k0_off89 (v519 : BitVec 32) : Fin 2 → Nat :=
  let c32_i32_268 : BitVec 32 := 32#32
  let v520 : BitVec 32 := Scalar.muli v519 c32_i32_268
  let v521 : Index := Scalar.indexCast v520
  let c0_269 : Index := 0#32
  ![v521.toNat, 0]

def k0_chk89 (v519 : BitVec 32) : Prop :=
  (∀ a, (k0_off89 v519) a + S32x7168.size a ≤ S1536x7168.size a) ∧
  (∀ (hinb : ∀ a, (k0_off89 v519) a + S32x7168.size a ≤ S1536x7168.size a), (Rect.unit (s := S1536x7168) (k0_off89 v519) S32x7168.size hinb).PackedRows (EltTy.packing .bf16))
theorem k0_off89_inb : ∀ (v519 : BitVec 32) (k0_hw89 : k0_chk89 v519), ∀ a, (k0_off89 v519) a + S32x7168.size a ≤ S1536x7168.size a := fun v519 k0_hw89 => k0_hw89.1
theorem k0_off89_packedbf16 : ∀ (v519 : BitVec 32) (k0_hw89 : k0_chk89 v519), (Rect.unit (s := S1536x7168) (k0_off89 v519) S32x7168.size (k0_off89_inb v519 k0_hw89)).PackedRows (EltTy.packing .bf16) := fun v519 k0_hw89 => k0_hw89.2 (k0_off89_inb v519 k0_hw89)

def k0_off90 (v524 : BitVec 32) : Fin 2 → Nat :=
  let c32_i32_271 : BitVec 32 := 32#32
  let v525 : BitVec 32 := Scalar.muli v524 c32_i32_271
  let v526 : Index := Scalar.indexCast v525
  let c0_272 : Index := 0#32
  ![v526.toNat, 0]

def k0_chk90 (v524 : BitVec 32) : Prop :=
  (∀ a, (k0_off90 v524) a + S32x7168.size a ≤ S1536x7168.size a) ∧
  (∀ (hinb : ∀ a, (k0_off90 v524) a + S32x7168.size a ≤ S1536x7168.size a), (Rect.unit (s := S1536x7168) (k0_off90 v524) S32x7168.size hinb).PackedRows (EltTy.packing .bf16))
theorem k0_off90_inb : ∀ (v524 : BitVec 32) (k0_hw90 : k0_chk90 v524), ∀ a, (k0_off90 v524) a + S32x7168.size a ≤ S1536x7168.size a := fun v524 k0_hw90 => k0_hw90.1
theorem k0_off90_packedbf16 : ∀ (v524 : BitVec 32) (k0_hw90 : k0_chk90 v524), (Rect.unit (s := S1536x7168) (k0_off90 v524) S32x7168.size (k0_off90_inb v524 k0_hw90)).PackedRows (EltTy.packing .bf16) := fun v524 k0_hw90 => k0_hw90.2 (k0_off90_inb v524 k0_hw90)

def k0_off91 (v529 : BitVec 32) : Fin 2 → Nat :=
  let c32_i32_274 : BitVec 32 := 32#32
  let v530 : BitVec 32 := Scalar.muli v529 c32_i32_274
  let v531 : Index := Scalar.indexCast v530
  let c0_275 : Index := 0#32
  ![v531.toNat, 0]

def k0_chk91 (v529 : BitVec 32) : Prop :=
  (∀ a, (k0_off91 v529) a + S32x7168.size a ≤ S1536x7168.size a) ∧
  (∀ (hinb : ∀ a, (k0_off91 v529) a + S32x7168.size a ≤ S1536x7168.size a), (Rect.unit (s := S1536x7168) (k0_off91 v529) S32x7168.size hinb).PackedRows (EltTy.packing .bf16))
theorem k0_off91_inb : ∀ (v529 : BitVec 32) (k0_hw91 : k0_chk91 v529), ∀ a, (k0_off91 v529) a + S32x7168.size a ≤ S1536x7168.size a := fun v529 k0_hw91 => k0_hw91.1
theorem k0_off91_packedbf16 : ∀ (v529 : BitVec 32) (k0_hw91 : k0_chk91 v529), (Rect.unit (s := S1536x7168) (k0_off91 v529) S32x7168.size (k0_off91_inb v529 k0_hw91)).PackedRows (EltTy.packing .bf16) := fun v529 k0_hw91 => k0_hw91.2 (k0_off91_inb v529 k0_hw91)

def k0_off92 (v534 : BitVec 32) : Fin 2 → Nat :=
  let c32_i32_277 : BitVec 32 := 32#32
  let v535 : BitVec 32 := Scalar.muli v534 c32_i32_277
  let v536 : Index := Scalar.indexCast v535
  let c0_278 : Index := 0#32
  ![v536.toNat, 0]

def k0_chk92 (v534 : BitVec 32) : Prop :=
  (∀ a, (k0_off92 v534) a + S32x7168.size a ≤ S1536x7168.size a) ∧
  (∀ (hinb : ∀ a, (k0_off92 v534) a + S32x7168.size a ≤ S1536x7168.size a), (Rect.unit (s := S1536x7168) (k0_off92 v534) S32x7168.size hinb).PackedRows (EltTy.packing .bf16))
theorem k0_off92_inb : ∀ (v534 : BitVec 32) (k0_hw92 : k0_chk92 v534), ∀ a, (k0_off92 v534) a + S32x7168.size a ≤ S1536x7168.size a := fun v534 k0_hw92 => k0_hw92.1
theorem k0_off92_packedbf16 : ∀ (v534 : BitVec 32) (k0_hw92 : k0_chk92 v534), (Rect.unit (s := S1536x7168) (k0_off92 v534) S32x7168.size (k0_off92_inb v534 k0_hw92)).PackedRows (EltTy.packing .bf16) := fun v534 k0_hw92 => k0_hw92.2 (k0_off92_inb v534 k0_hw92)

def k0_off93 (v539 : BitVec 32) : Fin 2 → Nat :=
  let c32_i32_280 : BitVec 32 := 32#32
  let v540 : BitVec 32 := Scalar.muli v539 c32_i32_280
  let v541 : Index := Scalar.indexCast v540
  let c0_281 : Index := 0#32
  ![v541.toNat, 0]

def k0_chk93 (v539 : BitVec 32) : Prop :=
  (∀ a, (k0_off93 v539) a + S32x7168.size a ≤ S1536x7168.size a) ∧
  (∀ (hinb : ∀ a, (k0_off93 v539) a + S32x7168.size a ≤ S1536x7168.size a), (Rect.unit (s := S1536x7168) (k0_off93 v539) S32x7168.size hinb).PackedRows (EltTy.packing .bf16))
theorem k0_off93_inb : ∀ (v539 : BitVec 32) (k0_hw93 : k0_chk93 v539), ∀ a, (k0_off93 v539) a + S32x7168.size a ≤ S1536x7168.size a := fun v539 k0_hw93 => k0_hw93.1
theorem k0_off93_packedbf16 : ∀ (v539 : BitVec 32) (k0_hw93 : k0_chk93 v539), (Rect.unit (s := S1536x7168) (k0_off93 v539) S32x7168.size (k0_off93_inb v539 k0_hw93)).PackedRows (EltTy.packing .bf16) := fun v539 k0_hw93 => k0_hw93.2 (k0_off93_inb v539 k0_hw93)

def k0_off94 (v544 : BitVec 32) : Fin 2 → Nat :=
  let c32_i32_283 : BitVec 32 := 32#32
  let v545 : BitVec 32 := Scalar.muli v544 c32_i32_283
  let v546 : Index := Scalar.indexCast v545
  let c0_284 : Index := 0#32
  ![v546.toNat, 0]

def k0_chk94 (v544 : BitVec 32) : Prop :=
  (∀ a, (k0_off94 v544) a + S32x7168.size a ≤ S1536x7168.size a) ∧
  (∀ (hinb : ∀ a, (k0_off94 v544) a + S32x7168.size a ≤ S1536x7168.size a), (Rect.unit (s := S1536x7168) (k0_off94 v544) S32x7168.size hinb).PackedRows (EltTy.packing .bf16))
theorem k0_off94_inb : ∀ (v544 : BitVec 32) (k0_hw94 : k0_chk94 v544), ∀ a, (k0_off94 v544) a + S32x7168.size a ≤ S1536x7168.size a := fun v544 k0_hw94 => k0_hw94.1
theorem k0_off94_packedbf16 : ∀ (v544 : BitVec 32) (k0_hw94 : k0_chk94 v544), (Rect.unit (s := S1536x7168) (k0_off94 v544) S32x7168.size (k0_off94_inb v544 k0_hw94)).PackedRows (EltTy.packing .bf16) := fun v544 k0_hw94 => k0_hw94.2 (k0_off94_inb v544 k0_hw94)

def k0_off95 (v549 : BitVec 32) : Fin 2 → Nat :=
  let c32_i32_286 : BitVec 32 := 32#32
  let v550 : BitVec 32 := Scalar.muli v549 c32_i32_286
  let v551 : Index := Scalar.indexCast v550
  let c0_287 : Index := 0#32
  ![v551.toNat, 0]

def k0_chk95 (v549 : BitVec 32) : Prop :=
  (∀ a, (k0_off95 v549) a + S32x7168.size a ≤ S1536x7168.size a) ∧
  (∀ (hinb : ∀ a, (k0_off95 v549) a + S32x7168.size a ≤ S1536x7168.size a), (Rect.unit (s := S1536x7168) (k0_off95 v549) S32x7168.size hinb).PackedRows (EltTy.packing .bf16))
theorem k0_off95_inb : ∀ (v549 : BitVec 32) (k0_hw95 : k0_chk95 v549), ∀ a, (k0_off95 v549) a + S32x7168.size a ≤ S1536x7168.size a := fun v549 k0_hw95 => k0_hw95.1
theorem k0_off95_packedbf16 : ∀ (v549 : BitVec 32) (k0_hw95 : k0_chk95 v549), (Rect.unit (s := S1536x7168) (k0_off95 v549) S32x7168.size (k0_off95_inb v549 k0_hw95)).PackedRows (EltTy.packing .bf16) := fun v549 k0_hw95 => k0_hw95.2 (k0_off95_inb v549 k0_hw95)

def k0_off96 (v554 : BitVec 32) : Fin 2 → Nat :=
  let c32_i32_289 : BitVec 32 := 32#32
  let v555 : BitVec 32 := Scalar.muli v554 c32_i32_289
  let v556 : Index := Scalar.indexCast v555
  let c0_290 : Index := 0#32
  ![v556.toNat, 0]

def k0_chk96 (v554 : BitVec 32) : Prop :=
  (∀ a, (k0_off96 v554) a + S32x7168.size a ≤ S1536x7168.size a) ∧
  (∀ (hinb : ∀ a, (k0_off96 v554) a + S32x7168.size a ≤ S1536x7168.size a), (Rect.unit (s := S1536x7168) (k0_off96 v554) S32x7168.size hinb).PackedRows (EltTy.packing .bf16))
theorem k0_off96_inb : ∀ (v554 : BitVec 32) (k0_hw96 : k0_chk96 v554), ∀ a, (k0_off96 v554) a + S32x7168.size a ≤ S1536x7168.size a := fun v554 k0_hw96 => k0_hw96.1
theorem k0_off96_packedbf16 : ∀ (v554 : BitVec 32) (k0_hw96 : k0_chk96 v554), (Rect.unit (s := S1536x7168) (k0_off96 v554) S32x7168.size (k0_off96_inb v554 k0_hw96)).PackedRows (EltTy.packing .bf16) := fun v554 k0_hw96 => k0_hw96.2 (k0_off96_inb v554 k0_hw96)

abbrev stage0_0 : Fin 1 → Memref sig .tc .smem S48 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x7168x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x7168 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x7168 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x7168 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S928x7168 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S928x7168 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S928x7168 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1536x7168 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1536x7168 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.Dg2FrameBits.lean ====
/-
  Hand-written. The frame of the first gradient product in the program itself. The row maxima are read before they are first stored (at the
  first point the value read is not used), so what each point leaves is stated by a recursion over the points that starts
  from anything.
-/
module

public import proofs.«01_k».proof.Proof.Gen.Dg2.Frame
public import proofs.«01_k».proof.Proof.Gen.Dg2.Skeleton
public import Idealize.ShloMosaic.Lib.Claim
public import Idealize.ShloMosaic.Lib.Pipeline.ValueKit

@[expose] public section

set_option maxRecDepth 16384

noncomputable section

namespace Cert.Dg2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S928x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S928x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S928x512 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S928x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S928x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S928x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S928x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S928x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)

set_option maxHeartbeats 1000000 in
/-- What the body's stores leave in each output, as pieces, with the proof that the body runs to the continuation from
    whole buffers: the inputs at their contents, the row maxima at a given content, the other outputs at anything. -/
noncomputable def kernelRun0_A (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) :
    Σ' (L7 : List (View.Piece (Elt F) S928x512 .f32)) (L8 : List (View.Piece (Elt F) S928x128 .f32)), { L9 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0_dg2 i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_dg2_eq_skeleton]; unfold cc0_dg2_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

abbrev VO0_7 : View sig .tc .vmem S928x512 .f32 := (Memref.whole cc0_stg7_0 : Memref sig .tc .vmem S928x512 .f32).view

theorem cover0_A_7 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) (y : S928x512.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5 x6 x8).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5 x6 x8).1 S928x512.size (by sl_kernel_rfl) y

/-- What the run leaves in output 7's buffer: its pieces read back. -/
def out0_A_7 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) : Vec F S928x512 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 x0 x1 x2 x3 x4 x5 x6 x8).1)

theorem out0_A_7_eq (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) :
    out0_A_7 c i arg1 harg1 arg2 harg2 arg3 harg3 arg4 harg4 arg5 harg5 arg6 harg6 arg7 harg7 arg8 harg8 arg9 harg9 arg10 harg10 x0 x1 x2 x3 x4 x5 x6 x8 = k0_pay2 x0 x1 x2 x3 x4 := by
  funext y
  frame_out

abbrev VO0_8 : View sig .tc .vmem S928x128 .f32 := (Memref.whole cc0_stg8_0 : Memref sig .tc .vmem S928x128 .f32).view

theorem cover0_A_8 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) (y : S928x128.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5 x6 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5 x6 x8).2.1 S928x128.size (by sl_kernel_rfl) y

/-- What the run leaves in output 8's buffer: its pieces read back. -/
def out0_A_8 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) : Vec F S928x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 x0 x1 x2 x3 x4 x5 x6 x8).2.1)

theorem out0_A_8_eq (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) :
    out0_A_8 c i arg1 harg1 arg2 harg2 arg3 harg3 arg4 harg4 arg5 harg5 arg6 harg6 arg7 harg7 arg8 harg8 arg9 harg9 arg10 harg10 x0 x1 x2 x3 x4 x5 x6 x8 = k0_pay4 i x0 x1 x2 x3 x4 x5 x6 x8 := by
  funext y
  frame_out

abbrev VO0_9 : View sig .tc .vmem S1x512 .f32 := (Memref.whole cc0_stg9_0 : Memref sig .tc .vmem S1x512 .f32).view

theorem cover0_A_9 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) (y : S1x512.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5 x6 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5 x6 x8).2.2.1 S1x512.size (by sl_kernel_rfl) y

/-- What the run leaves in output 9's buffer: its pieces read back. -/
def out0_A_9 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) : Vec F S1x512 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 x0 x1 x2 x3 x4 x5 x6 x8).2.2.1)

theorem out0_A_9_eq (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) :
    out0_A_9 c i arg1 harg1 arg2 harg2 arg3 harg3 arg4 harg4 arg5 harg5 arg6 harg6 arg7 harg7 arg8 harg8 arg9 harg9 arg10 harg10 x0 x1 x2 x3 x4 x5 x6 x8 = k0_pay1 (k0_pay3 x0 x1 x2 x3 x4 x5 x6) := by
  funext y
  frame_out

/-- The row maxima after the body at position `n`. -/
def amaxAt (c : Dev nD) : (n : ℕ) → n < cfg0.N → Vec F S928x128 .f32
  | 0, hn => k0_pay4 (grid0.coords ⟨0, hn⟩) (X0_0 m c ⟨0, hn⟩) (iblk m c 1 ⟨0, hn⟩) (X0_2 m c ⟨0, hn⟩) (X0_3 m c ⟨0, hn⟩) (X0_4 m c ⟨0, hn⟩) (X0_5 m c ⟨0, hn⟩) (X0_6 m c ⟨0, hn⟩) (constant S928x128 .f32 0x00000000#32)
  | n + 1, hn => k0_pay4 (grid0.coords ⟨n + 1, hn⟩) (X0_0 m c ⟨n + 1, hn⟩) (iblk m c 1 ⟨n + 1, hn⟩) (X0_2 m c ⟨n + 1, hn⟩) (X0_3 m c ⟨n + 1, hn⟩) (X0_4 m c ⟨n + 1, hn⟩) (X0_5 m c ⟨n + 1, hn⟩) (X0_6 m c ⟨n + 1, hn⟩) (amaxAt c n (Nat.lt_of_succ_lt hn))

/-- Which points are the first, as the body's word. -/
theorem first_word : ∀ t : Fin cfg0.N, Scalar.cmpi .eq (BitVec.ofNat 32 (grid0.coords t 0).val) 0#32 = if t.val = 0 then 1#1 else 0#1 :=
  (by decide +kernel : ∀ t : Fin grid0.N, _)

/-- At the first point the row maxima do not depend on what was there before. -/
theorem amax_first (c : Dev nD) (t : Fin cfg0.N) (h : t.val = 0) (d : Vec F S928x128 .f32) :
    amaxAt m c t.val t.isLt = k0_pay4 (grid0.coords t) (X0_0 m c t) (iblk m c 1 t) (X0_2 m c t) (X0_3 m c t) (X0_4 m c t) (X0_5 m c t) (X0_6 m c t) d := by
  obtain ⟨n, hn⟩ := t
  subst h
  show k0_pay4 (grid0.coords ⟨0, hn⟩) (X0_0 m c ⟨0, hn⟩) (iblk m c 1 ⟨0, hn⟩) (X0_2 m c ⟨0, hn⟩) (X0_3 m c ⟨0, hn⟩) (X0_4 m c ⟨0, hn⟩) (X0_5 m c ⟨0, hn⟩) (X0_6 m c ⟨0, hn⟩) (constant S928x128 .f32 0x00000000#32) = _
  unfold k0_pay4
  simp only [first_word, if_true]
  rfl

/-- At a later point they are the maxima so far, and this point's. -/
theorem amax_next (c : Dev nD) (t : Fin cfg0.N) (h : t.val ≠ 0) :
    amaxAt m c t.val t.isLt = k0_pay4 (grid0.coords t) (X0_0 m c t) (iblk m c 1 t) (X0_2 m c t) (X0_3 m c t) (X0_4 m c t) (X0_5 m c t) (X0_6 m c t) (amaxAt m c (t.val - 1) (Nat.lt_of_le_of_lt (Nat.sub_le _ _) t.isLt)) := by
  obtain ⟨n, hn⟩ := t
  cases n with
  | zero => exact absurd rfl h
  | succ n => rfl

/-- The proof data: the arrays as the region finds them; after the body each input at its block, the outputs at the
    body's payloads. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => k0_pay2 (X0_0 m c t) (iblk m c 1 t) (X0_2 m c t) (X0_3 m c t) (X0_4 m c t)
    | ⟨8, _⟩ => amaxAt m c t.val t.isLt
    | ⟨9, _⟩ => k0_pay1 (k0_pay3 (X0_0 m c t) (iblk m c 1 t) (X0_2 m c t) (X0_3 m c t) (X0_4 m c t) (X0_5 m c t) (X0_6 m c t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = k0_pay2 (X0_0 m c t) (iblk m c 1 t) (X0_2 m c t) (X0_3 m c t) (X0_4 m c t) := by dsimp only [dats]
theorem after0_8 (c : Dev nD) (t : Fin cfg0.N) : (dats m 0 c).after 8 t = amaxAt m c t.val t.isLt := by dsimp only [dats]
theorem after0_9 (c : Dev nD) (t : Fin cfg0.N) : (dats m 0 c).after 9 t = k0_pay1 (k0_pay3 (X0_0 m c t) (iblk m c 1 t) (X0_2 m c t) (X0_3 m c t) (X0_4 m c t) (X0_5 m c t) (X0_6 m c t)) := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d

/-- At a later point the row maxima's buffer holds what the point before left. -/
theorem before0_8 (c : Dev nD) (t : Fin cfg0.N) (ht : t.val ≠ 0) (d) :
    (dats m 0 c).before 8 t d = amaxAt m c (t.val - 1) (Nat.lt_of_le_of_lt (Nat.sub_le _ _) t.isLt) := by
  have hN : t.val < 14 := t.isLt
  rw [Dat.before_out_kept _ 8 rfl t ht (by rw [Bool.eq_false_iff]; intro hf; have := (flush0_8 _).mp hf; dsimp only at this; omega)
    (fun _ => rfl) (fun _ _ => rfl) d, after0_8]

/-- What the row maxima's buffer holds at a point, the body takes to the maxima after it. -/
theorem amax_step (c : Dev nD) (t : Fin cfg0.N) (d) :
    k0_pay4 (grid0.coords t) (X0_0 m c t) (iblk m c 1 t) (X0_2 m c t) (X0_3 m c t) (X0_4 m c t) (X0_5 m c t) (X0_6 m c t) ((dats m 0 c).before 8 t d) = amaxAt m c t.val t.isLt := by
  by_cases ht : t.val = 0
  · exact (amax_first m c t ht _).symm
  · rw [before0_8 m c t ht d]; exact (amax_next m c t ht).symm

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (X0_0 m c t) (iblk m c 1 t) (X0_2 m c t) (X0_3 m c t) (X0_4 m c t) (X0_5 m c t) (X0_6 m c t) ((dats m 0 c).before 8 t d8)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro
    exact (View.read_writes_of_cover _ _ VO0_7 VO0_7.junk _ (cover0_A_7 c _ _ _ _ _ _ _ _ _ _ _ _ _ _ _ _ _ _ _ _ _ _ _ _ _ _ _ _ _ )).trans (out0_A_7_eq c _ _ _ _ _ _ _ _ _ _ _ _ _ _ _ _ _ _ _ _ _ _ _ _ _ _ _ _ _ )
  isplitl [H8]
  · unfold owns; iexists _; isplitr
    swap; · iexact H8
    ipureintro
    exact ((View.read_writes_of_cover _ _ VO0_8 VO0_8.junk _ (cover0_A_8 c _ _ _ _ _ _ _ _ _ _ _ _ _ _ _ _ _ _ _ _ _ _ _ _ _ _ _ _ _ )).trans (out0_A_8_eq c _ _ _ _ _ _ _ _ _ _ _ _ _ _ _ _ _ _ _ _ _ _ _ _ _ _ _ _ _ )).trans (amax_step m c t d8)
  unfold owns; iexists _; isplitr
  swap; · iexact H9
  ipureintro
  exact (View.read_writes_of_cover _ _ VO0_9 VO0_9.junk _ (cover0_A_9 c _ _ _ _ _ _ _ _ _ _ _ _ _ _ _ _ _ _ _ _ _ _ _ _ _ _ _ _ _ )).trans (out0_A_9_eq c _ _ _ _ _ _ _ _ _ _ _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Dg2.Gen

end
-- ==== Proof.GradSpec.lean ====
/-
  Hand-written. One step of the backward pass over the live rows as functions of rows and columns: the gradient after a
  product, the term that is quantised next, its lanewise maxima over a row and its column sums.
-/
module

public import Idealize.ShloMosaic.Lib.Pointwise

@[expose] public section

noncomputable section

open Idealize.ShloMosaic

namespace Cert.Spec

/-- The gradient after a product: codes by weights, the weights scaled row by row, times the row's scale, plus the
    gradient before. -/
def grad (T : Fin 928 → Fin 7168 → EReal) (ts : Fin 928 → EReal) (W : Fin 7168 → Fin 7168 → EReal) (ws : Fin 7168 → EReal)
    (G : Fin 928 → Fin 7168 → EReal) (a : Fin 928) (b : Fin 7168) : EReal :=
  (∑ k, T a k * (W k b * ws k)) * ts a + G a b

/-- The gradient times the layer's input. -/
def term (g x : Fin 928 → Fin 7168 → EReal) (xs : Fin 928 → EReal) (a : Fin 928) (b : Fin 7168) : EReal :=
  g a b * (x a b * xs a)

/-- The column that lane `l` of a row's group `k` is. -/
abbrev col (k : Fin 56) (l : Fin 128) : Fin 7168 := ⟨k.val * 128 + l.val, by omega⟩

/-- A magnitude. -/
abbrev mag (x : EReal) : EReal := FloatOps.absf (F := Ideal) (φ := .f32) x

/-- A row's largest magnitude in every lane. -/
def lanes (t : Fin 928 → Fin 7168 → EReal) (a : Fin 928) (l : Fin 128) : EReal :=
  Finset.univ.fold max ⊥ fun k : Fin 56 => mag (t a (col k l))

/-- The columns' sums. -/
def sums (t : Fin 928 → Fin 7168 → EReal) (b : Fin 7168) : EReal := ∑ a, t a b

/-- A value is the maximum when what bounds it is what bounds every member. -/
theorem eq_lanes (t : Fin 928 → Fin 7168 → EReal) (a : Fin 928) (l : Fin 128) (v : EReal)
    (h : ∀ z, v ≤ z ↔ ∀ k : Fin 56, k.val < 56 → mag (t a (col k l)) ≤ z) : v = lanes t a l := by
  refine eq_of_forall_ge_iff fun z => (h z).trans ?_
  unfold lanes
  rw [Finset.fold_max_le]
  exact ⟨fun h => ⟨bot_le, fun k _ => h k k.isLt⟩, fun h k _ => h.2 k (Finset.mem_univ k)⟩

theorem neg_inf : Ideal.ofBits .f32 0xFF800000#32 = ⊥ := by simp [Ideal.ofBits, Ideal.ieee]

/-- One more block of four groups of lanes: what bounds the maxima after it. -/
theorem step_le (t : Fin 928 → Fin 7168 → EReal) (a : Fin 928) (l : Fin 128) (n : ℕ) (hn : 4 * (n + 1) ≤ 56) (z p : EReal)
    (hp : p ≤ z ↔ ∀ k : Fin 56, k.val < 4 * n → mag (t a (col k l)) ≤ z) :
    max p (max (max (max (mag (t a (col ⟨4 * n, by omega⟩ l))) (mag (t a (col ⟨4 * n + 1, by omega⟩ l))))
      (mag (t a (col ⟨4 * n + 2, by omega⟩ l)))) (mag (t a (col ⟨4 * n + 3, by omega⟩ l)))) ≤ z
      ↔ ∀ k : Fin 56, k.val < 4 * (n + 1) → mag (t a (col k l)) ≤ z := by
  rw [max_le_iff, max_le_iff, max_le_iff, max_le_iff, hp]
  constructor
  · rintro ⟨h, ⟨⟨h0, h1⟩, h2⟩, h3⟩ k hk
    obtain hk | hk | hk | hk | hk : k.val < 4 * n ∨ k.val = 4 * n ∨ k.val = 4 * n + 1 ∨ k.val = 4 * n + 2 ∨ k.val = 4 * n + 3 := by omega
    · exact h k hk
    · rw [show k = ⟨4 * n, by omega⟩ from Fin.ext hk]
      exact h0
    · rw [show k = ⟨4 * n + 1, by omega⟩ from Fin.ext hk]
      exact h1
    · rw [show k = ⟨4 * n + 2, by omega⟩ from Fin.ext hk]
      exact h2
    · rw [show k = ⟨4 * n + 3, by omega⟩ from Fin.ext hk]
      exact h3
  · intro h
    exact ⟨fun k hk => h k (by omega), ⟨⟨h _ (by dsimp only; omega), h _ (by dsimp only; omega)⟩, h _ (by dsimp only; omega)⟩,
      h _ (by dsimp only; omega)⟩

/-- The same for the first block. -/
theorem first_le (t : Fin 928 → Fin 7168 → EReal) (a : Fin 928) (l : Fin 128) (z : EReal) :
    max (max (max (mag (t a (col 0 l))) (mag (t a (col 1 l)))) (mag (t a (col 2 l)))) (mag (t a (col 3 l))) ≤ z
      ↔ ∀ k : Fin 56, k.val < 4 * (0 + 1) → mag (t a (col k l)) ≤ z := by
  have h := step_le t a l 0 (by decide) z ⊥ ⟨fun _ k hk => absurd hk (by omega), fun _ => bot_le⟩
  rw [bot_sup_eq] at h
  exact h

end Cert.Spec
-- ==== Proof.Dg2Frame.lean ====
/-
  Hand-written. The frame of the first gradient product in the idealized program. The row maxima are read before they are first stored (at the
  first point the value read is not used), so what each point leaves is stated by a recursion over the points that starts
  from anything.
-/
module

public import proofs.«01_k».proof.Proof.Gen.Dg2Ideal.Frame
public import proofs.«01_k».proof.Proof.Gen.Dg2Ideal.Skeleton
public import Idealize.ShloMosaic.Lib.Claim
public import Idealize.ShloMosaic.Lib.Pipeline.ValueKit

@[expose] public section

set_option maxRecDepth 16384

noncomputable section

namespace Cert.Dg2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S928x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S928x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S928x512 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S928x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S928x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S928x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S928x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S928x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)

set_option maxHeartbeats 1000000 in
/-- What the body's stores leave in each output, as pieces, with the proof that the body runs to the continuation from
    whole buffers: the inputs at their contents, the row maxima at a given content, the other outputs at anything. -/
noncomputable def kernelRun0_A (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) :
    Σ' (L7 : List (View.Piece (Elt F) S928x512 .f32)) (L8 : List (View.Piece (Elt F) S928x128 .f32)), { L9 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare x8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0_dg2 i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0_dg2_eq_skeleton]; unfold cc0_dg2_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

abbrev VO0_7 : View sig .tc .vmem S928x512 .f32 := (Memref.whole cc0_stg7_0 : Memref sig .tc .vmem S928x512 .f32).view

theorem cover0_A_7 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) (y : S928x512.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5 x6 x8).1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5 x6 x8).1 S928x512.size (by sl_kernel_rfl) y

/-- What the run leaves in output 7's buffer: its pieces read back. -/
def out0_A_7 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) : Vec F S928x512 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 x0 x1 x2 x3 x4 x5 x6 x8).1)

theorem out0_A_7_eq (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) :
    out0_A_7 c i arg1 harg1 arg2 harg2 arg3 harg3 arg4 harg4 arg5 harg5 arg6 harg6 arg7 harg7 arg8 harg8 arg9 harg9 arg10 harg10 x0 x1 x2 x3 x4 x5 x6 x8 = k0_pay2 x0 x1 x2 x3 x4 := by
  funext y
  frame_out

abbrev VO0_8 : View sig .tc .vmem S928x128 .f32 := (Memref.whole cc0_stg8_0 : Memref sig .tc .vmem S928x128 .f32).view

theorem cover0_A_8 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) (y : S928x128.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5 x6 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5 x6 x8).2.1 S928x128.size (by sl_kernel_rfl) y

/-- What the run leaves in output 8's buffer: its pieces read back. -/
def out0_A_8 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) : Vec F S928x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 x0 x1 x2 x3 x4 x5 x6 x8).2.1)

theorem out0_A_8_eq (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) :
    out0_A_8 c i arg1 harg1 arg2 harg2 arg3 harg3 arg4 harg4 arg5 harg5 arg6 harg6 arg7 harg7 arg8 harg8 arg9 harg9 arg10 harg10 x0 x1 x2 x3 x4 x5 x6 x8 = k0_pay4 i x0 x1 x2 x3 x4 x5 x6 x8 := by
  funext y
  frame_out

abbrev VO0_9 : View sig .tc .vmem S1x512 .f32 := (Memref.whole cc0_stg9_0 : Memref sig .tc .vmem S1x512 .f32).view

theorem cover0_A_9 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) (y : S1x512.Idx) :
    ∃ pc ∈ (kernelRun0_A c i arg1 harg1 arg2 harg2 arg3 harg3 arg4 harg4 arg5 harg5 arg6 harg6 arg7 harg7 arg8 harg8 arg9 harg9 arg10 harg10 x0 x1 x2 x3 x4 x5 x6 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 x0 x1 x2 x3 x4 x5 x6 x8).2.2.1 S1x512.size (by sl_kernel_rfl) y

/-- What the run leaves in output 9's buffer: its pieces read back. -/
def out0_A_9 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) : Vec F S1x512 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 x0 x1 x2 x3 x4 x5 x6 x8).2.2.1)

theorem out0_A_9_eq (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .fp8e5m2) (harg4 : arg4.IsWhole) (arg5 : Memref sig .tc .vmem S928x128 .f32) (harg5 : arg5.IsWhole) (arg6 : Memref sig .tc .vmem S928x512 .fp8e4m3) (harg6 : arg6.IsWhole) (arg7 : Memref sig .tc .vmem S928x128 .f32) (harg7 : arg7.IsWhole) (arg8 : Memref sig .tc .vmem S928x512 .f32) (harg8 : arg8.IsWhole) (arg9 : Memref sig .tc .vmem S928x128 .f32) (harg9 : arg9.IsWhole) (arg10 : Memref sig .tc .vmem S1x512 .f32) (harg10 : arg10.IsWhole)
    (x0 : Vec F S928x7168 .bf16) (x1 : Vec F S1x7168x512 .fp8e4m3) (x2 : Vec F S928x128 .f32) (x3 : Vec F S928x512 .fp8e5m2) (x4 : Vec F S928x128 .f32) (x5 : Vec F S928x512 .fp8e4m3) (x6 : Vec F S928x128 .f32) (x8 : Vec F S928x128 .f32) :
    out0_A_9 c i arg1 harg1 arg2 harg2 arg3 harg3 arg4 harg4 arg5 harg5 arg6 harg6 arg7 harg7 arg8 harg8 arg9 harg9 arg10 harg10 x0 x1 x2 x3 x4 x5 x6 x8 = k0_pay1 (k0_pay3 x0 x1 x2 x3 x4 x5 x6) := by
  funext y
  frame_out

/-- The row maxima after the body at position `n`. -/
def amaxAt (c : Dev nD) : (n : ℕ) → n < cfg0.N → Vec F S928x128 .f32
  | 0, hn => k0_pay4 (grid0.coords ⟨0, hn⟩) (X0_0 m c ⟨0, hn⟩) (iblk m c 1 ⟨0, hn⟩) (X0_2 m c ⟨0, hn⟩) (X0_3 m c ⟨0, hn⟩) (X0_4 m c ⟨0, hn⟩) (X0_5 m c ⟨0, hn⟩) (X0_6 m c ⟨0, hn⟩) (constant S928x128 .f32 0x00000000#32)
  | n + 1, hn => k0_pay4 (grid0.coords ⟨n + 1, hn⟩) (X0_0 m c ⟨n + 1, hn⟩) (iblk m c 1 ⟨n + 1, hn⟩) (X0_2 m c ⟨n + 1, hn⟩) (X0_3 m c ⟨n + 1, hn⟩) (X0_4 m c ⟨n + 1, hn⟩) (X0_5 m c ⟨n + 1, hn⟩) (X0_6 m c ⟨n + 1, hn⟩) (amaxAt c n (Nat.lt_of_succ_lt hn))

/-- Which points are the first, as the body's word. -/
theorem first_word : ∀ t : Fin cfg0.N, Scalar.cmpi .eq (BitVec.ofNat 32 (grid0.coords t 0).val) 0#32 = if t.val = 0 then 1#1 else 0#1 :=
  (by decide +kernel : ∀ t : Fin grid0.N, _)

/-- At the first point the row maxima do not depend on what was there before. -/
theorem amax_first (c : Dev nD) (t : Fin cfg0.N) (h : t.val = 0) (d : Vec F S928x128 .f32) :
    amaxAt m c t.val t.isLt = k0_pay4 (grid0.coords t) (X0_0 m c t) (iblk m c 1 t) (X0_2 m c t) (X0_3 m c t) (X0_4 m c t) (X0_5 m c t) (X0_6 m c t) d := by
  obtain ⟨n, hn⟩ := t
  subst h
  show k0_pay4 (grid0.coords ⟨0, hn⟩) (X0_0 m c ⟨0, hn⟩) (iblk m c 1 ⟨0, hn⟩) (X0_2 m c ⟨0, hn⟩) (X0_3 m c ⟨0, hn⟩) (X0_4 m c ⟨0, hn⟩) (X0_5 m c ⟨0, hn⟩) (X0_6 m c ⟨0, hn⟩) (constant S928x128 .f32 0x00000000#32) = _
  unfold k0_pay4
  simp only [first_word, if_true]
  rfl

/-- At a later point they are the maxima so far, and this point's. -/
theorem amax_next (c : Dev nD) (t : Fin cfg0.N) (h : t.val ≠ 0) :
    amaxAt m c t.val t.isLt = k0_pay4 (grid0.coords t) (X0_0 m c t) (iblk m c 1 t) (X0_2 m c t) (X0_3 m c t) (X0_4 m c t) (X0_5 m c t) (X0_6 m c t) (amaxAt m c (t.val - 1) (Nat.lt_of_le_of_lt (Nat.sub_le _ _) t.isLt)) := by
  obtain ⟨n, hn⟩ := t
  cases n with
  | zero => exact absurd rfl h
  | succ n => rfl

/-- The proof data: the arrays as the region finds them; after the body each input at its block, the outputs at the
    body's payloads. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => k0_pay2 (X0_0 m c t) (iblk m c 1 t) (X0_2 m c t) (X0_3 m c t) (X0_4 m c t)
    | ⟨8, _⟩ => amaxAt m c t.val t.isLt
    | ⟨9, _⟩ => k0_pay1 (k0_pay3 (X0_0 m c t) (iblk m c 1 t) (X0_2 m c t) (X0_3 m c t) (X0_4 m c t) (X0_5 m c t) (X0_6 m c t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = k0_pay2 (X0_0 m c t) (iblk m c 1 t) (X0_2 m c t) (X0_3 m c t) (X0_4 m c t) := by dsimp only [dats]
theorem after0_8 (c : Dev nD) (t : Fin cfg0.N) : (dats m 0 c).after 8 t = amaxAt m c t.val t.isLt := by dsimp only [dats]
theorem after0_9 (c : Dev nD) (t : Fin cfg0.N) : (dats m 0 c).after 9 t = k0_pay1 (k0_pay3 (X0_0 m c t) (iblk m c 1 t) (X0_2 m c t) (X0_3 m c t) (X0_4 m c t) (X0_5 m c t) (X0_6 m c t)) := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d

/-- At a later point the row maxima's buffer holds what the point before left. -/
theorem before0_8 (c : Dev nD) (t : Fin cfg0.N) (ht : t.val ≠ 0) (d) :
    (dats m 0 c).before 8 t d = amaxAt m c (t.val - 1) (Nat.lt_of_le_of_lt (Nat.sub_le _ _) t.isLt) := by
  have hN : t.val < 14 := t.isLt
  rw [Dat.before_out_kept _ 8 rfl t ht (by rw [Bool.eq_false_iff]; intro hf; have := (flush0_8 _).mp hf; dsimp only at this; omega)
    (fun _ => rfl) (fun _ _ => rfl) d, after0_8]

/-- What the row maxima's buffer holds at a point, the body takes to the maxima after it. -/
theorem amax_step (c : Dev nD) (t : Fin cfg0.N) (d) :
    k0_pay4 (grid0.coords t) (X0_0 m c t) (iblk m c 1 t) (X0_2 m c t) (X0_3 m c t) (X0_4 m c t) (X0_5 m c t) (X0_6 m c t) ((dats m 0 c).before 8 t d) = amaxAt m c t.val t.isLt := by
  by_cases ht : t.val = 0
  · exact (amax_first m c t ht _).symm
  · rw [before0_8 m c t ht d]; exact (amax_next m c t ht).symm

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (X0_0 m c t) (iblk m c 1 t) (X0_2 m c t) (X0_3 m c t) (X0_4 m c t) (X0_5 m c t) (X0_6 m c t) ((dats m 0 c).before 8 t d8)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro
    exact (View.read_writes_of_cover _ _ VO0_7 VO0_7.junk _ (cover0_A_7 c _ _ _ _ _ _ _ _ _ _ _ _ _ _ _ _ _ _ _ _ _ _ _ _ _ _ _ _ _ )).trans (out0_A_7_eq c _ _ _ _ _ _ _ _ _ _ _ _ _ _ _ _ _ _ _ _ _ _ _ _ _ _ _ _ _ )
  isplitl [H8]
  · unfold owns; iexists _; isplitr
    swap; · iexact H8
    ipureintro
    exact ((View.read_writes_of_cover _ _ VO0_8 VO0_8.junk _ (cover0_A_8 c _ _ _ _ _ _ _ _ _ _ _ _ _ _ _ _ _ _ _ _ _ _ _ _ _ _ _ _ _ )).trans (out0_A_8_eq c _ _ _ _ _ _ _ _ _ _ _ _ _ _ _ _ _ _ _ _ _ _ _ _ _ _ _ _ _ )).trans (amax_step m c t d8)
  unfold owns; iexists _; isplitr
  swap; · iexact H9
  ipureintro
  exact (View.read_writes_of_cover _ _ VO0_9 VO0_9.junk _ (cover0_A_9 c _ _ _ _ _ _ _ _ _ _ _ _ _ _ _ _ _ _ _ _ _ _ _ _ _ _ _ _ _ )).trans (out0_A_9_eq c _ _ _ _ _ _ _ _ _ _ _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

/-- The frame run with each output array named, the arguments unchanged. -/
theorem run_blocks : θ_run defs (onTc (τ := τ) (main (F := F))) ⟨m, fun _ => 0, ρ⟩ fun r => ∀ c : Dev nD,
      (r.2.mem ((c : Thread nD τ).loc main_v13_0) = (dats m 0 c).arrAt 7 cfg0.N
      ∧ r.2.mem ((c : Thread nD τ).loc main_v13_1) = (dats m 0 c).arrAt 8 cfg0.N
      ∧ r.2.mem ((c : Thread nD τ).loc main_v13_2) = (dats m 0 c).arrAt 9 cfg0.N)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨⟨(h.1 c).1 7, (h.1 c).1 8, (h.1 c).1 9⟩, h.2 c⟩)
    (θ_run_and (run_main m ρ) (unchanged m ρ))

end Cert.Dg2Ideal.Gen

end
-- ==== Proof.Dg2Val.lean ====
/-
  Hand-written. The values of the first gradient product: what the call leaves in its three results and what the
  reference leaves in its own are the same functions of the arguments.
-/
module

public import proofs.«01_k».proof.Proof.GradSpec
public import proofs.«01_k».proof.Proof.Dg2Frame
public import proofs.«01_k».proof.Proof.Gen.RefDg2Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Dg2Ideal.Value
open Cert.Dg2Ideal Cert.Dg2Ideal.Gen

/-- A row of the call's as a row of the arrays handed to it. -/
abbrev up (a : Fin 928) : Fin 1024 := ⟨a, Nat.lt_trans a.isLt (by decide)⟩

section
variable (T : FVec Ideal S1024x7168 .bf16) (ts : FVec Ideal S1024 .f32) (W : FVec Ideal S3x7168x7168 .fp8e4m3)
    (ws : FVec Ideal S3x7168 .f32) (G : FVec Ideal S1024x7168 .fp8e5m2) (gs : FVec Ideal S1024 .f32)
    (X : FVec Ideal S1024x7168 .fp8e4m3) (xs : FVec Ideal S1024 .f32)

/-- The gradient, by rows and columns: what comes in are codes and a scale a row. -/
def GRAD : Fin 928 → Fin 7168 → EReal :=
  Spec.grad (fun a k => T (ix2 (up a) k)) (fun a => ts (ix1 (up a))) (fun k b => W (ix3 2 k b)) (fun k => ws (ix2 2 k))
    (fun a b => (show EReal from G (ix2 (up a) b)) * (show EReal from gs (ix1 (up a))))
/-- The term to quantise next, by rows and columns. -/
def TERM : Fin 928 → Fin 7168 → EReal :=
  Spec.term (GRAD T ts W ws G gs) (fun a b => X (ix2 (up a) b)) (fun a => xs (ix1 (up a)))
def OUT0 : FVec Ideal S928x7168 .f32 := fun i => GRAD T ts W ws G gs (i 0) (i 1)
def OUT1 : FVec Ideal S928x128 .f32 := fun i => Spec.lanes (TERM T ts W ws G gs X xs) (i 0) (i 1)
def OUT2 : FVec Ideal S1x7168 .f32 := fun i => Spec.sums (TERM T ts W ws G gs X xs) (i 1)
end

variable (m : (ℓ : Loc nD τ sig) → Buf (Elt Ideal) ℓ)

theorem idx : ∀ t : Fin cfg0.N, win0_0.index t = ![0, 0] ∧ win0_1.index t = ![2, 0, t.val] ∧ win0_2.index t = ![0, 0]
    ∧ win0_3.index t = ![0, t.val] ∧ win0_4.index t = ![0, 0] ∧ win0_5.index t = ![0, t.val] ∧ win0_6.index t = ![0, 0]
    ∧ win0_7.index t = ![0, t.val] ∧ win0_8.index t = ![0, 0] ∧ win0_9.index t = ![0, t.val] :=
  (by decide +kernel : ∀ t : Fin grid0.N, _)

/-- The left operand at a point: the codes times the weights' row scales. -/
theorem iblk_a (c : Dev nD) (t : Fin cfg0.N) (a : Fin 928) (k : Fin 7168) :
    (show EReal from X0_0 m c t (ix2 a k)) = (show EReal from m ((c : Thread nD τ).loc main_arg0) (ix2 (up a) k))
      * (show EReal from m ((c : Thread nD τ).loc main_arg3) (ix2 2 k)) := by
  unfold X0_0 Pipeline.Window.fill
  rw [dif_pos (moved0_0 t _)]
  blk_simp [iblk, idx t]
  entry_read
  pointwise
  blk_point [idx t]

/-- The row scales at a point: the same in all lanes. -/
theorem iblk_ts (c : Dev nD) (t : Fin cfg0.N) (a : Fin 928) (l : Fin 128) :
    X0_2 m c t (ix2 a l) = m ((c : Thread nD τ).loc main_arg1) (ix1 (up a)) := by
  unfold X0_2 Pipeline.Window.fill
  rw [dif_pos (moved0_2 t _)]
  blk_simp [iblk, idx t]
  entry_read
  pointwise
  blk_point [idx t]

theorem iblk_gs (c : Dev nD) (t : Fin cfg0.N) (a : Fin 928) (l : Fin 128) :
    X0_4 m c t (ix2 a l) = m ((c : Thread nD τ).loc main_arg5) (ix1 (up a)) := by
  unfold X0_4 Pipeline.Window.fill
  rw [dif_pos (moved0_4 t _)]
  blk_simp [iblk, idx t]
  entry_read
  pointwise
  blk_point [idx t]

theorem iblk_xs (c : Dev nD) (t : Fin cfg0.N) (a : Fin 928) (l : Fin 128) :
    X0_6 m c t (ix2 a l) = m ((c : Thread nD τ).loc main_arg7) (ix1 (up a)) := by
  unfold X0_6 Pipeline.Window.fill
  rw [dif_pos (moved0_6 t _)]
  blk_simp [iblk, idx t]
  entry_read
  pointwise
  blk_point [idx t]

/-- A column of a point's block as a column of the array. -/
abbrev at_ (t : Fin cfg0.N) (b : Fin 512) : Fin 7168 := ⟨t.val * 512 + b.val, by have : t.val < 14 := t.isLt; omega⟩

theorem iblk_g (c : Dev nD) (t : Fin cfg0.N) (a : Fin 928) (b : Fin 512) :
    X0_3 m c t (ix2 a b) = m ((c : Thread nD τ).loc main_arg4) (ix2 (up a) (at_ t b)) := by
  unfold X0_3 Pipeline.Window.fill
  rw [dif_pos (moved0_3 t _)]
  blk_simp [iblk, idx t]
  entry_read
  blk_point [idx t]

theorem iblk_x (c : Dev nD) (t : Fin cfg0.N) (a : Fin 928) (b : Fin 512) :
    X0_5 m c t (ix2 a b) = m ((c : Thread nD τ).loc main_arg6) (ix2 (up a) (at_ t b)) := by
  unfold X0_5 Pipeline.Window.fill
  rw [dif_pos (moved0_5 t _)]
  blk_simp [iblk, idx t]
  entry_read
  blk_point [idx t]

theorem iblk_w (c : Dev nD) (t : Fin cfg0.N) (k : Fin 7168) (b : Fin 512) :
    iblk m c 1 t (ix3 0 k b) = m ((c : Thread nD τ).loc main_arg2) (ix3 2 k (at_ t b)) := by
  blk_simp [iblk, idx t]
  entry_read
  blk_point [idx t]

/-- What the body computes of its blocks, the row scale being the same in every lane and the left operand a product. -/
theorem pay (A : FVec Ideal S928x7168 .bf16) (B : FVec Ideal S1x7168x512 .fp8e4m3) (S : FVec Ideal S928x128 .f32)
    (G : FVec Ideal S928x512 .fp8e5m2) (H : FVec Ideal S928x128 .f32) (T : Fin 928 → Fin 7168 → EReal) (ws : Fin 7168 → EReal) (ts gs : Fin 928 → EReal)
    (hA : ∀ a k, A (ix2 a k) = T a k * ws k) (hS : ∀ a l, S (ix2 a l) = ts a) (hH : ∀ a l, H (ix2 a l) = gs a) (a : Fin 928) (b : Fin 512) :
    k0_pay2 (F := Ideal) A B S G H (ix2 a b) = (∑ k, T a k * (B (ix3 0 k b) * ws k)) * ts a + G (ix2 a b) * gs a := by
  pointwise [k0_pay2, hA, hS, hH]
  simp only [dite_eq_ite, ite_self]
  simp only [mul_assoc, mul_left_comm, mul_comm]

/-- … and the term of it. -/
theorem pay_t (A : FVec Ideal S928x7168 .bf16) (B : FVec Ideal S1x7168x512 .fp8e4m3) (S : FVec Ideal S928x128 .f32)
    (G : FVec Ideal S928x512 .fp8e5m2) (H : FVec Ideal S928x128 .f32) (X : FVec Ideal S928x512 .fp8e4m3) (Y : FVec Ideal S928x128 .f32) (xs : Fin 928 → EReal)
    (hY : ∀ a l, Y (ix2 a l) = xs a) (a : Fin 928) (b : Fin 512) :
    k0_pay3 (F := Ideal) A B S G H X Y (ix2 a b) = k0_pay2 (F := Ideal) A B S G H (ix2 a b) * (X (ix2 a b) * xs a) := by
  unfold k0_pay3
  generalize k0_pay2 (F := Ideal) A B S G H = g
  pointwise [hY]
  simp only [dite_eq_ite, ite_self]

/-- The magnitudes' maximum over a block's four groups of lanes. -/
def four (g : Fin 928 → Fin 512 → EReal) (a : Fin 928) (l : Fin 128) : EReal :=
  max (max (max (Spec.mag (g a ⟨l.val, by omega⟩)) (Spec.mag (g a ⟨128 + l.val, by omega⟩))) (Spec.mag (g a ⟨256 + l.val, by omega⟩)))
    (Spec.mag (g a ⟨384 + l.val, by omega⟩))

theorem pay_max (i : grid0.Coords) (A : FVec Ideal S928x7168 .bf16) (B : FVec Ideal S1x7168x512 .fp8e4m3) (S : FVec Ideal S928x128 .f32)
    (G : FVec Ideal S928x512 .fp8e5m2) (H : FVec Ideal S928x128 .f32) (X : FVec Ideal S928x512 .fp8e4m3) (Y : FVec Ideal S928x128 .f32) (O : FVec Ideal S928x128 .f32)
    (a : Fin 928) (l : Fin 128) :
    (show EReal from k0_pay4 (F := Ideal) i A B S G H X Y O (ix2 a l))
      = Scalar.select (Scalar.cmpi .eq (BitVec.ofNat 32 (i 0).val) 0#32)
          (four (fun a b => k0_pay3 (F := Ideal) A B S G H X Y (ix2 a b)) a l)
          (max (show EReal from O (ix2 a l)) (four (fun a b => k0_pay3 (F := Ideal) A B S G H X Y (ix2 a b)) a l)) := by
  unfold k0_pay4
  generalize k0_pay3 (F := Ideal) A B S G H X Y = g
  pointwise
  rfl

theorem pay_sum (A : FVec Ideal S928x7168 .bf16) (B : FVec Ideal S1x7168x512 .fp8e4m3) (S : FVec Ideal S928x128 .f32)
    (G : FVec Ideal S928x512 .fp8e5m2) (H : FVec Ideal S928x128 .f32) (X : FVec Ideal S928x512 .fp8e4m3) (Y : FVec Ideal S928x128 .f32) (u : Fin 1) (b : Fin 512) :
    k0_pay1 (F := Ideal) (k0_pay3 (F := Ideal) A B S G H X Y) (ix2 u b) = ∑ a, k0_pay3 (F := Ideal) A B S G H X Y (ix2 a b) := by
  unfold k0_pay1
  generalize k0_pay3 (F := Ideal) A B S G H X Y = g
  pointwise

/-- The gradient the call computes, of the arguments it is launched with. -/
abbrev grad_ (c : Dev nD) : Fin 928 → Fin 7168 → EReal :=
  GRAD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev term_ (c : Dev nD) : Fin 928 → Fin 7168 → EReal :=
  TERM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The gradient at a point's block. -/
theorem point (c : Dev nD) (t : Fin cfg0.N) (a : Fin 928) (b : Fin 512) :
    k0_pay2 (F := Ideal) (X0_0 m c t) (iblk m c 1 t) (X0_2 m c t) (X0_3 m c t) (X0_4 m c t) (ix2 a b) = grad_ m c a (at_ t b) := by
  refine (pay _ _ _ _ _ _ _ _ _ (iblk_a m c t) (iblk_ts m c t) (iblk_gs m c t) a b).trans ?_
  rw [iblk_g]
  simp only [iblk_w]
  rfl

/-- The term at a point's block. -/
theorem point_t (c : Dev nD) (t : Fin cfg0.N) (a : Fin 928) (b : Fin 512) :
    k0_pay3 (F := Ideal) (X0_0 m c t) (iblk m c 1 t) (X0_2 m c t) (X0_3 m c t) (X0_4 m c t) (X0_5 m c t) (X0_6 m c t) (ix2 a b) = term_ m c a (at_ t b) := by
  refine (pay_t _ _ _ _ _ _ _ _ (iblk_xs m c t) a b).trans ?_
  rw [point, iblk_x]
  rfl

/-- A point's maximum over its block, in the array's columns. -/
def block_ (c : Dev nD) (t : Fin cfg0.N) (a : Fin 928) (l : Fin 128) : EReal :=
  max (max (max (Spec.mag (term_ m c a (Spec.col ⟨4 * t.val, by have : t.val < 14 := t.isLt; omega⟩ l)))
        (Spec.mag (term_ m c a (Spec.col ⟨4 * t.val + 1, by have : t.val < 14 := t.isLt; omega⟩ l))))
      (Spec.mag (term_ m c a (Spec.col ⟨4 * t.val + 2, by have : t.val < 14 := t.isLt; omega⟩ l))))
    (Spec.mag (term_ m c a (Spec.col ⟨4 * t.val + 3, by have : t.val < 14 := t.isLt; omega⟩ l)))

theorem four_eq (c : Dev nD) (t : Fin cfg0.N) (a : Fin 928) (l : Fin 128) :
    four (fun a b => k0_pay3 (F := Ideal) (X0_0 m c t) (iblk m c 1 t) (X0_2 m c t) (X0_3 m c t) (X0_4 m c t) (X0_5 m c t) (X0_6 m c t) (ix2 a b)) a l
      = block_ m c t a l := by
  unfold block_
  unfold four
  simp only [point_t]
  have e0 : at_ t ⟨l.val, by omega⟩ = Spec.col ⟨4 * t.val, by have : t.val < 14 := t.isLt; omega⟩ l := Fin.ext (by simp only; omega)
  have e1 : at_ t ⟨128 + l.val, by omega⟩ = Spec.col ⟨4 * t.val + 1, by have : t.val < 14 := t.isLt; omega⟩ l := Fin.ext (by simp only; omega)
  have e2 : at_ t ⟨256 + l.val, by omega⟩ = Spec.col ⟨4 * t.val + 2, by have : t.val < 14 := t.isLt; omega⟩ l := Fin.ext (by simp only; omega)
  have e3 : at_ t ⟨384 + l.val, by omega⟩ = Spec.col ⟨4 * t.val + 3, by have : t.val < 14 := t.isLt; omega⟩ l := Fin.ext (by simp only; omega)
  rw [e0, e1, e2, e3]

/-- The row maxima after a point, of the maxima before it. -/
theorem pay_at (c : Dev nD) (t : Fin cfg0.N) (O : FVec Ideal S928x128 .f32) (a : Fin 928) (l : Fin 128) :
    (show EReal from k0_pay4 (F := Ideal) (grid0.coords t) (X0_0 m c t) (iblk m c 1 t) (X0_2 m c t) (X0_3 m c t) (X0_4 m c t) (X0_5 m c t) (X0_6 m c t) O (ix2 a l))
      = if t.val = 0 then block_ m c t a l else max (show EReal from O (ix2 a l)) (block_ m c t a l) := by
  refine (pay_max (grid0.coords t) (X0_0 m c t) (iblk m c 1 t) (X0_2 m c t) (X0_3 m c t) (X0_4 m c t) (X0_5 m c t) (X0_6 m c t) O a l).trans ?_
  rw [first_word t, four_eq m c t a l]
  split <;> rfl

theorem amax_zero (c : Dev nD) (hn : 0 < cfg0.N) (a : Fin 928) (l : Fin 128) :
    (show EReal from amaxAt m c 0 hn (ix2 a l)) = block_ m c ⟨0, hn⟩ a l :=
  (pay_at m c ⟨0, hn⟩ _ a l).trans (if_pos rfl)

theorem amax_succ (c : Dev nD) (n : ℕ) (hn : n + 1 < cfg0.N) (a : Fin 928) (l : Fin 128) :
    (show EReal from amaxAt m c (n + 1) hn (ix2 a l))
      = max (show EReal from amaxAt m c n (Nat.lt_of_succ_lt hn) (ix2 a l)) (block_ m c ⟨n + 1, hn⟩ a l) :=
  (pay_at m c ⟨n + 1, hn⟩ _ a l).trans (if_neg (Nat.succ_ne_zero n))

/-- What bounds the row maxima after position `n`: what bounds the magnitudes of the columns so far. -/
theorem amax_le (c : Dev nD) (a : Fin 928) (l : Fin 128) (z : EReal) (n : ℕ) (hn : n < cfg0.N) :
    (show EReal from amaxAt m c n hn (ix2 a l)) ≤ z ↔ ∀ k : Fin 56, k.val < 4 * (n + 1) → Spec.mag (term_ m c a (Spec.col k l)) ≤ z := by
  induction n with
  | zero =>
    rw [amax_zero]
    exact Spec.first_le (term_ m c) a l z
  | succ n ih =>
    rw [amax_succ]
    have : n + 1 < 14 := hn
    exact Spec.step_le (term_ m c) a l (n + 1) (by omega) z _ (ih (Nat.lt_of_succ_lt hn))

/-- The results' blocks. -/
theorem emb0 (t : Fin cfg0.N) (a : Fin 928) (b : Fin 512) : ((cfg0.win 7).blk t).view.emb (ix2 a b) = ix2 a (at_ t b) := by
  blk_ext [idx t]
theorem emb1 (t : Fin cfg0.N) (a : Fin 928) (l : Fin 128) : ((cfg0.win 8).blk t).view.emb (ix2 a l) = ix2 a l := by
  blk_ext [idx t]
theorem emb2 (t : Fin cfg0.N) (a : Fin 1) (b : Fin 512) : ((cfg0.win 9).blk t).view.emb (ix2 a b) = ix2 a (at_ t b) := by
  blk_ext [idx t]

/-- The three arrays after the run. -/
theorem final0 (c : Dev nD) : (dats m 0 c).arrAt 7 (cfgs 0).N
    = OUT0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  obtain ⟨a, b, rfl⟩ : ∃ (a : Fin 928) (b : Fin 512), y = ix2 a b := ⟨y 0, y 1, eq_ix2 y⟩
  exact (point m c t a b).trans (congrArg (OUT0 _ _ _ _ _ _) (emb0 t a b)).symm

theorem final1 (c : Dev nD) : (dats m 0 c).arrAt 8 (cfgs 0).N
    = OUT1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  have ht : t.val = 13 := by have := (flush0_8 t).mp hf; have : t.val < 14 := t.isLt; omega
  blk_simp
  rw [after0_8]
  obtain ⟨a, l, rfl⟩ : ∃ (a : Fin 928) (l : Fin 128), y = ix2 a l := ⟨y 0, y 1, eq_ix2 y⟩
  refine (Spec.eq_lanes (term_ m c) a l _ fun z => ?_).trans (congrArg (OUT1 _ _ _ _ _ _ _ _) (emb1 t a l)).symm
  refine (amax_le m c a l z t.val t.isLt).trans ?_
  rw [ht]

theorem final2 (c : Dev nD) : (dats m 0 c).arrAt 9 (cfgs 0).N
    = OUT2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  obtain ⟨a, b, rfl⟩ : ∃ (a : Fin 1) (b : Fin 512), y = ix2 a b := ⟨y 0, y 1, eq_ix2 y⟩
  refine (pay_sum _ _ _ _ _ _ _ a b).trans (Eq.trans ?_ (congrArg (OUT2 _ _ _ _ _ _ _ _) (emb2 t a b)).symm)
  exact Finset.sum_congr rfl fun k _ => point_t m c t k b

/-- The run with the three arrays named, the arguments unchanged. -/
theorem run_final (ρ : Dev nD → PrngReg) : θ_run defs (onTc (τ := τ) (main (F := Ideal))) ⟨m, fun _ => 0, ρ⟩ fun r => ∀ c : Dev nD,
      r.2.mem ((c : Thread nD τ).loc main_v13_0) = OUT0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v13_1) = OUT1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v13_2) = OUT2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.1.trans (final0 m c), (h c).1.2.1.trans (final1 m c), (h c).1.2.2.trans (final2 m c), (h c).2⟩)
    (run_blocks m ρ)

end Cert.Dg2Ideal.Value

namespace Cert.RefDg2Ideal.Value
open Cert.RefDg2Ideal Cert.RefDg2Ideal.Gen
open Cert.Dg2Ideal.Value (OUT0 OUT1 OUT2 GRAD TERM)
variable (m : (ℓ : Loc nD τ sig) → Buf (Elt Ideal) ℓ)

theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

abbrev grad_ (c : Dev nD) : Fin 928 → Fin 7168 → EReal :=
  GRAD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev term_ (c : Dev nD) : Fin 928 → Fin 7168 → EReal :=
  TERM (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem point (c : Dev nD) (j : S928x7168.Idx) :
    k0_pay2 (F := Ideal) (View.ld (iblk m c 4 t0_0) r0_0) (View.ld (iblk m c 5 t0_0) r0_1) (View.ld (iblk m c 0 t0_0) r0_0) (View.ld (iblk m c 1 t0_0) r0_1) (View.ld (iblk m c 2 t0_0) r0_2)
      (iblk m c 3 t0_0) j = grad_ m c (j 0) (j 1) := by
  pointwise [k0_pay2, grad_, GRAD, Spec.grad]
  blk_point [iblk, V, idx t0_0]

theorem point_t (c : Dev nD) (j : S928x7168.Idx) :
    k0_pay3 (F := Ideal) (View.ld (iblk m c 4 t0_0) r0_0) (View.ld (iblk m c 5 t0_0) r0_1) (View.ld (iblk m c 0 t0_0) r0_0) (View.ld (iblk m c 1 t0_0) r0_1) (View.ld (iblk m c 2 t0_0) r0_2)
      (iblk m c 3 t0_0) (View.ld (iblk m c 6 t0_0) r0_0) (View.ld (iblk m c 7 t0_0) r0_1) j = term_ m c (j 0) (j 1) := by
  pointwise [k0_pay3, point, term_, TERM, Spec.term]
  blk_point [iblk, V, idx t0_0]

theorem final0 (c : Dev nD) : (dats m 0 c).arrAt 8 (cfgs 0).N
    = OUT0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 8 t0_0 (by decide +kernel) _ fun j => ?_
  blk_simp
  rw [after0_8]; frame_out
  exact point m c j

theorem final1 (c : Dev nD) : (dats m 0 c).arrAt 9 (cfgs 0).N
    = OUT1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 9 t0_0 (by decide +kernel) _ fun j => ?_
  blk_simp
  rw [after0_9]; frame_out
  unfold k0_pay4
  generalize hg : k0_pay3 (F := Ideal) _ _ _ _ _ _ _ _ = g
  pointwise
  rw [Spec.neg_inf]
  unfold OUT1 Spec.lanes
  refine Finset.fold_congr fun k _ => ?_
  rw [← hg]
  exact congrArg Spec.mag (point_t m c (ix2 (j 0) (Spec.col k (j 1))))

theorem final2 (c : Dev nD) : (dats m 0 c).arrAt 10 (cfgs 0).N
    = OUT2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 10 t0_0 (by decide +kernel) _ fun j => ?_
  blk_simp
  rw [after0_10]; frame_out
  unfold k0_pay1 k0_pay5
  generalize hg : k0_pay3 (F := Ideal) _ _ _ _ _ _ _ _ = g
  pointwise
  unfold OUT2 Spec.sums
  show (∑ k : Fin 928, (show EReal from g (ix2 k (j 1)))) = ∑ k : Fin 928, term_ m c k (j 1)
  refine Finset.sum_congr rfl fun k _ => ?_
  rw [← hg]
  exact point_t m c (ix2 k (j 1))

theorem run_final (ρ : Dev nD → PrngReg) : θ_run defs (onTc (τ := τ) (main (F := Ideal))) ⟨m, fun _ => 0, ρ⟩ fun r => ∀ c : Dev nD,
      r.2.mem ((c : Thread nD τ).loc main_v6_0) = OUT0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v6_1) = OUT1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v6_2) = OUT2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (final0 m c), (h c).2.1.trans (final1 m c), (h c).2.2.1.trans (final2 m c), (h c).2.2.2⟩)
    (run_blocks m ρ)

end Cert.RefDg2Ideal.Value
-- ==== Proof.Dg1FrameBits.lean ====
/-
  Hand-written. The frame of the second gradient product in the program itself. The row maxima are read before they are first stored (at the
  first point the value read is not used), so what each point leaves is stated by a recursion over the points that starts
  from anything.
-/
module

public import proofs.«01_k».proof.Proof.Gen.Dg1.Frame
public import proofs.«01_k».proof.Proof.Gen.Dg1.Skeleton
public import Idealize.ShloMosaic.Lib.Claim
public import Idealize.ShloMosaic.Lib.Pipeline.ValueKit

@[expose] public section

set_option maxRecDepth 16384

noncomputable section

namespace Cert.Dg1.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S928x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S928x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S928x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S928x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S928x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S928x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S928x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)

set_option maxHeartbeats 1000000 in
/-- What the body's stores leave in each output, as pieces, with the proof that the body runs to the continuation from
    whole buffers: the inputs at their contents, the row maxima at a given content, the other outputs at anything. -/
noncomputable def kernelRun0_A (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) :
    Σ' (L6 : List (View.Piece (Elt F) S928x512 .f32)) (L7 : List (View.Piece (Elt F) S928x128 .f32)), { L8 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0_dg1 i arg1 harg1 arg2 harg2 arg3 harg3 arg4 harg4 arg5 harg5 arg6 harg6 arg7 harg7 arg8 harg8 arg9 harg9) K } := by
  refine ⟨?_, ?_, ?_, fun E K => ?run⟩
  case run =>
    simp only [cc0_dg1_eq_skeleton]; unfold cc0_dg1_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

abbrev VO0_6 : View sig .tc .vmem S928x512 .f32 := (Memref.whole cc0_stg6_0 : Memref sig .tc .vmem S928x512 .f32).view

theorem cover0_A_6 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) (y : S928x512.Idx) :
    ∃ pc ∈ (kernelRun0_A c i arg1 harg1 arg2 harg2 arg3 harg3 arg4 harg4 arg5 harg5 arg6 harg6 arg7 harg7 arg8 harg8 arg9 harg9 x0 x1 x2 x3 x4 x5 x7).1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4 x5 x7).1 S928x512.size (by sl_kernel_rfl) y

/-- What the run leaves in output 6's buffer: its pieces read back. -/
def out0_A_6 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) : Vec F S928x512 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 x0 x1 x2 x3 x4 x5 x7).1)

theorem out0_A_6_eq (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) :
    out0_A_6 c i arg1 harg1 arg2 harg2 arg3 harg3 arg4 harg4 arg5 harg5 arg6 harg6 arg7 harg7 arg8 harg8 arg9 harg9 x0 x1 x2 x3 x4 x5 x7 = k0_pay1 x0 x1 x2 x3 := by
  funext y
  frame_out

abbrev VO0_7 : View sig .tc .vmem S928x128 .f32 := (Memref.whole cc0_stg7_0 : Memref sig .tc .vmem S928x128 .f32).view

theorem cover0_A_7 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) (y : S928x128.Idx) :
    ∃ pc ∈ (kernelRun0_A c i arg1 harg1 arg2 harg2 arg3 harg3 arg4 harg4 arg5 harg5 arg6 harg6 arg7 harg7 arg8 harg8 arg9 harg9 x0 x1 x2 x3 x4 x5 x7).2.1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4 x5 x7).2.1 S928x128.size (by sl_kernel_rfl) y

/-- What the run leaves in output 7's buffer: its pieces read back. -/
def out0_A_7 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) : Vec F S928x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 x0 x1 x2 x3 x4 x5 x7).2.1)

theorem out0_A_7_eq (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) :
    out0_A_7 c i arg1 harg1 arg2 harg2 arg3 harg3 arg4 harg4 arg5 harg5 arg6 harg6 arg7 harg7 arg8 harg8 arg9 harg9 x0 x1 x2 x3 x4 x5 x7 = k0_pay3 i x0 x1 x2 x3 x4 x5 x7 := by
  funext y
  frame_out

abbrev VO0_8 : View sig .tc .vmem S1x512 .f32 := (Memref.whole cc0_stg8_0 : Memref sig .tc .vmem S1x512 .f32).view

theorem cover0_A_8 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) (y : S1x512.Idx) :
    ∃ pc ∈ (kernelRun0_A c i arg1 harg1 arg2 harg2 arg3 harg3 arg4 harg4 arg5 harg5 arg6 harg6 arg7 harg7 arg8 harg8 arg9 harg9 x0 x1 x2 x3 x4 x5 x7).2.2.1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4 x5 x7).2.2.1 S1x512.size (by sl_kernel_rfl) y

/-- What the run leaves in output 8's buffer: its pieces read back. -/
def out0_A_8 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) : Vec F S1x512 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 x0 x1 x2 x3 x4 x5 x7).2.2.1)

theorem out0_A_8_eq (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) :
    out0_A_8 c i arg1 harg1 arg2 harg2 arg3 harg3 arg4 harg4 arg5 harg5 arg6 harg6 arg7 harg7 arg8 harg8 arg9 harg9 x0 x1 x2 x3 x4 x5 x7 = k0_pay4 x0 x1 x2 x3 x4 x5 := by
  funext y
  frame_out

/-- The row maxima after the body at position `n`. -/
def amaxAt (c : Dev nD) : (n : ℕ) → n < cfg0.N → Vec F S928x128 .f32
  | 0, hn => k0_pay3 (grid0.coords ⟨0, hn⟩) (X0_0 m c ⟨0, hn⟩) (iblk m c 1 ⟨0, hn⟩) (X0_2 m c ⟨0, hn⟩) (iblk m c 3 ⟨0, hn⟩) (X0_4 m c ⟨0, hn⟩) (X0_5 m c ⟨0, hn⟩) (constant S928x128 .f32 0x00000000#32)
  | n + 1, hn => k0_pay3 (grid0.coords ⟨n + 1, hn⟩) (X0_0 m c ⟨n + 1, hn⟩) (iblk m c 1 ⟨n + 1, hn⟩) (X0_2 m c ⟨n + 1, hn⟩) (iblk m c 3 ⟨n + 1, hn⟩) (X0_4 m c ⟨n + 1, hn⟩) (X0_5 m c ⟨n + 1, hn⟩) (amaxAt c n (Nat.lt_of_succ_lt hn))

/-- Which points are the first, as the body's word. -/
theorem first_word : ∀ t : Fin cfg0.N, Scalar.cmpi .eq (BitVec.ofNat 32 (grid0.coords t 0).val) 0#32 = if t.val = 0 then 1#1 else 0#1 :=
  (by decide +kernel : ∀ t : Fin grid0.N, _)

/-- At the first point the row maxima do not depend on what was there before. -/
theorem amax_first (c : Dev nD) (t : Fin cfg0.N) (h : t.val = 0) (d : Vec F S928x128 .f32) :
    amaxAt m c t.val t.isLt = k0_pay3 (grid0.coords t) (X0_0 m c t) (iblk m c 1 t) (X0_2 m c t) (iblk m c 3 t) (X0_4 m c t) (X0_5 m c t) d := by
  obtain ⟨n, hn⟩ := t
  subst h
  show k0_pay3 (grid0.coords ⟨0, hn⟩) (X0_0 m c ⟨0, hn⟩) (iblk m c 1 ⟨0, hn⟩) (X0_2 m c ⟨0, hn⟩) (iblk m c 3 ⟨0, hn⟩) (X0_4 m c ⟨0, hn⟩) (X0_5 m c ⟨0, hn⟩) (constant S928x128 .f32 0x00000000#32) = _
  unfold k0_pay3
  simp only [first_word, if_true]
  rfl

/-- At a later point they are the maxima so far, and this point's. -/
theorem amax_next (c : Dev nD) (t : Fin cfg0.N) (h : t.val ≠ 0) :
    amaxAt m c t.val t.isLt = k0_pay3 (grid0.coords t) (X0_0 m c t) (iblk m c 1 t) (X0_2 m c t) (iblk m c 3 t) (X0_4 m c t) (X0_5 m c t) (amaxAt m c (t.val - 1) (Nat.lt_of_le_of_lt (Nat.sub_le _ _) t.isLt)) := by
  obtain ⟨n, hn⟩ := t
  cases n with
  | zero => exact absurd rfl h
  | succ n => rfl

/-- The proof data: the arrays as the region finds them; after the body each input at its block, the outputs at the
    body's payloads. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => X0_2 m c t
    | ⟨3, _⟩ => iblk m c 3 t
    | ⟨4, _⟩ => X0_4 m c t
    | ⟨5, _⟩ => X0_5 m c t
    | ⟨6, _⟩ => k0_pay1 (X0_0 m c t) (iblk m c 1 t) (X0_2 m c t) (iblk m c 3 t)
    | ⟨7, _⟩ => amaxAt m c t.val t.isLt
    | ⟨8, _⟩ => k0_pay4 (X0_0 m c t) (iblk m c 1 t) (X0_2 m c t) (iblk m c 3 t) (X0_4 m c t) (X0_5 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = k0_pay1 (X0_0 m c t) (iblk m c 1 t) (X0_2 m c t) (iblk m c 3 t) := by dsimp only [dats]
theorem after0_7 (c : Dev nD) (t : Fin cfg0.N) : (dats m 0 c).after 7 t = amaxAt m c t.val t.isLt := by dsimp only [dats]
theorem after0_8 (c : Dev nD) (t : Fin cfg0.N) : (dats m 0 c).after 8 t = k0_pay4 (X0_0 m c t) (iblk m c 1 t) (X0_2 m c t) (iblk m c 3 t) (X0_4 m c t) (X0_5 m c t) := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d

/-- At a later point the row maxima's buffer holds what the point before left. -/
theorem before0_7 (c : Dev nD) (t : Fin cfg0.N) (ht : t.val ≠ 0) (d) :
    (dats m 0 c).before 7 t d = amaxAt m c (t.val - 1) (Nat.lt_of_le_of_lt (Nat.sub_le _ _) t.isLt) := by
  have hN : t.val < 14 := t.isLt
  rw [Dat.before_out_kept _ 7 rfl t ht (by rw [Bool.eq_false_iff]; intro hf; have := (flush0_7 _).mp hf; dsimp only at this; omega)
    (fun _ => rfl) (fun _ _ => rfl) d, after0_7]

/-- What the row maxima's buffer holds at a point, the body takes to the maxima after it. -/
theorem amax_step (c : Dev nD) (t : Fin cfg0.N) (d) :
    k0_pay3 (grid0.coords t) (X0_0 m c t) (iblk m c 1 t) (X0_2 m c t) (iblk m c 3 t) (X0_4 m c t) (X0_5 m c t) ((dats m 0 c).before 7 t d) = amaxAt m c t.val t.isLt := by
  by_cases ht : t.val = 0
  · exact (amax_first m c t ht _).symm
  · rw [before0_7 m c t ht d]; exact (amax_next m c t ht).symm

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ (X0_0 m c t) (iblk m c 1 t) (X0_2 m c t) (iblk m c 3 t) (X0_4 m c t) (X0_5 m c t) ((dats m 0 c).before 7 t d7)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  iintro ⟨H0, H1, H2, H3, H4, H5, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    exact (View.read_writes_of_cover _ _ VO0_6 VO0_6.junk _ (cover0_A_6 c _ _ _ _ _ _ _ _ _ _ _ _ _ _ _ _ _ _ _ _ _ _ _ _ _ _ )).trans (out0_A_6_eq c _ _ _ _ _ _ _ _ _ _ _ _ _ _ _ _ _ _ _ _ _ _ _ _ _ _ )
  isplitl [H7]
  · unfold owns; iexists _; isplitr
    swap; · iexact H7
    ipureintro
    exact ((View.read_writes_of_cover _ _ VO0_7 VO0_7.junk _ (cover0_A_7 c _ _ _ _ _ _ _ _ _ _ _ _ _ _ _ _ _ _ _ _ _ _ _ _ _ _ )).trans (out0_A_7_eq c _ _ _ _ _ _ _ _ _ _ _ _ _ _ _ _ _ _ _ _ _ _ _ _ _ _ )).trans (amax_step m c t d7)
  unfold owns; iexists _; isplitr
  swap; · iexact H8
  ipureintro
  exact (View.read_writes_of_cover _ _ VO0_8 VO0_8.junk _ (cover0_A_8 c _ _ _ _ _ _ _ _ _ _ _ _ _ _ _ _ _ _ _ _ _ _ _ _ _ _ )).trans (out0_A_8_eq c _ _ _ _ _ _ _ _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Dg1.Gen

end
-- ==== Proof.Dg1Frame.lean ====
/-
  Hand-written. The frame of the second gradient product in the idealized program. The row maxima are read before they are first stored (at the
  first point the value read is not used), so what each point leaves is stated by a recursion over the points that starts
  from anything.
-/
module

public import proofs.«01_k».proof.Proof.Gen.Dg1Ideal.Frame
public import proofs.«01_k».proof.Proof.Gen.Dg1Ideal.Skeleton
public import Idealize.ShloMosaic.Lib.Claim
public import Idealize.ShloMosaic.Lib.Pipeline.ValueKit

@[expose] public section

set_option maxRecDepth 16384

noncomputable section

namespace Cert.Dg1Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S928x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S928x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S928x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S928x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S928x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S928x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S928x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)

set_option maxHeartbeats 1000000 in
/-- What the body's stores leave in each output, as pieces, with the proof that the body runs to the continuation from
    whole buffers: the inputs at their contents, the row maxima at a given content, the other outputs at anything. -/
noncomputable def kernelRun0_A (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) :
    Σ' (L6 : List (View.Piece (Elt F) S928x512 .f32)) (L7 : List (View.Piece (Elt F) S928x128 .f32)), { L8 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0_dg1 i arg1 harg1 arg2 harg2 arg3 harg3 arg4 harg4 arg5 harg5 arg6 harg6 arg7 harg7 arg8 harg8 arg9 harg9) K } := by
  refine ⟨?_, ?_, ?_, fun E K => ?run⟩
  case run =>
    simp only [cc0_dg1_eq_skeleton]; unfold cc0_dg1_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

abbrev VO0_6 : View sig .tc .vmem S928x512 .f32 := (Memref.whole cc0_stg6_0 : Memref sig .tc .vmem S928x512 .f32).view

theorem cover0_A_6 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) (y : S928x512.Idx) :
    ∃ pc ∈ (kernelRun0_A c i arg1 harg1 arg2 harg2 arg3 harg3 arg4 harg4 arg5 harg5 arg6 harg6 arg7 harg7 arg8 harg8 arg9 harg9 x0 x1 x2 x3 x4 x5 x7).1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4 x5 x7).1 S928x512.size (by sl_kernel_rfl) y

/-- What the run leaves in output 6's buffer: its pieces read back. -/
def out0_A_6 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) : Vec F S928x512 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 x0 x1 x2 x3 x4 x5 x7).1)

theorem out0_A_6_eq (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) :
    out0_A_6 c i arg1 harg1 arg2 harg2 arg3 harg3 arg4 harg4 arg5 harg5 arg6 harg6 arg7 harg7 arg8 harg8 arg9 harg9 x0 x1 x2 x3 x4 x5 x7 = k0_pay1 x0 x1 x2 x3 := by
  funext y
  frame_out

abbrev VO0_7 : View sig .tc .vmem S928x128 .f32 := (Memref.whole cc0_stg7_0 : Memref sig .tc .vmem S928x128 .f32).view

theorem cover0_A_7 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) (y : S928x128.Idx) :
    ∃ pc ∈ (kernelRun0_A c i arg1 harg1 arg2 harg2 arg3 harg3 arg4 harg4 arg5 harg5 arg6 harg6 arg7 harg7 arg8 harg8 arg9 harg9 x0 x1 x2 x3 x4 x5 x7).2.1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4 x5 x7).2.1 S928x128.size (by sl_kernel_rfl) y

/-- What the run leaves in output 7's buffer: its pieces read back. -/
def out0_A_7 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) : Vec F S928x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 x0 x1 x2 x3 x4 x5 x7).2.1)

theorem out0_A_7_eq (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) :
    out0_A_7 c i arg1 harg1 arg2 harg2 arg3 harg3 arg4 harg4 arg5 harg5 arg6 harg6 arg7 harg7 arg8 harg8 arg9 harg9 x0 x1 x2 x3 x4 x5 x7 = k0_pay3 i x0 x1 x2 x3 x4 x5 x7 := by
  funext y
  frame_out

abbrev VO0_8 : View sig .tc .vmem S1x512 .f32 := (Memref.whole cc0_stg8_0 : Memref sig .tc .vmem S1x512 .f32).view

theorem cover0_A_8 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) (y : S1x512.Idx) :
    ∃ pc ∈ (kernelRun0_A c i arg1 harg1 arg2 harg2 arg3 harg3 arg4 harg4 arg5 harg5 arg6 harg6 arg7 harg7 arg8 harg8 arg9 harg9 x0 x1 x2 x3 x4 x5 x7).2.2.1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4 x5 x7).2.2.1 S1x512.size (by sl_kernel_rfl) y

/-- What the run leaves in output 8's buffer: its pieces read back. -/
def out0_A_8 (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) : Vec F S1x512 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 x0 x1 x2 x3 x4 x5 x7).2.2.1)

theorem out0_A_8_eq (c : Dev nD) (i : grid0.Coords) (arg1 : Memref sig .tc .vmem S928x7168 .bf16) (harg1 : arg1.IsWhole) (arg2 : Memref sig .tc .vmem S1x7168x512 .fp8e4m3) (harg2 : arg2.IsWhole) (arg3 : Memref sig .tc .vmem S928x128 .f32) (harg3 : arg3.IsWhole) (arg4 : Memref sig .tc .vmem S928x512 .f32) (harg4 : arg4.IsWhole) (arg5 : Memref sig .tc .vmem S928x512 .fp8e4m3) (harg5 : arg5.IsWhole) (arg6 : Memref sig .tc .vmem S928x128 .f32) (harg6 : arg6.IsWhole) (arg7 : Memref sig .tc .vmem S928x512 .f32) (harg7 : arg7.IsWhole) (arg8 : Memref sig .tc .vmem S928x128 .f32) (harg8 : arg8.IsWhole) (arg9 : Memref sig .tc .vmem S1x512 .f32) (harg9 : arg9.IsWhole)
    (x0 : Vec F S928x7168 .bf16) (x1 : Vec F S1x7168x512 .fp8e4m3) (x2 : Vec F S928x128 .f32) (x3 : Vec F S928x512 .f32) (x4 : Vec F S928x512 .fp8e4m3) (x5 : Vec F S928x128 .f32) (x7 : Vec F S928x128 .f32) :
    out0_A_8 c i arg1 harg1 arg2 harg2 arg3 harg3 arg4 harg4 arg5 harg5 arg6 harg6 arg7 harg7 arg8 harg8 arg9 harg9 x0 x1 x2 x3 x4 x5 x7 = k0_pay4 x0 x1 x2 x3 x4 x5 := by
  funext y
  frame_out

/-- The row maxima after the body at position `n`. -/
def amaxAt (c : Dev nD) : (n : ℕ) → n < cfg0.N → Vec F S928x128 .f32
  | 0, hn => k0_pay3 (grid0.coords ⟨0, hn⟩) (X0_0 m c ⟨0, hn⟩) (iblk m c 1 ⟨0, hn⟩) (X0_2 m c ⟨0, hn⟩) (iblk m c 3 ⟨0, hn⟩) (X0_4 m c ⟨0, hn⟩) (X0_5 m c ⟨0, hn⟩) (constant S928x128 .f32 0x00000000#32)
  | n + 1, hn => k0_pay3 (grid0.coords ⟨n + 1, hn⟩) (X0_0 m c ⟨n + 1, hn⟩) (iblk m c 1 ⟨n + 1, hn⟩) (X0_2 m c ⟨n + 1, hn⟩) (iblk m c 3 ⟨n + 1, hn⟩) (X0_4 m c ⟨n + 1, hn⟩) (X0_5 m c ⟨n + 1, hn⟩) (amaxAt c n (Nat.lt_of_succ_lt hn))

/-- Which points are the first, as the body's word. -/
theorem first_word : ∀ t : Fin cfg0.N, Scalar.cmpi .eq (BitVec.ofNat 32 (grid0.coords t 0).val) 0#32 = if t.val = 0 then 1#1 else 0#1 :=
  (by decide +kernel : ∀ t : Fin grid0.N, _)

/-- At the first point the row maxima do not depend on what was there before. -/
theorem amax_first (c : Dev nD) (t : Fin cfg0.N) (h : t.val = 0) (d : Vec F S928x128 .f32) :
    amaxAt m c t.val t.isLt = k0_pay3 (grid0.coords t) (X0_0 m c t) (iblk m c 1 t) (X0_2 m c t) (iblk m c 3 t) (X0_4 m c t) (X0_5 m c t) d := by
  obtain ⟨n, hn⟩ := t
  subst h
  show k0_pay3 (grid0.coords ⟨0, hn⟩) (X0_0 m c ⟨0, hn⟩) (iblk m c 1 ⟨0, hn⟩) (X0_2 m c ⟨0, hn⟩) (iblk m c 3 ⟨0, hn⟩) (X0_4 m c ⟨0, hn⟩) (X0_5 m c ⟨0, hn⟩) (constant S928x128 .f32 0x00000000#32) = _
  unfold k0_pay3
  simp only [first_word, if_true]
  rfl

/-- At a later point they are the maxima so far, and this point's. -/
theorem amax_next (c : Dev nD) (t : Fin cfg0.N) (h : t.val ≠ 0) :
    amaxAt m c t.val t.isLt = k0_pay3 (grid0.coords t) (X0_0 m c t) (iblk m c 1 t) (X0_2 m c t) (iblk m c 3 t) (X0_4 m c t) (X0_5 m c t) (amaxAt m c (t.val - 1) (Nat.lt_of_le_of_lt (Nat.sub_le _ _) t.isLt)) := by
  obtain ⟨n, hn⟩ := t
  cases n with
  | zero => exact absurd rfl h
  | succ n => rfl

/-- The proof data: the arrays as the region finds them; after the body each input at its block, the outputs at the
    body's payloads. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => X0_2 m c t
    | ⟨3, _⟩ => iblk m c 3 t
    | ⟨4, _⟩ => X0_4 m c t
    | ⟨5, _⟩ => X0_5 m c t
    | ⟨6, _⟩ => k0_pay1 (X0_0 m c t) (iblk m c 1 t) (X0_2 m c t) (iblk m c 3 t)
    | ⟨7, _⟩ => amaxAt m c t.val t.isLt
    | ⟨8, _⟩ => k0_pay4 (X0_0 m c t) (iblk m c 1 t) (X0_2 m c t) (iblk m c 3 t) (X0_4 m c t) (X0_5 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = k0_pay1 (X0_0 m c t) (iblk m c 1 t) (X0_2 m c t) (iblk m c 3 t) := by dsimp only [dats]
theorem after0_7 (c : Dev nD) (t : Fin cfg0.N) : (dats m 0 c).after 7 t = amaxAt m c t.val t.isLt := by dsimp only [dats]
theorem after0_8 (c : Dev nD) (t : Fin cfg0.N) : (dats m 0 c).after 8 t = k0_pay4 (X0_0 m c t) (iblk m c 1 t) (X0_2 m c t) (iblk m c 3 t) (X0_4 m c t) (X0_5 m c t) := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d

/-- At a later point the row maxima's buffer holds what the point before left. -/
theorem before0_7 (c : Dev nD) (t : Fin cfg0.N) (ht : t.val ≠ 0) (d) :
    (dats m 0 c).before 7 t d = amaxAt m c (t.val - 1) (Nat.lt_of_le_of_lt (Nat.sub_le _ _) t.isLt) := by
  have hN : t.val < 14 := t.isLt
  rw [Dat.before_out_kept _ 7 rfl t ht (by rw [Bool.eq_false_iff]; intro hf; have := (flush0_7 _).mp hf; dsimp only at this; omega)
    (fun _ => rfl) (fun _ _ => rfl) d, after0_7]

/-- What the row maxima's buffer holds at a point, the body takes to the maxima after it. -/
theorem amax_step (c : Dev nD) (t : Fin cfg0.N) (d) :
    k0_pay3 (grid0.coords t) (X0_0 m c t) (iblk m c 1 t) (X0_2 m c t) (iblk m c 3 t) (X0_4 m c t) (X0_5 m c t) ((dats m 0 c).before 7 t d) = amaxAt m c t.val t.isLt := by
  by_cases ht : t.val = 0
  · exact (amax_first m c t ht _).symm
  · rw [before0_7 m c t ht d]; exact (amax_next m c t ht).symm

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ (X0_0 m c t) (iblk m c 1 t) (X0_2 m c t) (iblk m c 3 t) (X0_4 m c t) (X0_5 m c t) ((dats m 0 c).before 7 t d7)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  iintro ⟨H0, H1, H2, H3, H4, H5, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    exact (View.read_writes_of_cover _ _ VO0_6 VO0_6.junk _ (cover0_A_6 c _ _ _ _ _ _ _ _ _ _ _ _ _ _ _ _ _ _ _ _ _ _ _ _ _ _ )).trans (out0_A_6_eq c _ _ _ _ _ _ _ _ _ _ _ _ _ _ _ _ _ _ _ _ _ _ _ _ _ _ )
  isplitl [H7]
  · unfold owns; iexists _; isplitr
    swap; · iexact H7
    ipureintro
    exact ((View.read_writes_of_cover _ _ VO0_7 VO0_7.junk _ (cover0_A_7 c _ _ _ _ _ _ _ _ _ _ _ _ _ _ _ _ _ _ _ _ _ _ _ _ _ _ )).trans (out0_A_7_eq c _ _ _ _ _ _ _ _ _ _ _ _ _ _ _ _ _ _ _ _ _ _ _ _ _ _ )).trans (amax_step m c t d7)
  unfold owns; iexists _; isplitr
  swap; · iexact H8
  ipureintro
  exact (View.read_writes_of_cover _ _ VO0_8 VO0_8.junk _ (cover0_A_8 c _ _ _ _ _ _ _ _ _ _ _ _ _ _ _ _ _ _ _ _ _ _ _ _ _ _ )).trans (out0_A_8_eq c _ _ _ _ _ _ _ _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-- The frame run with each output array named, the arguments unchanged. -/
theorem run_blocks : θ_run defs (onTc (τ := τ) (main (F := F))) ⟨m, fun _ => 0, ρ⟩ fun r => ∀ c : Dev nD,
      (r.2.mem ((c : Thread nD τ).loc main_v11_0) = (dats m 0 c).arrAt 6 cfg0.N
      ∧ r.2.mem ((c : Thread nD τ).loc main_v11_1) = (dats m 0 c).arrAt 7 cfg0.N
      ∧ r.2.mem ((c : Thread nD τ).loc main_v11_2) = (dats m 0 c).arrAt 8 cfg0.N)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨⟨(h.1 c).1 6, (h.1 c).1 7, (h.1 c).1 8⟩, h.2 c⟩)
    (θ_run_and (run_main m ρ) (unchanged m ρ))

end Cert.Dg1Ideal.Gen

end
-- ==== Proof.Dg1Val.lean ====
/-
  Hand-written. The values of the second gradient product: what the call leaves in its three results and what the
  reference leaves in its own are the same functions of the arguments.
-/
module

public import proofs.«01_k».proof.Proof.GradSpec
public import proofs.«01_k».proof.Proof.Dg1Frame
public import proofs.«01_k».proof.Proof.Gen.RefDg1Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Dg1Ideal.Value
open Cert.Dg1Ideal Cert.Dg1Ideal.Gen

/-- A row of the call's as a row of the arrays handed to it. -/
abbrev up (a : Fin 928) : Fin 1056 := ⟨a, Nat.lt_trans a.isLt (by decide)⟩
abbrev up' (a : Fin 928) : Fin 1024 := ⟨a, Nat.lt_trans a.isLt (by decide)⟩

section
variable (T : FVec Ideal S1056x7168 .bf16) (ts : FVec Ideal S1056 .f32) (W : FVec Ideal S3x7168x7168 .fp8e4m3)
    (ws : FVec Ideal S3x7168 .f32) (G : FVec Ideal S928x7168 .f32) (X : FVec Ideal S1024x7168 .fp8e4m3) (xs : FVec Ideal S1024 .f32)

/-- The gradient, by rows and columns. -/
def GRAD : Fin 928 → Fin 7168 → EReal :=
  Spec.grad (fun a k => T (ix2 (up a) k)) (fun a => ts (ix1 (up a))) (fun k b => W (ix3 1 k b)) (fun k => ws (ix2 1 k))
    (fun a b => G (ix2 a b))
/-- The term to quantise next, by rows and columns. -/
def TERM : Fin 928 → Fin 7168 → EReal :=
  Spec.term (GRAD T ts W ws G) (fun a b => X (ix2 (up' a) b)) (fun a => xs (ix1 (up' a)))
def OUT0 : FVec Ideal S928x7168 .f32 := fun i => GRAD T ts W ws G (i 0) (i 1)
def OUT1 : FVec Ideal S928x128 .f32 := fun i => Spec.lanes (TERM T ts W ws G X xs) (i 0) (i 1)
def OUT2 : FVec Ideal S1x7168 .f32 := fun i => Spec.sums (TERM T ts W ws G X xs) (i 1)
end

variable (m : (ℓ : Loc nD τ sig) → Buf (Elt Ideal) ℓ)

theorem idx : ∀ t : Fin cfg0.N, win0_0.index t = ![0, 0] ∧ win0_1.index t = ![1, 0, t.val] ∧ win0_2.index t = ![0, 0]
    ∧ win0_3.index t = ![0, t.val] ∧ win0_4.index t = ![0, t.val] ∧ win0_5.index t = ![0, 0] ∧ win0_6.index t = ![0, t.val]
    ∧ win0_7.index t = ![0, 0] ∧ win0_8.index t = ![0, t.val] :=
  (by decide +kernel : ∀ t : Fin grid0.N, _)

/-- The left operand at a point: the codes times the weights' row scales. -/
theorem iblk_a (c : Dev nD) (t : Fin cfg0.N) (a : Fin 928) (k : Fin 7168) :
    (show EReal from X0_0 m c t (ix2 a k)) = (show EReal from m ((c : Thread nD τ).loc main_arg0) (ix2 (up a) k))
      * (show EReal from m ((c : Thread nD τ).loc main_arg3) (ix2 1 k)) := by
  unfold X0_0 Pipeline.Window.fill
  rw [dif_pos (moved0_0 t _)]
  blk_simp [iblk, idx t]
  entry_read
  pointwise
  blk_point [idx t]

/-- The row scales at a point: the same in all lanes. -/
theorem iblk_ts (c : Dev nD) (t : Fin cfg0.N) (a : Fin 928) (l : Fin 128) :
    X0_2 m c t (ix2 a l) = m ((c : Thread nD τ).loc main_arg1) (ix1 (up a)) := by
  unfold X0_2 Pipeline.Window.fill
  rw [dif_pos (moved0_2 t _)]
  blk_simp [iblk, idx t]
  entry_read
  pointwise
  blk_point [idx t]

theorem iblk_xs (c : Dev nD) (t : Fin cfg0.N) (a : Fin 928) (l : Fin 128) :
    X0_5 m c t (ix2 a l) = m ((c : Thread nD τ).loc main_arg6) (ix1 (up' a)) := by
  unfold X0_5 Pipeline.Window.fill
  rw [dif_pos (moved0_5 t _)]
  blk_simp [iblk, idx t]
  entry_read
  pointwise
  blk_point [idx t]

/-- A column of a point's block as a column of the array. -/
abbrev at_ (t : Fin cfg0.N) (b : Fin 512) : Fin 7168 := ⟨t.val * 512 + b.val, by have : t.val < 14 := t.isLt; omega⟩

theorem iblk_x (c : Dev nD) (t : Fin cfg0.N) (a : Fin 928) (b : Fin 512) :
    X0_4 m c t (ix2 a b) = m ((c : Thread nD τ).loc main_arg5) (ix2 (up' a) (at_ t b)) := by
  unfold X0_4 Pipeline.Window.fill
  rw [dif_pos (moved0_4 t _)]
  blk_simp [iblk, idx t]
  entry_read
  blk_point [idx t]

theorem iblk_w (c : Dev nD) (t : Fin cfg0.N) (k : Fin 7168) (b : Fin 512) :
    iblk m c 1 t (ix3 0 k b) = m ((c : Thread nD τ).loc main_arg2) (ix3 1 k (at_ t b)) := by
  blk_simp [iblk, idx t]
  entry_read
  blk_point [idx t]

theorem iblk_g (c : Dev nD) (t : Fin cfg0.N) (a : Fin 928) (b : Fin 512) :
    iblk m c 3 t (ix2 a b) = m ((c : Thread nD τ).loc main_arg4) (ix2 a (at_ t b)) := by
  blk_simp [iblk, idx t]
  entry_read
  blk_point [idx t]

/-- What the body computes of its blocks, the row scale being the same in every lane and the left operand a product. -/
theorem pay (A : FVec Ideal S928x7168 .bf16) (B : FVec Ideal S1x7168x512 .fp8e4m3) (S : FVec Ideal S928x128 .f32)
    (G : FVec Ideal S928x512 .f32) (T : Fin 928 → Fin 7168 → EReal) (ws : Fin 7168 → EReal) (ts : Fin 928 → EReal)
    (hA : ∀ a k, A (ix2 a k) = T a k * ws k) (hS : ∀ a l, S (ix2 a l) = ts a) (a : Fin 928) (b : Fin 512) :
    k0_pay1 (F := Ideal) A B S G (ix2 a b) = (∑ k, T a k * (B (ix3 0 k b) * ws k)) * ts a + G (ix2 a b) := by
  pointwise [k0_pay1, hA, hS]
  simp only [dite_eq_ite, ite_self]
  simp only [mul_assoc, mul_left_comm, mul_comm]

/-- … and the term of it. -/
theorem pay_t (A : FVec Ideal S928x7168 .bf16) (B : FVec Ideal S1x7168x512 .fp8e4m3) (S : FVec Ideal S928x128 .f32)
    (G : FVec Ideal S928x512 .f32) (X : FVec Ideal S928x512 .fp8e4m3) (Y : FVec Ideal S928x128 .f32) (xs : Fin 928 → EReal)
    (hY : ∀ a l, Y (ix2 a l) = xs a) (a : Fin 928) (b : Fin 512) :
    k0_pay2 (F := Ideal) A B S G X Y (ix2 a b) = k0_pay1 (F := Ideal) A B S G (ix2 a b) * (X (ix2 a b) * xs a) := by
  unfold k0_pay2
  generalize k0_pay1 (F := Ideal) A B S G = g
  pointwise [hY]
  simp only [dite_eq_ite, ite_self]

/-- The magnitudes' maximum over a block's four groups of lanes. -/
def four (g : Fin 928 → Fin 512 → EReal) (a : Fin 928) (l : Fin 128) : EReal :=
  max (max (max (Spec.mag (g a ⟨l.val, by omega⟩)) (Spec.mag (g a ⟨128 + l.val, by omega⟩))) (Spec.mag (g a ⟨256 + l.val, by omega⟩)))
    (Spec.mag (g a ⟨384 + l.val, by omega⟩))

theorem pay_max (i : grid0.Coords) (A : FVec Ideal S928x7168 .bf16) (B : FVec Ideal S1x7168x512 .fp8e4m3) (S : FVec Ideal S928x128 .f32)
    (G : FVec Ideal S928x512 .f32) (X : FVec Ideal S928x512 .fp8e4m3) (Y : FVec Ideal S928x128 .f32) (O : FVec Ideal S928x128 .f32)
    (a : Fin 928) (l : Fin 128) :
    (show EReal from k0_pay3 (F := Ideal) i A B S G X Y O (ix2 a l))
      = Scalar.select (Scalar.cmpi .eq (BitVec.ofNat 32 (i 0).val) 0#32)
          (four (fun a b => k0_pay2 (F := Ideal) A B S G X Y (ix2 a b)) a l)
          (max (show EReal from O (ix2 a l)) (four (fun a b => k0_pay2 (F := Ideal) A B S G X Y (ix2 a b)) a l)) := by
  unfold k0_pay3
  generalize k0_pay2 (F := Ideal) A B S G X Y = g
  pointwise
  rfl

theorem pay_sum (A : FVec Ideal S928x7168 .bf16) (B : FVec Ideal S1x7168x512 .fp8e4m3) (S : FVec Ideal S928x128 .f32)
    (G : FVec Ideal S928x512 .f32) (X : FVec Ideal S928x512 .fp8e4m3) (Y : FVec Ideal S928x128 .f32) (u : Fin 1) (b : Fin 512) :
    k0_pay4 (F := Ideal) A B S G X Y (ix2 u b) = ∑ a, k0_pay2 (F := Ideal) A B S G X Y (ix2 a b) := by
  unfold k0_pay4
  generalize k0_pay2 (F := Ideal) A B S G X Y = g
  pointwise

/-- The gradient the call computes, of the arguments it is launched with. -/
abbrev grad_ (c : Dev nD) : Fin 928 → Fin 7168 → EReal :=
  GRAD (m ((c : Thread nD τ).loc main_arg0)) (m ((c : Thread nD τ).loc main_arg1)) (m ((c : Thread nD τ).loc main_arg2))
    (m ((c : Thread nD τ).loc main_arg3)) (m ((c : Thread nD τ).loc main_arg4))
abbrev term_ (c : Dev nD) : Fin 928 → Fin 7168 → EReal :=
  TERM (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The gradient at a point's block. -/
theorem point (c : Dev nD) (t : Fin cfg0.N) (a : Fin 928) (b : Fin 512) :
    k0_pay1 (F := Ideal) (X0_0 m c t) (iblk m c 1 t) (X0_2 m c t) (iblk m c 3 t) (ix2 a b) = grad_ m c a (at_ t b) := by
  refine (pay _ _ _ _ _ _ _ (iblk_a m c t) (iblk_ts m c t) a b).trans ?_
  rw [iblk_g]
  simp only [iblk_w]
  rfl

/-- The term at a point's block. -/
theorem point_t (c : Dev nD) (t : Fin cfg0.N) (a : Fin 928) (b : Fin 512) :
    k0_pay2 (F := Ideal) (X0_0 m c t) (iblk m c 1 t) (X0_2 m c t) (iblk m c 3 t) (X0_4 m c t) (X0_5 m c t) (ix2 a b) = term_ m c a (at_ t b) := by
  refine (pay_t _ _ _ _ _ _ _ (iblk_xs m c t) a b).trans ?_
  rw [point, iblk_x]
  rfl

/-- A point's maximum over its block, in the array's columns. -/
def block_ (c : Dev nD) (t : Fin cfg0.N) (a : Fin 928) (l : Fin 128) : EReal :=
  max (max (max (Spec.mag (term_ m c a (Spec.col ⟨4 * t.val, by have : t.val < 14 := t.isLt; omega⟩ l)))
        (Spec.mag (term_ m c a (Spec.col ⟨4 * t.val + 1, by have : t.val < 14 := t.isLt; omega⟩ l))))
      (Spec.mag (term_ m c a (Spec.col ⟨4 * t.val + 2, by have : t.val < 14 := t.isLt; omega⟩ l))))
    (Spec.mag (term_ m c a (Spec.col ⟨4 * t.val + 3, by have : t.val < 14 := t.isLt; omega⟩ l)))

theorem four_eq (c : Dev nD) (t : Fin cfg0.N) (a : Fin 928) (l : Fin 128) :
    four (fun a b => k0_pay2 (F := Ideal) (X0_0 m c t) (iblk m c 1 t) (X0_2 m c t) (iblk m c 3 t) (X0_4 m c t) (X0_5 m c t) (ix2 a b)) a l
      = block_ m c t a l := by
  unfold block_
  unfold four
  simp only [point_t]
  have e0 : at_ t ⟨l.val, by omega⟩ = Spec.col ⟨4 * t.val, by have : t.val < 14 := t.isLt; omega⟩ l := Fin.ext (by simp only; omega)
  have e1 : at_ t ⟨128 + l.val, by omega⟩ = Spec.col ⟨4 * t.val + 1, by have : t.val < 14 := t.isLt; omega⟩ l := Fin.ext (by simp only; omega)
  have e2 : at_ t ⟨256 + l.val, by omega⟩ = Spec.col ⟨4 * t.val + 2, by have : t.val < 14 := t.isLt; omega⟩ l := Fin.ext (by simp only; omega)
  have e3 : at_ t ⟨384 + l.val, by omega⟩ = Spec.col ⟨4 * t.val + 3, by have : t.val < 14 := t.isLt; omega⟩ l := Fin.ext (by simp only; omega)
  rw [e0, e1, e2, e3]

/-- The row maxima after a point, of the maxima before it. -/
theorem pay_at (c : Dev nD) (t : Fin cfg0.N) (O : FVec Ideal S928x128 .f32) (a : Fin 928) (l : Fin 128) :
    (show EReal from k0_pay3 (F := Ideal) (grid0.coords t) (X0_0 m c t) (iblk m c 1 t) (X0_2 m c t) (iblk m c 3 t) (X0_4 m c t) (X0_5 m c t) O (ix2 a l))
      = if t.val = 0 then block_ m c t a l else max (show EReal from O (ix2 a l)) (block_ m c t a l) := by
  refine (pay_max (grid0.coords t) (X0_0 m c t) (iblk m c 1 t) (X0_2 m c t) (iblk m c 3 t) (X0_4 m c t) (X0_5 m c t) O a l).trans ?_
  rw [first_word t, four_eq m c t a l]
  split <;> rfl

theorem amax_zero (c : Dev nD) (hn : 0 < cfg0.N) (a : Fin 928) (l : Fin 128) :
    (show EReal from amaxAt m c 0 hn (ix2 a l)) = block_ m c ⟨0, hn⟩ a l :=
  (pay_at m c ⟨0, hn⟩ _ a l).trans (if_pos rfl)

theorem amax_succ (c : Dev nD) (n : ℕ) (hn : n + 1 < cfg0.N) (a : Fin 928) (l : Fin 128) :
    (show EReal from amaxAt m c (n + 1) hn (ix2 a l))
      = max (show EReal from amaxAt m c n (Nat.lt_of_succ_lt hn) (ix2 a l)) (block_ m c ⟨n + 1, hn⟩ a l) :=
  (pay_at m c ⟨n + 1, hn⟩ _ a l).trans (if_neg (Nat.succ_ne_zero n))

/-- What bounds the row maxima after position `n`: what bounds the magnitudes of the columns so far. -/
theorem amax_le (c : Dev nD) (a : Fin 928) (l : Fin 128) (z : EReal) (n : ℕ) (hn : n < cfg0.N) :
    (show EReal from amaxAt m c n hn (ix2 a l)) ≤ z ↔ ∀ k : Fin 56, k.val < 4 * (n + 1) → Spec.mag (term_ m c a (Spec.col k l)) ≤ z := by
  induction n with
  | zero =>
    rw [amax_zero]
    exact Spec.first_le (term_ m c) a l z
  | succ n ih =>
    rw [amax_succ]
    have : n + 1 < 14 := hn
    exact Spec.step_le (term_ m c) a l (n + 1) (by omega) z _ (ih (Nat.lt_of_succ_lt hn))

/-- The results' blocks. -/
theorem emb0 (t : Fin cfg0.N) (a : Fin 928) (b : Fin 512) : ((cfg0.win 6).blk t).view.emb (ix2 a b) = ix2 a (at_ t b) := by
  blk_ext [idx t]
theorem emb1 (t : Fin cfg0.N) (a : Fin 928) (l : Fin 128) : ((cfg0.win 7).blk t).view.emb (ix2 a l) = ix2 a l := by
  blk_ext [idx t]
theorem emb2 (t : Fin cfg0.N) (a : Fin 1) (b : Fin 512) : ((cfg0.win 8).blk t).view.emb (ix2 a b) = ix2 a (at_ t b) := by
  blk_ext [idx t]

/-- The three arrays after the run. -/
theorem final0 (c : Dev nD) : (dats m 0 c).arrAt 6 (cfgs 0).N
    = OUT0 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  obtain ⟨a, b, rfl⟩ : ∃ (a : Fin 928) (b : Fin 512), y = ix2 a b := ⟨y 0, y 1, eq_ix2 y⟩
  exact (point m c t a b).trans (congrArg (OUT0 _ _ _ _ _) (emb0 t a b)).symm

theorem final1 (c : Dev nD) : (dats m 0 c).arrAt 7 (cfgs 0).N
    = OUT1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t hf y => ?_
  have ht : t.val = 13 := by have := (flush0_7 t).mp hf; have : t.val < 14 := t.isLt; omega
  blk_simp
  rw [after0_7]
  obtain ⟨a, l, rfl⟩ : ∃ (a : Fin 928) (l : Fin 128), y = ix2 a l := ⟨y 0, y 1, eq_ix2 y⟩
  refine (Spec.eq_lanes (term_ m c) a l _ fun z => ?_).trans (congrArg (OUT1 _ _ _ _ _ _ _) (emb1 t a l)).symm
  refine (amax_le m c a l z t.val t.isLt).trans ?_
  rw [ht]

theorem final2 (c : Dev nD) : (dats m 0 c).arrAt 8 (cfgs 0).N
    = OUT2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 8 _ (by decide +kernel) fun t _ y => ?_
  blk_simp
  rw [after0_8]
  obtain ⟨a, b, rfl⟩ : ∃ (a : Fin 1) (b : Fin 512), y = ix2 a b := ⟨y 0, y 1, eq_ix2 y⟩
  refine (pay_sum _ _ _ _ _ _ a b).trans (Eq.trans ?_ (congrArg (OUT2 _ _ _ _ _ _ _) (emb2 t a b)).symm)
  exact Finset.sum_congr rfl fun k _ => point_t m c t k b

/-- The run with the three arrays named, the arguments unchanged. -/
theorem run_final (ρ : Dev nD → PrngReg) : θ_run defs (onTc (τ := τ) (main (F := Ideal))) ⟨m, fun _ => 0, ρ⟩ fun r => ∀ c : Dev nD,
      r.2.mem ((c : Thread nD τ).loc main_v11_0) = OUT0 (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_v11_1) = OUT1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
      ∧ r.2.mem ((c : Thread nD τ).loc main_v11_2) = OUT2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.1.trans (final0 m c), (h c).1.2.1.trans (final1 m c), (h c).1.2.2.trans (final2 m c), (h c).2⟩)
    (run_blocks m ρ)

end Cert.Dg1Ideal.Value

namespace Cert.RefDg1Ideal.Value
open Cert.RefDg1Ideal Cert.RefDg1Ideal.Gen
open Cert.Dg1Ideal.Value (OUT0 OUT1 OUT2 GRAD TERM)
variable (m : (ℓ : Loc nD τ sig) → Buf (Elt Ideal) ℓ)

theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

abbrev grad_ (c : Dev nD) : Fin 928 → Fin 7168 → EReal :=
  GRAD (m ((c : Thread nD τ).loc main_arg0)) (m ((c : Thread nD τ).loc main_arg1)) (m ((c : Thread nD τ).loc main_arg2))
    (m ((c : Thread nD τ).loc main_arg3)) (m ((c : Thread nD τ).loc main_arg4))
abbrev term_ (c : Dev nD) : Fin 928 → Fin 7168 → EReal :=
  TERM (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem point (c : Dev nD) (j : S928x7168.Idx) :
    k0_pay1 (F := Ideal) (View.ld (iblk m c 0 t0_0) r0_0) (View.ld (iblk m c 1 t0_0) r0_1) (View.ld (iblk m c 2 t0_0) r0_2)
      (iblk m c 3 t0_0) (iblk m c 4 t0_0) j = grad_ m c (j 0) (j 1) := by
  pointwise [k0_pay1, grad_, GRAD, Spec.grad]
  blk_point [iblk, V, idx t0_0]

theorem point_t (c : Dev nD) (j : S928x7168.Idx) :
    k0_pay2 (F := Ideal) (View.ld (iblk m c 0 t0_0) r0_0) (View.ld (iblk m c 1 t0_0) r0_1) (View.ld (iblk m c 2 t0_0) r0_2)
      (iblk m c 3 t0_0) (iblk m c 4 t0_0) (View.ld (iblk m c 5 t0_0) r0_5) (View.ld (iblk m c 6 t0_0) r0_6) j = term_ m c (j 0) (j 1) := by
  pointwise [k0_pay2, point, term_, TERM, Spec.term]
  blk_point [iblk, V, idx t0_0]

theorem final0 (c : Dev nD) : (dats m 0 c).arrAt 7 (cfgs 0).N
    = OUT0 (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 7 t0_0 (by decide +kernel) _ fun j => ?_
  blk_simp
  rw [after0_7]; frame_out
  exact point m c j

theorem final1 (c : Dev nD) : (dats m 0 c).arrAt 8 (cfgs 0).N
    = OUT1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_after_last 8 t0_0 (by decide +kernel) _ fun j => ?_
  blk_simp
  rw [after0_8]; frame_out
  unfold k0_pay3
  generalize hg : k0_pay2 (F := Ideal) _ _ _ _ _ _ _ = g
  pointwise
  rw [Spec.neg_inf]
  unfold OUT1 Spec.lanes
  refine Finset.fold_congr fun k _ => ?_
  rw [← hg]
  exact congrArg Spec.mag (point_t m c (ix2 (j 0) (Spec.col k (j 1))))

theorem final2 (c : Dev nD) : (dats m 0 c).arrAt 9 (cfgs 0).N
    = OUT2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (dats m 0 c).arrAt_eq_of_after_last 9 t0_0 (by decide +kernel) _ fun j => ?_
  blk_simp
  rw [after0_9]; frame_out
  unfold k0_pay4
  generalize hg : k0_pay2 (F := Ideal) _ _ _ _ _ _ _ = g
  pointwise
  unfold OUT2 Spec.sums
  show (∑ k : Fin 928, (show EReal from g (ix2 k (j 1)))) = ∑ k : Fin 928, term_ m c k (j 1)
  refine Finset.sum_congr rfl fun k _ => ?_
  rw [← hg]
  exact point_t m c (ix2 k (j 1))

theorem run_final (ρ : Dev nD → PrngReg) : θ_run defs (onTc (τ := τ) (main (F := Ideal))) ⟨m, fun _ => 0, ρ⟩ fun r => ∀ c : Dev nD,
      r.2.mem ((c : Thread nD τ).loc main_v5_0) = OUT0 (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_v5_1) = OUT1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
      ∧ r.2.mem ((c : Thread nD τ).loc main_v5_2) = OUT2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (final0 m c), (h c).2.1.trans (final1 m c), (h c).2.2.1.trans (final2 m c), (h c).2.2.2⟩)
    (run_blocks m ρ)

end Cert.RefDg1Ideal.Value
-- ==== Proof.Dg0Val.lean ====
/-
  Hand-written. The values of the last gradient product: what the call leaves in its result and what the reference
  leaves in its own are the same function of the arguments.
-/
module

public import proofs.«01_k».proof.Proof.Gen.Dg0Ideal.Value
public import proofs.«01_k».proof.Proof.Gen.RefDg0Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Dg0Ideal.Value
open Cert.Dg0Ideal Cert.Dg0Ideal.Gen

/-- The gradient after the product: codes by weights, the weights scaled row by row, times the row's scale, plus the
    gradient before. -/
def SPEC (T : FVec Ideal S1056x7168 .bf16) (ts : FVec Ideal S1056 .f32) (W : FVec Ideal S3x7168x7168 .fp8e4m3)
    (ws : FVec Ideal S3x7168 .f32) (G : FVec Ideal S928x7168 .f32) : FVec Ideal S928x7168 .f32 :=
  fun i => (∑ k : Fin 7168, T (ix2 ⟨i 0, Nat.lt_trans (i 0).isLt (by decide)⟩ k) * (W (ix3 0 k (i 1)) * ws (ix2 0 k)))
    * ts (ix1 ⟨i 0, Nat.lt_trans (i 0).isLt (by decide)⟩) + G i

variable (m : (ℓ : Loc nD τ sig) → Buf (Elt Ideal) ℓ)

theorem idx : ∀ t : Fin cfg0.N, win0_0.index t = ![0, 0] ∧ win0_1.index t = ![0, 0, t.val] ∧ win0_2.index t = ![0, 0]
    ∧ win0_3.index t = ![0, t.val] ∧ win0_4.index t = ![0, t.val] :=
  (by decide +kernel : ∀ t : Fin grid0.N, _)

/-- A row of the call's as a row of the arrays handed to it. -/
abbrev up (a : Fin 928) : Fin 1056 := ⟨a, Nat.lt_trans a.isLt (by decide)⟩

/-- The left operand at a point: the codes times the weights' row scales. -/
theorem iblk_a (c : Dev nD) (t : Fin cfg0.N) (a : Fin 928) (k : Fin 7168) :
    (show EReal from X0_0 m c t (ix2 a k)) = (show EReal from m ((c : Thread nD τ).loc main_arg0) (ix2 (up a) k))
      * (show EReal from m ((c : Thread nD τ).loc main_arg3) (ix2 0 k)) := by
  unfold X0_0 Pipeline.Window.fill
  rw [dif_pos (moved0_0 t _)]
  blk_simp [iblk, idx t]
  entry_read
  pointwise
  blk_point [idx t]

/-- The row scales at a point: the same in all lanes. -/
theorem iblk_ts (c : Dev nD) (t : Fin cfg0.N) (a : Fin 928) (l : Fin 128) :
    X0_2 m c t (ix2 a l) = m ((c : Thread nD τ).loc main_arg1) (ix1 (up a)) := by
  unfold X0_2 Pipeline.Window.fill
  rw [dif_pos (moved0_2 t _)]
  blk_simp [iblk, idx t]
  entry_read
  pointwise
  blk_point [idx t]

/-- What the body computes of its blocks, the row scale being the same in every lane and the left operand a product. -/
theorem pay (A : FVec Ideal S928x7168 .bf16) (B : FVec Ideal S1x7168x512 .fp8e4m3) (S : FVec Ideal S928x128 .f32)
    (G : FVec Ideal S928x512 .f32) (T : Fin 928 → Fin 7168 → EReal) (ws : Fin 7168 → EReal) (ts : Fin 928 → EReal)
    (hA : ∀ a k, A (ix2 a k) = T a k * ws k) (hS : ∀ a l, S (ix2 a l) = ts a) (a : Fin 928) (b : Fin 512) :
    k0_pay1 (F := Ideal) A B S G (ix2 a b) = (∑ k, T a k * (B (ix3 0 k b) * ws k)) * ts a + G (ix2 a b) := by
  pointwise [k0_pay1, hA, hS]
  simp only [dite_eq_ite, ite_self]
  simp only [mul_assoc, mul_left_comm, mul_comm]

/-- What the body stores at index `y` of point `t`'s block. -/
theorem point (c : Dev nD) (t : Fin cfg0.N) (y) : k0_pay1 (X0_0 m c t) (iblk m c 1 t) (X0_2 m c t) (iblk m c 3 t) y
    = SPEC (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 4).blk t).view.emb y) := by
  obtain ⟨a, b, rfl⟩ : ∃ (a : Fin 928) (b : Fin 512), y = ix2 a b := ⟨y 0, y 1, eq_ix2 y⟩
  refine (pay _ _ _ _ _ _ _ (iblk_a m c t) (iblk_ts m c t) a b).trans ?_
  simp only [SPEC]
  blk_point [iblk, V, idx t]

/-- The array after the run. -/
theorem final (c : Dev nD) : (dats m 0 c).arrAt 4 (cfgs 0).N
    = SPEC (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 4 _ (by decide +kernel) fun t _ y => ?_
  blk_simp
  rw [after0_4]; unfold outsAt0; frame_out
  exact point m c t y

end Cert.Dg0Ideal.Value

namespace Cert.RefDg0Ideal.Value
open Cert.RefDg0Ideal Cert.RefDg0Ideal.Gen
variable (m : (ℓ : Loc nD τ sig) → Buf (Elt Ideal) ℓ)

theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] :=
  (by decide +kernel : ∀ t : Fin grid0.N, _)

theorem final (c : Dev nD) : (dats m 0 c).arrAt 5 (cfgs 0).N
    = Cert.Dg0Ideal.Value.SPEC (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 5 t0_0 (by decide +kernel) _ fun j => ?_
  blk_simp
  rw [after0_5]; frame_out
  pointwise [k0_pay1, Cert.Dg0Ideal.Value.SPEC]
  blk_point [iblk, V, idx t0_0]

end Cert.RefDg0Ideal.Value
-- ==== Proof.Dw0Val.lean ====
/-
  Hand-written. The values of the last weight-gradient product: what the call leaves in its result and what the
  reference leaves in its own are the same function of the arguments.
-/
module

public import proofs.«01_k».proof.Proof.Gen.Dw0Ideal.Value
public import proofs.«01_k».proof.Proof.Gen.RefDw0Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Dw0Ideal.Value
open Cert.Dw0Ideal Cert.Dw0Ideal.Gen

/-- A row of the product as a row of the arrays handed to the call. -/
abbrev up (a : Fin 1024) : Fin 1056 := ⟨a, Nat.lt_trans a.isLt (by decide)⟩

/-- The weight gradients after the product: layer 0 is the product over the rows of the two scaled code arrays, the
    other layers are as handed in. -/
def SPEC (X : FVec Ideal S1024x7168 .fp8e4m3) (xs : FVec Ideal S1024 .f32) (T : FVec Ideal S1056x7168 .fp8e5m2)
    (ts : FVec Ideal S1056 .f32) (dw : FVec Ideal S3x7168x7168 .f32) : FVec Ideal S3x7168x7168 .f32 :=
  fun i => if (i 0 : ℕ) = 0 then
    ∑ r : Fin 1024, (T (ix2 (up r) (i 1)) * ts (ix1 (up r))) * (X (ix2 r (i 2)) * xs (ix1 r)) else dw i

variable (m : (ℓ : Loc nD τ sig) → Buf (Elt Ideal) ℓ)

theorem idx : ∀ t : Fin cfg0.N, win0_0.index t = ![0, 0] ∧ win0_1.index t = ![0, 0] ∧ win0_2.index t = ![0, t.val / 7]
    ∧ win0_3.index t = ![0, 0] ∧ win0_4.index t = ![0, t.val / 7, t.val % 7] :=
  (by decide +kernel : ∀ t : Fin grid0.N, _)

theorem coord : ∀ t : Fin cfg0.N, ((grid0.coords t) 1).val = t.val % 7 :=
  (by decide +kernel : ∀ t : Fin grid0.N, _)

theorem iblk_xs (c : Dev nD) (t : Fin cfg0.N) (a : Fin 1024) (l : Fin 128) :
    iblk m c 1 t (ix2 a l) = m ((c : Thread nD τ).loc main_arg1) (ix1 a) := by
  blk_simp [iblk, idx t]
  entry_read
  pointwise
  blk_point [idx t]

theorem iblk_ts (c : Dev nD) (t : Fin cfg0.N) (a : Fin 1024) (l : Fin 128) :
    X0_3 m c t (ix2 a l) = m ((c : Thread nD τ).loc main_arg3) (ix1 (up a)) := by
  unfold X0_3 Pipeline.Window.fill
  rw [dif_pos (moved0_3 t _)]
  blk_simp [iblk, idx t]
  entry_read
  pointwise
  blk_point [idx t]

theorem lt_col (t : Fin cfg0.N) (o : Fin 1024) : t.val / 7 * 1024 + o.val < 7168 := by
  have := lt_of_lt_of_eq t.isLt (show cfg0.N = 49 from N_0); omega

theorem iblk_tc (c : Dev nD) (t : Fin cfg0.N) (a : Fin 1024) (o : Fin 1024) :
    X0_2 m c t (ix2 a o) = m ((c : Thread nD τ).loc main_arg2) (ix2 (up a) ⟨t.val / 7 * 1024 + o, lt_col t o⟩) := by
  unfold X0_2 Pipeline.Window.fill
  rw [dif_pos (moved0_2 t _)]
  blk_simp [iblk, idx t]
  entry_read
  blk_point [idx t]

/-- The left operand the body builds: the scaled codes, transposed. -/
theorem pay1 (S XS : FVec Ideal S1024x128 .f32) (T : FVec Ideal S1024x1024 .fp8e5m2)
    (xs ts : Fin 1024 → EReal) (hS : ∀ a l, S (ix2 a l) = ts a) (hX : ∀ a l, XS (ix2 a l) = xs a) (a r : Fin 1024) :
    k0_pay1 (F := Ideal) S XS T (ix2 a r) = T (ix2 r a) * (ts r * xs r) := by
  pointwise [k0_pay1, hS, hX]
  simp only [dite_eq_ite, ite_self]

theorem pay2 (L : FVec Ideal S1024x1024 .bf16) (X : FVec Ideal S1024x1024 .fp8e4m3) (z : Fin 1) (a b : Fin 1024) :
    k0_pay2 (F := Ideal) L X (ix3 z a b) = ∑ r : Fin 1024, L (ix2 a r) * X (ix2 r b) := by
  pointwise [k0_pay2]

/-- The left operand of a point's block row. -/
def lhs (T : FVec Ideal S1056x7168 .fp8e5m2) (ts : FVec Ideal S1056 .f32) (xs : FVec Ideal S1024 .f32) (t : Fin cfg0.N) :
    FVec Ideal S1024x1024 .bf16 :=
  fun j => T (ix2 (up (j 1)) ⟨t.val / 7 * 1024 + (j 0).val, lt_col t (j 0)⟩) * (ts (ix1 (up (j 1))) * xs (ix1 (j 1)))

/-- What the carried scratch holds after each point: the left operand of the point's block row. -/
abbrev LHS (c : Dev nD) (t : Fin cfg0.N) : FVec Ideal S1024x1024 .bf16 :=
  lhs (m ((c : Thread nD τ).loc main_arg2)) (m ((c : Thread nD τ).loc main_arg3)) (m ((c : Thread nD τ).loc main_arg1)) t

theorem lhs_at (T ts xs) (t : Fin cfg0.N) (a r : Fin 1024) : lhs T ts xs t (ix2 a r)
    = T (ix2 (up r) ⟨t.val / 7 * 1024 + a.val, lt_col t a⟩) * (ts (ix1 (up r)) * xs (ix1 r)) := rfl

theorem lhs_congr (T ts xs) (t t' : Fin cfg0.N) (e : t.val / 7 = t'.val / 7) : lhs T ts xs t = lhs T ts xs t' := by
  unfold lhs
  funext j
  simp only [e]

theorem made (c : Dev nD) (t : Fin cfg0.N) : k0_pay1 (F := Ideal) (X0_3 m c t) (iblk m c 1 t) (X0_2 m c t) = LHS m c t := by
  funext j
  obtain ⟨a, r, rfl⟩ : ∃ (a : Fin 1024) (r : Fin 1024), j = ix2 a r := ⟨j 0, j 1, eq_ix2 j⟩
  refine (pay1 _ _ _ _ _ (iblk_ts m c t) (iblk_xs m c t) a r).trans ?_
  rw [iblk_tc]
  rfl

theorem scratch (c : Dev nD) : ∀ (n : ℕ) (h : n < cfg0.N), (outsAt0 m c n h).2 = LHS m c ⟨n, h⟩ := by
  intro n
  induction n with
  | zero => intro h; rw [outsAt0_A m c ⟨0, h⟩ rfl]; frame_out; exact made m c _
  | succ n ih =>
    intro h
    by_cases h0 : (n + 1) % 7 = 0
    · rw [outsAt0_A m c ⟨n + 1, h⟩ h0]; frame_out; exact made m c _
    · rw [outsAt0_B m c ⟨n + 1, h⟩ h0]
      refine (ih (Nat.lt_of_succ_lt h)).trans ?_
      exact lhs_congr _ _ _ _ _ (show n / 7 = (n + 1) / 7 by omega)

/-- What a point stores. -/
theorem stored (c : Dev nD) (t : Fin cfg0.N) : (outsAt0 m c t.val t.isLt).1
    = k0_pay2 (F := Ideal) (LHS m c t) (View.ld (iblk m c 0 t) (Rect.unit (s := S1024x7168) (k0_off1 (grid0.coords t)) S1024x1024.size (k0_off1_inb (grid0.coords t)))) := by
  by_cases h0 : t.val % 7 = 0
  · rw [outsAt0_A m c t h0]; frame_out
    rw [made]
    rfl
  · have hs := scratch m c (t.val - 1) (Nat.lt_of_le_of_lt (Nat.sub_le _ _) t.isLt)
    rw [outsAt0_B m c t h0]; frame_out
    rw [hs]
    rw [show LHS m c ⟨t.val - 1, Nat.lt_of_le_of_lt (Nat.sub_le _ _) t.isLt⟩ = LHS m c t from
      lhs_congr _ _ _ _ _ (show (t.val - 1) / 7 = t.val / 7 by omega)]
    exact congrArg (fun z => k0_pay2 (F := Ideal) z _) ((Memref.isWhole_whole cc0_scratch0).read_unread _)

theorem lt_in (t : Fin cfg0.N) (b : Fin 1024) : t.val % 7 * 1024 + b.val < 7168 := by omega

/-- The columns of the right operand that a point reads. -/
theorem cols (c : Dev nD) (t : Fin cfg0.N) (r b : Fin 1024) :
    View.ld (iblk m c 0 t) (Rect.unit (s := S1024x7168) (k0_off1 (grid0.coords t)) S1024x1024.size (k0_off1_inb (grid0.coords t))) (ix2 r b)
      = m ((c : Thread nD τ).loc main_arg0) (ix2 r ⟨t.val % 7 * 1024 + b, lt_in t b⟩) := by
  blk_point [iblk, V, idx t, coord t, k0_off1_eq]

theorem alg (p q r s : EReal) : p * (q * r) * s = (p * q) * (s * r) := by ac_rfl

theorem point (c : Dev nD) (t : Fin cfg0.N) (y : S1x1024x1024.Idx) : (outsAt0 m c t.val t.isLt).1 y
    = SPEC (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 4).blk t).view.emb y) := by
  obtain ⟨z, a, b, rfl⟩ : ∃ (z : Fin 1) (a : Fin 1024) (b : Fin 1024), y = ix3 z a b := ⟨y 0, y 1, y 2, eq_ix3 y⟩
  rw [stored]
  refine (pay2 _ _ z a b).trans ?_
  have e0 : (((((cfg0.win 4).blk t).view.emb (ix3 z a b)) 0 : Fin 3) : ℕ) = 0 := by blk_simp [idx t]
  unfold SPEC
  rw [if_pos e0]
  refine Fin.sum_fin_congr fun r => ?_
  refine Eq.trans (congrArg₂ (fun u v : EReal => u * v) (lhs_at _ _ _ t a r) (cols m c t r b)) ?_
  refine Eq.trans (alg _ _ _ _) ?_
  blk_point [idx t]

theorem final (c : Dev nD) : (dats m 0 c).arrAt 4 (cfgs 0).N
    = SPEC (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_coversWhere_of_agree 4 _ (fun β => β 0 = 0) (by decide +kernel) (fun t hf y => ?_) (fun j hj => ?_)
  · blk_simp; rw [after0_4]; exact point m c t y
  · blk_simp [Pipeline.Window.cell_apply] at hj
    rw [A_eq]
    blk_simp
    entry_read
    unfold SPEC
    rw [if_neg (by omega)]

end Cert.Dw0Ideal.Value

namespace Cert.RefDw0Ideal.Value
open Cert.RefDw0Ideal Cert.RefDw0Ideal.Gen
variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0, 0] ∧ win0_5.index t = ![0, 0, 0] :=
  (by decide +kernel : ∀ t : Fin grid0.N, _)

theorem rd0 (x) (h : (Memref.whole cc0_stg0_0 : Memref sig .tc .vmem S1024x7168 .fp8e4m3).IsWhole) :
    View.read (Elt Ideal) (View.whole cc0_stg0_0) (h.unread x) = x := h.read_unread x
theorem rd1 (x) (h : (Memref.whole cc0_stg1_0 : Memref sig .tc .vmem S1024x1 .f32).IsWhole) :
    View.read (Elt Ideal) (View.whole cc0_stg1_0) (h.unread x) = x := h.read_unread x
theorem rd2 (x) (h : (Memref.whole cc0_stg2_0 : Memref sig .tc .vmem S1056x7168 .fp8e5m2).IsWhole) :
    View.read (Elt Ideal) (View.whole cc0_stg2_0) (h.unread x) = x := h.read_unread x
theorem rd3 (x) (h : (Memref.whole cc0_stg3_0 : Memref sig .tc .vmem S1056x1 .f32).IsWhole) :
    View.read (Elt Ideal) (View.whole cc0_stg3_0) (h.unread x) = x := h.read_unread x
theorem rd4 (x) (h : (Memref.whole cc0_stg4_0 : Memref sig .tc .vmem S3x7168x7168 .f32).IsWhole) :
    View.read (Elt Ideal) (View.whole cc0_stg4_0) (h.unread x) = x := h.read_unread x

theorem iblk_ts (c : Dev nD) (a : Fin 1056) : iblk m c 3 t0_0 (ix2 a 0) = m ((c : Thread nD τ).loc main_arg3) (ix1 a) := by
  blk_simp [iblk, idx t0_0]
  entry_read
  pointwise
  blk_point [idx t0_0]

theorem scales (c : Dev nD) (r : Fin 1024) : View.ld (iblk m c 3 t0_0)
    (Rect.unit ![0, 0] ![1024, 1] inb_S1056x1_S1024x1_0_0) (ix2 r 0)
      = m ((c : Thread nD τ).loc main_arg3) (ix1 (Cert.Dw0Ideal.Value.up r)) := by
  refine Eq.trans ?_ (iblk_ts m c (Cert.Dw0Ideal.Value.up r))
  show iblk m c 3 t0_0 _ = _
  blk_ext
  rw [Rect.idx_unit_val]
  exact Nat.zero_add _

theorem pay (X : FVec Ideal S1024x7168 .fp8e4m3) (XS : FVec Ideal S1024x1 .f32) (T : FVec Ideal S1024x7168 .fp8e5m2)
    (TS : FVec Ideal S1024x1 .f32) (z : Fin 1) (o i : Fin 7168) : k0_pay1 (F := Ideal) X XS T TS (ix3 z o i)
      = ∑ r : Fin 1024, (T (ix2 r o) * TS (ix2 r 0)) * (X (ix2 r i) * XS (ix2 r 0)) := by
  pointwise [k0_pay1]

theorem final (c : Dev nD) : (dats m 0 c).arrAt 5 (cfgs 0).N
    = Cert.Dw0Ideal.Value.SPEC (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 5 t0_0 (by decide +kernel) _ fun j => ?_
  blk_simp
  rw [after0_5]; unfold outsAt0; frame_out
  canon_tiles x h using (View.cover_of_tiledBy _ ![1, 7168, 7168] (by sl_kernel_rfl) j)
  · rw [rd4]
    unfold Cert.Dw0Ideal.Value.SPEC
    rw [if_neg (by omega)]
    blk_point [iblk, V, idx t0_0]
  · rw [rd0, rd1, rd2, rd3]
    obtain ⟨z, o, i, rfl⟩ : ∃ (z : Fin 1) (o i : Fin 7168), x = ix3 z o i := ⟨x 0, x 1, x 2, eq_ix3 x⟩
    have e0 : (j 0 : ℕ) = z := h0
    have e1 : (j 1 : ℕ) = o := h1
    have e2 : (j 2 : ℕ) = i := h2
    refine (pay _ _ _ _ z o i).trans ?_
    unfold Cert.Dw0Ideal.Value.SPEC
    rw [if_pos (by omega)]
    refine Fin.sum_fin_congr fun r => ?_
    rw [scales]
    blk_point [iblk, V, idx t0_0]

end Cert.RefDw0Ideal.Value
-- ==== Proof.ZPlaces.lean ====
/-
  Hand-written. The printed predicate `places`, decoded: every word of the table names one of the 48 chunks.
-/
module

public import proofs.«01_k».proof.Pre_places
public import Idealize.ShloMosaic.Lib.Pointwise
public import Idealize.ShloMosaic.Lib.Pipeline.ValueKit

@[expose] public section

namespace Cert.ZPlaces

open Idealize.ShloMosaic Cert.Pre_places

theorem facts : Cert.Pre_places.Facts := ⟨by decide⟩

theorem lt_of {F : FTy → Type} [FloatOps F] [Cert.Pre_places.Facts] {a0 : IVec S48 32} {a1 a2 a3 a4 a5 a6 a7 a8 a9 a10 a11 a12 a13 a14}
    (h : Cert.Pre_places.fn (F := F) a0 a1 a2 a3 a4 a5 a6 a7 a8 a9 a10 a11 a12 a13 a14 = fun _ => 1#1) (y : S48.Idx) :
    BitVec.toNat (w := 32) (a0 y) < 48 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_places.fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  have := (a0 y).isLt
  split at hge <;> split at hlt <;> omega

end Cert.ZPlaces
-- ==== Proof.ZHyp.lean ====
/-
  Hand-written. A table whose words name chunks gives the side conditions that the body assumes of the words it reads.
-/
module

public import proofs.«01_k».proof.Proof.Gen.Z.Frame
public import Idealize.ShloMosaic.Lib.Pointwise
public import Idealize.ShloMosaic.Lib.Pipeline.ValueKit

@[expose] public section

namespace Cert.Z.Hyp

open Idealize.ShloMosaic Idealize.ShloMosaic.TcCoe Cert.Z Cert.Z.Gen

variable {F : FTy → Type} [FloatOps F]

theorem chk_of (v : BitVec 32) (h : v.toNat < 48) : k0_chk1 v := by
  have all : ∀ k : Fin 48, k0_chk1 (BitVec.ofNat 32 k.val) := by decide +kernel
  simpa using all ⟨v.toNat, h⟩

/-- What the body reads of the table: its word `n`. -/
theorem word (m : (ℓ : Loc nD τ sig) → Buf (Elt F) ℓ) (n : ℕ) (h : ∀ a, (![n] : Fin 1 → ℕ) a + S1.size a ≤ S48.size a) (i : S1.Idx) :
    tbM0_0.view.readAt (Elt F) (Rect.unit (s := S48) ![n] S1.size h).toLoadRect (tbl m 0) i
      = m (((0 : Dev nD) : Thread nD τ).loc main_arg0) (ix1 (⟨n, h 0⟩ : Fin 48)) := by
  have e : tbl m 0 = m (((0 : Dev nD) : Thread nD τ).loc main_arg0) := V_main_arg0 m 0
  refine (congrFun e ((Rect.unit (s := S48) ![n] S1.size h).toLoadRect.idx i)).trans ?_
  refine congrArg (m (((0 : Dev nD) : Thread nD τ).loc main_arg0)) ?_
  funext a
  obtain rfl : a = 0 := Subsingleton.elim _ _
  refine Fin.ext ?_
  have h1 : (i 0).val < 1 := (i 0).isLt
  show n + 1 * (i 0).val = n
  omega

theorem hyps_of {m : (ℓ : Loc nD τ sig) → Buf (Elt F) ℓ} (hO : Ok m)
    (h : ∀ y : S48.Idx, BitVec.toNat (w := 32) (m (((0 : Dev nD) : Thread nD τ).loc main_arg0) y) < 48) : Hyps m hO :=
  Hyps.of
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))

end Cert.Z.Hyp
-- ==== Proof.ZPut.lean ====
/-
  Hand-written. What is left in one column of an array of 1536 rows after blocks of 32 rows have been stored over zeros, a
  later block over an earlier one.
-/
module

public import Idealize.ShloMosaic.Lib.Pipeline.ValueKit
public import Idealize.ShloMosaic.Lib.Pointwise

@[expose] public section

noncomputable section

open Idealize.ShloMosaic

namespace Cert.ZPut

/-- Row `r` after the first `k` blocks, block `k` being rows `32 * k ..` of `v` stored at row `o k`. -/
def put (o : ℕ → ℕ) (v : ℕ → EReal) : ℕ → ℕ → EReal
  | 0, _ => 0
  | k + 1, r => if o k ≤ r ∧ r < o k + 32 then v (32 * k + (r - o k)) else put o v k r

/-- Stored rows that are the same leave the same. -/
theorem put_congr {o : ℕ → ℕ} {v v' : ℕ → EReal} (k : ℕ) (h : ∀ a, a < 32 * k → v a = v' a) (r : ℕ) : put o v k r = put o v' k r := by
  induction k with
  | zero => rfl
  | succ k ih =>
    unfold put
    split
    · exact h _ (by omega)
    · exact ih fun a ha => h a (by omega)

/-- The first row a chunk goes to, by the table. -/
def row (A : Fin 48 → BitVec 32) (k : ℕ) : ℕ := (Scalar.muli (A ⟨k % 48, Nat.mod_lt _ (by decide)⟩) 32#32).toNat

/-- A layer before its gate: the product of the codes, scaled by row and by column, plus the bias. -/
def aff (X : Fin 928 → Fin 7168 → EReal) (xs : Fin 928 → EReal) (W : Fin 7168 → Fin 7168 → EReal) (ws b : Fin 7168 → EReal)
    (a : Fin 928) (q : Fin 7168) : EReal := (∑ k, X a k * W q k) * xs a * ws q + b q

/-- The rows of one column, zero after the last. -/
def rows (X : Fin 928 → EReal) (x : ℕ) : EReal := if h : x < 928 then X ⟨x, h⟩ else 0

theorem rows_live (X : Fin 928 → EReal) (x : ℕ) (h : x < 928) : rows X x = X ⟨x, h⟩ := dif_pos h
theorem rows_dead (X : Fin 928 → EReal) (x : ℕ) (h : 928 ≤ x) : rows X x = 0 := dif_neg (Nat.not_lt.2 h)

theorem zero_word : Ideal.ofBits .bf16 0#16 = 0 := by simp [Ideal.ofBits, Ideal.ieee]

variable {n : ℕ} (L : List (View.Piece (Elt Ideal) ⟨2, ![1536, n]⟩ .bf16))

/-- One more block. -/
theorem step (off : Fin 2 → ℕ) (h : ∀ a, off a + (![32, n] : Fin 2 → ℕ) a ≤ (⟨2, ![1536, n]⟩ : Shape).size a)
    (w : (⟨2, ![32, n]⟩ : Shape).Idx → Elt Ideal .bf16) (o : ℕ → ℕ) (v : ℕ → EReal) (k : ℕ) (r : Fin 1536) (q : Fin n)
    (h0 : off 0 = o k) (h1 : off 1 = 0) (hw : ∀ a : Fin 32, @Eq EReal (w (ix2 a q)) (v (32 * k + a.val)))
    (ih : @Eq EReal (View.canon L (ix2 r q)) (put o v k r)) :
    @Eq EReal (View.canon (⟨Rect.unit (s := ⟨2, ![1536, n]⟩) off ![32, n] h, w⟩ :: L) (ix2 r q)) (put o v (k + 1) r) := by
  unfold put
  by_cases hr : o k ≤ r.val ∧ r.val < o k + 32
  · rw [if_pos hr]
    have e : (ix2 r q : (⟨2, ![1536, n]⟩ : Shape).Idx)
        = (Rect.unit (s := ⟨2, ![1536, n]⟩) off ![32, n] h).emb (ix2 (⟨r.val - o k, by omega⟩ : Fin 32) q) := by
      funext a
      refine Fin.ext ?_
      refine Eq.trans ?_ (Rect.idx_unit_val (s := ⟨2, ![1536, n]⟩) off ![32, n] h (ix2 (⟨r.val - o k, by omega⟩ : Fin 32) q) a).symm
      match a with
      | 0 => show r.val = off 0 + (r.val - o k); omega
      | 1 => show q.val = off 1 + q.val; omega
    rw [e]
    refine Eq.trans (View.canon_cons_emb (Rect.unit (s := ⟨2, ![1536, n]⟩) off ![32, n] h) w L (ix2 (⟨r.val - o k, by omega⟩ : Fin 32) q)) ?_
    exact hw ⟨r.val - o k, by omega⟩
  · rw [if_neg hr]
    refine Eq.trans ?_ ih
    refine View.canon_cons_of_not_mem ⟨Rect.unit (s := ⟨2, ![1536, n]⟩) off ![32, n] h, w⟩ L fun hm => hr ?_
    have := (Rect.mem_set_unit (s := ⟨2, ![1536, n]⟩) (inb := h)).mp hm 0
    have e : ((ix2 r q : (⟨2, ![1536, n]⟩ : Shape).Idx) 0).val = r.val := rfl
    have e' : (![32, n] : Fin 2 → ℕ) 0 = 32 := rfl
    rw [e, e', h0] at this
    omega

/-- The zeros that the blocks are stored over. -/
theorem base (h : ∀ a, (![0, 0] : Fin 2 → ℕ) a + (⟨2, ![1536, n]⟩ : Shape).size a ≤ (⟨2, ![1536, n]⟩ : Shape).size a)
    (w : (⟨2, ![1536, n]⟩ : Shape).Idx → Elt Ideal .bf16) (o : ℕ → ℕ) (v : ℕ → EReal) (r : Fin 1536) (q : Fin n)
    (hw : @Eq EReal (w (ix2 r q)) 0) :
    @Eq EReal (View.canon (⟨Rect.unit (s := ⟨2, ![1536, n]⟩) ![0, 0] (⟨2, ![1536, n]⟩ : Shape).size h, w⟩ :: L) (ix2 r q)) (put o v 0 r) := by
  refine Eq.trans ?_ hw
  exact congrFun (View.canon_cons_unit_zero (S := ⟨2, ![1536, n]⟩) (by funext a; match a with | 0 => rfl | 1 => rfl) h w L) (ix2 r q)

end Cert.ZPut

end
-- ==== Proof.ZSpec.lean ====
/-
  Hand-written. What the call computes, from the arguments: the two gradients over the live rows, and where the chunks of
  their rows go.
-/
module

public import proofs.«01_k».proof.Proof.ZPut

@[expose] public section

noncomputable section

open Idealize.ShloMosaic

namespace Cert.ZSpec

/-- A live row as a row of the arrays handed in. -/
abbrev up (a : Fin 928) : Fin 1024 := ⟨a, Nat.lt_trans a.isLt (by decide)⟩

/-- A layer before its gate: layer `l` of the weights over the codes `X`. -/
def lin (X : FVec Ideal ⟨2, ![1024, 7168]⟩ .fp8e4m3) (xs : FVec Ideal ⟨1, ![1024]⟩ .f32) (W : FVec Ideal ⟨3, ![3, 7168, 7168]⟩ .fp8e4m3)
    (ws b : FVec Ideal ⟨2, ![3, 7168]⟩ .f32) (l : Fin 3) (a : Fin 928) (q : Fin 7168) : EReal :=
  (∑ k, X (ix2 (up a) k) * W (ix3 l q k)) * xs (ix1 (up a)) * ws (ix2 l q) + b (ix2 l q)

/-- The three gradients times their layers, added up. -/
def acc (x0 x1 x2 : FVec Ideal ⟨2, ![1024, 7168]⟩ .fp8e4m3) (x0s x1s x2s : FVec Ideal ⟨1, ![1024]⟩ .f32)
    (W : FVec Ideal ⟨3, ![3, 7168, 7168]⟩ .fp8e4m3) (ws b : FVec Ideal ⟨2, ![3, 7168]⟩ .f32)
    (dyc : FVec Ideal ⟨2, ![1024, 7168]⟩ .fp8e5m2) (dys : FVec Ideal ⟨1, ![1024]⟩ .f32) (g2 g1 : FVec Ideal ⟨2, ![928, 7168]⟩ .f32)
    (a : Fin 928) (q : Fin 7168) : EReal :=
  dyc (ix2 (up a) q) * dys (ix1 (up a)) * lin x2 x2s W ws b 2 a q + g2 (ix2 a q) * lin x1 x1s W ws b 1 a q
    + g1 (ix2 a q) * lin x0 x0s W ws b 0 a q

/-- A gradient with the sum added. -/
def total (g0 : FVec Ideal ⟨2, ![928, 7168]⟩ .f32) (s : Fin 928 → Fin 7168 → EReal) (a : Fin 928) (q : Fin 7168) : EReal :=
  g0 (ix2 a q) + s a q

/-- The rows of `v` in chunks of 32, zeros after the last, each chunk where the table names. -/
def out (A : Fin 48 → BitVec 32) (v : Fin 928 → Fin 7168 → EReal) : FVec Ideal ⟨2, ![1536, 7168]⟩ .bf16 :=
  fun i => ZPut.put (ZPut.row A) (ZPut.rows fun x => v x (i 1)) 48 (i 0).val

/-- The sum of three products from its parts. -/
theorem glue {A A' g g' S S' w w' b b' h h' T T' v v' e e' : EReal} (hA : A = A') (hg : g = g') (hS : S = S') (hw : w = w')
    (hb : b = b') (hh : h = h') (hT : T = T') (hv : v = v') (he : e = e') :
    A + g * (S * w + b) + h * (T * v + e) = A' + g' * (S' * w' + b') + h' * (T' * v' + e') := by
  subst hA hg hS hw hb hh hT hv he; rfl
/-- The first of the products from its parts. -/
theorem glue1 {d d' s s' T T' v v' e e' : EReal} (hd : d = d') (hs : s = s') (hT : T = T') (hv : v = v') (he : e = e') :
    d * s * (T * v + e) = d' * s' * (T' * v' + e') := by
  subst hd hs hT hv he; rfl
/-- A product of codes from its parts. -/
theorem glue2 {f f' g g' : Fin 7168 → EReal} {x x' : EReal} (hf : ∀ k, f k = f' k) (hg : ∀ k, g k = g' k) (hx : x = x') :
    (∑ k, f k * g k) * x = (∑ k, f' k * g' k) * x' := by
  obtain rfl : f = f' := funext hf
  obtain rfl : g = g' := funext hg
  subst hx; rfl

end Cert.ZSpec

end
-- ==== Proof.ZIdealHyp.lean ====
/-
  Hand-written. A table whose words name chunks gives the side conditions that the body assumes of the words it reads.
-/
module

public import proofs.«01_k».proof.Proof.Gen.ZIdeal.Frame
public import Idealize.ShloMosaic.Lib.Pointwise
public import Idealize.ShloMosaic.Lib.Pipeline.ValueKit

@[expose] public section

namespace Cert.ZIdeal.Hyp

open Idealize.ShloMosaic Idealize.ShloMosaic.TcCoe Cert.ZIdeal Cert.ZIdeal.Gen

variable {F : FTy → Type} [FloatOps F]

theorem chk_of (v : BitVec 32) (h : v.toNat < 48) : k0_chk1 v := by
  have all : ∀ k : Fin 48, k0_chk1 (BitVec.ofNat 32 k.val) := by decide +kernel
  simpa using all ⟨v.toNat, h⟩

/-- What the body reads of the table: its word `n`. -/
theorem word (m : (ℓ : Loc nD τ sig) → Buf (Elt F) ℓ) (n : ℕ) (h : ∀ a, (![n] : Fin 1 → ℕ) a + S1.size a ≤ S48.size a) (i : S1.Idx) :
    tbM0_0.view.readAt (Elt F) (Rect.unit (s := S48) ![n] S1.size h).toLoadRect (tbl m 0) i
      = m (((0 : Dev nD) : Thread nD τ).loc main_arg0) (ix1 (⟨n, h 0⟩ : Fin 48)) := by
  have e : tbl m 0 = m (((0 : Dev nD) : Thread nD τ).loc main_arg0) := V_main_arg0 m 0
  refine (congrFun e ((Rect.unit (s := S48) ![n] S1.size h).toLoadRect.idx i)).trans ?_
  refine congrArg (m (((0 : Dev nD) : Thread nD τ).loc main_arg0)) ?_
  funext a
  obtain rfl : a = 0 := Subsingleton.elim _ _
  refine Fin.ext ?_
  have h1 : (i 0).val < 1 := (i 0).isLt
  show n + 1 * (i 0).val = n
  omega

theorem hyps_of {m : (ℓ : Loc nD τ sig) → Buf (Elt F) ℓ} (hO : Ok m)
    (h : ∀ y : S48.Idx, BitVec.toNat (w := 32) (m (((0 : Dev nD) : Thread nD τ).loc main_arg0) y) < 48) : Hyps m hO :=
  Hyps.of
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))
    (fun c t => chk_of _ (by rw [word]; exact h _))

end Cert.ZIdeal.Hyp
-- ==== Proof.ZBlocks.lean ====
/-
  Hand-written. The blocks that a point of the call reads, entry by entry of the arguments.
-/
module

public import proofs.«01_k».proof.Proof.Gen.ZIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ZIdeal.Value
open Cert.ZIdeal Cert.ZIdeal.Gen

/-- A row of the call's as a row of the arrays handed to it. -/
abbrev up (a : Fin 928) : Fin 1024 := ⟨a, Nat.lt_trans a.isLt (by decide)⟩
/-- A column of a point's block as a column of the array. -/
abbrev at_ (t : Fin grid0.N) (b : Fin 256) : Fin 7168 := ⟨t.val * 256 + b.val, by have : t.val < 28 := t.isLt; omega⟩

variable (m : (ℓ : Loc nD τ sig) → Buf (Elt Ideal) ℓ)

theorem tr : ∀ t : Fin grid0.N, cc0_transform_0 (grid0.coords t) = ![0, 0] ∧ cc0_transform_1 (grid0.coords t) = ![0, 0]
    ∧ cc0_transform_2 (grid0.coords t) = ![0, 0] ∧ cc0_transform_3 (grid0.coords t) = ![0, 0]
    ∧ cc0_transform_4 (grid0.coords t) = ![0, 0] ∧ cc0_transform_5 (grid0.coords t) = ![0, 0]
    ∧ cc0_transform_6 (grid0.coords t) = ![0, t.val, 0] ∧ cc0_transform_7 (grid0.coords t) = ![1, t.val, 0]
    ∧ cc0_transform_8 (grid0.coords t) = ![2, t.val, 0] ∧ cc0_transform_9 (grid0.coords t) = ![0, t.val]
    ∧ cc0_transform_10 (grid0.coords t) = ![0, t.val] ∧ cc0_transform_11 (grid0.coords t) = ![0, t.val]
    ∧ cc0_transform_12 (grid0.coords t) = ![0, 0] ∧ cc0_transform_13 (grid0.coords t) = ![0, t.val]
    ∧ cc0_transform_14 (grid0.coords t) = ![0, t.val] ∧ cc0_transform_15 (grid0.coords t) = ![0, t.val]
    ∧ cc0_transform_16 (grid0.coords t) = ![0, t.val] ∧ cc0_transform_17 (grid0.coords t) = ![0, t.val] := by
  decide +kernel

variable (hO : Ok m)

theorem ext2 {n p : ℕ} (i j : (⟨2, ![n, p]⟩ : Shape).Idx) (h0 : (i 0).val = (j 0).val) (h1 : (i 1).val = (j 1).val) : i = j := by
  funext a
  match a with
  | 0 => exact Fin.ext h0
  | 1 => exact Fin.ext h1
theorem ext3 {n p q : ℕ} (i j : (⟨3, ![n, p, q]⟩ : Shape).Idx) (h0 : (i 0).val = (j 0).val) (h1 : (i 1).val = (j 1).val)
    (h2 : (i 2).val = (j 2).val) : i = j := by
  funext a
  match a with
  | 0 => exact Fin.ext h0
  | 1 => exact Fin.ext h1
  | 2 => exact Fin.ext h2

/-! The arrays that the host lays out before the call. -/
theorem V_x0 (c : Dev nD) (a : Fin 928) (b : Fin 7168) :
    V m c main_v0 (ix2 a b) = m ((c : Thread nD τ).loc main_arg1) (ix2 (up a) b) := by
  entry_read
  pointwise
theorem V_x1 (c : Dev nD) (a : Fin 928) (b : Fin 7168) :
    V m c main_v1 (ix2 a b) = m ((c : Thread nD τ).loc main_arg2) (ix2 (up a) b) := by
  entry_read
  pointwise
theorem V_x2 (c : Dev nD) (a : Fin 928) (b : Fin 7168) :
    V m c main_v2 (ix2 a b) = m ((c : Thread nD τ).loc main_arg3) (ix2 (up a) b) := by
  entry_read
  pointwise
theorem V_x0s (c : Dev nD) (a : Fin 928) (b : Fin 128) :
    V m c main_v5 (ix2 a b) = m ((c : Thread nD τ).loc main_arg4) (ix1 (up a)) := by
  entry_read
  pointwise
theorem V_x1s (c : Dev nD) (a : Fin 928) (b : Fin 128) :
    V m c main_v8 (ix2 a b) = m ((c : Thread nD τ).loc main_arg5) (ix1 (up a)) := by
  entry_read
  pointwise
theorem V_x2s (c : Dev nD) (a : Fin 928) (b : Fin 128) :
    V m c main_v11 (ix2 a b) = m ((c : Thread nD τ).loc main_arg6) (ix1 (up a)) := by
  entry_read
  pointwise
theorem V_dys (c : Dev nD) (a : Fin 928) (b : Fin 128) :
    V m c main_v15 (ix2 a b) = m ((c : Thread nD τ).loc main_arg11) (ix1 (up a)) := by
  entry_read
  pointwise

/-! The blocks. -/
variable (hO : Ok m)
theorem iblk_x0 (c : Dev nD) (t : Fin (cfgM m hO).N) (a : Fin 928) (b : Fin 7168) :
    iblk m hO c 0 t (ix2 a b) = m ((c : Thread nD τ).loc main_arg1) (ix2 (up a) b) := by
  have e := congrArg (fun f : Fin 2 → ℕ => (f 0, f 1)) (tr t).1
  have e0 : cc0_transform_0 (grid0.coords t) 0 = 0 := congrArg Prod.fst e
  have e1 : cc0_transform_0 (grid0.coords t) 1 = 0 := congrArg Prod.snd e
  refine Eq.trans (congrArg (V m c main_v0) (ext2 (n := 928) (p := 7168) _ (ix2 a (b)) ?_ ?_)) (V_x0 m c _ _)
  · show cc0_transform_0 (grid0.coords t) 0 * 928 + 1 * a.val = a.val; omega
  · show cc0_transform_0 (grid0.coords t) 1 * 7168 + 1 * b.val = b.val; omega
theorem iblk_x1 (c : Dev nD) (t : Fin (cfgM m hO).N) (a : Fin 928) (b : Fin 7168) :
    iblk m hO c 1 t (ix2 a b) = m ((c : Thread nD τ).loc main_arg2) (ix2 (up a) b) := by
  have e := congrArg (fun f : Fin 2 → ℕ => (f 0, f 1)) (tr t).2.1
  have e0 : cc0_transform_1 (grid0.coords t) 0 = 0 := congrArg Prod.fst e
  have e1 : cc0_transform_1 (grid0.coords t) 1 = 0 := congrArg Prod.snd e
  refine Eq.trans (congrArg (V m c main_v1) (ext2 (n := 928) (p := 7168) _ (ix2 a (b)) ?_ ?_)) (V_x1 m c _ _)
  · show cc0_transform_1 (grid0.coords t) 0 * 928 + 1 * a.val = a.val; omega
  · show cc0_transform_1 (grid0.coords t) 1 * 7168 + 1 * b.val = b.val; omega
theorem iblk_x2 (c : Dev nD) (t : Fin (cfgM m hO).N) (a : Fin 928) (b : Fin 7168) :
    iblk m hO c 2 t (ix2 a b) = m ((c : Thread nD τ).loc main_arg3) (ix2 (up a) b) := by
  have e := congrArg (fun f : Fin 2 → ℕ => (f 0, f 1)) (tr t).2.2.1
  have e0 : cc0_transform_2 (grid0.coords t) 0 = 0 := congrArg Prod.fst e
  have e1 : cc0_transform_2 (grid0.coords t) 1 = 0 := congrArg Prod.snd e
  refine Eq.trans (congrArg (V m c main_v2) (ext2 (n := 928) (p := 7168) _ (ix2 a (b)) ?_ ?_)) (V_x2 m c _ _)
  · show cc0_transform_2 (grid0.coords t) 0 * 928 + 1 * a.val = a.val; omega
  · show cc0_transform_2 (grid0.coords t) 1 * 7168 + 1 * b.val = b.val; omega
theorem iblk_x0s (c : Dev nD) (t : Fin (cfgM m hO).N) (a : Fin 928) (b : Fin 128) :
    iblk m hO c 3 t (ix2 a b) = m ((c : Thread nD τ).loc main_arg4) (ix1 (up a)) := by
  have e := congrArg (fun f : Fin 2 → ℕ => (f 0, f 1)) (tr t).2.2.2.1
  have e0 : cc0_transform_3 (grid0.coords t) 0 = 0 := congrArg Prod.fst e
  have e1 : cc0_transform_3 (grid0.coords t) 1 = 0 := congrArg Prod.snd e
  refine Eq.trans (congrArg (V m c main_v5) (ext2 (n := 928) (p := 128) _ (ix2 a (b)) ?_ ?_)) (V_x0s m c _ _)
  · show cc0_transform_3 (grid0.coords t) 0 * 928 + 1 * a.val = a.val; omega
  · show cc0_transform_3 (grid0.coords t) 1 * 128 + 1 * b.val = b.val; omega
theorem iblk_x1s (c : Dev nD) (t : Fin (cfgM m hO).N) (a : Fin 928) (b : Fin 128) :
    iblk m hO c 4 t (ix2 a b) = m ((c : Thread nD τ).loc main_arg5) (ix1 (up a)) := by
  have e := congrArg (fun f : Fin 2 → ℕ => (f 0, f 1)) (tr t).2.2.2.2.1
  have e0 : cc0_transform_4 (grid0.coords t) 0 = 0 := congrArg Prod.fst e
  have e1 : cc0_transform_4 (grid0.coords t) 1 = 0 := congrArg Prod.snd e
  refine Eq.trans (congrArg (V m c main_v8) (ext2 (n := 928) (p := 128) _ (ix2 a (b)) ?_ ?_)) (V_x1s m c _ _)
  · show cc0_transform_4 (grid0.coords t) 0 * 928 + 1 * a.val = a.val; omega
  · show cc0_transform_4 (grid0.coords t) 1 * 128 + 1 * b.val = b.val; omega
theorem iblk_x2s (c : Dev nD) (t : Fin (cfgM m hO).N) (a : Fin 928) (b : Fin 128) :
    iblk m hO c 5 t (ix2 a b) = m ((c : Thread nD τ).loc main_arg6) (ix1 (up a)) := by
  have e := congrArg (fun f : Fin 2 → ℕ => (f 0, f 1)) (tr t).2.2.2.2.2.1
  have e0 : cc0_transform_5 (grid0.coords t) 0 = 0 := congrArg Prod.fst e
  have e1 : cc0_transform_5 (grid0.coords t) 1 = 0 := congrArg Prod.snd e
  refine Eq.trans (congrArg (V m c main_v11) (ext2 (n := 928) (p := 128) _ (ix2 a (b)) ?_ ?_)) (V_x2s m c _ _)
  · show cc0_transform_5 (grid0.coords t) 0 * 928 + 1 * a.val = a.val; omega
  · show cc0_transform_5 (grid0.coords t) 1 * 128 + 1 * b.val = b.val; omega
theorem iblk_dys (c : Dev nD) (t : Fin (cfgM m hO).N) (a : Fin 928) (b : Fin 128) :
    iblk m hO c 12 t (ix2 a b) = m ((c : Thread nD τ).loc main_arg11) (ix1 (up a)) := by
  have e := congrArg (fun f : Fin 2 → ℕ => (f 0, f 1)) (tr t).2.2.2.2.2.2.2.2.2.2.2.2.1
  have e0 : cc0_transform_12 (grid0.coords t) 0 = 0 := congrArg Prod.fst e
  have e1 : cc0_transform_12 (grid0.coords t) 1 = 0 := congrArg Prod.snd e
  refine Eq.trans (congrArg (V m c main_v15) (ext2 (n := 928) (p := 128) _ (ix2 a (b)) ?_ ?_)) (V_dys m c _ _)
  · show cc0_transform_12 (grid0.coords t) 0 * 928 + 1 * a.val = a.val; omega
  · show cc0_transform_12 (grid0.coords t) 1 * 128 + 1 * b.val = b.val; omega
theorem iblk_ws (c : Dev nD) (t : Fin (cfgM m hO).N) (a : Fin 3) (b : Fin 256) :
    iblk m hO c 9 t (ix2 a b) = m ((c : Thread nD τ).loc main_arg8) (ix2 a (at_ t b)) := by
  have e := congrArg (fun f : Fin 2 → ℕ => (f 0, f 1)) (tr t).2.2.2.2.2.2.2.2.2.1
  have e0 : cc0_transform_9 (grid0.coords t) 0 = 0 := congrArg Prod.fst e
  have e1 : cc0_transform_9 (grid0.coords t) 1 = t.val := congrArg Prod.snd e
  refine (congrFun (V_main_arg8 m c) _).trans (congrArg (m ((c : Thread nD τ).loc main_arg8)) (ext2 (n := 3) (p := 7168) _ _ ?_ ?_))
  · show cc0_transform_9 (grid0.coords t) 0 * 3 + 1 * a.val = a.val; omega
  · show cc0_transform_9 (grid0.coords t) 1 * 256 + 1 * b.val = t.val * 256 + b.val; omega
theorem iblk_b (c : Dev nD) (t : Fin (cfgM m hO).N) (a : Fin 3) (b : Fin 256) :
    iblk m hO c 10 t (ix2 a b) = m ((c : Thread nD τ).loc main_arg9) (ix2 a (at_ t b)) := by
  have e := congrArg (fun f : Fin 2 → ℕ => (f 0, f 1)) (tr t).2.2.2.2.2.2.2.2.2.2.1
  have e0 : cc0_transform_10 (grid0.coords t) 0 = 0 := congrArg Prod.fst e
  have e1 : cc0_transform_10 (grid0.coords t) 1 = t.val := congrArg Prod.snd e
  refine (congrFun (V_main_arg9 m c) _).trans (congrArg (m ((c : Thread nD τ).loc main_arg9)) (ext2 (n := 3) (p := 7168) _ _ ?_ ?_))
  · show cc0_transform_10 (grid0.coords t) 0 * 3 + 1 * a.val = a.val; omega
  · show cc0_transform_10 (grid0.coords t) 1 * 256 + 1 * b.val = t.val * 256 + b.val; omega
theorem iblk_g2 (c : Dev nD) (t : Fin (cfgM m hO).N) (a : Fin 928) (b : Fin 256) :
    iblk m hO c 13 t (ix2 a b) = m ((c : Thread nD τ).loc main_arg12) (ix2 a (at_ t b)) := by
  have e := congrArg (fun f : Fin 2 → ℕ => (f 0, f 1)) (tr t).2.2.2.2.2.2.2.2.2.2.2.2.2.1
  have e0 : cc0_transform_13 (grid0.coords t) 0 = 0 := congrArg Prod.fst e
  have e1 : cc0_transform_13 (grid0.coords t) 1 = t.val := congrArg Prod.snd e
  refine (congrFun (V_main_arg12 m c) _).trans (congrArg (m ((c : Thread nD τ).loc main_arg12)) (ext2 (n := 928) (p := 7168) _ _ ?_ ?_))
  · show cc0_transform_13 (grid0.coords t) 0 * 928 + 1 * a.val = a.val; omega
  · show cc0_transform_13 (grid0.coords t) 1 * 256 + 1 * b.val = t.val * 256 + b.val; omega
theorem iblk_g1 (c : Dev nD) (t : Fin (cfgM m hO).N) (a : Fin 928) (b : Fin 256) :
    iblk m hO c 14 t (ix2 a b) = m ((c : Thread nD τ).loc main_arg13) (ix2 a (at_ t b)) := by
  have e := congrArg (fun f : Fin 2 → ℕ => (f 0, f 1)) (tr t).2.2.2.2.2.2.2.2.2.2.2.2.2.2.1
  have e0 : cc0_transform_14 (grid0.coords t) 0 = 0 := congrArg Prod.fst e
  have e1 : cc0_transform_14 (grid0.coords t) 1 = t.val := congrArg Prod.snd e
  refine (congrFun (V_main_arg13 m c) _).trans (congrArg (m ((c : Thread nD τ).loc main_arg13)) (ext2 (n := 928) (p := 7168) _ _ ?_ ?_))
  · show cc0_transform_14 (grid0.coords t) 0 * 928 + 1 * a.val = a.val; omega
  · show cc0_transform_14 (grid0.coords t) 1 * 256 + 1 * b.val = t.val * 256 + b.val; omega
theorem iblk_g0 (c : Dev nD) (t : Fin (cfgM m hO).N) (a : Fin 928) (b : Fin 256) :
    iblk m hO c 15 t (ix2 a b) = m ((c : Thread nD τ).loc main_arg14) (ix2 a (at_ t b)) := by
  have e := congrArg (fun f : Fin 2 → ℕ => (f 0, f 1)) (tr t).2.2.2.2.2.2.2.2.2.2.2.2.2.2.2.1
  have e0 : cc0_transform_15 (grid0.coords t) 0 = 0 := congrArg Prod.fst e
  have e1 : cc0_transform_15 (grid0.coords t) 1 = t.val := congrArg Prod.snd e
  refine (congrFun (V_main_arg14 m c) _).trans (congrArg (m ((c : Thread nD τ).loc main_arg14)) (ext2 (n := 928) (p := 7168) _ _ ?_ ?_))
  · show cc0_transform_15 (grid0.coords t) 0 * 928 + 1 * a.val = a.val; omega
  · show cc0_transform_15 (grid0.coords t) 1 * 256 + 1 * b.val = t.val * 256 + b.val; omega
theorem V_dyc (c : Dev nD) (a : Fin 928) (b : Fin 7168) :
    V m c main_v12 (ix2 a b) = m ((c : Thread nD τ).loc main_arg10) (ix2 (up a) b) := by
  entry_read
  pointwise
theorem iblk_dyc (c : Dev nD) (t : Fin (cfgM m hO).N) (a : Fin 928) (b : Fin 256) :
    iblk m hO c 11 t (ix2 a b) = m ((c : Thread nD τ).loc main_arg10) (ix2 (up a) (at_ t b)) := by
  have e := congrArg (fun f : Fin 2 → ℕ => (f 0, f 1)) (tr t).2.2.2.2.2.2.2.2.2.2.2.1
  have e0 : cc0_transform_11 (grid0.coords t) 0 = 0 := congrArg Prod.fst e
  have e1 : cc0_transform_11 (grid0.coords t) 1 = t.val := congrArg Prod.snd e
  refine Eq.trans (congrArg (V m c main_v12) (ext2 (n := 928) (p := 7168) _ (ix2 a (at_ t b)) ?_ ?_)) (V_dyc m c _ _)
  · show cc0_transform_11 (grid0.coords t) 0 * 928 + 1 * a.val = a.val; omega
  · show cc0_transform_11 (grid0.coords t) 1 * 256 + 1 * b.val = t.val * 256 + b.val; omega
theorem iblk_w0 (c : Dev nD) (t : Fin (cfgM m hO).N) (u : Fin 1) (b : Fin 256) (k : Fin 7168) :
    iblk m hO c 6 t (ix3 u b k) = m ((c : Thread nD τ).loc main_arg7) (ix3 0 (at_ t b) k) := by
  have e := congrArg (fun f : Fin 3 → ℕ => (f 0, f 1, f 2)) (tr t).2.2.2.2.2.2.1
  have e0 : cc0_transform_6 (grid0.coords t) 0 = 0 := congrArg Prod.fst e
  have e1 : cc0_transform_6 (grid0.coords t) 1 = t.val := congrArg (fun p => p.2.1) e
  have e2 : cc0_transform_6 (grid0.coords t) 2 = 0 := congrArg (fun p => p.2.2) e
  have hu := u.isLt
  refine (congrFun (V_main_arg7 m c) _).trans (congrArg (m ((c : Thread nD τ).loc main_arg7)) (ext3 (n := 3) (p := 7168) (q := 7168) _ _ ?_ ?_ ?_))
  · show cc0_transform_6 (grid0.coords t) 0 * 1 + 1 * u.val = 0; omega
  · show cc0_transform_6 (grid0.coords t) 1 * 256 + 1 * b.val = t.val * 256 + b.val; omega
  · show cc0_transform_6 (grid0.coords t) 2 * 7168 + 1 * k.val = k.val; omega
theorem iblk_w1 (c : Dev nD) (t : Fin (cfgM m hO).N) (u : Fin 1) (b : Fin 256) (k : Fin 7168) :
    iblk m hO c 7 t (ix3 u b k) = m ((c : Thread nD τ).loc main_arg7) (ix3 1 (at_ t b) k) := by
  have e := congrArg (fun f : Fin 3 → ℕ => (f 0, f 1, f 2)) (tr t).2.2.2.2.2.2.2.1
  have e0 : cc0_transform_7 (grid0.coords t) 0 = 1 := congrArg Prod.fst e
  have e1 : cc0_transform_7 (grid0.coords t) 1 = t.val := congrArg (fun p => p.2.1) e
  have e2 : cc0_transform_7 (grid0.coords t) 2 = 0 := congrArg (fun p => p.2.2) e
  have hu := u.isLt
  refine (congrFun (V_main_arg7 m c) _).trans (congrArg (m ((c : Thread nD τ).loc main_arg7)) (ext3 (n := 3) (p := 7168) (q := 7168) _ _ ?_ ?_ ?_))
  · show cc0_transform_7 (grid0.coords t) 0 * 1 + 1 * u.val = 1; omega
  · show cc0_transform_7 (grid0.coords t) 1 * 256 + 1 * b.val = t.val * 256 + b.val; omega
  · show cc0_transform_7 (grid0.coords t) 2 * 7168 + 1 * k.val = k.val; omega
theorem iblk_w2 (c : Dev nD) (t : Fin (cfgM m hO).N) (u : Fin 1) (b : Fin 256) (k : Fin 7168) :
    iblk m hO c 8 t (ix3 u b k) = m ((c : Thread nD τ).loc main_arg7) (ix3 2 (at_ t b) k) := by
  have e := congrArg (fun f : Fin 3 → ℕ => (f 0, f 1, f 2)) (tr t).2.2.2.2.2.2.2.2.1
  have e0 : cc0_transform_8 (grid0.coords t) 0 = 2 := congrArg Prod.fst e
  have e1 : cc0_transform_8 (grid0.coords t) 1 = t.val := congrArg (fun p => p.2.1) e
  have e2 : cc0_transform_8 (grid0.coords t) 2 = 0 := congrArg (fun p => p.2.2) e
  have hu := u.isLt
  refine (congrFun (V_main_arg7 m c) _).trans (congrArg (m ((c : Thread nD τ).loc main_arg7)) (ext3 (n := 3) (p := 7168) (q := 7168) _ _ ?_ ?_ ?_))
  · show cc0_transform_8 (grid0.coords t) 0 * 1 + 1 * u.val = 2; omega
  · show cc0_transform_8 (grid0.coords t) 1 * 256 + 1 * b.val = t.val * 256 + b.val; omega
  · show cc0_transform_8 (grid0.coords t) 2 * 7168 + 1 * k.val = k.val; omega

end Cert.ZIdeal.Value
end
-- ==== Proof.ZVal.lean ====
/-
  Hand-written. What a point of the call leaves in its two results' blocks.
-/
module

public import proofs.«01_k».proof.Proof.ZPut
public import proofs.«01_k».proof.Proof.ZIdealHyp
public import proofs.«01_k».proof.Proof.ZBlocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ZIdeal.Value
open Cert.ZIdeal Cert.ZIdeal.Gen

variable (m : (ℓ : Loc nD τ sig) → Buf (Elt Ideal) ℓ)

/-- The chunks' places, as the table names them. -/
abbrev places : Fin 48 → BitVec 32 := fun k => m (((0 : Dev nD) : Thread nD τ).loc main_arg0) (ix1 k)

theorem off_eq (v w : BitVec 32) (e : v = w) : k0_off1 v 0 = (Scalar.muli w 32#32).toNat := by subst e; rfl

theorem live (X : FVec Ideal S928x256 .bf16) (k o : ℕ) (ho : o = 32 * k) (hk : k < 29) (hs) (q : Fin 256) (a : Fin 32) :
    @Eq EReal (extractStridedSlice S32x256 ![o, 0] X hs (ix2 a q)) (ZPut.rows (fun x => X (ix2 x q)) (32 * k + a.val)) := by
  rw [ZPut.rows_live _ _ (by have := a.isLt; omega)]
  pointwise
  subst ho
  rfl

theorem dead (X : Fin 928 → EReal) (k : ℕ) (hk : 29 ≤ k) (q : Fin 256) (a : Fin 32) :
    @Eq EReal (k0_pay6 (F := Ideal) (ix2 a q)) (ZPut.rows X (32 * k + a.val)) := by
  rw [ZPut.rows_dead _ _ (by omega)]
  exact ZPut.zero_word

theorem pay1 (v0 : FVec Ideal S928x256 .fp8e5m2) (v3 : FVec Ideal S928x128 .f32) (v7 : FVec Ideal S928x7168 .fp8e4m3)
    (v9 : FVec Ideal S1x256x7168 .fp8e4m3) (v12 : FVec Ideal S928x128 .f32) (v16 v19 : FVec Ideal S1x256 .f32) (ds xs : Fin 928 → EReal)
    (hD : ∀ a l, v3 (ix2 a l) = ds a) (hX : ∀ a l, v12 (ix2 a l) = xs a) (a : Fin 928) (q : Fin 256) :
    k0_pay1 (F := Ideal) v0 v3 v7 v9 v12 v16 v19 (ix2 a q)
      = v0 (ix2 a q) * ds a * ((∑ k, v7 (ix2 a k) * v9 (ix3 0 q k)) * xs a * v16 (ix2 0 q) + v19 (ix2 0 q)) := by
  pointwise [k0_pay1, hD, hX]
  simp only [dite_eq_ite, ite_self]

theorem pay2 (v24 : FVec Ideal S928x7168 .fp8e4m3) (v26 : FVec Ideal S1x256x7168 .fp8e4m3) (v29 : FVec Ideal S928x128 .f32)
    (xs : Fin 928 → EReal) (hX : ∀ a l, v29 (ix2 a l) = xs a) (a : Fin 928) (q : Fin 256) :
    k0_pay2 (F := Ideal) v24 v26 v29 (ix2 a q) = (∑ k, v24 (ix2 a k) * v26 (ix3 0 q k)) * xs a := by
  pointwise [k0_pay2, hX]
  simp only [dite_eq_ite, ite_self]

theorem pay3 (v22 v23 v32 v41 : FVec Ideal S928x256 .f32) (v33 v36 v51 v54 : FVec Ideal S1x256 .f32) (v42 : FVec Ideal S928x7168 .fp8e4m3)
    (v44 : FVec Ideal S1x256x7168 .fp8e4m3) (v47 : FVec Ideal S928x128 .f32)
    (xs : Fin 928 → EReal) (hX : ∀ a l, v47 (ix2 a l) = xs a) (a : Fin 928) (q : Fin 256) :
    k0_pay3 (F := Ideal) v22 v23 v32 v33 v36 v41 v42 v44 v47 v51 v54 (ix2 a q)
      = v22 (ix2 a q) + v23 (ix2 a q) * (v32 (ix2 a q) * v33 (ix2 0 q) + v36 (ix2 0 q))
        + v41 (ix2 a q) * ((∑ k, v42 (ix2 a k) * v44 (ix3 0 q k)) * xs a * v51 (ix2 0 q) + v54 (ix2 0 q)) := by
  pointwise [k0_pay3, hX]
  simp only [dite_eq_ite, ite_self]

section
variable (hO : Ok m) (hH : Hyps m hO) (c : Dev nD) (t : Fin (cfgM m hO).N)

/-- What a point's block adds up to, before the last gradient. -/
def CROSS : FVec Ideal S928x256 .bf16 :=
  kernelRun0_A.sl.r_4 c (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t)
def DX : FVec Ideal S928x256 .bf16 :=
  kernelRun0_A.sl.r_3 c (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t)

theorem stored16 (r : Fin 1536) (q : Fin 256) : @Eq EReal ((outsAt0 m hO hH c t).1 (ix2 r q))
    (ZPut.put (ZPut.row (places m)) (ZPut.rows fun x => DX m hO c t (ix2 x q)) 48 r.val) := by
  unfold outsAt0
  dsimp only
  unfold out0_A_16
  rw [View.read_writes_junk_eq_canon]
  unfold kernelRun0_A
  dsimp only
  refine ZPut.step _ _ _ _ _ _ 47 r q (off_eq _ _ (Hyp.word m 47 inb_S48_S1_47 _)) rfl (dead _ 47 (by decide) q) ?_
  refine ZPut.step _ _ _ _ _ _ 46 r q (off_eq _ _ (Hyp.word m 46 inb_S48_S1_46 _)) rfl (dead _ 46 (by decide) q) ?_
  refine ZPut.step _ _ _ _ _ _ 45 r q (off_eq _ _ (Hyp.word m 45 inb_S48_S1_45 _)) rfl (dead _ 45 (by decide) q) ?_
  refine ZPut.step _ _ _ _ _ _ 44 r q (off_eq _ _ (Hyp.word m 44 inb_S48_S1_44 _)) rfl (dead _ 44 (by decide) q) ?_
  refine ZPut.step _ _ _ _ _ _ 43 r q (off_eq _ _ (Hyp.word m 43 inb_S48_S1_43 _)) rfl (dead _ 43 (by decide) q) ?_
  refine ZPut.step _ _ _ _ _ _ 42 r q (off_eq _ _ (Hyp.word m 42 inb_S48_S1_42 _)) rfl (dead _ 42 (by decide) q) ?_
  refine ZPut.step _ _ _ _ _ _ 41 r q (off_eq _ _ (Hyp.word m 41 inb_S48_S1_41 _)) rfl (dead _ 41 (by decide) q) ?_
  refine ZPut.step _ _ _ _ _ _ 40 r q (off_eq _ _ (Hyp.word m 40 inb_S48_S1_40 _)) rfl (dead _ 40 (by decide) q) ?_
  refine ZPut.step _ _ _ _ _ _ 39 r q (off_eq _ _ (Hyp.word m 39 inb_S48_S1_39 _)) rfl (dead _ 39 (by decide) q) ?_
  refine ZPut.step _ _ _ _ _ _ 38 r q (off_eq _ _ (Hyp.word m 38 inb_S48_S1_38 _)) rfl (dead _ 38 (by decide) q) ?_
  refine ZPut.step _ _ _ _ _ _ 37 r q (off_eq _ _ (Hyp.word m 37 inb_S48_S1_37 _)) rfl (dead _ 37 (by decide) q) ?_
  refine ZPut.step _ _ _ _ _ _ 36 r q (off_eq _ _ (Hyp.word m 36 inb_S48_S1_36 _)) rfl (dead _ 36 (by decide) q) ?_
  refine ZPut.step _ _ _ _ _ _ 35 r q (off_eq _ _ (Hyp.word m 35 inb_S48_S1_35 _)) rfl (dead _ 35 (by decide) q) ?_
  refine ZPut.step _ _ _ _ _ _ 34 r q (off_eq _ _ (Hyp.word m 34 inb_S48_S1_34 _)) rfl (dead _ 34 (by decide) q) ?_
  refine ZPut.step _ _ _ _ _ _ 33 r q (off_eq _ _ (Hyp.word m 33 inb_S48_S1_33 _)) rfl (dead _ 33 (by decide) q) ?_
  refine ZPut.step _ _ _ _ _ _ 32 r q (off_eq _ _ (Hyp.word m 32 inb_S48_S1_32 _)) rfl (dead _ 32 (by decide) q) ?_
  refine ZPut.step _ _ _ _ _ _ 31 r q (off_eq _ _ (Hyp.word m 31 inb_S48_S1_31 _)) rfl (dead _ 31 (by decide) q) ?_
  refine ZPut.step _ _ _ _ _ _ 30 r q (off_eq _ _ (Hyp.word m 30 inb_S48_S1_30 _)) rfl (dead _ 30 (by decide) q) ?_
  refine ZPut.step _ _ _ _ _ _ 29 r q (off_eq _ _ (Hyp.word m 29 inb_S48_S1_29 _)) rfl (dead _ 29 (by decide) q) ?_
  refine ZPut.step _ _ _ _ _ _ 28 r q (off_eq _ _ (Hyp.word m 28 inb_S48_S1_28 _)) rfl (live (DX m hO c t) 28 896 rfl (by decide) (by decide) q) ?_
  refine ZPut.step _ _ _ _ _ _ 27 r q (off_eq _ _ (Hyp.word m 27 inb_S48_S1_27 _)) rfl (live (DX m hO c t) 27 864 rfl (by decide) (by decide) q) ?_
  refine ZPut.step _ _ _ _ _ _ 26 r q (off_eq _ _ (Hyp.word m 26 inb_S48_S1_26 _)) rfl (live (DX m hO c t) 26 832 rfl (by decide) (by decide) q) ?_
  refine ZPut.step _ _ _ _ _ _ 25 r q (off_eq _ _ (Hyp.word m 25 inb_S48_S1_25 _)) rfl (live (DX m hO c t) 25 800 rfl (by decide) (by decide) q) ?_
  refine ZPut.step _ _ _ _ _ _ 24 r q (off_eq _ _ (Hyp.word m 24 inb_S48_S1_24 _)) rfl (live (DX m hO c t) 24 768 rfl (by decide) (by decide) q) ?_
  refine ZPut.step _ _ _ _ _ _ 23 r q (off_eq _ _ (Hyp.word m 23 inb_S48_S1_23 _)) rfl (live (DX m hO c t) 23 736 rfl (by decide) (by decide) q) ?_
  refine ZPut.step _ _ _ _ _ _ 22 r q (off_eq _ _ (Hyp.word m 22 inb_S48_S1_22 _)) rfl (live (DX m hO c t) 22 704 rfl (by decide) (by decide) q) ?_
  refine ZPut.step _ _ _ _ _ _ 21 r q (off_eq _ _ (Hyp.word m 21 inb_S48_S1_21 _)) rfl (live (DX m hO c t) 21 672 rfl (by decide) (by decide) q) ?_
  refine ZPut.step _ _ _ _ _ _ 20 r q (off_eq _ _ (Hyp.word m 20 inb_S48_S1_20 _)) rfl (live (DX m hO c t) 20 640 rfl (by decide) (by decide) q) ?_
  refine ZPut.step _ _ _ _ _ _ 19 r q (off_eq _ _ (Hyp.word m 19 inb_S48_S1_19 _)) rfl (live (DX m hO c t) 19 608 rfl (by decide) (by decide) q) ?_
  refine ZPut.step _ _ _ _ _ _ 18 r q (off_eq _ _ (Hyp.word m 18 inb_S48_S1_18 _)) rfl (live (DX m hO c t) 18 576 rfl (by decide) (by decide) q) ?_
  refine ZPut.step _ _ _ _ _ _ 17 r q (off_eq _ _ (Hyp.word m 17 inb_S48_S1_17 _)) rfl (live (DX m hO c t) 17 544 rfl (by decide) (by decide) q) ?_
  refine ZPut.step _ _ _ _ _ _ 16 r q (off_eq _ _ (Hyp.word m 16 inb_S48_S1_16 _)) rfl (live (DX m hO c t) 16 512 rfl (by decide) (by decide) q) ?_
  refine ZPut.step _ _ _ _ _ _ 15 r q (off_eq _ _ (Hyp.word m 15 inb_S48_S1_15 _)) rfl (live (DX m hO c t) 15 480 rfl (by decide) (by decide) q) ?_
  refine ZPut.step _ _ _ _ _ _ 14 r q (off_eq _ _ (Hyp.word m 14 inb_S48_S1_14 _)) rfl (live (DX m hO c t) 14 448 rfl (by decide) (by decide) q) ?_
  refine ZPut.step _ _ _ _ _ _ 13 r q (off_eq _ _ (Hyp.word m 13 inb_S48_S1_13 _)) rfl (live (DX m hO c t) 13 416 rfl (by decide) (by decide) q) ?_
  refine ZPut.step _ _ _ _ _ _ 12 r q (off_eq _ _ (Hyp.word m 12 inb_S48_S1_12 _)) rfl (live (DX m hO c t) 12 384 rfl (by decide) (by decide) q) ?_
  refine ZPut.step _ _ _ _ _ _ 11 r q (off_eq _ _ (Hyp.word m 11 inb_S48_S1_11 _)) rfl (live (DX m hO c t) 11 352 rfl (by decide) (by decide) q) ?_
  refine ZPut.step _ _ _ _ _ _ 10 r q (off_eq _ _ (Hyp.word m 10 inb_S48_S1_10 _)) rfl (live (DX m hO c t) 10 320 rfl (by decide) (by decide) q) ?_
  refine ZPut.step _ _ _ _ _ _ 9 r q (off_eq _ _ (Hyp.word m 9 inb_S48_S1_9 _)) rfl (live (DX m hO c t) 9 288 rfl (by decide) (by decide) q) ?_
  refine ZPut.step _ _ _ _ _ _ 8 r q (off_eq _ _ (Hyp.word m 8 inb_S48_S1_8 _)) rfl (live (DX m hO c t) 8 256 rfl (by decide) (by decide) q) ?_
  refine ZPut.step _ _ _ _ _ _ 7 r q (off_eq _ _ (Hyp.word m 7 inb_S48_S1_7 _)) rfl (live (DX m hO c t) 7 224 rfl (by decide) (by decide) q) ?_
  refine ZPut.step _ _ _ _ _ _ 6 r q (off_eq _ _ (Hyp.word m 6 inb_S48_S1_6 _)) rfl (live (DX m hO c t) 6 192 rfl (by decide) (by decide) q) ?_
  refine ZPut.step _ _ _ _ _ _ 5 r q (off_eq _ _ (Hyp.word m 5 inb_S48_S1_5 _)) rfl (live (DX m hO c t) 5 160 rfl (by decide) (by decide) q) ?_
  refine ZPut.step _ _ _ _ _ _ 4 r q (off_eq _ _ (Hyp.word m 4 inb_S48_S1_4 _)) rfl (live (DX m hO c t) 4 128 rfl (by decide) (by decide) q) ?_
  refine ZPut.step _ _ _ _ _ _ 3 r q (off_eq _ _ (Hyp.word m 3 inb_S48_S1_3 _)) rfl (live (DX m hO c t) 3 96 rfl (by decide) (by decide) q) ?_
  refine ZPut.step _ _ _ _ _ _ 2 r q (off_eq _ _ (Hyp.word m 2 inb_S48_S1_2 _)) rfl (live (DX m hO c t) 2 64 rfl (by decide) (by decide) q) ?_
  refine ZPut.step _ _ _ _ _ _ 1 r q (off_eq _ _ (Hyp.word m 1 inb_S48_S1_1 _)) rfl (live (DX m hO c t) 1 32 rfl (by decide) (by decide) q) ?_
  refine ZPut.step _ _ _ _ _ _ 0 r q (off_eq _ _ (Hyp.word m 0 inb_S48_S1_0 _)) rfl (live (DX m hO c t) 0 0 rfl (by decide) (by decide) q) ?_
  exact ZPut.base _ _ _ _ _ r q ZPut.zero_word

theorem stored17 (r : Fin 1536) (q : Fin 256) : @Eq EReal ((outsAt0 m hO hH c t).2 (ix2 r q))
    (ZPut.put (ZPut.row (places m)) (ZPut.rows fun x => CROSS m hO c t (ix2 x q)) 48 r.val) := by
  unfold outsAt0
  dsimp only
  unfold out0_A_17
  rw [View.read_writes_junk_eq_canon]
  unfold kernelRun0_A
  dsimp only
  refine ZPut.step _ _ _ _ _ _ 47 r q (off_eq _ _ (Hyp.word m 47 inb_S48_S1_47 _)) rfl (dead _ 47 (by decide) q) ?_
  refine ZPut.step _ _ _ _ _ _ 46 r q (off_eq _ _ (Hyp.word m 46 inb_S48_S1_46 _)) rfl (dead _ 46 (by decide) q) ?_
  refine ZPut.step _ _ _ _ _ _ 45 r q (off_eq _ _ (Hyp.word m 45 inb_S48_S1_45 _)) rfl (dead _ 45 (by decide) q) ?_
  refine ZPut.step _ _ _ _ _ _ 44 r q (off_eq _ _ (Hyp.word m 44 inb_S48_S1_44 _)) rfl (dead _ 44 (by decide) q) ?_
  refine ZPut.step _ _ _ _ _ _ 43 r q (off_eq _ _ (Hyp.word m 43 inb_S48_S1_43 _)) rfl (dead _ 43 (by decide) q) ?_
  refine ZPut.step _ _ _ _ _ _ 42 r q (off_eq _ _ (Hyp.word m 42 inb_S48_S1_42 _)) rfl (dead _ 42 (by decide) q) ?_
  refine ZPut.step _ _ _ _ _ _ 41 r q (off_eq _ _ (Hyp.word m 41 inb_S48_S1_41 _)) rfl (dead _ 41 (by decide) q) ?_
  refine ZPut.step _ _ _ _ _ _ 40 r q (off_eq _ _ (Hyp.word m 40 inb_S48_S1_40 _)) rfl (dead _ 40 (by decide) q) ?_
  refine ZPut.step _ _ _ _ _ _ 39 r q (off_eq _ _ (Hyp.word m 39 inb_S48_S1_39 _)) rfl (dead _ 39 (by decide) q) ?_
  refine ZPut.step _ _ _ _ _ _ 38 r q (off_eq _ _ (Hyp.word m 38 inb_S48_S1_38 _)) rfl (dead _ 38 (by decide) q) ?_
  refine ZPut.step _ _ _ _ _ _ 37 r q (off_eq _ _ (Hyp.word m 37 inb_S48_S1_37 _)) rfl (dead _ 37 (by decide) q) ?_
  refine ZPut.step _ _ _ _ _ _ 36 r q (off_eq _ _ (Hyp.word m 36 inb_S48_S1_36 _)) rfl (dead _ 36 (by decide) q) ?_
  refine ZPut.step _ _ _ _ _ _ 35 r q (off_eq _ _ (Hyp.word m 35 inb_S48_S1_35 _)) rfl (dead _ 35 (by decide) q) ?_
  refine ZPut.step _ _ _ _ _ _ 34 r q (off_eq _ _ (Hyp.word m 34 inb_S48_S1_34 _)) rfl (dead _ 34 (by decide) q) ?_
  refine ZPut.step _ _ _ _ _ _ 33 r q (off_eq _ _ (Hyp.word m 33 inb_S48_S1_33 _)) rfl (dead _ 33 (by decide) q) ?_
  refine ZPut.step _ _ _ _ _ _ 32 r q (off_eq _ _ (Hyp.word m 32 inb_S48_S1_32 _)) rfl (dead _ 32 (by decide) q) ?_
  refine ZPut.step _ _ _ _ _ _ 31 r q (off_eq _ _ (Hyp.word m 31 inb_S48_S1_31 _)) rfl (dead _ 31 (by decide) q) ?_
  refine ZPut.step _ _ _ _ _ _ 30 r q (off_eq _ _ (Hyp.word m 30 inb_S48_S1_30 _)) rfl (dead _ 30 (by decide) q) ?_
  refine ZPut.step _ _ _ _ _ _ 29 r q (off_eq _ _ (Hyp.word m 29 inb_S48_S1_29 _)) rfl (dead _ 29 (by decide) q) ?_
  refine ZPut.step _ _ _ _ _ _ 28 r q (off_eq _ _ (Hyp.word m 28 inb_S48_S1_28 _)) rfl (live (CROSS m hO c t) 28 896 rfl (by decide) (by decide) q) ?_
  refine ZPut.step _ _ _ _ _ _ 27 r q (off_eq _ _ (Hyp.word m 27 inb_S48_S1_27 _)) rfl (live (CROSS m hO c t) 27 864 rfl (by decide) (by decide) q) ?_
  refine ZPut.step _ _ _ _ _ _ 26 r q (off_eq _ _ (Hyp.word m 26 inb_S48_S1_26 _)) rfl (live (CROSS m hO c t) 26 832 rfl (by decide) (by decide) q) ?_
  refine ZPut.step _ _ _ _ _ _ 25 r q (off_eq _ _ (Hyp.word m 25 inb_S48_S1_25 _)) rfl (live (CROSS m hO c t) 25 800 rfl (by decide) (by decide) q) ?_
  refine ZPut.step _ _ _ _ _ _ 24 r q (off_eq _ _ (Hyp.word m 24 inb_S48_S1_24 _)) rfl (live (CROSS m hO c t) 24 768 rfl (by decide) (by decide) q) ?_
  refine ZPut.step _ _ _ _ _ _ 23 r q (off_eq _ _ (Hyp.word m 23 inb_S48_S1_23 _)) rfl (live (CROSS m hO c t) 23 736 rfl (by decide) (by decide) q) ?_
  refine ZPut.step _ _ _ _ _ _ 22 r q (off_eq _ _ (Hyp.word m 22 inb_S48_S1_22 _)) rfl (live (CROSS m hO c t) 22 704 rfl (by decide) (by decide) q) ?_
  refine ZPut.step _ _ _ _ _ _ 21 r q (off_eq _ _ (Hyp.word m 21 inb_S48_S1_21 _)) rfl (live (CROSS m hO c t) 21 672 rfl (by decide) (by decide) q) ?_
  refine ZPut.step _ _ _ _ _ _ 20 r q (off_eq _ _ (Hyp.word m 20 inb_S48_S1_20 _)) rfl (live (CROSS m hO c t) 20 640 rfl (by decide) (by decide) q) ?_
  refine ZPut.step _ _ _ _ _ _ 19 r q (off_eq _ _ (Hyp.word m 19 inb_S48_S1_19 _)) rfl (live (CROSS m hO c t) 19 608 rfl (by decide) (by decide) q) ?_
  refine ZPut.step _ _ _ _ _ _ 18 r q (off_eq _ _ (Hyp.word m 18 inb_S48_S1_18 _)) rfl (live (CROSS m hO c t) 18 576 rfl (by decide) (by decide) q) ?_
  refine ZPut.step _ _ _ _ _ _ 17 r q (off_eq _ _ (Hyp.word m 17 inb_S48_S1_17 _)) rfl (live (CROSS m hO c t) 17 544 rfl (by decide) (by decide) q) ?_
  refine ZPut.step _ _ _ _ _ _ 16 r q (off_eq _ _ (Hyp.word m 16 inb_S48_S1_16 _)) rfl (live (CROSS m hO c t) 16 512 rfl (by decide) (by decide) q) ?_
  refine ZPut.step _ _ _ _ _ _ 15 r q (off_eq _ _ (Hyp.word m 15 inb_S48_S1_15 _)) rfl (live (CROSS m hO c t) 15 480 rfl (by decide) (by decide) q) ?_
  refine ZPut.step _ _ _ _ _ _ 14 r q (off_eq _ _ (Hyp.word m 14 inb_S48_S1_14 _)) rfl (live (CROSS m hO c t) 14 448 rfl (by decide) (by decide) q) ?_
  refine ZPut.step _ _ _ _ _ _ 13 r q (off_eq _ _ (Hyp.word m 13 inb_S48_S1_13 _)) rfl (live (CROSS m hO c t) 13 416 rfl (by decide) (by decide) q) ?_
  refine ZPut.step _ _ _ _ _ _ 12 r q (off_eq _ _ (Hyp.word m 12 inb_S48_S1_12 _)) rfl (live (CROSS m hO c t) 12 384 rfl (by decide) (by decide) q) ?_
  refine ZPut.step _ _ _ _ _ _ 11 r q (off_eq _ _ (Hyp.word m 11 inb_S48_S1_11 _)) rfl (live (CROSS m hO c t) 11 352 rfl (by decide) (by decide) q) ?_
  refine ZPut.step _ _ _ _ _ _ 10 r q (off_eq _ _ (Hyp.word m 10 inb_S48_S1_10 _)) rfl (live (CROSS m hO c t) 10 320 rfl (by decide) (by decide) q) ?_
  refine ZPut.step _ _ _ _ _ _ 9 r q (off_eq _ _ (Hyp.word m 9 inb_S48_S1_9 _)) rfl (live (CROSS m hO c t) 9 288 rfl (by decide) (by decide) q) ?_
  refine ZPut.step _ _ _ _ _ _ 8 r q (off_eq _ _ (Hyp.word m 8 inb_S48_S1_8 _)) rfl (live (CROSS m hO c t) 8 256 rfl (by decide) (by decide) q) ?_
  refine ZPut.step _ _ _ _ _ _ 7 r q (off_eq _ _ (Hyp.word m 7 inb_S48_S1_7 _)) rfl (live (CROSS m hO c t) 7 224 rfl (by decide) (by decide) q) ?_
  refine ZPut.step _ _ _ _ _ _ 6 r q (off_eq _ _ (Hyp.word m 6 inb_S48_S1_6 _)) rfl (live (CROSS m hO c t) 6 192 rfl (by decide) (by decide) q) ?_
  refine ZPut.step _ _ _ _ _ _ 5 r q (off_eq _ _ (Hyp.word m 5 inb_S48_S1_5 _)) rfl (live (CROSS m hO c t) 5 160 rfl (by decide) (by decide) q) ?_
  refine ZPut.step _ _ _ _ _ _ 4 r q (off_eq _ _ (Hyp.word m 4 inb_S48_S1_4 _)) rfl (live (CROSS m hO c t) 4 128 rfl (by decide) (by decide) q) ?_
  refine ZPut.step _ _ _ _ _ _ 3 r q (off_eq _ _ (Hyp.word m 3 inb_S48_S1_3 _)) rfl (live (CROSS m hO c t) 3 96 rfl (by decide) (by decide) q) ?_
  refine ZPut.step _ _ _ _ _ _ 2 r q (off_eq _ _ (Hyp.word m 2 inb_S48_S1_2 _)) rfl (live (CROSS m hO c t) 2 64 rfl (by decide) (by decide) q) ?_
  refine ZPut.step _ _ _ _ _ _ 1 r q (off_eq _ _ (Hyp.word m 1 inb_S48_S1_1 _)) rfl (live (CROSS m hO c t) 1 32 rfl (by decide) (by decide) q) ?_
  refine ZPut.step _ _ _ _ _ _ 0 r q (off_eq _ _ (Hyp.word m 0 inb_S48_S1_0 _)) rfl (live (CROSS m hO c t) 0 0 rfl (by decide) (by decide) q) ?_
  exact ZPut.base _ _ _ _ _ r q ZPut.zero_word
end

end Cert.ZIdeal.Value

end
-- ==== Proof.ZFin.lean ====
/-
  Hand-written. What the call leaves in its two results.
-/
module

public import proofs.«01_k».proof.Proof.ZSpec
public import proofs.«01_k».proof.Proof.ZVal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ZIdeal.Value
open Cert.ZIdeal Cert.ZIdeal.Gen

variable (m : (ℓ : Loc nD τ sig) → Buf (Elt Ideal) ℓ)

/-- A load of a whole buffer's part, entry by entry. -/
theorem ld {s : Shape} {e : EltTy} (M : Memref sig .tc .vmem s e) (h : M.IsWhole) (x : Vec Ideal s e) (off size : Fin s.rank → ℕ)
    (hin : ∀ a, off a + size a ≤ s.size a) (i : (Rect.unit (s := s) off size hin).shape.Idx) (j : s.Idx)
    (hj : ∀ a, off a + (i a).val = (j a).val) :
    M.view.readAt (Elt Ideal) (Rect.unit (s := s) off size hin).toLoadRect (h.unread x) i = x j := by
  rw [View.readAt_apply]
  refine (congrFun (h.read_unread x) _).trans (congrArg x ?_)
  funext a
  exact Fin.ext ((Rect.idx_unit_val (s := s) off size hin i a).trans (hj a))

theorem pay4 (v22 v23 v32 v41 v59 : FVec Ideal S928x256 .f32) (v33 v36 v51 v54 : FVec Ideal S1x256 .f32) (v42 : FVec Ideal S928x7168 .fp8e4m3)
    (v44 : FVec Ideal S1x256x7168 .fp8e4m3) (v47 : FVec Ideal S928x128 .f32) (j : S928x256.Idx) :
    @Eq EReal (k0_pay4 (F := Ideal) v22 v23 v32 v33 v36 v41 v42 v44 v47 v51 v54 v59 j)
      (v59 j + k0_pay3 (F := Ideal) v22 v23 v32 v33 v36 v41 v42 v44 v47 v51 v54 j) := rfl
theorem pay5 (v22 v23 v32 v41 : FVec Ideal S928x256 .f32) (v33 v36 v51 v54 : FVec Ideal S1x256 .f32) (v42 : FVec Ideal S928x7168 .fp8e4m3)
    (v44 : FVec Ideal S1x256x7168 .fp8e4m3) (v47 : FVec Ideal S928x128 .f32) (j : S928x256.Idx) :
    @Eq EReal (k0_pay5 (F := Ideal) v22 v23 v32 v33 v36 v41 v42 v44 v47 v51 v54 j)
      (k0_pay3 (F := Ideal) v22 v23 v32 v33 v36 v41 v42 v44 v47 v51 v54 j) := rfl

/-- What the arguments add up to. -/
abbrev ACC (c : Dev nD) : Fin 928 → Fin 7168 → EReal :=
  ZSpec.acc (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13))
abbrev SUM (c : Dev nD) : Fin 928 → Fin 7168 → EReal := ZSpec.total (m ((c : Thread nD τ).loc main_arg14)) (ACC m c)

section
variable (hO : Ok m) (c : Dev nD) (t : Fin (cfgM m hO).N)

theorem z2 (x : Fin 2) (n : ℕ) : (![0, 0] : Fin 2 → ℕ) x + n = n := by match x with | 0 => exact Nat.zero_add _ | 1 => exact Nat.zero_add _
theorem z3 (x : Fin 3) (n : ℕ) : (![0, 0, 0] : Fin 3 → ℕ) x + n = n := by
  match x with | 0 => exact Nat.zero_add _ | 1 => exact Nat.zero_add _ | 2 => exact Nat.zero_add _

theorem acc_at (a : Fin 928) (q : Fin 256) (v22 v23 v32 v41 : FVec Ideal S928x256 .f32) (v33 v36 v51 v54 : FVec Ideal S1x256 .f32)
    (v42 : FVec Ideal S928x7168 .fp8e4m3) (v44 : FVec Ideal S1x256x7168 .fp8e4m3) (v47 : FVec Ideal S928x128 .f32)
    (dy : FVec Ideal S928x256 .fp8e5m2) (ds : FVec Ideal S928x128 .f32) (x2 : FVec Ideal S928x7168 .fp8e4m3)
    (w2 : FVec Ideal S1x256x7168 .fp8e4m3) (s2 : FVec Ideal S928x128 .f32) (ws2 b2 : FVec Ideal S1x256 .f32)
    (x1 : FVec Ideal S928x7168 .fp8e4m3) (w1 : FVec Ideal S1x256x7168 .fp8e4m3) (s1 : FVec Ideal S928x128 .f32)
    (h22 : v22 = k0_pay1 (F := Ideal) dy ds x2 w2 s2 ws2 b2) (h32 : v32 = k0_pay2 (F := Ideal) x1 w1 s1)
    (hdy : @Eq EReal (dy (ix2 a q)) (m ((c : Thread nD τ).loc main_arg10) (ix2 (up a) (at_ t q))))
    (hds : ∀ a l, @Eq EReal (ds (ix2 a l)) (m ((c : Thread nD τ).loc main_arg11) (ix1 (up a))))
    (hx2 : ∀ k, @Eq EReal (x2 (ix2 a k)) (m ((c : Thread nD τ).loc main_arg3) (ix2 (up a) k)))
    (hw2 : ∀ k, @Eq EReal (w2 (ix3 0 q k)) (m ((c : Thread nD τ).loc main_arg7) (ix3 2 (at_ t q) k)))
    (hs2 : ∀ a l, @Eq EReal (s2 (ix2 a l)) (m ((c : Thread nD τ).loc main_arg6) (ix1 (up a))))
    (hws2 : @Eq EReal (ws2 (ix2 0 q)) (m ((c : Thread nD τ).loc main_arg8) (ix2 2 (at_ t q))))
    (hb2 : @Eq EReal (b2 (ix2 0 q)) (m ((c : Thread nD τ).loc main_arg9) (ix2 2 (at_ t q))))
    (h23 : @Eq EReal (v23 (ix2 a q)) (m ((c : Thread nD τ).loc main_arg12) (ix2 a (at_ t q))))
    (hx1 : ∀ k, @Eq EReal (x1 (ix2 a k)) (m ((c : Thread nD τ).loc main_arg2) (ix2 (up a) k)))
    (hw1 : ∀ k, @Eq EReal (w1 (ix3 0 q k)) (m ((c : Thread nD τ).loc main_arg7) (ix3 1 (at_ t q) k)))
    (hs1 : ∀ a l, @Eq EReal (s1 (ix2 a l)) (m ((c : Thread nD τ).loc main_arg5) (ix1 (up a))))
    (hws1 : @Eq EReal (v33 (ix2 0 q)) (m ((c : Thread nD τ).loc main_arg8) (ix2 1 (at_ t q))))
    (hb1 : @Eq EReal (v36 (ix2 0 q)) (m ((c : Thread nD τ).loc main_arg9) (ix2 1 (at_ t q))))
    (h41 : @Eq EReal (v41 (ix2 a q)) (m ((c : Thread nD τ).loc main_arg13) (ix2 a (at_ t q))))
    (hx0 : ∀ k, @Eq EReal (v42 (ix2 a k)) (m ((c : Thread nD τ).loc main_arg1) (ix2 (up a) k)))
    (hw0 : ∀ k, @Eq EReal (v44 (ix3 0 q k)) (m ((c : Thread nD τ).loc main_arg7) (ix3 0 (at_ t q) k)))
    (hs0 : ∀ a l, @Eq EReal (v47 (ix2 a l)) (m ((c : Thread nD τ).loc main_arg4) (ix1 (up a))))
    (hws0 : @Eq EReal (v51 (ix2 0 q)) (m ((c : Thread nD τ).loc main_arg8) (ix2 0 (at_ t q))))
    (hb0 : @Eq EReal (v54 (ix2 0 q)) (m ((c : Thread nD τ).loc main_arg9) (ix2 0 (at_ t q)))) :
    @Eq EReal (k0_pay3 (F := Ideal) v22 v23 v32 v33 v36 v41 v42 v44 v47 v51 v54 (ix2 a q)) (ACC m c a (at_ t q)) := by
  refine (pay3 v22 v23 v32 v41 v33 v36 v51 v54 v42 v44 v47 _ hs0 a q).trans ?_
  subst h22 h32
  unfold ACC ZSpec.acc ZSpec.lin
  exact ZSpec.glue ((pay1 dy ds x2 w2 s2 ws2 b2 _ _ hds hs2 a q).trans (ZSpec.glue1 hdy rfl (ZSpec.glue2 hx2 hw2 rfl) hws2 hb2)) h23
    ((pay2 x1 w1 s1 _ hs1 a q).trans (ZSpec.glue2 hx1 hw1 rfl)) hws1 hb1 h41 (ZSpec.glue2 hx0 hw0 rfl) hws0 hb0

theorem cross (a : Fin 928) (q : Fin 256) : @Eq EReal (CROSS m hO c t (ix2 a q)) (ACC m c a (at_ t q)) := by
  unfold CROSS kernelRun0_A.sl.r_4
  refine (pay5 _ _ _ _ _ _ _ _ _ _ _ _).trans ?_
  refine acc_at m hO c t a q _ _ _ _ _ _ _ _ _ _ _ _ _ _ _ _ _ _ _ _ _ rfl rfl ?_ ?_ ?_ ?_ ?_ ?_ ?_ ?_ ?_ ?_ ?_ ?_ ?_ ?_ ?_ ?_ ?_ ?_ ?_
  · exact (ld _ _ _ _ _ _ _ (ix2 a q) fun x => z2 x _).trans (iblk_dyc m hO c t a q)
  · exact fun a l => (ld _ _ _ _ _ _ _ (ix2 a l) fun x => z2 x _).trans (iblk_dys m hO c t a l)
  · exact fun k => (ld _ _ _ _ _ _ _ (ix2 a k) fun x => z2 x _).trans (iblk_x2 m hO c t a k)
  · exact fun k => (ld _ _ _ _ _ _ _ (ix3 0 q k) fun x => z3 x _).trans (iblk_w2 m hO c t 0 q k)
  · exact fun a l => (ld _ _ _ _ _ _ _ (ix2 a l) fun x => z2 x _).trans (iblk_x2s m hO c t a l)
  · exact (ld _ _ _ _ _ _ _ (ix2 2 q) fun x => by match x with | 0 => rfl | 1 => exact Nat.zero_add _).trans (iblk_ws m hO c t 2 q)
  · exact (ld _ _ _ _ _ _ _ (ix2 2 q) fun x => by match x with | 0 => rfl | 1 => exact Nat.zero_add _).trans (iblk_b m hO c t 2 q)
  · exact (ld _ _ _ _ _ _ _ (ix2 a q) fun x => z2 x _).trans (iblk_g2 m hO c t a q)
  · exact fun k => (ld _ _ _ _ _ _ _ (ix2 a k) fun x => z2 x _).trans (iblk_x1 m hO c t a k)
  · exact fun k => (ld _ _ _ _ _ _ _ (ix3 0 q k) fun x => z3 x _).trans (iblk_w1 m hO c t 0 q k)
  · exact fun a l => (ld _ _ _ _ _ _ _ (ix2 a l) fun x => z2 x _).trans (iblk_x1s m hO c t a l)
  · exact (ld _ _ _ _ _ _ _ (ix2 1 q) fun x => by match x with | 0 => rfl | 1 => exact Nat.zero_add _).trans (iblk_ws m hO c t 1 q)
  · exact (ld _ _ _ _ _ _ _ (ix2 1 q) fun x => by match x with | 0 => rfl | 1 => exact Nat.zero_add _).trans (iblk_b m hO c t 1 q)
  · exact (ld _ _ _ _ _ _ _ (ix2 a q) fun x => z2 x _).trans (iblk_g1 m hO c t a q)
  · exact fun k => (ld _ _ _ _ _ _ _ (ix2 a k) fun x => z2 x _).trans (iblk_x0 m hO c t a k)
  · exact fun k => (ld _ _ _ _ _ _ _ (ix3 0 q k) fun x => z3 x _).trans (iblk_w0 m hO c t 0 q k)
  · exact fun a l => (ld _ _ _ _ _ _ _ (ix2 a l) fun x => z2 x _).trans (iblk_x0s m hO c t a l)
  · exact (ld _ _ _ _ _ _ _ (ix2 0 q) fun x => by match x with | 0 => rfl | 1 => exact Nat.zero_add _).trans (iblk_ws m hO c t 0 q)
  · exact (ld _ _ _ _ _ _ _ (ix2 0 q) fun x => by match x with | 0 => rfl | 1 => exact Nat.zero_add _).trans (iblk_b m hO c t 0 q)

theorem dx (a : Fin 928) (q : Fin 256) : @Eq EReal (DX m hO c t (ix2 a q)) (SUM m c a (at_ t q)) := by
  unfold DX kernelRun0_A.sl.r_3
  refine (pay4 _ _ _ _ _ _ _ _ _ _ _ _ _).trans ?_
  exact congrArg₂ (fun u v : EReal => u + v) ((ld _ _ _ _ _ _ _ (ix2 a q) fun x => z2 x _).trans (iblk_g0 m hO c t a q)) (cross m hO c t a q)
end

section
variable (hO : Ok m) (hH : Hyps m hO) (c : Dev nD)

theorem lt16 (β : (a : Fin ((cfgM m hO).win 16).shape.rank) → Fin (((cfgM m hO).win 16).nblk a)) :
    (β (0 : Fin 2)).val < 1 ∧ (β (1 : Fin 2)).val < 28 := by
  have h0 : (β (0 : Fin 2)).val < (1536 + 1536 - 1) / 1536 := (β (0 : Fin 2)).isLt
  have h1 : (β (1 : Fin 2)).val < (7168 + 256 - 1) / 256 := (β (1 : Fin 2)).isLt
  exact ⟨by omega, by omega⟩
theorem covers16 : ((cfgM m hO).win 16).Covers := by
  refine ⟨fun (a : Fin 2) => ?_, fun β => ⟨⟨(β (1 : Fin 2)).val, (lt16 m hO β).2⟩, flush0_16 (adm m hO) _, fun (a : Fin 2) => ?_⟩⟩
  · match a with
    | 0 => show 0 < 1536; decide
    | 1 => show 0 < 256; decide
  · have e := (tr ⟨(β (1 : Fin 2)).val, (lt16 m hO β).2⟩).2.2.2.2.2.2.2.2.2.2.2.2.2.2.2.2.1
    match a with
    | 0 => exact ⟨(congrFun e 0).trans (by have h : (β (0 : Fin 2)).val < 1 := (lt16 m hO β).1; show 0 = (β (0 : Fin 2)).val; omega), Or.inl rfl⟩
    | 1 => exact ⟨congrFun e 1, Or.inl rfl⟩
theorem lt17 (β : (a : Fin ((cfgM m hO).win 17).shape.rank) → Fin (((cfgM m hO).win 17).nblk a)) :
    (β (0 : Fin 2)).val < 1 ∧ (β (1 : Fin 2)).val < 28 := by
  have h0 : (β (0 : Fin 2)).val < (1536 + 1536 - 1) / 1536 := (β (0 : Fin 2)).isLt
  have h1 : (β (1 : Fin 2)).val < (7168 + 256 - 1) / 256 := (β (1 : Fin 2)).isLt
  exact ⟨by omega, by omega⟩
theorem covers17 : ((cfgM m hO).win 17).Covers := by
  refine ⟨fun (a : Fin 2) => ?_, fun β => ⟨⟨(β (1 : Fin 2)).val, (lt17 m hO β).2⟩, flush0_17 (adm m hO) _, fun (a : Fin 2) => ?_⟩⟩
  · match a with
    | 0 => show 0 < 1536; decide
    | 1 => show 0 < 256; decide
  · have e := (tr ⟨(β (1 : Fin 2)).val, (lt17 m hO β).2⟩).2.2.2.2.2.2.2.2.2.2.2.2.2.2.2.2.2
    match a with
    | 0 => exact ⟨(congrFun e 0).trans (by have h : (β (0 : Fin 2)).val < 1 := (lt17 m hO β).1; show 0 = (β (0 : Fin 2)).val; omega), Or.inl rfl⟩
    | 1 => exact ⟨congrFun e 1, Or.inl rfl⟩

theorem emb16 (t : Fin (cfgM m hO).N) (r : Fin 1536) (q : Fin 256) :
    @Eq (S1536x7168.Idx) ((((cfgM m hO).win 16).blk t).view.emb (ix2 r q : S1536x256.Idx)) (ix2 r (at_ t q)) := by
  have e := (tr t).2.2.2.2.2.2.2.2.2.2.2.2.2.2.2.2.1
  have e0 : cc0_transform_16 (grid0.coords t) 0 = 0 := congrFun e 0
  have e1 : cc0_transform_16 (grid0.coords t) 1 = t.val := congrFun e 1
  refine ext2 (n := 1536) (p := 7168) _ _ ?_ ?_
  · show cc0_transform_16 (grid0.coords t) 0 * 1536 + 1 * r.val = r.val; omega
  · show cc0_transform_16 (grid0.coords t) 1 * 256 + 1 * q.val = t.val * 256 + q.val; omega
theorem emb17 (t : Fin (cfgM m hO).N) (r : Fin 1536) (q : Fin 256) :
    @Eq (S1536x7168.Idx) ((((cfgM m hO).win 17).blk t).view.emb (ix2 r q : S1536x256.Idx)) (ix2 r (at_ t q)) := by
  have e := (tr t).2.2.2.2.2.2.2.2.2.2.2.2.2.2.2.2.2
  have e0 : cc0_transform_17 (grid0.coords t) 0 = 0 := congrFun e 0
  have e1 : cc0_transform_17 (grid0.coords t) 1 = t.val := congrFun e 1
  refine ext2 (n := 1536) (p := 7168) _ _ ?_ ?_
  · show cc0_transform_17 (grid0.coords t) 0 * 1536 + 1 * r.val = r.val; omega
  · show cc0_transform_17 (grid0.coords t) 1 * 256 + 1 * q.val = t.val * 256 + q.val; omega

theorem final16 : (dats m hO hH 0 c).arrAt 16 (cfgM m hO).N = ZSpec.out (places m) (SUM m c) := by
  refine (dats m hO hH 0 c).arrAt_eq_of_covers 16 _ (covers16 m hO) fun t _ y => ?_
  obtain ⟨r, q, rfl⟩ : ∃ (r : Fin 1536) (q : Fin 256), y = (ix2 r q : S1536x256.Idx) := ⟨y (0 : Fin 2), y (1 : Fin 2), eq_ix2 (n0 := 1536) (n1 := 256) y⟩
  refine Eq.trans ?_ (congrArg (ZSpec.out (places m) (SUM m c)) (emb16 m hO t r q)).symm
  rw [after0_16]
  refine Eq.trans (stored16 m hO hH c t r q) ?_
  exact ZPut.put_congr 48 (fun x _ => congrArg (fun f => ZPut.rows f x) (funext fun a => dx m hO c t a q)) r.val
theorem final17 : (dats m hO hH 0 c).arrAt 17 (cfgM m hO).N = ZSpec.out (places m) (ACC m c) := by
  refine (dats m hO hH 0 c).arrAt_eq_of_covers 17 _ (covers17 m hO) fun t _ y => ?_
  obtain ⟨r, q, rfl⟩ : ∃ (r : Fin 1536) (q : Fin 256), y = (ix2 r q : S1536x256.Idx) := ⟨y (0 : Fin 2), y (1 : Fin 2), eq_ix2 (n0 := 1536) (n1 := 256) y⟩
  refine Eq.trans ?_ (congrArg (ZSpec.out (places m) (ACC m c)) (emb17 m hO t r q)).symm
  rw [after0_17]
  refine Eq.trans (stored17 m hO hH c t r q) ?_
  exact ZPut.put_congr 48 (fun x _ => congrArg (fun f => ZPut.rows f x) (funext fun a => cross m hO c t a q)) r.val
end

end Cert.ZIdeal.Value

end
-- ==== Proof.RefZIdealHyp.lean ====
/-
  Hand-written. A table whose words name chunks gives the side conditions that the body assumes of the words it reads.
-/
module

public import proofs.«01_k».proof.Proof.Gen.RefZIdeal.Frame
public import Idealize.ShloMosaic.Lib.Pointwise
public import Idealize.ShloMosaic.Lib.Pipeline.ValueKit

@[expose] public section

namespace Cert.RefZIdeal.Hyp

open Idealize.ShloMosaic Idealize.ShloMosaic.TcCoe Cert.RefZIdeal Cert.RefZIdeal.Gen

variable {F : FTy → Type} [FloatOps F]

theorem chk_of (v : BitVec 32) (h : v.toNat < 48) : k0_chk1 v := by
  have all : ∀ k : Fin 48, k0_chk1 (BitVec.ofNat 32 k.val) := by decide +kernel
  simpa using all ⟨v.toNat, h⟩

/-- What the body reads of the staged table: its word `n`. -/
theorem word (m : (ℓ : Loc nD τ sig) → Buf (Elt F) ℓ) (c : Dev nD) (t : Fin cfg0.N) (n : ℕ)
    (h : ∀ a, (![n] : Fin 1 → ℕ) a + S1.size a ≤ S48.size a) (i : S1.Idx) :
    (ms0_0 t).view.readAt (Elt F) (Rect.unit (s := S48) ![n] S1.size h).toLoadRect ((hs0_0 t).unread (iblk m c 0 t)) i
      = m ((c : Thread nD τ).loc main_arg0) (ix1 (⟨n, h 0⟩ : Fin 48)) := by
  rw [View.readAt_apply]
  refine (congrFun ((hs0_0 t).read_unread (iblk m c 0 t)) _).trans ?_
  unfold iblk
  rw [View.read_apply, cast_eq]
  have e : V m c main_arg0 = m ((c : Thread nD τ).loc main_arg0) := V_main_arg0 m c
  refine (congrFun e _).trans ?_
  refine congrArg (m ((c : Thread nD τ).loc main_arg0)) ?_
  have key : ∀ (x y : Fin 1 → ℕ), x 0 = y 0 → x = y := fun x y hx => by funext a; obtain rfl : a = 0 := Subsingleton.elim _ _; exact hx
  have h1 : (i 0).val < 1 := (i 0).isLt
  funext a
  refine Fin.ext ?_
  match a with
  | 0 => ?_
  fin_cases t
  show 0 + 1 * (n + 1 * (i 0).val) = n
  omega

theorem hyps_of {m : (ℓ : Loc nD τ sig) → Buf (Elt F) ℓ}
    (h : ∀ (c : Dev nD) (y : S48.Idx), BitVec.toNat (w := 32) (m ((c : Thread nD τ).loc main_arg0) y) < 48) : Hyps m :=
  Hyps.of
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))
    (fun c t => chk_of _ (by rw [word]; exact h c _))

end Cert.RefZIdeal.Hyp
-- ==== Proof.RefZVal.lean ====
/-
  Hand-written. What the reference of the call leaves in its two results.
-/
module

public import proofs.«01_k».proof.Proof.ZSpec
public import proofs.«01_k».proof.Proof.RefZIdealHyp
public import proofs.«01_k».proof.Proof.Gen.RefZIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RefZIdeal.Value
open Cert.RefZIdeal Cert.RefZIdeal.Gen

variable (m : (ℓ : Loc nD τ sig) → Buf (Elt Ideal) ℓ)

/-- The chunks' places, as the table names them. -/
abbrev places (c : Dev nD) : Fin 48 → BitVec 32 := fun k => m ((c : Thread nD τ).loc main_arg0) (ix1 k)

theorem off_eq (v w : BitVec 32) (e : v = w) : k0_off1 v 0 = (Scalar.muli w 32#32).toNat := by subst e; rfl

/-- The live rows with the dead ones after them. -/
theorem joined (X : FVec Ideal S928x7168 .f32) (r : Fin 1536) (q : Fin 7168) :
    @Eq EReal (k0_pay10 (F := Ideal) (k0_pay7 (F := Ideal)) X (ix2 r q)) (ZPut.rows (fun x => X (ix2 x q)) r.val) := by
  by_cases h : r.val < 928
  · rw [ZPut.rows_live _ _ h]
    pointwise [k0_pay10]
    exact dif_pos h
  · rw [ZPut.rows_dead _ _ (by omega)]
    pointwise [k0_pay10, k0_pay7]
    exact dif_neg h

theorem live (X : FVec Ideal S928x7168 .f32) (k o : ℕ) (ho : o = 32 * k) (hk : k < 48) (hs : S1536x7168.Slices ![o, 0] S32x7168)
    (q : Fin 7168) (a : Fin 32) :
    @Eq EReal (extractStridedSlice S32x7168 ![o, 0] (k0_pay10 (F := Ideal) (k0_pay7 (F := Ideal)) X) hs (ix2 a q))
      (ZPut.rows (fun x => X (ix2 x q)) (32 * k + a.val)) := by
  refine Eq.trans ?_ (joined X ⟨32 * k + a.val, by have := a.isLt; omega⟩ q)
  generalize k0_pay10 (F := Ideal) _ _ = Z
  pointwise
  subst ho
  rfl

theorem pay2 (v0 : FVec Ideal S928x7168 .fp8e5m2) (v2 : FVec Ideal S928x1 .f32) (v6 : FVec Ideal S928x7168 .fp8e4m3)
    (v7 : FVec Ideal S928x1 .f32) (v9 : FVec Ideal S1x7168x7168 .fp8e4m3) (v11 v13 : FVec Ideal S1x7168 .f32) (a : Fin 928) (q : Fin 7168) :
    @Eq EReal (k0_pay2 (F := Ideal) v0 v2 v6 v7 v9 v11 v13 (ix2 a q))
      (v0 (ix2 a q) * v2 (ix2 a 0) * ((∑ k, v6 (ix2 a k) * v9 (ix3 0 q k)) * v7 (ix2 a 0) * v11 (ix2 0 q) + v13 (ix2 0 q))) := by
  pointwise [k0_pay2]

theorem pay6 (v24 v25 v46 : FVec Ideal S928x7168 .f32) (v26 v47 : FVec Ideal S928x7168 .fp8e4m3) (v27 v48 : FVec Ideal S928x1 .f32)
    (v29 v50 : FVec Ideal S1x7168x7168 .fp8e4m3) (v31 v33 v52 v54 : FVec Ideal S1x7168 .f32) (a : Fin 928) (q : Fin 7168) :
    @Eq EReal (k0_pay6 (F := Ideal) v24 v25 v26 (k0_pay3 v27) (k0_pay4 v29) (k0_pay5 v31) v33 v46 v47 v48 v50 v52 v54 (ix2 a q))
      (v24 (ix2 a q) + v25 (ix2 a q) * ((∑ k, v26 (ix2 a k) * v29 (ix3 0 q k)) * v27 (ix2 a 0) * v31 (ix2 0 q) + v33 (ix2 0 q))
        + v46 (ix2 a q) * ((∑ k, v47 (ix2 a k) * v50 (ix3 0 q k)) * v48 (ix2 a 0) * v52 (ix2 0 q) + v54 (ix2 0 q))) := by
  pointwise [k0_pay6, k0_pay3, k0_pay4, k0_pay5]

section
variable (hH : Hyps m) (c : Dev nD) (t : Fin cfg0.N)

/-- What the reference adds up, before the last gradient and with it. -/
def CROSS : FVec Ideal S928x7168 .f32 := kernelRun0_A.sl.r_6 c (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
def DX : FVec Ideal S928x7168 .f32 := kernelRun0_A.sl.r_7 c (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t)
    (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

theorem stored15 (r : Fin 1536) (q : Fin 7168) : @Eq EReal ((outsAt0 m hH c t).1 (ix2 r q))
    (ZPut.put (ZPut.row (places m c)) (ZPut.rows fun x => DX m c t (ix2 x q)) 48 r.val) := by
  unfold outsAt0
  dsimp only
  unfold out0_A_15
  rw [View.read_writes_junk_eq_canon]
  unfold kernelRun0_A
  dsimp only
  refine ZPut.step _ _ _ _ _ _ 47 r q (off_eq _ _ (Hyp.word m c t 47 inb_S48_S1_47 _)) rfl (live (DX m c t) 47 1504 rfl (by decide) (by decide) q) ?_
  refine ZPut.step _ _ _ _ _ _ 46 r q (off_eq _ _ (Hyp.word m c t 46 inb_S48_S1_46 _)) rfl (live (DX m c t) 46 1472 rfl (by decide) (by decide) q) ?_
  refine ZPut.step _ _ _ _ _ _ 45 r q (off_eq _ _ (Hyp.word m c t 45 inb_S48_S1_45 _)) rfl (live (DX m c t) 45 1440 rfl (by decide) (by decide) q) ?_
  refine ZPut.step _ _ _ _ _ _ 44 r q (off_eq _ _ (Hyp.word m c t 44 inb_S48_S1_44 _)) rfl (live (DX m c t) 44 1408 rfl (by decide) (by decide) q) ?_
  refine ZPut.step _ _ _ _ _ _ 43 r q (off_eq _ _ (Hyp.word m c t 43 inb_S48_S1_43 _)) rfl (live (DX m c t) 43 1376 rfl (by decide) (by decide) q) ?_
  refine ZPut.step _ _ _ _ _ _ 42 r q (off_eq _ _ (Hyp.word m c t 42 inb_S48_S1_42 _)) rfl (live (DX m c t) 42 1344 rfl (by decide) (by decide) q) ?_
  refine ZPut.step _ _ _ _ _ _ 41 r q (off_eq _ _ (Hyp.word m c t 41 inb_S48_S1_41 _)) rfl (live (DX m c t) 41 1312 rfl (by decide) (by decide) q) ?_
  refine ZPut.step _ _ _ _ _ _ 40 r q (off_eq _ _ (Hyp.word m c t 40 inb_S48_S1_40 _)) rfl (live (DX m c t) 40 1280 rfl (by decide) (by decide) q) ?_
  refine ZPut.step _ _ _ _ _ _ 39 r q (off_eq _ _ (Hyp.word m c t 39 inb_S48_S1_39 _)) rfl (live (DX m c t) 39 1248 rfl (by decide) (by decide) q) ?_
  refine ZPut.step _ _ _ _ _ _ 38 r q (off_eq _ _ (Hyp.word m c t 38 inb_S48_S1_38 _)) rfl (live (DX m c t) 38 1216 rfl (by decide) (by decide) q) ?_
  refine ZPut.step _ _ _ _ _ _ 37 r q (off_eq _ _ (Hyp.word m c t 37 inb_S48_S1_37 _)) rfl (live (DX m c t) 37 1184 rfl (by decide) (by decide) q) ?_
  refine ZPut.step _ _ _ _ _ _ 36 r q (off_eq _ _ (Hyp.word m c t 36 inb_S48_S1_36 _)) rfl (live (DX m c t) 36 1152 rfl (by decide) (by decide) q) ?_
  refine ZPut.step _ _ _ _ _ _ 35 r q (off_eq _ _ (Hyp.word m c t 35 inb_S48_S1_35 _)) rfl (live (DX m c t) 35 1120 rfl (by decide) (by decide) q) ?_
  refine ZPut.step _ _ _ _ _ _ 34 r q (off_eq _ _ (Hyp.word m c t 34 inb_S48_S1_34 _)) rfl (live (DX m c t) 34 1088 rfl (by decide) (by decide) q) ?_
  refine ZPut.step _ _ _ _ _ _ 33 r q (off_eq _ _ (Hyp.word m c t 33 inb_S48_S1_33 _)) rfl (live (DX m c t) 33 1056 rfl (by decide) (by decide) q) ?_
  refine ZPut.step _ _ _ _ _ _ 32 r q (off_eq _ _ (Hyp.word m c t 32 inb_S48_S1_32 _)) rfl (live (DX m c t) 32 1024 rfl (by decide) (by decide) q) ?_
  refine ZPut.step _ _ _ _ _ _ 31 r q (off_eq _ _ (Hyp.word m c t 31 inb_S48_S1_31 _)) rfl (live (DX m c t) 31 992 rfl (by decide) (by decide) q) ?_
  refine ZPut.step _ _ _ _ _ _ 30 r q (off_eq _ _ (Hyp.word m c t 30 inb_S48_S1_30 _)) rfl (live (DX m c t) 30 960 rfl (by decide) (by decide) q) ?_
  refine ZPut.step _ _ _ _ _ _ 29 r q (off_eq _ _ (Hyp.word m c t 29 inb_S48_S1_29 _)) rfl (live (DX m c t) 29 928 rfl (by decide) (by decide) q) ?_
  refine ZPut.step _ _ _ _ _ _ 28 r q (off_eq _ _ (Hyp.word m c t 28 inb_S48_S1_28 _)) rfl (live (DX m c t) 28 896 rfl (by decide) (by decide) q) ?_
  refine ZPut.step _ _ _ _ _ _ 27 r q (off_eq _ _ (Hyp.word m c t 27 inb_S48_S1_27 _)) rfl (live (DX m c t) 27 864 rfl (by decide) (by decide) q) ?_
  refine ZPut.step _ _ _ _ _ _ 26 r q (off_eq _ _ (Hyp.word m c t 26 inb_S48_S1_26 _)) rfl (live (DX m c t) 26 832 rfl (by decide) (by decide) q) ?_
  refine ZPut.step _ _ _ _ _ _ 25 r q (off_eq _ _ (Hyp.word m c t 25 inb_S48_S1_25 _)) rfl (live (DX m c t) 25 800 rfl (by decide) (by decide) q) ?_
  refine ZPut.step _ _ _ _ _ _ 24 r q (off_eq _ _ (Hyp.word m c t 24 inb_S48_S1_24 _)) rfl (live (DX m c t) 24 768 rfl (by decide) (by decide) q) ?_
  refine ZPut.step _ _ _ _ _ _ 23 r q (off_eq _ _ (Hyp.word m c t 23 inb_S48_S1_23 _)) rfl (live (DX m c t) 23 736 rfl (by decide) (by decide) q) ?_
  refine ZPut.step _ _ _ _ _ _ 22 r q (off_eq _ _ (Hyp.word m c t 22 inb_S48_S1_22 _)) rfl (live (DX m c t) 22 704 rfl (by decide) (by decide) q) ?_
  refine ZPut.step _ _ _ _ _ _ 21 r q (off_eq _ _ (Hyp.word m c t 21 inb_S48_S1_21 _)) rfl (live (DX m c t) 21 672 rfl (by decide) (by decide) q) ?_
  refine ZPut.step _ _ _ _ _ _ 20 r q (off_eq _ _ (Hyp.word m c t 20 inb_S48_S1_20 _)) rfl (live (DX m c t) 20 640 rfl (by decide) (by decide) q) ?_
  refine ZPut.step _ _ _ _ _ _ 19 r q (off_eq _ _ (Hyp.word m c t 19 inb_S48_S1_19 _)) rfl (live (DX m c t) 19 608 rfl (by decide) (by decide) q) ?_
  refine ZPut.step _ _ _ _ _ _ 18 r q (off_eq _ _ (Hyp.word m c t 18 inb_S48_S1_18 _)) rfl (live (DX m c t) 18 576 rfl (by decide) (by decide) q) ?_
  refine ZPut.step _ _ _ _ _ _ 17 r q (off_eq _ _ (Hyp.word m c t 17 inb_S48_S1_17 _)) rfl (live (DX m c t) 17 544 rfl (by decide) (by decide) q) ?_
  refine ZPut.step _ _ _ _ _ _ 16 r q (off_eq _ _ (Hyp.word m c t 16 inb_S48_S1_16 _)) rfl (live (DX m c t) 16 512 rfl (by decide) (by decide) q) ?_
  refine ZPut.step _ _ _ _ _ _ 15 r q (off_eq _ _ (Hyp.word m c t 15 inb_S48_S1_15 _)) rfl (live (DX m c t) 15 480 rfl (by decide) (by decide) q) ?_
  refine ZPut.step _ _ _ _ _ _ 14 r q (off_eq _ _ (Hyp.word m c t 14 inb_S48_S1_14 _)) rfl (live (DX m c t) 14 448 rfl (by decide) (by decide) q) ?_
  refine ZPut.step _ _ _ _ _ _ 13 r q (off_eq _ _ (Hyp.word m c t 13 inb_S48_S1_13 _)) rfl (live (DX m c t) 13 416 rfl (by decide) (by decide) q) ?_
  refine ZPut.step _ _ _ _ _ _ 12 r q (off_eq _ _ (Hyp.word m c t 12 inb_S48_S1_12 _)) rfl (live (DX m c t) 12 384 rfl (by decide) (by decide) q) ?_
  refine ZPut.step _ _ _ _ _ _ 11 r q (off_eq _ _ (Hyp.word m c t 11 inb_S48_S1_11 _)) rfl (live (DX m c t) 11 352 rfl (by decide) (by decide) q) ?_
  refine ZPut.step _ _ _ _ _ _ 10 r q (off_eq _ _ (Hyp.word m c t 10 inb_S48_S1_10 _)) rfl (live (DX m c t) 10 320 rfl (by decide) (by decide) q) ?_
  refine ZPut.step _ _ _ _ _ _ 9 r q (off_eq _ _ (Hyp.word m c t 9 inb_S48_S1_9 _)) rfl (live (DX m c t) 9 288 rfl (by decide) (by decide) q) ?_
  refine ZPut.step _ _ _ _ _ _ 8 r q (off_eq _ _ (Hyp.word m c t 8 inb_S48_S1_8 _)) rfl (live (DX m c t) 8 256 rfl (by decide) (by decide) q) ?_
  refine ZPut.step _ _ _ _ _ _ 7 r q (off_eq _ _ (Hyp.word m c t 7 inb_S48_S1_7 _)) rfl (live (DX m c t) 7 224 rfl (by decide) (by decide) q) ?_
  refine ZPut.step _ _ _ _ _ _ 6 r q (off_eq _ _ (Hyp.word m c t 6 inb_S48_S1_6 _)) rfl (live (DX m c t) 6 192 rfl (by decide) (by decide) q) ?_
  refine ZPut.step _ _ _ _ _ _ 5 r q (off_eq _ _ (Hyp.word m c t 5 inb_S48_S1_5 _)) rfl (live (DX m c t) 5 160 rfl (by decide) (by decide) q) ?_
  refine ZPut.step _ _ _ _ _ _ 4 r q (off_eq _ _ (Hyp.word m c t 4 inb_S48_S1_4 _)) rfl (live (DX m c t) 4 128 rfl (by decide) (by decide) q) ?_
  refine ZPut.step _ _ _ _ _ _ 3 r q (off_eq _ _ (Hyp.word m c t 3 inb_S48_S1_3 _)) rfl (live (DX m c t) 3 96 rfl (by decide) (by decide) q) ?_
  refine ZPut.step _ _ _ _ _ _ 2 r q (off_eq _ _ (Hyp.word m c t 2 inb_S48_S1_2 _)) rfl (live (DX m c t) 2 64 rfl (by decide) (by decide) q) ?_
  refine ZPut.step _ _ _ _ _ _ 1 r q (off_eq _ _ (Hyp.word m c t 1 inb_S48_S1_1 _)) rfl (live (DX m c t) 1 32 rfl (by decide) (by decide) q) ?_
  refine ZPut.step _ _ _ _ _ _ 0 r q (off_eq _ _ (Hyp.word m c t 0 inb_S48_S1_0 _)) rfl (live (DX m c t) 0 0 rfl (by decide) (by decide) q) ?_
  exact ZPut.base _ _ _ _ _ r q ZPut.zero_word
theorem stored16 (r : Fin 1536) (q : Fin 7168) : @Eq EReal ((outsAt0 m hH c t).2 (ix2 r q))
    (ZPut.put (ZPut.row (places m c)) (ZPut.rows fun x => CROSS m c t (ix2 x q)) 48 r.val) := by
  unfold outsAt0
  dsimp only
  unfold out0_A_16
  rw [View.read_writes_junk_eq_canon]
  unfold kernelRun0_A
  dsimp only
  refine ZPut.step _ _ _ _ _ _ 47 r q (off_eq _ _ (Hyp.word m c t 47 inb_S48_S1_47 _)) rfl (live (CROSS m c t) 47 1504 rfl (by decide) (by decide) q) ?_
  refine ZPut.step _ _ _ _ _ _ 46 r q (off_eq _ _ (Hyp.word m c t 46 inb_S48_S1_46 _)) rfl (live (CROSS m c t) 46 1472 rfl (by decide) (by decide) q) ?_
  refine ZPut.step _ _ _ _ _ _ 45 r q (off_eq _ _ (Hyp.word m c t 45 inb_S48_S1_45 _)) rfl (live (CROSS m c t) 45 1440 rfl (by decide) (by decide) q) ?_
  refine ZPut.step _ _ _ _ _ _ 44 r q (off_eq _ _ (Hyp.word m c t 44 inb_S48_S1_44 _)) rfl (live (CROSS m c t) 44 1408 rfl (by decide) (by decide) q) ?_
  refine ZPut.step _ _ _ _ _ _ 43 r q (off_eq _ _ (Hyp.word m c t 43 inb_S48_S1_43 _)) rfl (live (CROSS m c t) 43 1376 rfl (by decide) (by decide) q) ?_
  refine ZPut.step _ _ _ _ _ _ 42 r q (off_eq _ _ (Hyp.word m c t 42 inb_S48_S1_42 _)) rfl (live (CROSS m c t) 42 1344 rfl (by decide) (by decide) q) ?_
  refine ZPut.step _ _ _ _ _ _ 41 r q (off_eq _ _ (Hyp.word m c t 41 inb_S48_S1_41 _)) rfl (live (CROSS m c t) 41 1312 rfl (by decide) (by decide) q) ?_
  refine ZPut.step _ _ _ _ _ _ 40 r q (off_eq _ _ (Hyp.word m c t 40 inb_S48_S1_40 _)) rfl (live (CROSS m c t) 40 1280 rfl (by decide) (by decide) q) ?_
  refine ZPut.step _ _ _ _ _ _ 39 r q (off_eq _ _ (Hyp.word m c t 39 inb_S48_S1_39 _)) rfl (live (CROSS m c t) 39 1248 rfl (by decide) (by decide) q) ?_
  refine ZPut.step _ _ _ _ _ _ 38 r q (off_eq _ _ (Hyp.word m c t 38 inb_S48_S1_38 _)) rfl (live (CROSS m c t) 38 1216 rfl (by decide) (by decide) q) ?_
  refine ZPut.step _ _ _ _ _ _ 37 r q (off_eq _ _ (Hyp.word m c t 37 inb_S48_S1_37 _)) rfl (live (CROSS m c t) 37 1184 rfl (by decide) (by decide) q) ?_
  refine ZPut.step _ _ _ _ _ _ 36 r q (off_eq _ _ (Hyp.word m c t 36 inb_S48_S1_36 _)) rfl (live (CROSS m c t) 36 1152 rfl (by decide) (by decide) q) ?_
  refine ZPut.step _ _ _ _ _ _ 35 r q (off_eq _ _ (Hyp.word m c t 35 inb_S48_S1_35 _)) rfl (live (CROSS m c t) 35 1120 rfl (by decide) (by decide) q) ?_
  refine ZPut.step _ _ _ _ _ _ 34 r q (off_eq _ _ (Hyp.word m c t 34 inb_S48_S1_34 _)) rfl (live (CROSS m c t) 34 1088 rfl (by decide) (by decide) q) ?_
  refine ZPut.step _ _ _ _ _ _ 33 r q (off_eq _ _ (Hyp.word m c t 33 inb_S48_S1_33 _)) rfl (live (CROSS m c t) 33 1056 rfl (by decide) (by decide) q) ?_
  refine ZPut.step _ _ _ _ _ _ 32 r q (off_eq _ _ (Hyp.word m c t 32 inb_S48_S1_32 _)) rfl (live (CROSS m c t) 32 1024 rfl (by decide) (by decide) q) ?_
  refine ZPut.step _ _ _ _ _ _ 31 r q (off_eq _ _ (Hyp.word m c t 31 inb_S48_S1_31 _)) rfl (live (CROSS m c t) 31 992 rfl (by decide) (by decide) q) ?_
  refine ZPut.step _ _ _ _ _ _ 30 r q (off_eq _ _ (Hyp.word m c t 30 inb_S48_S1_30 _)) rfl (live (CROSS m c t) 30 960 rfl (by decide) (by decide) q) ?_
  refine ZPut.step _ _ _ _ _ _ 29 r q (off_eq _ _ (Hyp.word m c t 29 inb_S48_S1_29 _)) rfl (live (CROSS m c t) 29 928 rfl (by decide) (by decide) q) ?_
  refine ZPut.step _ _ _ _ _ _ 28 r q (off_eq _ _ (Hyp.word m c t 28 inb_S48_S1_28 _)) rfl (live (CROSS m c t) 28 896 rfl (by decide) (by decide) q) ?_
  refine ZPut.step _ _ _ _ _ _ 27 r q (off_eq _ _ (Hyp.word m c t 27 inb_S48_S1_27 _)) rfl (live (CROSS m c t) 27 864 rfl (by decide) (by decide) q) ?_
  refine ZPut.step _ _ _ _ _ _ 26 r q (off_eq _ _ (Hyp.word m c t 26 inb_S48_S1_26 _)) rfl (live (CROSS m c t) 26 832 rfl (by decide) (by decide) q) ?_
  refine ZPut.step _ _ _ _ _ _ 25 r q (off_eq _ _ (Hyp.word m c t 25 inb_S48_S1_25 _)) rfl (live (CROSS m c t) 25 800 rfl (by decide) (by decide) q) ?_
  refine ZPut.step _ _ _ _ _ _ 24 r q (off_eq _ _ (Hyp.word m c t 24 inb_S48_S1_24 _)) rfl (live (CROSS m c t) 24 768 rfl (by decide) (by decide) q) ?_
  refine ZPut.step _ _ _ _ _ _ 23 r q (off_eq _ _ (Hyp.word m c t 23 inb_S48_S1_23 _)) rfl (live (CROSS m c t) 23 736 rfl (by decide) (by decide) q) ?_
  refine ZPut.step _ _ _ _ _ _ 22 r q (off_eq _ _ (Hyp.word m c t 22 inb_S48_S1_22 _)) rfl (live (CROSS m c t) 22 704 rfl (by decide) (by decide) q) ?_
  refine ZPut.step _ _ _ _ _ _ 21 r q (off_eq _ _ (Hyp.word m c t 21 inb_S48_S1_21 _)) rfl (live (CROSS m c t) 21 672 rfl (by decide) (by decide) q) ?_
  refine ZPut.step _ _ _ _ _ _ 20 r q (off_eq _ _ (Hyp.word m c t 20 inb_S48_S1_20 _)) rfl (live (CROSS m c t) 20 640 rfl (by decide) (by decide) q) ?_
  refine ZPut.step _ _ _ _ _ _ 19 r q (off_eq _ _ (Hyp.word m c t 19 inb_S48_S1_19 _)) rfl (live (CROSS m c t) 19 608 rfl (by decide) (by decide) q) ?_
  refine ZPut.step _ _ _ _ _ _ 18 r q (off_eq _ _ (Hyp.word m c t 18 inb_S48_S1_18 _)) rfl (live (CROSS m c t) 18 576 rfl (by decide) (by decide) q) ?_
  refine ZPut.step _ _ _ _ _ _ 17 r q (off_eq _ _ (Hyp.word m c t 17 inb_S48_S1_17 _)) rfl (live (CROSS m c t) 17 544 rfl (by decide) (by decide) q) ?_
  refine ZPut.step _ _ _ _ _ _ 16 r q (off_eq _ _ (Hyp.word m c t 16 inb_S48_S1_16 _)) rfl (live (CROSS m c t) 16 512 rfl (by decide) (by decide) q) ?_
  refine ZPut.step _ _ _ _ _ _ 15 r q (off_eq _ _ (Hyp.word m c t 15 inb_S48_S1_15 _)) rfl (live (CROSS m c t) 15 480 rfl (by decide) (by decide) q) ?_
  refine ZPut.step _ _ _ _ _ _ 14 r q (off_eq _ _ (Hyp.word m c t 14 inb_S48_S1_14 _)) rfl (live (CROSS m c t) 14 448 rfl (by decide) (by decide) q) ?_
  refine ZPut.step _ _ _ _ _ _ 13 r q (off_eq _ _ (Hyp.word m c t 13 inb_S48_S1_13 _)) rfl (live (CROSS m c t) 13 416 rfl (by decide) (by decide) q) ?_
  refine ZPut.step _ _ _ _ _ _ 12 r q (off_eq _ _ (Hyp.word m c t 12 inb_S48_S1_12 _)) rfl (live (CROSS m c t) 12 384 rfl (by decide) (by decide) q) ?_
  refine ZPut.step _ _ _ _ _ _ 11 r q (off_eq _ _ (Hyp.word m c t 11 inb_S48_S1_11 _)) rfl (live (CROSS m c t) 11 352 rfl (by decide) (by decide) q) ?_
  refine ZPut.step _ _ _ _ _ _ 10 r q (off_eq _ _ (Hyp.word m c t 10 inb_S48_S1_10 _)) rfl (live (CROSS m c t) 10 320 rfl (by decide) (by decide) q) ?_
  refine ZPut.step _ _ _ _ _ _ 9 r q (off_eq _ _ (Hyp.word m c t 9 inb_S48_S1_9 _)) rfl (live (CROSS m c t) 9 288 rfl (by decide) (by decide) q) ?_
  refine ZPut.step _ _ _ _ _ _ 8 r q (off_eq _ _ (Hyp.word m c t 8 inb_S48_S1_8 _)) rfl (live (CROSS m c t) 8 256 rfl (by decide) (by decide) q) ?_
  refine ZPut.step _ _ _ _ _ _ 7 r q (off_eq _ _ (Hyp.word m c t 7 inb_S48_S1_7 _)) rfl (live (CROSS m c t) 7 224 rfl (by decide) (by decide) q) ?_
  refine ZPut.step _ _ _ _ _ _ 6 r q (off_eq _ _ (Hyp.word m c t 6 inb_S48_S1_6 _)) rfl (live (CROSS m c t) 6 192 rfl (by decide) (by decide) q) ?_
  refine ZPut.step _ _ _ _ _ _ 5 r q (off_eq _ _ (Hyp.word m c t 5 inb_S48_S1_5 _)) rfl (live (CROSS m c t) 5 160 rfl (by decide) (by decide) q) ?_
  refine ZPut.step _ _ _ _ _ _ 4 r q (off_eq _ _ (Hyp.word m c t 4 inb_S48_S1_4 _)) rfl (live (CROSS m c t) 4 128 rfl (by decide) (by decide) q) ?_
  refine ZPut.step _ _ _ _ _ _ 3 r q (off_eq _ _ (Hyp.word m c t 3 inb_S48_S1_3 _)) rfl (live (CROSS m c t) 3 96 rfl (by decide) (by decide) q) ?_
  refine ZPut.step _ _ _ _ _ _ 2 r q (off_eq _ _ (Hyp.word m c t 2 inb_S48_S1_2 _)) rfl (live (CROSS m c t) 2 64 rfl (by decide) (by decide) q) ?_
  refine ZPut.step _ _ _ _ _ _ 1 r q (off_eq _ _ (Hyp.word m c t 1 inb_S48_S1_1 _)) rfl (live (CROSS m c t) 1 32 rfl (by decide) (by decide) q) ?_
  refine ZPut.step _ _ _ _ _ _ 0 r q (off_eq _ _ (Hyp.word m c t 0 inb_S48_S1_0 _)) rfl (live (CROSS m c t) 0 0 rfl (by decide) (by decide) q) ?_
  exact ZPut.base _ _ _ _ _ r q ZPut.zero_word
end

end Cert.RefZIdeal.Value

end
-- ==== Proof.RefZFin.lean ====
/-
  Hand-written. The reference's two results as functions of the arguments.
-/
module

public import proofs.«01_k».proof.Proof.RefZVal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RefZIdeal.Value
open Cert.RefZIdeal Cert.RefZIdeal.Gen
open Cert.ZSpec (up)

variable (m : (ℓ : Loc nD τ sig) → Buf (Elt Ideal) ℓ)

theorem idx : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] :=
  (by decide +kernel : ∀ t : Fin grid0.N, _)

/-- A load of a whole buffer's part, entry by entry. -/
theorem ld {s : Shape} {e : EltTy} (M : Memref sig .tc .vmem s e) (h : M.IsWhole) (x : Vec Ideal s e) (off size : Fin s.rank → ℕ)
    (hin : ∀ a, off a + size a ≤ s.size a) (i : (Rect.unit (s := s) off size hin).shape.Idx) (j : s.Idx)
    (hj : ∀ a, off a + (i a).val = (j a).val) :
    M.view.readAt (Elt Ideal) (Rect.unit (s := s) off size hin).toLoadRect (h.unread x) i = x j := by
  rw [View.readAt_apply]
  refine (congrFun (h.read_unread x) _).trans (congrArg x ?_)
  funext a
  exact Fin.ext ((Rect.idx_unit_val (s := s) off size hin i a).trans (hj a))

theorem iblk_x0 (c : Dev nD) (j : (⟨2, ![1024, 7168]⟩ : Shape).Idx) :
    iblk m c 1 t0_0 j = m ((c : Thread nD τ).loc main_arg1) j := by
  blk_point [iblk, V, idx t0_0]
theorem iblk_x1 (c : Dev nD) (j : (⟨2, ![1024, 7168]⟩ : Shape).Idx) :
    iblk m c 2 t0_0 j = m ((c : Thread nD τ).loc main_arg2) j := by
  blk_point [iblk, V, idx t0_0]
theorem iblk_x2 (c : Dev nD) (j : (⟨2, ![1024, 7168]⟩ : Shape).Idx) :
    iblk m c 3 t0_0 j = m ((c : Thread nD τ).loc main_arg3) j := by
  blk_point [iblk, V, idx t0_0]
theorem iblk_ws (c : Dev nD) (j : (⟨2, ![3, 7168]⟩ : Shape).Idx) :
    iblk m c 8 t0_0 j = m ((c : Thread nD τ).loc main_arg8) j := by
  blk_point [iblk, V, idx t0_0]
theorem iblk_b (c : Dev nD) (j : (⟨2, ![3, 7168]⟩ : Shape).Idx) :
    iblk m c 9 t0_0 j = m ((c : Thread nD τ).loc main_arg9) j := by
  blk_point [iblk, V, idx t0_0]
theorem iblk_dyc (c : Dev nD) (j : (⟨2, ![1024, 7168]⟩ : Shape).Idx) :
    iblk m c 10 t0_0 j = m ((c : Thread nD τ).loc main_arg10) j := by
  blk_point [iblk, V, idx t0_0]
theorem iblk_g2 (c : Dev nD) (j : (⟨2, ![928, 7168]⟩ : Shape).Idx) :
    iblk m c 12 t0_0 j = m ((c : Thread nD τ).loc main_arg12) j := by
  blk_point [iblk, V, idx t0_0]
theorem iblk_g1 (c : Dev nD) (j : (⟨2, ![928, 7168]⟩ : Shape).Idx) :
    iblk m c 13 t0_0 j = m ((c : Thread nD τ).loc main_arg13) j := by
  blk_point [iblk, V, idx t0_0]
theorem iblk_g0 (c : Dev nD) (j : (⟨2, ![928, 7168]⟩ : Shape).Idx) :
    iblk m c 14 t0_0 j = m ((c : Thread nD τ).loc main_arg14) j := by
  blk_point [iblk, V, idx t0_0]
theorem iblk_w (c : Dev nD) (j : (⟨3, ![3, 7168, 7168]⟩ : Shape).Idx) :
    iblk m c 7 t0_0 j = m ((c : Thread nD τ).loc main_arg7) j := by
  blk_point [iblk, V, idx t0_0]
theorem iblk_x0s (c : Dev nD) (a : Fin 1024) :
    iblk m c 4 t0_0 (ix2 a 0) = m ((c : Thread nD τ).loc main_arg4) (ix1 a) := by
  blk_simp [iblk, idx t0_0]
  entry_read
  pointwise
  blk_point [idx t0_0]
theorem iblk_x1s (c : Dev nD) (a : Fin 1024) :
    iblk m c 5 t0_0 (ix2 a 0) = m ((c : Thread nD τ).loc main_arg5) (ix1 a) := by
  blk_simp [iblk, idx t0_0]
  entry_read
  pointwise
  blk_point [idx t0_0]
theorem iblk_x2s (c : Dev nD) (a : Fin 1024) :
    iblk m c 6 t0_0 (ix2 a 0) = m ((c : Thread nD τ).loc main_arg6) (ix1 a) := by
  blk_simp [iblk, idx t0_0]
  entry_read
  pointwise
  blk_point [idx t0_0]
theorem iblk_dys (c : Dev nD) (a : Fin 1024) :
    iblk m c 11 t0_0 (ix2 a 0) = m ((c : Thread nD τ).loc main_arg11) (ix1 a) := by
  blk_simp [iblk, idx t0_0]
  entry_read
  pointwise
  blk_point [idx t0_0]

/-- What the arguments add up to. -/
abbrev ACC (c : Dev nD) : Fin 928 → Fin 7168 → EReal :=
  ZSpec.acc (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13))
abbrev SUM (c : Dev nD) : Fin 928 → Fin 7168 → EReal := ZSpec.total (m ((c : Thread nD τ).loc main_arg14)) (ACC m c)

theorem acc_at (c : Dev nD) (a : Fin 928) (q : Fin 7168) (v24 v25 v46 : FVec Ideal S928x7168 .f32) (v26 v47 : FVec Ideal S928x7168 .fp8e4m3)
    (v28 : FVec Ideal S928x1 .f32) (v30 : FVec Ideal S7168x7168 .fp8e4m3) (v32 : FVec Ideal S7168 .f32)
    (v27 v48 : FVec Ideal S928x1 .f32)
    (v29 v50 : FVec Ideal S1x7168x7168 .fp8e4m3) (v31 v33 v52 v54 : FVec Ideal S1x7168 .f32)
    (dy : FVec Ideal S928x7168 .fp8e5m2) (ds : FVec Ideal S928x1 .f32) (x2 : FVec Ideal S928x7168 .fp8e4m3) (s2 : FVec Ideal S928x1 .f32)
    (w2 : FVec Ideal S1x7168x7168 .fp8e4m3) (ws2 b2 : FVec Ideal S1x7168 .f32)
    (h24 : v24 = k0_pay2 (F := Ideal) dy ds x2 s2 w2 ws2 b2) (h28 : v28 = k0_pay3 (F := Ideal) v27) (h30 : v30 = k0_pay4 (F := Ideal) v29)
    (h32 : v32 = k0_pay5 (F := Ideal) v31)
    (hdy : @Eq EReal (dy (ix2 a q)) (m ((c : Thread nD τ).loc main_arg10) (ix2 (up a) q)))
    (hds : @Eq EReal (ds (ix2 a 0)) (m ((c : Thread nD τ).loc main_arg11) (ix1 (up a))))
    (hx2 : ∀ k, @Eq EReal (x2 (ix2 a k)) (m ((c : Thread nD τ).loc main_arg3) (ix2 (up a) k)))
    (hw2 : ∀ k, @Eq EReal (w2 (ix3 0 q k)) (m ((c : Thread nD τ).loc main_arg7) (ix3 2 q k)))
    (hs2 : @Eq EReal (s2 (ix2 a 0)) (m ((c : Thread nD τ).loc main_arg6) (ix1 (up a))))
    (hws2 : @Eq EReal (ws2 (ix2 0 q)) (m ((c : Thread nD τ).loc main_arg8) (ix2 2 q)))
    (hb2 : @Eq EReal (b2 (ix2 0 q)) (m ((c : Thread nD τ).loc main_arg9) (ix2 2 q)))
    (h25 : @Eq EReal (v25 (ix2 a q)) (m ((c : Thread nD τ).loc main_arg12) (ix2 a q)))
    (hx1 : ∀ k, @Eq EReal (v26 (ix2 a k)) (m ((c : Thread nD τ).loc main_arg2) (ix2 (up a) k)))
    (hw1 : ∀ k, @Eq EReal (v29 (ix3 0 q k)) (m ((c : Thread nD τ).loc main_arg7) (ix3 1 q k)))
    (hs1 : @Eq EReal (v27 (ix2 a 0)) (m ((c : Thread nD τ).loc main_arg5) (ix1 (up a))))
    (hws1 : @Eq EReal (v31 (ix2 0 q)) (m ((c : Thread nD τ).loc main_arg8) (ix2 1 q)))
    (hb1 : @Eq EReal (v33 (ix2 0 q)) (m ((c : Thread nD τ).loc main_arg9) (ix2 1 q)))
    (h46 : @Eq EReal (v46 (ix2 a q)) (m ((c : Thread nD τ).loc main_arg13) (ix2 a q)))
    (hx0 : ∀ k, @Eq EReal (v47 (ix2 a k)) (m ((c : Thread nD τ).loc main_arg1) (ix2 (up a) k)))
    (hw0 : ∀ k, @Eq EReal (v50 (ix3 0 q k)) (m ((c : Thread nD τ).loc main_arg7) (ix3 0 q k)))
    (hs0 : @Eq EReal (v48 (ix2 a 0)) (m ((c : Thread nD τ).loc main_arg4) (ix1 (up a))))
    (hws0 : @Eq EReal (v52 (ix2 0 q)) (m ((c : Thread nD τ).loc main_arg8) (ix2 0 q)))
    (hb0 : @Eq EReal (v54 (ix2 0 q)) (m ((c : Thread nD τ).loc main_arg9) (ix2 0 q))) :
    @Eq EReal (k0_pay6 (F := Ideal) v24 v25 v26 v28 v30 v32 v33 v46 v47 v48 v50 v52 v54 (ix2 a q)) (ACC m c a q) := by
  subst h24 h28 h30 h32
  refine (pay6 _ v25 v46 v26 v47 v27 v48 v29 v50 v31 v33 v52 v54 a q).trans ?_
  unfold ACC ZSpec.acc ZSpec.lin
  exact ZSpec.glue ((pay2 dy ds x2 s2 w2 ws2 b2 a q).trans (ZSpec.glue1 hdy hds (ZSpec.glue2 hx2 hw2 hs2) hws2 hb2)) h25
    (ZSpec.glue2 hx1 hw1 hs1) hws1 hb1 h46 (ZSpec.glue2 hx0 hw0 hs0) hws0 hb0

theorem pay8 (v24 v25 v46 v68 : FVec Ideal S928x7168 .f32) (v26 v47 : FVec Ideal S928x7168 .fp8e4m3)
    (v28 v48 : FVec Ideal S928x1 .f32) (v30 : FVec Ideal S7168x7168 .fp8e4m3) (v32 : FVec Ideal S7168 .f32)
    (v50 : FVec Ideal S1x7168x7168 .fp8e4m3) (v33 v52 v54 : FVec Ideal S1x7168 .f32) (j : S928x7168.Idx) :
    @Eq EReal (k0_pay8 (F := Ideal) v24 v25 v26 v28 v30 v32 v33 v46 v47 v48 v50 v52 v54 v68 j)
      (v68 j + k0_pay6 (F := Ideal) v24 v25 v26 v28 v30 v32 v33 v46 v47 v48 v50 v52 v54 j) := rfl

theorem cross (c : Dev nD) (a : Fin 928) (q : Fin 7168) : @Eq EReal (CROSS m c t0_0 (ix2 a q)) (ACC m c a q) := by
  unfold CROSS kernelRun0_A.sl.r_6
  refine acc_at m c a q _ _ _ _ _ _ _ _ _ _ _ _ _ _ _ _ _ _ _ _ _ _ _ rfl rfl rfl rfl ?_ ?_ ?_ ?_ ?_ ?_ ?_ ?_ ?_ ?_ ?_ ?_ ?_ ?_ ?_ ?_ ?_ ?_ ?_
  · exact (ld _ _ _ _ _ _ _ (ix2 (up a) q) fun x => by match x with | 0 => exact Nat.zero_add _ | 1 => exact Nat.zero_add _).trans (iblk_dyc m c _)
  · exact (ld _ _ _ _ _ _ _ (ix2 (up a) 0) fun x => by match x with | 0 => exact Nat.zero_add _ | 1 => exact Nat.zero_add _).trans (iblk_dys m c _)
  · exact fun k => (ld _ _ _ _ _ _ _ (ix2 (up a) k) fun x => by match x with | 0 => exact Nat.zero_add _ | 1 => exact Nat.zero_add _).trans (iblk_x2 m c _)
  · exact fun k => (ld _ _ _ _ _ _ _ (ix3 2 q k) fun x => by match x with | 0 => rfl | 1 => exact Nat.zero_add _ | 2 => exact Nat.zero_add _).trans (iblk_w m c _)
  · exact (ld _ _ _ _ _ _ _ (ix2 (up a) 0) fun x => by match x with | 0 => exact Nat.zero_add _ | 1 => exact Nat.zero_add _).trans (iblk_x2s m c _)
  · exact (ld _ _ _ _ _ _ _ (ix2 2 q) fun x => by match x with | 0 => rfl | 1 => exact Nat.zero_add _).trans (iblk_ws m c _)
  · exact (ld _ _ _ _ _ _ _ (ix2 2 q) fun x => by match x with | 0 => rfl | 1 => exact Nat.zero_add _).trans (iblk_b m c _)
  · exact (ld _ _ _ _ _ _ _ (ix2 a q) fun x => by match x with | 0 => exact Nat.zero_add _ | 1 => exact Nat.zero_add _).trans (iblk_g2 m c _)
  · exact fun k => (ld _ _ _ _ _ _ _ (ix2 (up a) k) fun x => by match x with | 0 => exact Nat.zero_add _ | 1 => exact Nat.zero_add _).trans (iblk_x1 m c _)
  · exact fun k => (ld _ _ _ _ _ _ _ (ix3 1 q k) fun x => by match x with | 0 => rfl | 1 => exact Nat.zero_add _ | 2 => exact Nat.zero_add _).trans (iblk_w m c _)
  · exact (ld _ _ _ _ _ _ _ (ix2 (up a) 0) fun x => by match x with | 0 => exact Nat.zero_add _ | 1 => exact Nat.zero_add _).trans (iblk_x1s m c _)
  · exact (ld _ _ _ _ _ _ _ (ix2 1 q) fun x => by match x with | 0 => rfl | 1 => exact Nat.zero_add _).trans (iblk_ws m c _)
  · exact (ld _ _ _ _ _ _ _ (ix2 1 q) fun x => by match x with | 0 => rfl | 1 => exact Nat.zero_add _).trans (iblk_b m c _)
  · exact (ld _ _ _ _ _ _ _ (ix2 a q) fun x => by match x with | 0 => exact Nat.zero_add _ | 1 => exact Nat.zero_add _).trans (iblk_g1 m c _)
  · exact fun k => (ld _ _ _ _ _ _ _ (ix2 (up a) k) fun x => by match x with | 0 => exact Nat.zero_add _ | 1 => exact Nat.zero_add _).trans (iblk_x0 m c _)
  · exact fun k => (ld _ _ _ _ _ _ _ (ix3 0 q k) fun x => by match x with | 0 => exact Nat.zero_add _ | 1 => exact Nat.zero_add _ | 2 => exact Nat.zero_add _).trans (iblk_w m c _)
  · exact (ld _ _ _ _ _ _ _ (ix2 (up a) 0) fun x => by match x with | 0 => exact Nat.zero_add _ | 1 => exact Nat.zero_add _).trans (iblk_x0s m c _)
  · exact (ld _ _ _ _ _ _ _ (ix2 0 q) fun x => by match x with | 0 => exact Nat.zero_add _ | 1 => exact Nat.zero_add _).trans (iblk_ws m c _)
  · exact (ld _ _ _ _ _ _ _ (ix2 0 q) fun x => by match x with | 0 => exact Nat.zero_add _ | 1 => exact Nat.zero_add _).trans (iblk_b m c _)

theorem dx (c : Dev nD) (a : Fin 928) (q : Fin 7168) : @Eq EReal (DX m c t0_0 (ix2 a q)) (SUM m c a q) := by
  unfold DX kernelRun0_A.sl.r_7
  refine (pay8 _ _ _ _ _ _ _ _ _ _ _ _ _ _ _).trans ?_
  exact congrArg₂ (fun u v : EReal => u + v) ((ld _ _ _ _ _ _ _ (ix2 a q) fun x => by match x with | 0 => exact Nat.zero_add _ | 1 => exact Nat.zero_add _).trans (iblk_g0 m c _)) (cross m c a q)

theorem final15 (hH : Hyps m) (c : Dev nD) : (dats m hH 0 c).arrAt 15 cfg0.N = ZSpec.out (places m c) (SUM m c) := by
  refine (dats m hH 0 c).arrAt_eq_of_after_last 15 t0_0 (by decide +kernel) _ fun j => ?_
  blk_simp
  rw [after0_15]
  obtain ⟨r, q, rfl⟩ : ∃ (r : Fin 1536) (q : Fin 7168), j = (ix2 r q : S1536x7168.Idx) := ⟨j (0 : Fin 2), j (1 : Fin 2), eq_ix2 (n0 := 1536) (n1 := 7168) j⟩
  refine Eq.trans (stored15 m hH c t0_0 r q) ?_
  exact ZPut.put_congr 48 (fun x _ => congrArg (fun f => ZPut.rows f x) (funext fun a => dx m c a q)) r.val
theorem final16 (hH : Hyps m) (c : Dev nD) : (dats m hH 0 c).arrAt 16 cfg0.N = ZSpec.out (places m c) (ACC m c) := by
  refine (dats m hH 0 c).arrAt_eq_of_after_last 16 t0_0 (by decide +kernel) _ fun j => ?_
  blk_simp
  rw [after0_16]
  obtain ⟨r, q, rfl⟩ : ∃ (r : Fin 1536) (q : Fin 7168), j = (ix2 r q : S1536x7168.Idx) := ⟨j (0 : Fin 2), j (1 : Fin 2), eq_ix2 (n0 := 1536) (n1 := 7168) j⟩
  refine Eq.trans (stored16 m hH c t0_0 r q) ?_
  exact ZPut.put_congr 48 (fun x _ => congrArg (fun f => ZPut.rows f x) (funext fun a => cross m c a q)) r.val

end Cert.RefZIdeal.Value

end
-- ==== Proof.lean ====
/-
  Hand-written. The proof of `Cert.Claim`: the frames are generated or written in modules of their own; a value claim is
  the equality of what the two programs leave, each shown to be one function of the arguments in a module of its own.
-/
module

public import proofs.«01_k».proof.Defs
public import proofs.«01_k».proof.Proof.Gen.Dg2
public import proofs.«01_k».proof.Proof.Gen.Dg2.Frame
public import proofs.«01_k».proof.Proof.Dg2FrameBits
public import proofs.«01_k».proof.Proof.Dg2Val
public import proofs.«01_k».proof.Proof.Gen.Dg1
public import proofs.«01_k».proof.Proof.Gen.Dg1.Frame
public import proofs.«01_k».proof.Proof.Dg1FrameBits
public import proofs.«01_k».proof.Proof.Dg1Val
public import proofs.«01_k».proof.Proof.Gen.Dg0
public import proofs.«01_k».proof.Proof.Gen.Dg0.Frame
public import proofs.«01_k».proof.Proof.Dg0Val
public import proofs.«01_k».proof.Proof.Gen.Dw0
public import proofs.«01_k».proof.Proof.Gen.Dw0.Frame
public import proofs.«01_k».proof.Proof.Dw0Val
public import proofs.«01_k».proof.Proof.Gen.Z
public import proofs.«01_k».proof.Proof.Gen.Z.Frame
public import proofs.«01_k».proof.Proof.Gen.ZIdeal.Frame
public import proofs.«01_k».proof.Proof.Gen.RefZIdeal.Frame
public import proofs.«01_k».proof.Proof.Gen.RefZIdeal.Value
public import proofs.«01_k».proof.Proof.ZPlaces
public import proofs.«01_k».proof.Proof.ZHyp
public import proofs.«01_k».proof.Proof.ZFin
public import proofs.«01_k».proof.Proof.RefZFin
public import Idealize.ShloMosaic.Adequacy
public import Idealize.ShloMosaic.Init

@[expose] public section

noncomputable section

namespace Cert.Proof

open Idealize.ShloMosaic Idealize.SL.Sem

/-- The first gradient product: the call and the reference leave the same arrays. -/
theorem algebraic_dg2 : Cert.algebraic_Dg2Ideal_RefDg2Ideal (hDg2Ideal := Cert.Dg2Ideal.Gen.facts)
    (hRefDg2Ideal := Cert.RefDg2Ideal.Gen.facts) := by
  intro m g m' g' _ hag
  refine ⟨_, _, _, Cert.Dg2Ideal.Value.run_final m g, ?_⟩
  refine (θ_run _ _ _).mono (fun r h c => ?_) (Cert.RefDg2Ideal.Value.run_final m' g')
  obtain ⟨h0, h1, h2, h3, h4, h5, h6, h7⟩ := hag c
  refine ⟨(h c).1.trans ?_, (h c).2.1.trans ?_, (h c).2.2.1.trans ?_, (h c).2.2.2⟩
  · rw [h0, h1, h2, h3, h4, h5]
  · rw [h0, h1, h2, h3, h4, h5, h6, h7]
  · rw [h0, h1, h2, h3, h4, h5, h6, h7]

/-- The second gradient product: the call and the reference leave the same arrays. -/
theorem algebraic_dg1 : Cert.algebraic_Dg1Ideal_RefDg1Ideal (hDg1Ideal := Cert.Dg1Ideal.Gen.facts)
    (hRefDg1Ideal := Cert.RefDg1Ideal.Gen.facts) := by
  intro m g m' g' _ hag
  refine ⟨_, _, _, Cert.Dg1Ideal.Value.run_final m g, ?_⟩
  refine (θ_run _ _ _).mono (fun r h c => ?_) (Cert.RefDg1Ideal.Value.run_final m' g')
  obtain ⟨h0, h1, h2, h3, h4, h5, h6⟩ := hag c
  refine ⟨(h c).1.trans ?_, (h c).2.1.trans ?_, (h c).2.2.1.trans ?_, (h c).2.2.2⟩
  · rw [h0, h1, h2, h3, h4]
  · rw [h0, h1, h2, h3, h4, h5, h6]
  · rw [h0, h1, h2, h3, h4, h5, h6]

/-- The last gradient product: the call and the reference leave the same array. -/
theorem algebraic_dg0 : Cert.algebraic_Dg0Ideal_RefDg0Ideal (hDg0Ideal := Cert.Dg0Ideal.Gen.facts)
    (hRefDg0Ideal := Cert.RefDg0Ideal.Gen.facts) := by
  intro m g m' g' _ hag
  refine ⟨fun c => (Cert.Dg0Ideal.Gen.dats m 0 c).arrAt 4 (Cert.Dg0Ideal.cfgs 0).N, Cert.Dg0Ideal.Value.run_blocks m g, ?_⟩
  refine (θ_run _ _ _).mono (fun r h c => ⟨(h c).1.trans ?_, (h c).2⟩) (Cert.RefDg0Ideal.Value.run_blocks m' g')
  obtain ⟨h0, h1, h2, h3, h4⟩ := hag c
  exact (Cert.RefDg0Ideal.Value.final m' c).trans (by rw [h0, h1, h2, h3, h4]; exact (Cert.Dg0Ideal.Value.final m c).symm)

/-- The last weight-gradient product: the call and the reference leave the same array. -/
theorem algebraic_dw0 : Cert.algebraic_Dw0Ideal_RefDw0Ideal (hDw0Ideal := Cert.Dw0Ideal.Gen.facts)
    (hRefDw0Ideal := Cert.RefDw0Ideal.Gen.facts) := by
  intro m g m' g' _ hag
  refine ⟨fun c => (Cert.Dw0Ideal.Gen.dats m 0 c).arrAt 4 (Cert.Dw0Ideal.cfgs 0).N, Cert.Dw0Ideal.Value.run_blocks m g, ?_⟩
  refine (θ_run _ _ _).mono (fun r h c => ⟨(h c).1.trans ?_, (h c).2⟩) (Cert.RefDw0Ideal.Value.run_blocks m' g')
  obtain ⟨h0, h1, h2, h3, h4⟩ := hag c
  exact (Cert.RefDw0Ideal.Value.final m' c).trans (by rw [h0, h1, h2, h3, h4]; exact (Cert.Dw0Ideal.Value.final m c).symm)

attribute [local instance] Cert.ZPlaces.facts

/-- What the call and the reference compute: the two arrays of gradients, chunk by chunk where the table names. -/
theorem algebraic_z : Cert.algebraic_ZIdeal_RefZIdeal (hZIdeal := Cert.ZIdeal.Gen.facts)
    (hRefZIdeal := Cert.RefZIdeal.Gen.facts) (hPre_places := Cert.ZPlaces.facts) := by
  intro m g m' g' h hag
  have hO : Cert.ZIdeal.Gen.Ok m := trivial
  have hH : Cert.ZIdeal.Gen.Hyps m hO := Cert.ZIdeal.Hyp.hyps_of hO (Cert.ZPlaces.lt_of (h 0))
  have hH' : Cert.RefZIdeal.Gen.Hyps m' := Cert.RefZIdeal.Hyp.hyps_of fun c y =>
    (congrArg (fun f : Cert.Z.S48.Idx → BitVec 32 => (f y).toNat < 48) (hag c).1).mpr (Cert.ZPlaces.lt_of (h c) y)
  refine ⟨fun c => (Cert.ZIdeal.Gen.dats m hO hH 0 c).arrAt 16 (Cert.ZIdeal.Gen.cfgM m hO).N,
    fun c => (Cert.ZIdeal.Gen.dats m hO hH 0 c).arrAt 17 (Cert.ZIdeal.Gen.cfgM m hO).N,
    (θ_run _ _ _).mono (fun r h c => ⟨(h.1 c).1 16, (h.1 c).1 17, h.2 c⟩)
      (θ_run_and (Cert.ZIdeal.Gen.run_main m g hO hH) (Cert.ZIdeal.Gen.unchanged m g hO hH)), ?_⟩
  refine (θ_run _ _ _).mono (fun r h c => ⟨(h c).1.trans ?_, (h c).2.1.trans ?_, (h c).2.2⟩) (Cert.RefZIdeal.Value.run_blocks m' g' hH')
  · obtain rfl : c = 0 := Subsingleton.elim _ _
    obtain ⟨h0, h1, h2, h3, h4, h5, h6, h7, h8, h9, h10, h11, h12, h13, h14⟩ := hag 0
    refine (Cert.RefZIdeal.Value.final15 m' hH' 0).trans (Eq.trans ?_ (Cert.ZIdeal.Value.final16 m hO hH 0).symm)
    unfold Cert.RefZIdeal.Value.SUM Cert.RefZIdeal.Value.ACC Cert.RefZIdeal.Value.places
    rw [h0, h1, h2, h3, h4, h5, h6, h7, h8, h9, h10, h11, h12, h13, h14]
  · obtain rfl : c = 0 := Subsingleton.elim _ _
    obtain ⟨h0, h1, h2, h3, h4, h5, h6, h7, h8, h9, h10, h11, h12, h13, h14⟩ := hag 0
    refine (Cert.RefZIdeal.Value.final16 m' hH' 0).trans (Eq.trans ?_ (Cert.ZIdeal.Value.final17 m hO hH 0).symm)
    unfold Cert.RefZIdeal.Value.ACC Cert.RefZIdeal.Value.places
    rw [h0, h1, h2, h3, h4, h5, h6, h7, h8, h9, h10, h11, h12, h13]

theorem claim : Cert.Claim :=
  ⟨Cert.Dg2.Gen.facts, Cert.Dg2Ideal.Gen.facts, Cert.RefDg2Ideal.Gen.facts, Cert.Dg1.Gen.facts, Cert.Dg1Ideal.Gen.facts, Cert.RefDg1Ideal.Gen.facts, Cert.Dg0.Gen.facts, Cert.Dg0Ideal.Gen.facts, Cert.RefDg0Ideal.Gen.facts, Cert.Dw0.Gen.facts, Cert.Dw0Ideal.Gen.facts, Cert.RefDw0Ideal.Gen.facts,
    Cert.Z.Gen.facts, Cert.ZIdeal.Gen.facts, Cert.RefZIdeal.Gen.facts, Cert.ZPlaces.facts,
    fun m ρ _ => Cert.Dg2.Gen.frame m ρ, fun m ρ _ => Cert.Dg2Ideal.Gen.frame m ρ, fun m ρ _ => Cert.RefDg2Ideal.Gen.frame m ρ,
    fun m ρ _ => Cert.Dg1.Gen.frame m ρ, fun m ρ _ => Cert.Dg1Ideal.Gen.frame m ρ, fun m ρ _ => Cert.RefDg1Ideal.Gen.frame m ρ,
    fun m ρ _ => Cert.Dg0.Gen.frame m ρ, fun m ρ _ => Cert.Dg0Ideal.Gen.frame m ρ, fun m ρ _ => Cert.RefDg0Ideal.Gen.frame m ρ,
    fun m ρ _ => Cert.Dw0.Gen.frame m ρ, fun m ρ _ => Cert.Dw0Ideal.Gen.frame m ρ, fun m ρ _ => Cert.RefDw0Ideal.Gen.frame m ρ,
    fun m ρ h => Cert.Z.Gen.frame m ρ trivial (Cert.Z.Hyp.hyps_of trivial (Cert.ZPlaces.lt_of (h 0))),
    fun m ρ h => Cert.ZIdeal.Gen.frame m ρ trivial (Cert.ZIdeal.Hyp.hyps_of trivial (Cert.ZPlaces.lt_of (h 0))),
    fun m ρ h => Cert.RefZIdeal.Gen.frame m ρ (Cert.RefZIdeal.Hyp.hyps_of fun c => Cert.ZPlaces.lt_of (h c)),
    trivial, algebraic_dg2, trivial, algebraic_dg1, trivial, algebraic_dg0, trivial, algebraic_dw0, trivial, algebraic_z⟩

end Cert.Proof

end
